-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite [hPre_finite : Cert.Pre_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7)) (m ((c.tc : Thread Cert.AttnReferenceIdeal.nD Cert.AttnReferenceIdeal.τ).loc Cert.AttnReferenceIdeal.main_arg8)) (m ((c.tc : Thread Cert.AttnReferenceIdeal.nD Cert.AttnReferenceIdeal.τ).loc Cert.AttnReferenceIdeal.main_arg9))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnKv (m : (ℓ : Loc Cert.FfnKv.nD Cert.FfnKv.τ Cert.FfnKv.sig) → Buf (Elt Bits) ℓ) : Prop :=
  True

def Pre_FfnKvIdeal (m : (ℓ : Loc Cert.FfnKvIdeal.nD Cert.FfnKvIdeal.τ Cert.FfnKvIdeal.sig) → Buf (Elt Ideal) ℓ) : Prop :=
  True

def Pre_FfnKvReferenceIdeal (m : (ℓ : Loc Cert.FfnKvReferenceIdeal.nD Cert.FfnKvReferenceIdeal.τ Cert.FfnKvReferenceIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7)
      ∧ r.2.mem ((c.tc : Thread Cert.AttnReferenceIdeal.nD Cert.AttnReferenceIdeal.τ).loc Cert.AttnReferenceIdeal.main_arg8) = m ((c.tc : Thread Cert.AttnReferenceIdeal.nD Cert.AttnReferenceIdeal.τ).loc Cert.AttnReferenceIdeal.main_arg8)
      ∧ r.2.mem ((c.tc : Thread Cert.AttnReferenceIdeal.nD Cert.AttnReferenceIdeal.τ).loc Cert.AttnReferenceIdeal.main_arg9) = m ((c.tc : Thread Cert.AttnReferenceIdeal.nD Cert.AttnReferenceIdeal.τ).loc Cert.AttnReferenceIdeal.main_arg9))
      ∧ r.2.sem = fun _ => 0)

def quiescent_AttnReferenceIdeal_pre_finite [hAttnReferenceIdeal : Cert.AttnReferenceIdeal.Facts] [hPre_finite : Cert.Pre_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7)
      ∧ r.2.mem ((c.tc : Thread Cert.AttnReferenceIdeal.nD Cert.AttnReferenceIdeal.τ).loc Cert.AttnReferenceIdeal.main_arg8) = m ((c.tc : Thread Cert.AttnReferenceIdeal.nD Cert.AttnReferenceIdeal.τ).loc Cert.AttnReferenceIdeal.main_arg8)
      ∧ r.2.mem ((c.tc : Thread Cert.AttnReferenceIdeal.nD Cert.AttnReferenceIdeal.τ).loc Cert.AttnReferenceIdeal.main_arg9) = m ((c.tc : Thread Cert.AttnReferenceIdeal.nD Cert.AttnReferenceIdeal.τ).loc Cert.AttnReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnKv [hFfnKv : Cert.FfnKv.Facts] : Prop :=
  ∀ (m : (ℓ : Loc Cert.FfnKv.nD Cert.FfnKv.τ Cert.FfnKv.sig) → Buf (Elt Bits) ℓ) (g : Dev Cert.FfnKv.nD → PrngReg), Pre_FfnKv m →
    θ_run (Cert.FfnKv.defs (F := Bits)) (onTc (τ := Cert.FfnKv.τ) (Cert.FfnKv.main (F := Bits))) ⟨m, fun _ => 0, g⟩ (fun r => (∀ c : Dev Cert.FfnKv.nD,
      r.2.mem ((c.tc : Thread Cert.FfnKv.nD Cert.FfnKv.τ).loc Cert.FfnKv.main_arg0) = m ((c.tc : Thread Cert.FfnKv.nD Cert.FfnKv.τ).loc Cert.FfnKv.main_arg0)
      ∧ r.2.mem ((c.tc : Thread Cert.FfnKv.nD Cert.FfnKv.τ).loc Cert.FfnKv.main_arg1) = m ((c.tc : Thread Cert.FfnKv.nD Cert.FfnKv.τ).loc Cert.FfnKv.main_arg1)
      ∧ r.2.mem ((c.tc : Thread Cert.FfnKv.nD Cert.FfnKv.τ).loc Cert.FfnKv.main_arg2) = m ((c.tc : Thread Cert.FfnKv.nD Cert.FfnKv.τ).loc Cert.FfnKv.main_arg2)
      ∧ r.2.mem ((c.tc : Thread Cert.FfnKv.nD Cert.FfnKv.τ).loc Cert.FfnKv.main_arg3) = m ((c.tc : Thread Cert.FfnKv.nD Cert.FfnKv.τ).loc Cert.FfnKv.main_arg3)
      ∧ r.2.mem ((c.tc : Thread Cert.FfnKv.nD Cert.FfnKv.τ).loc Cert.FfnKv.main_arg4) = m ((c.tc : Thread Cert.FfnKv.nD Cert.FfnKv.τ).loc Cert.FfnKv.main_arg4)
      ∧ r.2.mem ((c.tc : Thread Cert.FfnKv.nD Cert.FfnKv.τ).loc Cert.FfnKv.main_arg5) = m ((c.tc : Thread Cert.FfnKv.nD Cert.FfnKv.τ).loc Cert.FfnKv.main_arg5)
      ∧ r.2.mem ((c.tc : Thread Cert.FfnKv.nD Cert.FfnKv.τ).loc Cert.FfnKv.main_arg6) = m ((c.tc : Thread Cert.FfnKv.nD Cert.FfnKv.τ).loc Cert.FfnKv.main_arg6)
      ∧ r.2.mem ((c.tc : Thread Cert.FfnKv.nD Cert.FfnKv.τ).loc Cert.FfnKv.main_arg7) = m ((c.tc : Thread Cert.FfnKv.nD Cert.FfnKv.τ).loc Cert.FfnKv.main_arg7)
      ∧ r.2.mem ((c.tc : Thread Cert.FfnKv.nD Cert.FfnKv.τ).loc Cert.FfnKv.main_arg8) = m ((c.tc : Thread Cert.FfnKv.nD Cert.FfnKv.τ).loc Cert.FfnKv.main_arg8)
      ∧ r.2.mem ((c.tc : Thread Cert.FfnKv.nD Cert.FfnKv.τ).loc Cert.FfnKv.main_arg9) = m ((c.tc : Thread Cert.FfnKv.nD Cert.FfnKv.τ).loc Cert.FfnKv.main_arg9)
      ∧ r.2.mem ((c.tc : Thread Cert.FfnKv.nD Cert.FfnKv.τ).loc Cert.FfnKv.main_arg10) = m ((c.tc : Thread Cert.FfnKv.nD Cert.FfnKv.τ).loc Cert.FfnKv.main_arg10))
      ∧ r.2.sem = fun _ => 0)

def quiescent_FfnKvIdeal [hFfnKvIdeal : Cert.FfnKvIdeal.Facts] : Prop :=
  ∀ (m : (ℓ : Loc Cert.FfnKvIdeal.nD Cert.FfnKvIdeal.τ Cert.FfnKvIdeal.sig) → Buf (Elt Ideal) ℓ) (g : Dev Cert.FfnKvIdeal.nD → PrngReg), Pre_FfnKvIdeal m →
    θ_run (Cert.FfnKvIdeal.defs (F := Ideal)) (onTc (τ := Cert.FfnKvIdeal.τ) (Cert.FfnKvIdeal.main (F := Ideal))) ⟨m, fun _ => 0, g⟩ (fun r => (∀ c : Dev Cert.FfnKvIdeal.nD,
      r.2.mem ((c.tc : Thread Cert.FfnKvIdeal.nD Cert.FfnKvIdeal.τ).loc Cert.FfnKvIdeal.main_arg0) = m ((c.tc : Thread Cert.FfnKvIdeal.nD Cert.FfnKvIdeal.τ).loc Cert.FfnKvIdeal.main_arg0)
      ∧ r.2.mem ((c.tc : Thread Cert.FfnKvIdeal.nD Cert.FfnKvIdeal.τ).loc Cert.FfnKvIdeal.main_arg1) = m ((c.tc : Thread Cert.FfnKvIdeal.nD Cert.FfnKvIdeal.τ).loc Cert.FfnKvIdeal.main_arg1)
      ∧ r.2.mem ((c.tc : Thread Cert.FfnKvIdeal.nD Cert.FfnKvIdeal.τ).loc Cert.FfnKvIdeal.main_arg2) = m ((c.tc : Thread Cert.FfnKvIdeal.nD Cert.FfnKvIdeal.τ).loc Cert.FfnKvIdeal.main_arg2)
      ∧ r.2.mem ((c.tc : Thread Cert.FfnKvIdeal.nD Cert.FfnKvIdeal.τ).loc Cert.FfnKvIdeal.main_arg3) = m ((c.tc : Thread Cert.FfnKvIdeal.nD Cert.FfnKvIdeal.τ).loc Cert.FfnKvIdeal.main_arg3)
      ∧ r.2.mem ((c.tc : Thread Cert.FfnKvIdeal.nD Cert.FfnKvIdeal.τ).loc Cert.FfnKvIdeal.main_arg4) = m ((c.tc : Thread Cert.FfnKvIdeal.nD Cert.FfnKvIdeal.τ).loc Cert.FfnKvIdeal.main_arg4)
      ∧ r.2.mem ((c.tc : Thread Cert.FfnKvIdeal.nD Cert.FfnKvIdeal.τ).loc Cert.FfnKvIdeal.main_arg5) = m ((c.tc : Thread Cert.FfnKvIdeal.nD Cert.FfnKvIdeal.τ).loc Cert.FfnKvIdeal.main_arg5)
      ∧ r.2.mem ((c.tc : Thread Cert.FfnKvIdeal.nD Cert.FfnKvIdeal.τ).loc Cert.FfnKvIdeal.main_arg6) = m ((c.tc : Thread Cert.FfnKvIdeal.nD Cert.FfnKvIdeal.τ).loc Cert.FfnKvIdeal.main_arg6)
      ∧ r.2.mem ((c.tc : Thread Cert.FfnKvIdeal.nD Cert.FfnKvIdeal.τ).loc Cert.FfnKvIdeal.main_arg7) = m ((c.tc : Thread Cert.FfnKvIdeal.nD Cert.FfnKvIdeal.τ).loc Cert.FfnKvIdeal.main_arg7)
      ∧ r.2.mem ((c.tc : Thread Cert.FfnKvIdeal.nD Cert.FfnKvIdeal.τ).loc Cert.FfnKvIdeal.main_arg8) = m ((c.tc : Thread Cert.FfnKvIdeal.nD Cert.FfnKvIdeal.τ).loc Cert.FfnKvIdeal.main_arg8)
      ∧ r.2.mem ((c.tc : Thread Cert.FfnKvIdeal.nD Cert.FfnKvIdeal.τ).loc Cert.FfnKvIdeal.main_arg9) = m ((c.tc : Thread Cert.FfnKvIdeal.nD Cert.FfnKvIdeal.τ).loc Cert.FfnKvIdeal.main_arg9)
      ∧ r.2.mem ((c.tc : Thread Cert.FfnKvIdeal.nD Cert.FfnKvIdeal.τ).loc Cert.FfnKvIdeal.main_arg10) = m ((c.tc : Thread Cert.FfnKvIdeal.nD Cert.FfnKvIdeal.τ).loc Cert.FfnKvIdeal.main_arg10))
      ∧ r.2.sem = fun _ => 0)

def quiescent_FfnKvReferenceIdeal [hFfnKvReferenceIdeal : Cert.FfnKvReferenceIdeal.Facts] : Prop :=
  ∀ (m : (ℓ : Loc Cert.FfnKvReferenceIdeal.nD Cert.FfnKvReferenceIdeal.τ Cert.FfnKvReferenceIdeal.sig) → Buf (Elt Ideal) ℓ) (g : Dev Cert.FfnKvReferenceIdeal.nD → PrngReg), Pre_FfnKvReferenceIdeal m →
    θ_run (Cert.FfnKvReferenceIdeal.defs (F := Ideal)) (onTc (τ := Cert.FfnKvReferenceIdeal.τ) (Cert.FfnKvReferenceIdeal.main (F := Ideal))) ⟨m, fun _ => 0, g⟩ (fun r => (∀ c : Dev Cert.FfnKvReferenceIdeal.nD,
      r.2.mem ((c.tc : Thread Cert.FfnKvReferenceIdeal.nD Cert.FfnKvReferenceIdeal.τ).loc Cert.FfnKvReferenceIdeal.main_arg0) = m ((c.tc : Thread Cert.FfnKvReferenceIdeal.nD Cert.FfnKvReferenceIdeal.τ).loc Cert.FfnKvReferenceIdeal.main_arg0)
      ∧ r.2.mem ((c.tc : Thread Cert.FfnKvReferenceIdeal.nD Cert.FfnKvReferenceIdeal.τ).loc Cert.FfnKvReferenceIdeal.main_arg1) = m ((c.tc : Thread Cert.FfnKvReferenceIdeal.nD Cert.FfnKvReferenceIdeal.τ).loc Cert.FfnKvReferenceIdeal.main_arg1)
      ∧ r.2.mem ((c.tc : Thread Cert.FfnKvReferenceIdeal.nD Cert.FfnKvReferenceIdeal.τ).loc Cert.FfnKvReferenceIdeal.main_arg2) = m ((c.tc : Thread Cert.FfnKvReferenceIdeal.nD Cert.FfnKvReferenceIdeal.τ).loc Cert.FfnKvReferenceIdeal.main_arg2)
      ∧ r.2.mem ((c.tc : Thread Cert.FfnKvReferenceIdeal.nD Cert.FfnKvReferenceIdeal.τ).loc Cert.FfnKvReferenceIdeal.main_arg3) = m ((c.tc : Thread Cert.FfnKvReferenceIdeal.nD Cert.FfnKvReferenceIdeal.τ).loc Cert.FfnKvReferenceIdeal.main_arg3)
      ∧ r.2.mem ((c.tc : Thread Cert.FfnKvReferenceIdeal.nD Cert.FfnKvReferenceIdeal.τ).loc Cert.FfnKvReferenceIdeal.main_arg4) = m ((c.tc : Thread Cert.FfnKvReferenceIdeal.nD Cert.FfnKvReferenceIdeal.τ).loc Cert.FfnKvReferenceIdeal.main_arg4)
      ∧ r.2.mem ((c.tc : Thread Cert.FfnKvReferenceIdeal.nD Cert.FfnKvReferenceIdeal.τ).loc Cert.FfnKvReferenceIdeal.main_arg5) = m ((c.tc : Thread Cert.FfnKvReferenceIdeal.nD Cert.FfnKvReferenceIdeal.τ).loc Cert.FfnKvReferenceIdeal.main_arg5)
      ∧ r.2.mem ((c.tc : Thread Cert.FfnKvReferenceIdeal.nD Cert.FfnKvReferenceIdeal.τ).loc Cert.FfnKvReferenceIdeal.main_arg6) = m ((c.tc : Thread Cert.FfnKvReferenceIdeal.nD Cert.FfnKvReferenceIdeal.τ).loc Cert.FfnKvReferenceIdeal.main_arg6)
      ∧ r.2.mem ((c.tc : Thread Cert.FfnKvReferenceIdeal.nD Cert.FfnKvReferenceIdeal.τ).loc Cert.FfnKvReferenceIdeal.main_arg7) = m ((c.tc : Thread Cert.FfnKvReferenceIdeal.nD Cert.FfnKvReferenceIdeal.τ).loc Cert.FfnKvReferenceIdeal.main_arg7)
      ∧ r.2.mem ((c.tc : Thread Cert.FfnKvReferenceIdeal.nD Cert.FfnKvReferenceIdeal.τ).loc Cert.FfnKvReferenceIdeal.main_arg8) = m ((c.tc : Thread Cert.FfnKvReferenceIdeal.nD Cert.FfnKvReferenceIdeal.τ).loc Cert.FfnKvReferenceIdeal.main_arg8)
      ∧ r.2.mem ((c.tc : Thread Cert.FfnKvReferenceIdeal.nD Cert.FfnKvReferenceIdeal.τ).loc Cert.FfnKvReferenceIdeal.main_arg9) = m ((c.tc : Thread Cert.FfnKvReferenceIdeal.nD Cert.FfnKvReferenceIdeal.τ).loc Cert.FfnKvReferenceIdeal.main_arg9)
      ∧ r.2.mem ((c.tc : Thread Cert.FfnKvReferenceIdeal.nD Cert.FfnKvReferenceIdeal.τ).loc Cert.FfnKvReferenceIdeal.main_arg10) = m ((c.tc : Thread Cert.FfnKvReferenceIdeal.nD Cert.FfnKvReferenceIdeal.τ).loc Cert.FfnKvReferenceIdeal.main_arg10))
      ∧ r.2.sem = fun _ => 0)

def preserves_Attn_AttnIdeal : Prop :=
  IdealRules.named_const.Statement Cert.AttnIdeal.κ "qscale" .f32 0x3E38AA3B#32 (((Real.log 2)⁻¹ * 8⁻¹ : ℝ) : EReal)
  ∧ IdealRules.named_const.Statement Cert.AttnIdeal.κ "log2e" .f32 0x3FB8AA3B#32 (((Real.log 2)⁻¹ : ℝ) : EReal)

def algebraic_AttnIdeal_AttnReferenceIdeal_pre_finite [hAttnIdeal : Cert.AttnIdeal.Facts] [hAttnReferenceIdeal : Cert.AttnReferenceIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_finite m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)
      ∧ m' ((c.tc : Thread Cert.AttnReferenceIdeal.nD Cert.AttnReferenceIdeal.τ).loc Cert.AttnReferenceIdeal.main_arg6) = m ((c.tc : Thread Cert.AttnIdeal.nD Cert.AttnIdeal.τ).loc Cert.AttnIdeal.main_arg6)
      ∧ m' ((c.tc : Thread Cert.AttnReferenceIdeal.nD Cert.AttnReferenceIdeal.τ).loc Cert.AttnReferenceIdeal.main_arg7) = m ((c.tc : Thread Cert.AttnIdeal.nD Cert.AttnIdeal.τ).loc Cert.AttnIdeal.main_arg7)
      ∧ m' ((c.tc : Thread Cert.AttnReferenceIdeal.nD Cert.AttnReferenceIdeal.τ).loc Cert.AttnReferenceIdeal.main_arg8) = m ((c.tc : Thread Cert.AttnIdeal.nD Cert.AttnIdeal.τ).loc Cert.AttnIdeal.main_arg8)
      ∧ m' ((c.tc : Thread Cert.AttnReferenceIdeal.nD Cert.AttnReferenceIdeal.τ).loc Cert.AttnReferenceIdeal.main_arg9) = m ((c.tc : Thread Cert.AttnIdeal.nD Cert.AttnIdeal.τ).loc Cert.AttnIdeal.main_arg9)) →
    ∃ (v0 : (c : Dev Cert.AttnIdeal.nD) → Buf (Elt Ideal) ((c.tc : Thread Cert.AttnIdeal.nD Cert.AttnIdeal.τ).loc Cert.AttnIdeal.main_v73)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v73) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v141) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6)
          ∧ r.2.mem ((c.tc : Thread Cert.AttnReferenceIdeal.nD Cert.AttnReferenceIdeal.τ).loc Cert.AttnReferenceIdeal.main_arg7) = m' ((c.tc : Thread Cert.AttnReferenceIdeal.nD Cert.AttnReferenceIdeal.τ).loc Cert.AttnReferenceIdeal.main_arg7)
          ∧ r.2.mem ((c.tc : Thread Cert.AttnReferenceIdeal.nD Cert.AttnReferenceIdeal.τ).loc Cert.AttnReferenceIdeal.main_arg8) = m' ((c.tc : Thread Cert.AttnReferenceIdeal.nD Cert.AttnReferenceIdeal.τ).loc Cert.AttnReferenceIdeal.main_arg8)
          ∧ r.2.mem ((c.tc : Thread Cert.AttnReferenceIdeal.nD Cert.AttnReferenceIdeal.τ).loc Cert.AttnReferenceIdeal.main_arg9) = m' ((c.tc : Thread Cert.AttnReferenceIdeal.nD Cert.AttnReferenceIdeal.τ).loc Cert.AttnReferenceIdeal.main_arg9))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v8_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v70) = v0 c
          ∧ r.2.mem ((c.tc : Thread Cert.FfnReferenceIdeal.nD Cert.FfnReferenceIdeal.τ).loc Cert.FfnReferenceIdeal.main_v71) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_FfnKv_FfnKvIdeal : Prop :=
  True

def algebraic_FfnKvIdeal_FfnKvReferenceIdeal [hFfnKvIdeal : Cert.FfnKvIdeal.Facts] [hFfnKvReferenceIdeal : Cert.FfnKvReferenceIdeal.Facts] : Prop :=
  ∀ (m : (ℓ : Loc Cert.FfnKvIdeal.nD Cert.FfnKvIdeal.τ Cert.FfnKvIdeal.sig) → Buf (Elt Ideal) ℓ) (g : Dev Cert.FfnKvIdeal.nD → PrngReg)
    (m' : (ℓ : Loc Cert.FfnKvReferenceIdeal.nD Cert.FfnKvReferenceIdeal.τ Cert.FfnKvReferenceIdeal.sig) → Buf (Elt Ideal) ℓ) (g' : Dev Cert.FfnKvReferenceIdeal.nD → PrngReg), Pre_FfnKvIdeal m →
    (∀ c : Dev Cert.FfnKvIdeal.nD,
      m' ((c.tc : Thread Cert.FfnKvReferenceIdeal.nD Cert.FfnKvReferenceIdeal.τ).loc Cert.FfnKvReferenceIdeal.main_arg0) = m ((c.tc : Thread Cert.FfnKvIdeal.nD Cert.FfnKvIdeal.τ).loc Cert.FfnKvIdeal.main_arg0)
      ∧ m' ((c.tc : Thread Cert.FfnKvReferenceIdeal.nD Cert.FfnKvReferenceIdeal.τ).loc Cert.FfnKvReferenceIdeal.main_arg1) = m ((c.tc : Thread Cert.FfnKvIdeal.nD Cert.FfnKvIdeal.τ).loc Cert.FfnKvIdeal.main_arg1)
      ∧ m' ((c.tc : Thread Cert.FfnKvReferenceIdeal.nD Cert.FfnKvReferenceIdeal.τ).loc Cert.FfnKvReferenceIdeal.main_arg2) = m ((c.tc : Thread Cert.FfnKvIdeal.nD Cert.FfnKvIdeal.τ).loc Cert.FfnKvIdeal.main_arg2)
      ∧ m' ((c.tc : Thread Cert.FfnKvReferenceIdeal.nD Cert.FfnKvReferenceIdeal.τ).loc Cert.FfnKvReferenceIdeal.main_arg3) = m ((c.tc : Thread Cert.FfnKvIdeal.nD Cert.FfnKvIdeal.τ).loc Cert.FfnKvIdeal.main_arg3)
      ∧ m' ((c.tc : Thread Cert.FfnKvReferenceIdeal.nD Cert.FfnKvReferenceIdeal.τ).loc Cert.FfnKvReferenceIdeal.main_arg4) = m ((c.tc : Thread Cert.FfnKvIdeal.nD Cert.FfnKvIdeal.τ).loc Cert.FfnKvIdeal.main_arg4)
      ∧ m' ((c.tc : Thread Cert.FfnKvReferenceIdeal.nD Cert.FfnKvReferenceIdeal.τ).loc Cert.FfnKvReferenceIdeal.main_arg5) = m ((c.tc : Thread Cert.FfnKvIdeal.nD Cert.FfnKvIdeal.τ).loc Cert.FfnKvIdeal.main_arg5)
      ∧ m' ((c.tc : Thread Cert.FfnKvReferenceIdeal.nD Cert.FfnKvReferenceIdeal.τ).loc Cert.FfnKvReferenceIdeal.main_arg6) = m ((c.tc : Thread Cert.FfnKvIdeal.nD Cert.FfnKvIdeal.τ).loc Cert.FfnKvIdeal.main_arg6)
      ∧ m' ((c.tc : Thread Cert.FfnKvReferenceIdeal.nD Cert.FfnKvReferenceIdeal.τ).loc Cert.FfnKvReferenceIdeal.main_arg7) = m ((c.tc : Thread Cert.FfnKvIdeal.nD Cert.FfnKvIdeal.τ).loc Cert.FfnKvIdeal.main_arg7)
      ∧ m' ((c.tc : Thread Cert.FfnKvReferenceIdeal.nD Cert.FfnKvReferenceIdeal.τ).loc Cert.FfnKvReferenceIdeal.main_arg8) = m ((c.tc : Thread Cert.FfnKvIdeal.nD Cert.FfnKvIdeal.τ).loc Cert.FfnKvIdeal.main_arg8)
      ∧ m' ((c.tc : Thread Cert.FfnKvReferenceIdeal.nD Cert.FfnKvReferenceIdeal.τ).loc Cert.FfnKvReferenceIdeal.main_arg9) = m ((c.tc : Thread Cert.FfnKvIdeal.nD Cert.FfnKvIdeal.τ).loc Cert.FfnKvIdeal.main_arg9)
      ∧ m' ((c.tc : Thread Cert.FfnKvReferenceIdeal.nD Cert.FfnKvReferenceIdeal.τ).loc Cert.FfnKvReferenceIdeal.main_arg10) = m ((c.tc : Thread Cert.FfnKvIdeal.nD Cert.FfnKvIdeal.τ).loc Cert.FfnKvIdeal.main_arg10)) →
    ∃ (v0 : (c : Dev Cert.FfnKvIdeal.nD) → Buf (Elt Ideal) ((c.tc : Thread Cert.FfnKvIdeal.nD Cert.FfnKvIdeal.τ).loc Cert.FfnKvIdeal.main_v12_0)) (v1 : (c : Dev Cert.FfnKvIdeal.nD) → Buf (Elt Ideal) ((c.tc : Thread Cert.FfnKvIdeal.nD Cert.FfnKvIdeal.τ).loc Cert.FfnKvIdeal.main_v12_1)) (v2 : (c : Dev Cert.FfnKvIdeal.nD) → Buf (Elt Ideal) ((c.tc : Thread Cert.FfnKvIdeal.nD Cert.FfnKvIdeal.τ).loc Cert.FfnKvIdeal.main_v12_2)) (v3 : (c : Dev Cert.FfnKvIdeal.nD) → Buf (Elt Ideal) ((c.tc : Thread Cert.FfnKvIdeal.nD Cert.FfnKvIdeal.τ).loc Cert.FfnKvIdeal.main_v18)) (v4 : (c : Dev Cert.FfnKvIdeal.nD) → Buf (Elt Ideal) ((c.tc : Thread Cert.FfnKvIdeal.nD Cert.FfnKvIdeal.τ).loc Cert.FfnKvIdeal.main_v20)) (v5 : (c : Dev Cert.FfnKvIdeal.nD) → Buf (Elt Ideal) ((c.tc : Thread Cert.FfnKvIdeal.nD Cert.FfnKvIdeal.τ).loc Cert.FfnKvIdeal.main_v24)) (v6 : (c : Dev Cert.FfnKvIdeal.nD) → Buf (Elt Ideal) ((c.tc : Thread Cert.FfnKvIdeal.nD Cert.FfnKvIdeal.τ).loc Cert.FfnKvIdeal.main_v28)),
      θ_run (Cert.FfnKvIdeal.defs (F := Ideal)) (onTc (τ := Cert.FfnKvIdeal.τ) (Cert.FfnKvIdeal.main (F := Ideal))) ⟨m, fun _ => 0, g⟩ (fun r => ∀ c : Dev Cert.FfnKvIdeal.nD,
          r.2.mem ((c.tc : Thread Cert.FfnKvIdeal.nD Cert.FfnKvIdeal.τ).loc Cert.FfnKvIdeal.main_v12_0) = v0 c
          ∧ r.2.mem ((c.tc : Thread Cert.FfnKvIdeal.nD Cert.FfnKvIdeal.τ).loc Cert.FfnKvIdeal.main_v12_1) = v1 c
          ∧ r.2.mem ((c.tc : Thread Cert.FfnKvIdeal.nD Cert.FfnKvIdeal.τ).loc Cert.FfnKvIdeal.main_v12_2) = v2 c
          ∧ r.2.mem ((c.tc : Thread Cert.FfnKvIdeal.nD Cert.FfnKvIdeal.τ).loc Cert.FfnKvIdeal.main_v18) = v3 c
          ∧ r.2.mem ((c.tc : Thread Cert.FfnKvIdeal.nD Cert.FfnKvIdeal.τ).loc Cert.FfnKvIdeal.main_v20) = v4 c
          ∧ r.2.mem ((c.tc : Thread Cert.FfnKvIdeal.nD Cert.FfnKvIdeal.τ).loc Cert.FfnKvIdeal.main_v24) = v5 c
          ∧ r.2.mem ((c.tc : Thread Cert.FfnKvIdeal.nD Cert.FfnKvIdeal.τ).loc Cert.FfnKvIdeal.main_v28) = v6 c
          ∧ r.2.mem ((c.tc : Thread Cert.FfnKvIdeal.nD Cert.FfnKvIdeal.τ).loc Cert.FfnKvIdeal.main_arg0) = m ((c.tc : Thread Cert.FfnKvIdeal.nD Cert.FfnKvIdeal.τ).loc Cert.FfnKvIdeal.main_arg0)
          ∧ r.2.mem ((c.tc : Thread Cert.FfnKvIdeal.nD Cert.FfnKvIdeal.τ).loc Cert.FfnKvIdeal.main_arg1) = m ((c.tc : Thread Cert.FfnKvIdeal.nD Cert.FfnKvIdeal.τ).loc Cert.FfnKvIdeal.main_arg1)
          ∧ r.2.mem ((c.tc : Thread Cert.FfnKvIdeal.nD Cert.FfnKvIdeal.τ).loc Cert.FfnKvIdeal.main_arg2) = m ((c.tc : Thread Cert.FfnKvIdeal.nD Cert.FfnKvIdeal.τ).loc Cert.FfnKvIdeal.main_arg2)
          ∧ r.2.mem ((c.tc : Thread Cert.FfnKvIdeal.nD Cert.FfnKvIdeal.τ).loc Cert.FfnKvIdeal.main_arg3) = m ((c.tc : Thread Cert.FfnKvIdeal.nD Cert.FfnKvIdeal.τ).loc Cert.FfnKvIdeal.main_arg3)
          ∧ r.2.mem ((c.tc : Thread Cert.FfnKvIdeal.nD Cert.FfnKvIdeal.τ).loc Cert.FfnKvIdeal.main_arg4) = m ((c.tc : Thread Cert.FfnKvIdeal.nD Cert.FfnKvIdeal.τ).loc Cert.FfnKvIdeal.main_arg4)
          ∧ r.2.mem ((c.tc : Thread Cert.FfnKvIdeal.nD Cert.FfnKvIdeal.τ).loc Cert.FfnKvIdeal.main_arg5) = m ((c.tc : Thread Cert.FfnKvIdeal.nD Cert.FfnKvIdeal.τ).loc Cert.FfnKvIdeal.main_arg5)
          ∧ r.2.mem ((c.tc : Thread Cert.FfnKvIdeal.nD Cert.FfnKvIdeal.τ).loc Cert.FfnKvIdeal.main_arg6) = m ((c.tc : Thread Cert.FfnKvIdeal.nD Cert.FfnKvIdeal.τ).loc Cert.FfnKvIdeal.main_arg6)
          ∧ r.2.mem ((c.tc : Thread Cert.FfnKvIdeal.nD Cert.FfnKvIdeal.τ).loc Cert.FfnKvIdeal.main_arg7) = m ((c.tc : Thread Cert.FfnKvIdeal.nD Cert.FfnKvIdeal.τ).loc Cert.FfnKvIdeal.main_arg7)
          ∧ r.2.mem ((c.tc : Thread Cert.FfnKvIdeal.nD Cert.FfnKvIdeal.τ).loc Cert.FfnKvIdeal.main_arg8) = m ((c.tc : Thread Cert.FfnKvIdeal.nD Cert.FfnKvIdeal.τ).loc Cert.FfnKvIdeal.main_arg8)
          ∧ r.2.mem ((c.tc : Thread Cert.FfnKvIdeal.nD Cert.FfnKvIdeal.τ).loc Cert.FfnKvIdeal.main_arg9) = m ((c.tc : Thread Cert.FfnKvIdeal.nD Cert.FfnKvIdeal.τ).loc Cert.FfnKvIdeal.main_arg9)
          ∧ r.2.mem ((c.tc : Thread Cert.FfnKvIdeal.nD Cert.FfnKvIdeal.τ).loc Cert.FfnKvIdeal.main_arg10) = m ((c.tc : Thread Cert.FfnKvIdeal.nD Cert.FfnKvIdeal.τ).loc Cert.FfnKvIdeal.main_arg10))
      ∧ θ_run (Cert.FfnKvReferenceIdeal.defs (F := Ideal)) (onTc (τ := Cert.FfnKvReferenceIdeal.τ) (Cert.FfnKvReferenceIdeal.main (F := Ideal))) ⟨m', fun _ => 0, g'⟩ (fun r => ∀ c : Dev Cert.FfnKvReferenceIdeal.nD,
          r.2.mem ((c.tc : Thread Cert.FfnKvReferenceIdeal.nD Cert.FfnKvReferenceIdeal.τ).loc Cert.FfnKvReferenceIdeal.main_v114) = v0 c
          ∧ r.2.mem ((c.tc : Thread Cert.FfnKvReferenceIdeal.nD Cert.FfnKvReferenceIdeal.τ).loc Cert.FfnKvReferenceIdeal.main_v115) = v1 c
          ∧ r.2.mem ((c.tc : Thread Cert.FfnKvReferenceIdeal.nD Cert.FfnKvReferenceIdeal.τ).loc Cert.FfnKvReferenceIdeal.main_v116) = v2 c
          ∧ r.2.mem ((c.tc : Thread Cert.FfnKvReferenceIdeal.nD Cert.FfnKvReferenceIdeal.τ).loc Cert.FfnKvReferenceIdeal.main_v117) = v3 c
          ∧ r.2.mem ((c.tc : Thread Cert.FfnKvReferenceIdeal.nD Cert.FfnKvReferenceIdeal.τ).loc Cert.FfnKvReferenceIdeal.main_v118) = v4 c
          ∧ r.2.mem ((c.tc : Thread Cert.FfnKvReferenceIdeal.nD Cert.FfnKvReferenceIdeal.τ).loc Cert.FfnKvReferenceIdeal.main_v120) = v5 c
          ∧ r.2.mem ((c.tc : Thread Cert.FfnKvReferenceIdeal.nD Cert.FfnKvReferenceIdeal.τ).loc Cert.FfnKvReferenceIdeal.main_v122) = v6 c
          ∧ r.2.mem ((c.tc : Thread Cert.FfnKvReferenceIdeal.nD Cert.FfnKvReferenceIdeal.τ).loc Cert.FfnKvReferenceIdeal.main_arg0) = m' ((c.tc : Thread Cert.FfnKvReferenceIdeal.nD Cert.FfnKvReferenceIdeal.τ).loc Cert.FfnKvReferenceIdeal.main_arg0)
          ∧ r.2.mem ((c.tc : Thread Cert.FfnKvReferenceIdeal.nD Cert.FfnKvReferenceIdeal.τ).loc Cert.FfnKvReferenceIdeal.main_arg1) = m' ((c.tc : Thread Cert.FfnKvReferenceIdeal.nD Cert.FfnKvReferenceIdeal.τ).loc Cert.FfnKvReferenceIdeal.main_arg1)
          ∧ r.2.mem ((c.tc : Thread Cert.FfnKvReferenceIdeal.nD Cert.FfnKvReferenceIdeal.τ).loc Cert.FfnKvReferenceIdeal.main_arg2) = m' ((c.tc : Thread Cert.FfnKvReferenceIdeal.nD Cert.FfnKvReferenceIdeal.τ).loc Cert.FfnKvReferenceIdeal.main_arg2)
          ∧ r.2.mem ((c.tc : Thread Cert.FfnKvReferenceIdeal.nD Cert.FfnKvReferenceIdeal.τ).loc Cert.FfnKvReferenceIdeal.main_arg3) = m' ((c.tc : Thread Cert.FfnKvReferenceIdeal.nD Cert.FfnKvReferenceIdeal.τ).loc Cert.FfnKvReferenceIdeal.main_arg3)
          ∧ r.2.mem ((c.tc : Thread Cert.FfnKvReferenceIdeal.nD Cert.FfnKvReferenceIdeal.τ).loc Cert.FfnKvReferenceIdeal.main_arg4) = m' ((c.tc : Thread Cert.FfnKvReferenceIdeal.nD Cert.FfnKvReferenceIdeal.τ).loc Cert.FfnKvReferenceIdeal.main_arg4)
          ∧ r.2.mem ((c.tc : Thread Cert.FfnKvReferenceIdeal.nD Cert.FfnKvReferenceIdeal.τ).loc Cert.FfnKvReferenceIdeal.main_arg5) = m' ((c.tc : Thread Cert.FfnKvReferenceIdeal.nD Cert.FfnKvReferenceIdeal.τ).loc Cert.FfnKvReferenceIdeal.main_arg5)
          ∧ r.2.mem ((c.tc : Thread Cert.FfnKvReferenceIdeal.nD Cert.FfnKvReferenceIdeal.τ).loc Cert.FfnKvReferenceIdeal.main_arg6) = m' ((c.tc : Thread Cert.FfnKvReferenceIdeal.nD Cert.FfnKvReferenceIdeal.τ).loc Cert.FfnKvReferenceIdeal.main_arg6)
          ∧ r.2.mem ((c.tc : Thread Cert.FfnKvReferenceIdeal.nD Cert.FfnKvReferenceIdeal.τ).loc Cert.FfnKvReferenceIdeal.main_arg7) = m' ((c.tc : Thread Cert.FfnKvReferenceIdeal.nD Cert.FfnKvReferenceIdeal.τ).loc Cert.FfnKvReferenceIdeal.main_arg7)
          ∧ r.2.mem ((c.tc : Thread Cert.FfnKvReferenceIdeal.nD Cert.FfnKvReferenceIdeal.τ).loc Cert.FfnKvReferenceIdeal.main_arg8) = m' ((c.tc : Thread Cert.FfnKvReferenceIdeal.nD Cert.FfnKvReferenceIdeal.τ).loc Cert.FfnKvReferenceIdeal.main_arg8)
          ∧ r.2.mem ((c.tc : Thread Cert.FfnKvReferenceIdeal.nD Cert.FfnKvReferenceIdeal.τ).loc Cert.FfnKvReferenceIdeal.main_arg9) = m' ((c.tc : Thread Cert.FfnKvReferenceIdeal.nD Cert.FfnKvReferenceIdeal.τ).loc Cert.FfnKvReferenceIdeal.main_arg9)
          ∧ r.2.mem ((c.tc : Thread Cert.FfnKvReferenceIdeal.nD Cert.FfnKvReferenceIdeal.τ).loc Cert.FfnKvReferenceIdeal.main_arg10) = m' ((c.tc : Thread Cert.FfnKvReferenceIdeal.nD Cert.FfnKvReferenceIdeal.τ).loc Cert.FfnKvReferenceIdeal.main_arg10))

def Claim : Prop :=
  ∃ (hAttn : Cert.Attn.Facts) (hAttnIdeal : Cert.AttnIdeal.Facts) (hAttnReferenceIdeal : Cert.AttnReferenceIdeal.Facts) (hFfn : Cert.Ffn.Facts) (hFfnIdeal : Cert.FfnIdeal.Facts) (hFfnReferenceIdeal : Cert.FfnReferenceIdeal.Facts) (hFfnKv : Cert.FfnKv.Facts) (hFfnKvIdeal : Cert.FfnKvIdeal.Facts) (hFfnKvReferenceIdeal : Cert.FfnKvReferenceIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnReferenceIdeal (hAttnReferenceIdeal := hAttnReferenceIdeal)
    ∧ quiescent_AttnReferenceIdeal_pre_finite (hAttnReferenceIdeal := hAttnReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnKv (hFfnKv := hFfnKv)
    ∧ quiescent_FfnKvIdeal (hFfnKvIdeal := hFfnKvIdeal)
    ∧ quiescent_FfnKvReferenceIdeal (hFfnKvReferenceIdeal := hFfnKvReferenceIdeal)
    ∧ preserves_Attn_AttnIdeal
    ∧ algebraic_AttnIdeal_AttnReferenceIdeal_pre_finite (hAttnIdeal := hAttnIdeal) (hAttnReferenceIdeal := hAttnReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_FfnKv_FfnKvIdeal
    ∧ algebraic_FfnKvIdeal_FfnKvReferenceIdeal (hFfnKvIdeal := hFfnKvIdeal) (hFfnKvReferenceIdeal := hFfnKvReferenceIdeal)
-- ==== Pre_finite.lean ====
abbrev S2x8192x1024 : Shape := ⟨3, ![2, 8192, 1024]⟩
abbrev S2x8192x256 : Shape := ⟨3, ![2, 8192, 256]⟩
abbrev S32x16 : Shape := ⟨2, ![32, 16]⟩
abbrev S16 : Shape := ⟨1, ![16]⟩
abbrev S1024 : Shape := ⟨1, ![1024]⟩
abbrev S1024x1024 : Shape := ⟨2, ![1024, 1024]⟩
abbrev S2x8192x128 : Shape := ⟨3, ![2, 8192, 128]⟩
abbrev S_ : Shape := ⟨0, ![]⟩

class Facts : Prop where
  slices_S2x8192x256_S2x8192x128_0_0_0 : S2x8192x256.Slices ![0, 0, 0] S2x8192x128
  bcast_S_S2x8192x128 : S_.BroadcastsInDim S2x8192x128 (![] : Fin 0 → Fin S2x8192x128.rank)
  reducesTo_S2x8192x128_S_d0_1_2 : S2x8192x128.ReducesTo [0, 1, 2] S_
  h_S_ : 0 < S_.numel
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg6 : FVec F S1024x1024 .f32) (main_arg7 : FVec F S1024 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S1024x1024 .f32 := Host.absf main_arg6
  let main_cst_6 : FVec F S_ .f32 := constant S_ .f32 0x7F800000#32
  let main_v21 : FVec F S1024x1024 .f32 := broadcastInDim S1024x1024 ![] bcast_S_S1024x1024 main_cst_6
  let main_v22 : IVec S1024x1024 1 := cmpf .olt main_v20 main_v21
  let main_c_7 : IVec S_ 1 := constantI S_ 1 1#1
  let main_v23 : IVec S_ 1 := (fun x v => Host.reduce IntOp.andi x v reducesTo_S1024x1024_S_d0_1 h_S_) main_v22 main_c_7
  let main_v24 : IVec S_ 1 := andi main_v19 main_v23
  let main_v25 : FVec F S1024 .f32 := Host.absf main_arg7
  let main_cst_8 : FVec F S_ .f32 := constant S_ .f32 0x7F800000#32
  let main_v26 : FVec F S1024 .f32 := broadcastInDim S1024 ![] bcast_S_S1024 main_cst_8
  let main_v27 : IVec S1024 1 := cmpf .olt main_v25 main_v26
  let main_c_9 : IVec S_ 1 := constantI S_ 1 1#1
  let main_v28 : IVec S_ 1 := (fun x v => Host.reduce IntOp.andi x v reducesTo_S1024_S_d0 h_S_) main_v27 main_c_9
  let main_v29 : IVec S_ 1 := andi main_v24 main_v28
  main_v29

def fn {F : FTy → Type} [FloatOps F] (main_arg0 : FVec F S2x8192x1024 .f32) (main_arg1 : FVec F S2x8192x256 .f32) (main_arg2 : FVec F S32x16 .f32) (main_arg3 : FVec F S16 .f32) (main_arg4 : FVec F S1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S2x8192x128 .f32 := (extractStridedSlice S2x8192x128 ![0, 0, 0] · slices_S2x8192x256_S2x8192x128_0_0_0) main_arg1
  let main_v1 : FVec F S2x8192x128 .f32 := Host.absf main_v0
  let main_cst : FVec F S_ .f32 := constant S_ .f32 0x7F800000#32
  let main_v2 : FVec F S2x8192x128 .f32 := broadcastInDim S2x8192x128 ![] bcast_S_S2x8192x128 main_cst
  let main_v3 : IVec S2x8192x128 1 := cmpf .olt main_v1 main_v2
  let main_c : IVec S_ 1 := constantI S_ 1 1#1
  let main_v4 : IVec S_ 1 := (fun x v => Host.reduce IntOp.andi x v reducesTo_S2x8192x128_S_d0_1_2 h_S_) main_v3 main_c
  let main_v5 : FVec F S32x16 .f32 := Host.absf main_arg2
  let main_cst_0 : FVec F S_ .f32 := constant S_ .f32 0x7F800000#32
  let main_v6 : FVec F S32x16 .f32 := broadcastInDim S32x16 ![] bcast_S_S32x16 main_cst_0
  let main_v7 : IVec S32x16 1 := cmpf .olt main_v5 main_v6
  let main_c_1 : IVec S_ 1 := constantI S_ 1 1#1
  let main_v8 : IVec S_ 1 := (fun x v => Host.reduce IntOp.andi x v reducesTo_S32x16_S_d0_1 h_S_) main_v7 main_c_1
  let main_v9 : IVec S_ 1 := andi main_v4 main_v8
  let main_v10 : FVec F S16 .f32 := Host.absf main_arg3
  let main_cst_2 : FVec F S_ .f32 := constant S_ .f32 0x7F800000#32
  let main_v11 : FVec F S16 .f32 := broadcastInDim S16 ![] bcast_S_S16 main_cst_2
  let main_v12 : IVec S16 1 := cmpf .olt main_v10 main_v11
  let main_c_3 : IVec S_ 1 := constantI S_ 1 1#1
  let main_v13 : IVec S_ 1 := (fun x v => Host.reduce IntOp.andi x v reducesTo_S16_S_d0 h_S_) main_v12 main_c_3
  let main_v14 : IVec S_ 1 := andi main_v9 main_v13
  let main_v15 : FVec F S1024 .f32 := Host.absf main_arg4
  let main_cst_4 : FVec F S_ .f32 := constant S_ .f32 0x7F800000#32
  let main_v16 : FVec F S1024 .f32 := broadcastInDim S1024 ![] bcast_S_S1024 main_cst_4
  fn_part1 (F := F) main_arg6 main_arg7 main_v14 main_v15 main_v16
-- ==== Attn.lean ====
abbrev S2x8192x1024 : Shape := ⟨3, ![2, 8192, 1024]⟩
abbrev S2x8192x256 : Shape := ⟨3, ![2, 8192, 256]⟩
abbrev S32x16 : Shape := ⟨2, ![32, 16]⟩
abbrev S16 : Shape := ⟨1, ![16]⟩
abbrev S1024 : Shape := ⟨1, ![1024]⟩
abbrev S1024x1024 : Shape := ⟨2, ![1024, 1024]⟩
abbrev S1024x1 : Shape := ⟨2, ![1024, 1]⟩
abbrev S1024x128 : Shape := ⟨2, ![1024, 128]⟩
abbrev S16384x1024 : Shape := ⟨2, ![16384, 1024]⟩
abbrev S16384x256 : Shape := ⟨2, ![16384, 256]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S1x128x256 : Shape := ⟨3, ![1, 128, 256]⟩
abbrev S2x128x256 : Shape := ⟨3, ![2, 128, 256]⟩
abbrev S2x128x256x1 : Shape := ⟨4, ![2, 128, 256, 1]⟩
abbrev S1x128x256x16 : Shape := ⟨4, ![1, 128, 256, 16]⟩
abbrev S2x128x256x16 : Shape := ⟨4, ![2, 128, 256, 16]⟩
abbrev S2x128x256x2x4x2 : Shape := ⟨6, ![2, 128, 256, 2, 4, 2]⟩
abbrev S2x2x2x256x4x128 : Shape := ⟨6, ![2, 2, 2, 256, 4, 128]⟩
abbrev S2x2x512x512 : Shape := ⟨4, ![2, 2, 512, 512]⟩
abbrev S2x4x2 : Shape := ⟨3, ![2, 4, 2]⟩
abbrev S2x2x4 : Shape := ⟨3, ![2, 2, 4]⟩
abbrev S2x2x4x1 : Shape := ⟨4, ![2, 2, 4, 1]⟩
abbrev S2x2x4x128 : Shape := ⟨4, ![2, 2, 4, 128]⟩
abbrev S2x2x512 : Shape := ⟨3, ![2, 2, 512]⟩
abbrev S1x1024 : Shape := ⟨2, ![1, 1024]⟩
abbrev S1x1024x1024 : Shape := ⟨3, ![1, 1024, 1024]⟩
abbrev S1024x256 : Shape := ⟨2, ![1024, 256]⟩
abbrev S1152x256 : Shape := ⟨2, ![1152, 256]⟩
abbrev S1152x128 : Shape := ⟨2, ![1152, 128]⟩
abbrev S128x128 : Shape := ⟨2, ![128, 128]⟩
abbrev S128x512 : Shape := ⟨2, ![128, 512]⟩
abbrev S1x1x512x512 : Shape := ⟨4, ![1, 1, 512, 512]⟩
abbrev S512x512 : Shape := ⟨2, ![512, 512]⟩
abbrev S256x128 : Shape := ⟨2, ![256, 128]⟩
abbrev S1x2x512 : Shape := ⟨3, ![1, 2, 512]⟩
abbrev S2x512 : Shape := ⟨2, ![2, 512]⟩
abbrev S512x128 : Shape := ⟨2, ![512, 128]⟩
abbrev S256x512 : Shape := ⟨2, ![256, 512]⟩
abbrev S1x512 : Shape := ⟨2, ![1, 512]⟩
abbrev S512 : Shape := ⟨1, ![512]⟩
abbrev S128x1024 : Shape := ⟨2, ![128, 1024]⟩

abbrev nBuf : Space → Nat
  | .hbm => 103
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S32x16, .f32⟩
  | .hbm, ⟨3, _⟩ => ⟨S16, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .bf16⟩
  | .hbm, ⟨11, _⟩ => ⟨S1024x1024, .bf16⟩
  | .hbm, ⟨12, _⟩ => ⟨S1024x1, .f32⟩
  | .hbm, ⟨13, _⟩ => ⟨S1024x128, .f32⟩
  | .hbm, ⟨14, _⟩ => ⟨S16384x1024, .f32⟩
  | .hbm, ⟨15, _⟩ => ⟨S16384x256, .f32⟩
  | .hbm, ⟨16, _⟩ => ⟨S128, .i32⟩
  | .hbm, ⟨17, _⟩ => ⟨S128x1, .i32⟩
  | .hbm, ⟨18, _⟩ => ⟨S_, .i32⟩
  | .hbm, ⟨19, _⟩ => ⟨S128x1, .i32⟩
  | .hbm, ⟨20, _⟩ => ⟨S128x1, .i32⟩
  | .hbm, ⟨21, _⟩ => ⟨S256, .i32⟩
  | .hbm, ⟨22, _⟩ => ⟨S1x256, .i32⟩
  | .hbm, ⟨23, _⟩ => ⟨S128x256, .i32⟩
  | .hbm, ⟨24, _⟩ => ⟨S128x256, .i32⟩
  | .hbm, ⟨25, _⟩ => ⟨S128x256, .i32⟩
  | .hbm, ⟨26, _⟩ => ⟨S_, .i32⟩
  | .hbm, ⟨27, _⟩ => ⟨S128x256, .i32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | .hbm, ⟨40, _⟩ => ⟨S_, .f32⟩
  | .hbm, ⟨41, _⟩ => ⟨S128x256, .f32⟩
  | .hbm, ⟨42, _⟩ => ⟨S128x256, .f32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S_, .i32⟩
  | .hbm, ⟨48, _⟩ => ⟨S128x256, .i32⟩
  | .hbm, ⟨49, _⟩ => ⟨S128x256, .i32⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S128x256, .i32⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S_, .i32⟩
  | .hbm, ⟨58, _⟩ => ⟨S128x256, .i32⟩
  | .hbm, ⟨59, _⟩ => ⟨S128x256, .i32⟩
  | .hbm, ⟨60, _⟩ => ⟨S128x256, .i32⟩
  | .hbm, ⟨61, _⟩ => ⟨S128x256x1, .i32⟩
  | .hbm, ⟨62, _⟩ => ⟨S128x256x16, .f32⟩
  | .hbm, ⟨63, _⟩ => ⟨S_, .i32⟩
  | .hbm, ⟨64, _⟩ => ⟨S128x256, .i32⟩
  | .hbm, ⟨65, _⟩ => ⟨S128x256, .i1⟩
  | .hbm, ⟨66, _⟩ => ⟨S_, .i32⟩
  | .hbm, ⟨67, _⟩ => ⟨S128x256, .i32⟩
  | .hbm, ⟨68, _⟩ => ⟨S128x256, .i1⟩
  | .hbm, ⟨69, _⟩ => ⟨S128x256, .i1⟩
  | .hbm, ⟨70, _⟩ => ⟨S256, .i32⟩
  | .hbm, ⟨71, _⟩ => ⟨S1x256, .i32⟩
  | .hbm, ⟨72, _⟩ => ⟨S_, .i32⟩
  | .hbm, ⟨73, _⟩ => ⟨S1x256, .i32⟩
  | .hbm, ⟨74, _⟩ => ⟨S1x256, .i1⟩
  | .hbm, ⟨75, _⟩ => ⟨S128x256, .i1⟩
  | .hbm, ⟨76, _⟩ => ⟨S128x256, .i1⟩
  | .hbm, ⟨77, _⟩ => ⟨S1x128x256, .i1⟩
  | .hbm, ⟨78, _⟩ => ⟨S1x128x256, .i1⟩
  | .hbm, ⟨79, _⟩ => ⟨S2x128x256, .i1⟩
  | .hbm, ⟨80, _⟩ => ⟨S2x128x256x1, .i1⟩
  | .hbm, ⟨81, _⟩ => ⟨S1x128x256x16, .f32⟩
  | .hbm, ⟨82, _⟩ => ⟨S_, .f32⟩
  | .hbm, ⟨83, _⟩ => ⟨S_, .f32⟩
  | .hbm, ⟨84, _⟩ => ⟨S2x128x256x16, .i1⟩
  | .hbm, ⟨85, _⟩ => ⟨S2x128x256x16, .f32⟩
  | .hbm, ⟨86, _⟩ => ⟨S2x128x256x16, .f32⟩
  | .hbm, ⟨87, _⟩ => ⟨S2x128x256x16, .f32⟩
  | .hbm, ⟨88, _⟩ => ⟨S2x128x256x2x4x2, .f32⟩
  | .hbm, ⟨89, _⟩ => ⟨S2x2x2x256x4x128, .f32⟩
  | .hbm, ⟨90, _⟩ => ⟨S2x2x512x512, .f32⟩
  | .hbm, ⟨91, _⟩ => ⟨S2x4x2, .f32⟩
  | .hbm, ⟨92, _⟩ => ⟨S2x2x4, .f32⟩
  | .hbm, ⟨93, _⟩ => ⟨S2x2x4x1, .f32⟩
  | .hbm, ⟨94, _⟩ => ⟨S2x2x4x128, .f32⟩
  | .hbm, ⟨95, _⟩ => ⟨S2x2x512, .f32⟩
  | .hbm, ⟨96, _⟩ => ⟨S1x1024, .f32⟩
  | .hbm, ⟨97, _⟩ => ⟨S1x1024, .f32⟩
  | .hbm, ⟨98, _⟩ => ⟨S1024x1024, .bf16⟩
  | .hbm, ⟨99, _⟩ => ⟨S1x1024x1024, .bf16⟩
  | .hbm, ⟨100, _⟩ => ⟨S1x1024x1024, .bf16⟩
  | .hbm, ⟨101, _⟩ => ⟨S1x1024, .f32⟩
  | .hbm, ⟨102, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S128x256, .f32⟩
  | .local _ .vmem, ⟨5, _⟩ => ⟨S128x256, .f32⟩
  | .local _ .vmem, ⟨6, _⟩ => ⟨S2x2x512x512, .f32⟩
  | .local _ .vmem, ⟨7, _⟩ => ⟨S2x2x512, .f32⟩
  | .local _ .vmem, ⟨8, _⟩ => ⟨S1x1024, .f32⟩
  | .local _ .vmem, ⟨9, _⟩ => ⟨S1x1024, .f32⟩
  | .local _ .vmem, ⟨10, _⟩ => ⟨S1x1024x1024, .bf16⟩
  | .local _ .vmem, ⟨11, _⟩ => ⟨S1024x128, .f32⟩
  | .local _ .vmem, ⟨12, _⟩ => ⟨S1x1024x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def k0_off1 (i : grid0.Coords) : Fin 4 → Nat :=
  let arg0 : BitVec 32 := BitVec.ofNat 32 (i 0).val
  let c8_i32 : BitVec 32 := 8#32
  let c0_i32 : BitVec 32 := 0#32
  let v32 : BitVec 1 := Scalar.cmpi .eq c8_i32 c0_i32
  let c1_i32 : BitVec 32 := 1#32
  let v33 : BitVec 32 := Scalar.select v32 c1_i32 c8_i32
  let v34 : BitVec 32 := Scalar.remsi arg0 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c0_i32_19 : BitVec 32 := 0#32
  let v42 : BitVec 1 := Scalar.cmpi .eq v41 c0_i32_19
  let c1_i32_20 : BitVec 32 := 1#32
  let c0_i32_21 : BitVec 32 := 0#32
  let v43 : BitVec 32 := Scalar.select v42 c1_i32_20 c0_i32_21
  let v93 : Index := Scalar.indexCast v43
  let c0_41 : Index := 0#32
  let c0_42 : Index := 0#32
  let c0_43 : Index := 0#32
  ![v93.toNat, 0, 0, 0]
def k0_off2 (i : grid0.Coords) : Fin 4 → Nat :=
  let arg0 : BitVec 32 := BitVec.ofNat 32 (i 0).val
  let c8_i32 : BitVec 32 := 8#32
  let c0_i32 : BitVec 32 := 0#32
  let v32 : BitVec 1 := Scalar.cmpi .eq c8_i32 c0_i32
  let c1_i32 : BitVec 32 := 1#32
  let v33 : BitVec 32 := Scalar.select v32 c1_i32 c8_i32
  let v34 : BitVec 32 := Scalar.remsi arg0 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c0_i32_19 : BitVec 32 := 0#32
  let v42 : BitVec 1 := Scalar.cmpi .eq v41 c0_i32_19
  let c1_i32_20 : BitVec 32 := 1#32
  let c0_i32_21 : BitVec 32 := 0#32
  let v43 : BitVec 32 := Scalar.select v42 c1_i32_20 c0_i32_21
  let v107 : Index := Scalar.indexCast v43
  let c1 : Index := 1#32
  let c0_47 : Index := 0#32
  let c0_48 : Index := 0#32
  ![v107.toNat, 1, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x2x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AttnIdeal.lean ====
variable {F : FTy → Type} [FloatOps F] [Named F]
def κ : String → Option EReal := fun
  | "log2e" => some (((Real.log 2)⁻¹ : ℝ) : EReal)
  | "qscale" => some (((Real.log 2)⁻¹ * 8⁻¹ : ℝ) : EReal)
  | _ => none
-- ==== AttnReferenceIdeal.lean ====
abbrev S2x8192x1024 : Shape := ⟨3, ![2, 8192, 1024]⟩
abbrev S2x8192x256 : Shape := ⟨3, ![2, 8192, 256]⟩
abbrev S32x16 : Shape := ⟨2, ![32, 16]⟩
abbrev S16 : Shape := ⟨1, ![16]⟩
abbrev S1024 : Shape := ⟨1, ![1024]⟩
abbrev S1024x1024 : Shape := ⟨2, ![1024, 1024]⟩
abbrev S2x8192x2x2x64 : Shape := ⟨5, ![2, 8192, 2, 2, 64]⟩
abbrev S2x8192x1x2x64 : Shape := ⟨5, ![2, 8192, 1, 2, 64]⟩
abbrev S2x8192x2x64 : Shape := ⟨4, ![2, 8192, 2, 64]⟩
abbrev S2x64x128x2x64 : Shape := ⟨5, ![2, 64, 128, 2, 64]⟩
abbrev S2x1x128x2x64 : Shape := ⟨5, ![2, 1, 128, 2, 64]⟩
abbrev S_ : Shape := ⟨0, ![]⟩
abbrev S2x63x128x2x64 : Shape := ⟨5, ![2, 63, 128, 2, 64]⟩
abbrev S2x64x256x2x64 : Shape := ⟨5, ![2, 64, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S2x8x128x256 : Shape := ⟨4, ![2, 8, 128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S2x8192 : Shape := ⟨2, ![2, 8192]⟩
abbrev S2x8192x1 : Shape := ⟨3, ![2, 8192, 1]⟩
abbrev S1x1x1024 : Shape := ⟨3, ![1, 1, 1024]⟩
abbrev S2x64x128x2x8x64 : Shape := ⟨6, ![2, 64, 128, 2, 8, 64]⟩
abbrev S2x64x2x256x128x8 : Shape := ⟨6, ![2, 64, 2, 256, 128, 8]⟩
abbrev S2x64x2x8x128x256 : Shape := ⟨6, ![2, 64, 2, 8, 128, 256]⟩
abbrev S1x1x2x8x128x256 : Shape := ⟨6, ![1, 1, 2, 8, 128, 256]⟩
abbrev S1x64x1x1x128x256 : Shape := ⟨6, ![1, 64, 1, 1, 128, 256]⟩
abbrev S2x8 : Shape := ⟨2, ![2, 8]⟩
abbrev S1x1x2x8x1x1 : Shape := ⟨6, ![1, 1, 2, 8, 1, 1]⟩
abbrev S2x64x2x8x128 : Shape := ⟨5, ![2, 64, 2, 8, 128]⟩
abbrev S2x64x2x8x128x1 : Shape := ⟨6, ![2, 64, 2, 8, 128, 1]⟩
abbrev S2x64x2x64x8x128 : Shape := ⟨6, ![2, 64, 2, 64, 8, 128]⟩
abbrev S16384x1024 : Shape := ⟨2, ![16384, 1024]⟩

abbrev nBuf : Space → Nat
  | .hbm => 182
  | .vmem => 0
  | .smem => 0
  | _ => 0

abbrev hbmTy0_0 (i : Nat) : BufTy := match i % 128 with
  | 0 => ⟨S2x8192x1024, .f32⟩
  | 1 => ⟨S2x8192x256, .f32⟩
  | 2 => ⟨S32x16, .f32⟩
  | 3 => ⟨S16, .f32⟩
  | 4 => ⟨S1024, .f32⟩
  | 5 => ⟨S1024, .f32⟩
  | 6 => ⟨S1024x1024, .f32⟩
  | 7 => ⟨S1024, .f32⟩
  | 8 => ⟨S1024x1024, .f32⟩
  | 9 => ⟨S1024, .f32⟩
  | 10 => ⟨S2x8192x2x2x64, .f32⟩
  | 11 => ⟨S2x8192x1x2x64, .f32⟩
  | 12 => ⟨S2x8192x2x64, .f32⟩
  | 13 => ⟨S2x64x128x2x64, .f32⟩
  | 14 => ⟨S2x1x128x2x64, .f32⟩
  | 15 => ⟨S_, .f32⟩
  | 16 => ⟨S2x1x128x2x64, .f32⟩
  | 17 => ⟨S2x63x128x2x64, .f32⟩
  | 18 => ⟨S2x64x128x2x64, .f32⟩
  | 19 => ⟨S2x64x256x2x64, .f32⟩
  | 20 => ⟨S2x8192x1x2x64, .f32⟩
  | 21 => ⟨S2x8192x2x64, .f32⟩
  | 22 => ⟨S2x64x128x2x64, .f32⟩
  | 23 => ⟨S2x1x128x2x64, .f32⟩
  | 24 => ⟨S_, .f32⟩
  | 25 => ⟨S2x1x128x2x64, .f32⟩
  | 26 => ⟨S2x63x128x2x64, .f32⟩
  | 27 => ⟨S2x64x128x2x64, .f32⟩
  | 28 => ⟨S2x64x256x2x64, .f32⟩
  | 29 => ⟨S128, .i32⟩
  | 30 => ⟨S128x1, .i32⟩
  | 31 => ⟨S_, .i32⟩
  | 32 => ⟨S128x1, .i32⟩
  | 33 => ⟨S128x1, .i32⟩
  | 34 => ⟨S256, .i32⟩
  | 35 => ⟨S1x256, .i32⟩
  | 36 => ⟨S128x256, .i32⟩
  | 37 => ⟨S128x256, .i32⟩
  | 38 => ⟨S128x256, .i32⟩
  | 39 => ⟨S_, .i32⟩
  | 40 => ⟨S128x256, .i32⟩
  | 41 => ⟨S128x256, .i1⟩
  | 42 => ⟨S_, .i32⟩
  | 43 => ⟨S128x256, .i32⟩
  | 44 => ⟨S128x256, .i1⟩
  | 45 => ⟨S128x256, .i1⟩
  | 46 => ⟨S_, .i32⟩
  | 47 => ⟨S128x256, .i32⟩
  | 48 => ⟨S128x256, .i32⟩
  | 49 => ⟨S_, .i32⟩
  | 50 => ⟨S128x256, .i32⟩
  | 51 => ⟨S128x256, .i32⟩
  | 52 => ⟨S128x256, .f32⟩
  | 53 => ⟨S_, .f32⟩
  | 54 => ⟨S128x256, .f32⟩
  | 55 => ⟨S128x256, .f32⟩
  | 56 => ⟨S128x256, .f32⟩
  | 57 => ⟨S_, .f32⟩
  | 58 => ⟨S128x256, .f32⟩
  | 59 => ⟨S128x256, .f32⟩
  | 60 => ⟨S_, .f32⟩
  | 61 => ⟨S128x256, .f32⟩
  | 62 => ⟨S128x256, .f32⟩
  | 63 => ⟨S128x256, .i32⟩
  | 64 => ⟨S_, .i32⟩
  | 65 => ⟨S128x256, .i32⟩
  | 66 => ⟨S128x256, .i32⟩
  | 67 => ⟨S_, .i32⟩
  | 68 => ⟨S128x256, .i32⟩
  | 69 => ⟨S128x256, .i32⟩
  | 70 => ⟨S_, .i32⟩
  | 71 => ⟨S128x256, .i32⟩
  | 72 => ⟨S128x256, .i1⟩
  | 73 => ⟨S128x256, .i32⟩
  | 74 => ⟨S_, .i32⟩
  | 75 => ⟨S128x256, .i32⟩
  | 76 => ⟨S128x256, .i1⟩
  | 77 => ⟨S_, .i32⟩
  | 78 => ⟨S128x256, .i32⟩
  | 79 => ⟨S128x256, .i32⟩
  | 80 => ⟨S128x256, .i32⟩
  | 81 => ⟨S128x256x1, .i32⟩
  | 82 => ⟨S128x256x16, .f32⟩
  | 83 => ⟨S16x128x256, .f32⟩
  | 84 => ⟨S2x8x128x256, .f32⟩
  | 85 => ⟨S64, .i32⟩
  | 86 => ⟨S64x1, .i32⟩
  | 87 => ⟨S_, .i32⟩
  | 88 => ⟨S64x1, .i32⟩
  | 89 => ⟨S64x1, .i1⟩
  | 90 => ⟨S256, .i32⟩
  | 91 => ⟨S1x256, .i32⟩
  | 92 => ⟨S_, .i32⟩
  | 93 => ⟨S1x256, .i32⟩
  | 94 => ⟨S1x256, .i1⟩
  | 95 => ⟨S64x256, .i1⟩
  | 96 => ⟨S64x256, .i1⟩
  | 97 => ⟨S64x256, .i1⟩
  | 98 => ⟨S1x128x256, .i1⟩
  | 99 => ⟨S64x1x256, .i1⟩
  | 100 => ⟨S64x128x256, .i1⟩
  | 101 => ⟨S64x128x256, .i1⟩
  | 102 => ⟨S64x128x256, .i1⟩
  | 103 => ⟨S2x8192x1024, .f32⟩
  | 104 => ⟨S_, .f32⟩
  | 105 => ⟨S2x8192, .f32⟩
  | 106 => ⟨S2x8192x1, .f32⟩
  | 107 => ⟨S_, .f32⟩
  | 108 => ⟨S2x8192x1, .f32⟩
  | 109 => ⟨S2x8192x1, .f32⟩
  | 110 => ⟨S_, .f32⟩
  | 111 => ⟨S2x8192x1, .f32⟩
  | 112 => ⟨S2x8192x1, .f32⟩
  | 113 => ⟨S2x8192x1, .f32⟩
  | 114 => ⟨S2x8192x1024, .f32⟩
  | 115 => ⟨S2x8192x1024, .f32⟩
  | 116 => ⟨S1x1x1024, .f32⟩
  | 117 => ⟨S2x8192x1024, .f32⟩
  | 118 => ⟨S2x8192x1024, .f32⟩
  | 119 => ⟨S2x8192x1024, .f32⟩
  | 120 => ⟨S1x1x1024, .f32⟩
  | 121 => ⟨S2x8192x1024, .f32⟩
  | 122 => ⟨S2x8192x1024, .f32⟩
  | 123 => ⟨S2x64x128x2x8x64, .f32⟩
  | 124 => ⟨S2x64x2x256x128x8, .f32⟩
  | 125 => ⟨S2x64x2x8x128x256, .f32⟩
  | 126 => ⟨S_, .f32⟩
  | 127 => ⟨S2x64x2x8x128x256, .f32⟩
  | _ => ⟨S2x8192x1024, .f32⟩

abbrev hbmTy0_1 (i : Nat) : BufTy := match i % 128 with
  | 0 => ⟨S2x64x2x8x128x256, .f32⟩
  | 1 => ⟨S1x1x2x8x128x256, .f32⟩
  | 2 => ⟨S2x64x2x8x128x256, .f32⟩
  | 3 => ⟨S2x64x2x8x128x256, .f32⟩
  | 4 => ⟨S1x64x1x1x128x256, .i1⟩
  | 5 => ⟨S_, .f32⟩
  | 6 => ⟨S_, .f32⟩
  | 7 => ⟨S2x64x2x8x128x256, .i1⟩
  | 8 => ⟨S2x64x2x8x128x256, .f32⟩
  | 9 => ⟨S2x64x2x8x128x256, .f32⟩
  | 10 => ⟨S2x8, .f32⟩
  | 11 => ⟨S1x1x2x8x1x1, .f32⟩
  | 12 => ⟨S_, .f32⟩
  | 13 => ⟨S2x64x2x8x128, .f32⟩
  | 14 => ⟨S2x64x2x8x128x1, .f32⟩
  | 15 => ⟨S2x64x2x8x128x1, .f32⟩
  | 16 => ⟨S2x64x2x8x128x1, .f32⟩
  | 17 => ⟨S2x64x2x8x128x256, .f32⟩
  | 18 => ⟨S2x64x2x8x128x256, .f32⟩
  | 19 => ⟨S2x64x2x8x128x256, .f32⟩
  | 20 => ⟨S_, .f32⟩
  | 21 => ⟨S2x64x2x8x128, .f32⟩
  | 22 => ⟨S2x64x2x8x128x1, .f32⟩
  | 23 => ⟨S2x64x2x8x128x1, .f32⟩
  | 24 => ⟨S2x64x2x8x128x1, .f32⟩
  | 25 => ⟨S2x64x2x8x128x1, .f32⟩
  | 26 => ⟨S2x64x2x8x128x1, .f32⟩
  | 27 => ⟨S2x64x2x8x128x256, .f32⟩
  | 28 => ⟨S2x64x2x8x128x256, .f32⟩
  | 29 => ⟨S2x64x2x64x8x128, .f32⟩
  | 30 => ⟨S2x64x128x2x8x64, .f32⟩
  | 31 => ⟨S2x8192x1024, .f32⟩
  | 32 => ⟨S2x8192x1024, .f32⟩
  | 33 => ⟨S1x1x1024, .f32⟩
  | 34 => ⟨S2x8192x1024, .f32⟩
  | 35 => ⟨S2x8192x1024, .f32⟩
  | 36 => ⟨S2x8192x1024, .f32⟩
  | 37 => ⟨S_, .f32⟩
  | 38 => ⟨S2x8192, .f32⟩
  | 39 => ⟨S2x8192x1, .f32⟩
  | 40 => ⟨S_, .f32⟩
  | 41 => ⟨S2x8192x1, .f32⟩
  | 42 => ⟨S2x8192x1, .f32⟩
  | 43 => ⟨S_, .f32⟩
  | 44 => ⟨S2x8192x1, .f32⟩
  | 45 => ⟨S2x8192x1, .f32⟩
  | 46 => ⟨S2x8192x1, .f32⟩
  | 47 => ⟨S2x8192x1024, .f32⟩
  | 48 => ⟨S2x8192x1024, .f32⟩
  | 49 => ⟨S1x1x1024, .f32⟩
  | 50 => ⟨S2x8192x1024, .f32⟩
  | 51 => ⟨S2x8192x1024, .f32⟩
  | 52 => ⟨S2x8192x1024, .f32⟩
  | 53 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_1 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_3 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_18 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_19 : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_20 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_21 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_22 : Ref sig .tc := ⟨.hbm, 165, rfl⟩
abbrev main_v128 : Ref sig .tc := ⟨.hbm, 166, rfl⟩
abbrev main_v129 : Ref sig .tc := ⟨.hbm, 167, rfl⟩
abbrev main_cst_23 : Ref sig .tc := ⟨.hbm, 168, rfl⟩
abbrev main_v130 : Ref sig .tc := ⟨.hbm, 169, rfl⟩
abbrev main_v131 : Ref sig .tc := ⟨.hbm, 170, rfl⟩
abbrev main_cst_24 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩

abbrev nD : Nat := 1
abbrev τ : Topo := Topo.v7x

variable {F : FTy → Type} [FloatOps F]
-- ==== Ffn.lean ====
abbrev S2x8192x1024 : Shape := ⟨3, ![2, 8192, 1024]⟩
abbrev S128x4x1024 : Shape := ⟨3, ![128, 4, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S512x1024 : Shape := ⟨2, ![512, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 16
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S128x4x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S16384x1024, .f32⟩
  | .hbm, ⟨7, _⟩ => ⟨S512x1024, .f32⟩
  | .hbm, ⟨8, _⟩ => ⟨S1x1024, .f32⟩
  | .hbm, ⟨9, _⟩ => ⟨S1x1024, .f32⟩
  | .hbm, ⟨10, _⟩ => ⟨S1024x5632, .bf16⟩
  | .hbm, ⟨11, _⟩ => ⟨S1x1024x5632, .bf16⟩
  | .hbm, ⟨12, _⟩ => ⟨S2816x1024, .bf16⟩
  | .hbm, ⟨13, _⟩ => ⟨S1x2816x1024, .bf16⟩
  | .hbm, ⟨14, _⟩ => ⟨S16384x1024, .f32⟩
  | .hbm, ⟨15, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S1x1024, .f32⟩
  | .local _ .vmem, ⟨5, _⟩ => ⟨S1x1024x5632, .bf16⟩
  | .local _ .vmem, ⟨6, _⟩ => ⟨S1x2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c31_i32 : BitVec 32 := 31#32
  let v108 : BitVec 1 := Scalar.cmpi .eq arg0 c31_i32
  let v109 : BitVec 32 := Scalar.extui v108
  let c0_i32 : BitVec 32 := 0#32
  let v110 : BitVec 1 := Scalar.cmpi .ne v109 c0_i32
  v110

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnReferenceIdeal.lean ====
abbrev S2x8192x1024 : Shape := ⟨3, ![2, 8192, 1024]⟩
abbrev S128x4x1024 : Shape := ⟨3, ![128, 4, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S128x4 : Shape := ⟨2, ![128, 4]⟩
abbrev S128x4x1 : Shape := ⟨3, ![128, 4, 1]⟩
abbrev S128x4x5632 : Shape := ⟨3, ![128, 4, 5632]⟩
abbrev S128x4x2816 : Shape := ⟨3, ![128, 4, 2816]⟩
abbrev S16384x1024 : Shape := ⟨2, ![16384, 1024]⟩
abbrev S512x1024 : Shape := ⟨2, ![512, 1024]⟩

abbrev nBuf : Space → Nat
  | .hbm => 108
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S128x4x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x5632, .f32⟩
  | .hbm, ⟨23, _⟩ => ⟨S2x8192x2816, .f32⟩
  | .hbm, ⟨24, _⟩ => ⟨S2x8192x2816, .f32⟩
  | .hbm, ⟨25, _⟩ => ⟨S2x8192x2816, .f32⟩
  | .hbm, ⟨26, _⟩ => ⟨S2x8192x2816, .f32⟩
  | .hbm, ⟨27, _⟩ => ⟨S_, .f32⟩
  | .hbm, ⟨28, _⟩ => ⟨S2x8192x2816, .f32⟩
  | .hbm, ⟨29, _⟩ => ⟨S2x8192x2816, .f32⟩
  | .hbm, ⟨30, _⟩ => ⟨S_, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x8192, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1, .f32⟩
  | .hbm, ⟨47, _⟩ => ⟨S2x8192x1024, .f32⟩
  | .hbm, ⟨48, _⟩ => ⟨S2x8192x1024, .f32⟩
  | .hbm, ⟨49, _⟩ => ⟨S1x1x1024, .f32⟩
  | .hbm, ⟨50, _⟩ => ⟨S2x8192x1024, .f32⟩
  | .hbm, ⟨51, _⟩ => ⟨S2x8192x1024, .f32⟩
  | .hbm, ⟨52, _⟩ => ⟨S_, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S128x4x1024, .f32⟩
  | .hbm, ⟨57, _⟩ => ⟨S_, .f32⟩
  | .hbm, ⟨58, _⟩ => ⟨S128x4, .f32⟩
  | .hbm, ⟨59, _⟩ => ⟨S128x4x1, .f32⟩
  | .hbm, ⟨60, _⟩ => ⟨S_, .f32⟩
  | .hbm, ⟨61, _⟩ => ⟨S128x4x1, .f32⟩
  | .hbm, ⟨62, _⟩ => ⟨S128x4x1, .f32⟩
  | .hbm, ⟨63, _⟩ => ⟨S_, .f32⟩
  | .hbm, ⟨64, _⟩ => ⟨S128x4x1, .f32⟩
  | .hbm, ⟨65, _⟩ => ⟨S128x4x1, .f32⟩
  | .hbm, ⟨66, _⟩ => ⟨S128x4x1, .f32⟩
  | .hbm, ⟨67, _⟩ => ⟨S128x4x1024, .f32⟩
  | .hbm, ⟨68, _⟩ => ⟨S128x4x1024, .f32⟩
  | .hbm, ⟨69, _⟩ => ⟨S1x1x1024, .f32⟩
  | .hbm, ⟨70, _⟩ => ⟨S128x4x1024, .f32⟩
  | .hbm, ⟨71, _⟩ => ⟨S128x4x1024, .f32⟩
  | .hbm, ⟨72, _⟩ => ⟨S128x4x5632, .f32⟩
  | .hbm, ⟨73, _⟩ => ⟨S128x4x2816, .f32⟩
  | .hbm, ⟨74, _⟩ => ⟨S128x4x2816, .f32⟩
  | .hbm, ⟨75, _⟩ => ⟨S128x4x2816, .f32⟩
  | .hbm, ⟨76, _⟩ => ⟨S128x4x2816, .f32⟩
  | .hbm, ⟨77, _⟩ => ⟨S_, .f32⟩
  | .hbm, ⟨78, _⟩ => ⟨S128x4x2816, .f32⟩
  | .hbm, ⟨79, _⟩ => ⟨S128x4x2816, .f32⟩
  | .hbm, ⟨80, _⟩ => ⟨S_, .f32⟩
  | .hbm, ⟨81, _⟩ => ⟨S128x4x2816, .f32⟩
  | .hbm, ⟨82, _⟩ => ⟨S128x4x2816, .f32⟩
  | .hbm, ⟨83, _⟩ => ⟨S128x4x2816, .f32⟩
  | .hbm, ⟨84, _⟩ => ⟨S128x4x2816, .f32⟩
  | .hbm, ⟨85, _⟩ => ⟨S128x4x1024, .f32⟩
  | .hbm, ⟨86, _⟩ => ⟨S128x4x1024, .f32⟩
  | .hbm, ⟨87, _⟩ => ⟨S_, .f32⟩
  | .hbm, ⟨88, _⟩ => ⟨S128x4, .f32⟩
  | .hbm, ⟨89, _⟩ => ⟨S128x4x1, .f32⟩
  | .hbm, ⟨90, _⟩ => ⟨S_, .f32⟩
  | .hbm, ⟨91, _⟩ => ⟨S128x4x1, .f32⟩
  | .hbm, ⟨92, _⟩ => ⟨S128x4x1, .f32⟩
  | .hbm, ⟨93, _⟩ => ⟨S_, .f32⟩
  | .hbm, ⟨94, _⟩ => ⟨S128x4x1, .f32⟩
  | .hbm, ⟨95, _⟩ => ⟨S128x4x1, .f32⟩
  | .hbm, ⟨96, _⟩ => ⟨S128x4x1, .f32⟩
  | .hbm, ⟨97, _⟩ => ⟨S128x4x1024, .f32⟩
  | .hbm, ⟨98, _⟩ => ⟨S128x4x1024, .f32⟩
  | .hbm, ⟨99, _⟩ => ⟨S1x1x1024, .f32⟩
  | .hbm, ⟨100, _⟩ => ⟨S128x4x1024, .f32⟩
  | .hbm, ⟨101, _⟩ => ⟨S128x4x1024, .f32⟩
  | .hbm, ⟨102, _⟩ => ⟨S_, .f32⟩
  | .hbm, ⟨103, _⟩ => ⟨S128x4x1024, .f32⟩
  | .hbm, ⟨104, _⟩ => ⟨S128x4x1024, .f32⟩
  | .hbm, ⟨105, _⟩ => ⟨S128x4x1024, .f32⟩
  | .hbm, ⟨106, _⟩ => ⟨S16384x1024, .f32⟩
  | .hbm, ⟨107, _⟩ => ⟨S512x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_9 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_cst_11 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_12 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩

abbrev nD : Nat := 1
abbrev τ : Topo := Topo.v7x

variable {F : FTy → Type} [FloatOps F]
-- ==== FfnKv.lean ====
abbrev S2x8192x1024 : Shape := ⟨3, ![2, 8192, 1024]⟩
abbrev S128x4x1024 : Shape := ⟨3, ![128, 4, 1024]⟩
abbrev S128x128x2x64 : Shape := ⟨4, ![128, 128, 2, 64]⟩
abbrev S1024 : Shape := ⟨1, ![1024]⟩
abbrev S1024x5632 : Shape := ⟨2, ![1024, 5632]⟩
abbrev S2816x1024 : Shape := ⟨2, ![2816, 1024]⟩
abbrev S1024x256 : Shape := ⟨2, ![1024, 256]⟩
abbrev S256 : Shape := ⟨1, ![256]⟩
abbrev S8192x2048 : Shape := ⟨2, ![8192, 2048]⟩
abbrev S256x2048 : Shape := ⟨2, ![256, 2048]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x256 : Shape := ⟨3, ![1, 1024, 256]⟩
abbrev S1x256 : Shape := ⟨2, ![1, 256]⟩
abbrev S16384x1024 : Shape := ⟨2, ![16384, 1024]⟩
abbrev S512x1024 : Shape := ⟨2, ![512, 1024]⟩
abbrev S16384x256 : Shape := ⟨2, ![16384, 256]⟩
abbrev S512x256 : Shape := ⟨2, ![512, 256]⟩
abbrev S8x512x128 : Shape := ⟨3, ![8, 512, 128]⟩
abbrev S256x1024 : Shape := ⟨2, ![256, 1024]⟩
abbrev S256x1 : Shape := ⟨2, ![256, 1]⟩
abbrev S256x5632 : Shape := ⟨2, ![256, 5632]⟩
abbrev S256x2816 : Shape := ⟨2, ![256, 2816]⟩
abbrev S256x128 : Shape := ⟨2, ![256, 128]⟩
abbrev S1x256x128 : Shape := ⟨3, ![1, 256, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S128x4x256 : Shape := ⟨3, ![128, 4, 256]⟩
abbrev S2x8192x256 : Shape := ⟨3, ![2, 8192, 256]⟩
abbrev S128x128x128 : Shape := ⟨3, ![128, 128, 128]⟩
abbrev S2x128x128 : Shape := ⟨3, ![2, 128, 128]⟩
abbrev S2x128x2x64 : Shape := ⟨4, ![2, 128, 2, 64]⟩
abbrev S128x4x128 : Shape := ⟨3, ![128, 4, 128]⟩
abbrev S128x132x128 : Shape := ⟨3, ![128, 132, 128]⟩

abbrev nBuf : Space → Nat
  | .hbm => 43
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S128x4x1024, .f32⟩
  | .hbm, ⟨2, _⟩ => ⟨S128x128x2x64, .f32⟩
  | .hbm, ⟨3, _⟩ => ⟨S128x128x2x64, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .f32⟩
  | .hbm, ⟨9, _⟩ => ⟨S1024x256, .f32⟩
  | .hbm, ⟨10, _⟩ => ⟨S256, .f32⟩
  | .hbm, ⟨11, _⟩ => ⟨S8192x2048, .f32⟩
  | .hbm, ⟨12, _⟩ => ⟨S256x2048, .f32⟩
  | .hbm, ⟨13, _⟩ => ⟨S1x1024, .f32⟩
  | .hbm, ⟨14, _⟩ => ⟨S1x1024, .f32⟩
  | .hbm, ⟨15, _⟩ => ⟨S1024x5632, .bf16⟩
  | .hbm, ⟨16, _⟩ => ⟨S1x1024x5632, .bf16⟩
  | .hbm, ⟨17, _⟩ => ⟨S2816x1024, .bf16⟩
  | .hbm, ⟨18, _⟩ => ⟨S1x2816x1024, .bf16⟩
  | .hbm, ⟨19, _⟩ => ⟨S1x1024, .f32⟩
  | .hbm, ⟨20, _⟩ => ⟨S1024x256, .bf16⟩
  | .hbm, ⟨21, _⟩ => ⟨S1x1024x256, .bf16⟩
  | .hbm, ⟨22, _⟩ => ⟨S1x256, .f32⟩
  | .hbm, ⟨23, _⟩ => ⟨S16384x1024, .f32⟩
  | .hbm, ⟨24, _⟩ => ⟨S512x1024, .f32⟩
  | .hbm, ⟨25, _⟩ => ⟨S16384x256, .f32⟩
  | .hbm, ⟨26, _⟩ => ⟨S512x256, .f32⟩
  | .hbm, ⟨27, _⟩ => ⟨S128x4x256, .f32⟩
  | .hbm, ⟨28, _⟩ => ⟨S2x8192x256, .f32⟩
  | .hbm, ⟨29, _⟩ => ⟨S128x128x128, .f32⟩
  | .hbm, ⟨30, _⟩ => ⟨S128x128x128, .f32⟩
  | .hbm, ⟨31, _⟩ => ⟨S2x128x128, .f32⟩
  | .hbm, ⟨32, _⟩ => ⟨S2x128x2x64, .f32⟩
  | .hbm, ⟨33, _⟩ => ⟨S2x128x128, .f32⟩
  | .hbm, ⟨34, _⟩ => ⟨S2x128x2x64, .f32⟩
  | .hbm, ⟨35, _⟩ => ⟨S128x4x128, .f32⟩
  | .hbm, ⟨36, _⟩ => ⟨S128x132x128, .f32⟩
  | .hbm, ⟨37, _⟩ => ⟨S128x128x128, .f32⟩
  | .hbm, ⟨38, _⟩ => ⟨S128x128x2x64, .f32⟩
  | .hbm, ⟨39, _⟩ => ⟨S128x4x128, .f32⟩
  | .hbm, ⟨40, _⟩ => ⟨S128x132x128, .f32⟩
  | .hbm, ⟨41, _⟩ => ⟨S128x128x128, .f32⟩
  | .hbm, ⟨42, _⟩ => ⟨S128x128x2x64, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S1x1024, .f32⟩
  | .local _ .vmem, ⟨4, _⟩ => ⟨S1x1024, .f32⟩
  | .local _ .vmem, ⟨5, _⟩ => ⟨S1x1024x5632, .bf16⟩
  | .local _ .vmem, ⟨6, _⟩ => ⟨S1x2816x1024, .bf16⟩
  | .local _ .vmem, ⟨7, _⟩ => ⟨S1x1024, .f32⟩
  | .local _ .vmem, ⟨8, _⟩ => ⟨S1x1024x256, .bf16⟩
  | .local _ .vmem, ⟨9, _⟩ => ⟨S1x256, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S8x512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem11_1 : DmaSem sig := 14
abbrev cc0_sem12_0 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c31_i32 : BitVec 32 := 31#32
  let v223 : BitVec 1 := Scalar.cmpi .eq arg0 c31_i32
  let v224 : BitVec 32 := Scalar.extui v223
  let c0_i32 : BitVec 32 := 0#32
  let v225 : BitVec 1 := Scalar.cmpi .ne v224 c0_i32
  v225

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnKvReferenceIdeal.lean ====
abbrev S2x8192x1024 : Shape := ⟨3, ![2, 8192, 1024]⟩
abbrev S128x4x1024 : Shape := ⟨3, ![128, 4, 1024]⟩
abbrev S128x128x2x64 : Shape := ⟨4, ![128, 128, 2, 64]⟩
abbrev S1024 : Shape := ⟨1, ![1024]⟩
abbrev S1024x5632 : Shape := ⟨2, ![1024, 5632]⟩
abbrev S2816x1024 : Shape := ⟨2, ![2816, 1024]⟩
abbrev S1024x256 : Shape := ⟨2, ![1024, 256]⟩
abbrev S256 : Shape := ⟨1, ![256]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S2x8192x256 : Shape := ⟨3, ![2, 8192, 256]⟩
abbrev S1x1x256 : Shape := ⟨3, ![1, 1, 256]⟩
abbrev S128x4 : Shape := ⟨2, ![128, 4]⟩
abbrev S128x4x1 : Shape := ⟨3, ![128, 4, 1]⟩
abbrev S128x4x5632 : Shape := ⟨3, ![128, 4, 5632]⟩
abbrev S128x4x2816 : Shape := ⟨3, ![128, 4, 2816]⟩
abbrev S128x4x256 : Shape := ⟨3, ![128, 4, 256]⟩
abbrev S2x8192x2x2x64 : Shape := ⟨5, ![2, 8192, 2, 2, 64]⟩
abbrev S128x4x2x2x64 : Shape := ⟨5, ![128, 4, 2, 2, 64]⟩
abbrev S2x8192x1x2x64 : Shape := ⟨5, ![2, 8192, 1, 2, 64]⟩
abbrev S2x8192x2x64 : Shape := ⟨4, ![2, 8192, 2, 64]⟩
abbrev S128x4x1x2x64 : Shape := ⟨5, ![128, 4, 1, 2, 64]⟩
abbrev S128x4x2x64 : Shape := ⟨4, ![128, 4, 2, 64]⟩
abbrev S16384x1024 : Shape := ⟨2, ![16384, 1024]⟩
abbrev S512x1024 : Shape := ⟨2, ![512, 1024]⟩
abbrev S16384x256 : Shape := ⟨2, ![16384, 256]⟩
abbrev S2x128x2x64 : Shape := ⟨4, ![2, 128, 2, 64]⟩
abbrev S128x132x2x64 : Shape := ⟨4, ![128, 132, 2, 64]⟩

abbrev nBuf : Space → Nat
  | .hbm => 170
  | .vmem => 0
  | .smem => 0
  | _ => 0

abbrev hbmTy0_0 (i : Nat) : BufTy := match i % 128 with
  | 0 => ⟨S2x8192x1024, .f32⟩
  | 1 => ⟨S128x4x1024, .f32⟩
  | 2 => ⟨S128x128x2x64, .f32⟩
  | 3 => ⟨S128x128x2x64, .f32⟩
  | 4 => ⟨S1024, .f32⟩
  | 5 => ⟨S1024, .f32⟩
  | 6 => ⟨S1024x5632, .f32⟩
  | 7 => ⟨S2816x1024, .f32⟩
  | 8 => ⟨S1024, .f32⟩
  | 9 => ⟨S1024x256, .f32⟩
  | 10 => ⟨S256, .f32⟩
  | 11 => ⟨S2x8192x1024, .f32⟩
  | 12 => ⟨S_, .f32⟩
  | 13 => ⟨S2x8192, .f32⟩
  | 14 => ⟨S2x8192x1, .f32⟩
  | 15 => ⟨S_, .f32⟩
  | 16 => ⟨S2x8192x1, .f32⟩
  | 17 => ⟨S2x8192x1, .f32⟩
  | 18 => ⟨S_, .f32⟩
  | 19 => ⟨S2x8192x1, .f32⟩
  | 20 => ⟨S2x8192x1, .f32⟩
  | 21 => ⟨S2x8192x1, .f32⟩
  | 22 => ⟨S2x8192x1024, .f32⟩
  | 23 => ⟨S2x8192x1024, .f32⟩
  | 24 => ⟨S1x1x1024, .f32⟩
  | 25 => ⟨S2x8192x1024, .f32⟩
  | 26 => ⟨S2x8192x1024, .f32⟩
  | 27 => ⟨S2x8192x5632, .f32⟩
  | 28 => ⟨S2x8192x2816, .f32⟩
  | 29 => ⟨S2x8192x2816, .f32⟩
  | 30 => ⟨S2x8192x2816, .f32⟩
  | 31 => ⟨S2x8192x2816, .f32⟩
  | 32 => ⟨S_, .f32⟩
  | 33 => ⟨S2x8192x2816, .f32⟩
  | 34 => ⟨S2x8192x2816, .f32⟩
  | 35 => ⟨S_, .f32⟩
  | 36 => ⟨S2x8192x2816, .f32⟩
  | 37 => ⟨S2x8192x2816, .f32⟩
  | 38 => ⟨S2x8192x2816, .f32⟩
  | 39 => ⟨S2x8192x2816, .f32⟩
  | 40 => ⟨S2x8192x1024, .f32⟩
  | 41 => ⟨S2x8192x1024, .f32⟩
  | 42 => ⟨S_, .f32⟩
  | 43 => ⟨S2x8192, .f32⟩
  | 44 => ⟨S2x8192x1, .f32⟩
  | 45 => ⟨S_, .f32⟩
  | 46 => ⟨S2x8192x1, .f32⟩
  | 47 => ⟨S2x8192x1, .f32⟩
  | 48 => ⟨S_, .f32⟩
  | 49 => ⟨S2x8192x1, .f32⟩
  | 50 => ⟨S2x8192x1, .f32⟩
  | 51 => ⟨S2x8192x1, .f32⟩
  | 52 => ⟨S2x8192x1024, .f32⟩
  | 53 => ⟨S2x8192x1024, .f32⟩
  | 54 => ⟨S1x1x1024, .f32⟩
  | 55 => ⟨S2x8192x1024, .f32⟩
  | 56 => ⟨S2x8192x1024, .f32⟩
  | 57 => ⟨S_, .f32⟩
  | 58 => ⟨S2x8192x1024, .f32⟩
  | 59 => ⟨S2x8192x1024, .f32⟩
  | 60 => ⟨S2x8192x1024, .f32⟩
  | 61 => ⟨S2x8192x1024, .f32⟩
  | 62 => ⟨S_, .f32⟩
  | 63 => ⟨S2x8192, .f32⟩
  | 64 => ⟨S2x8192x1, .f32⟩
  | 65 => ⟨S_, .f32⟩
  | 66 => ⟨S2x8192x1, .f32⟩
  | 67 => ⟨S2x8192x1, .f32⟩
  | 68 => ⟨S_, .f32⟩
  | 69 => ⟨S2x8192x1, .f32⟩
  | 70 => ⟨S2x8192x1, .f32⟩
  | 71 => ⟨S2x8192x1, .f32⟩
  | 72 => ⟨S2x8192x1024, .f32⟩
  | 73 => ⟨S2x8192x1024, .f32⟩
  | 74 => ⟨S1x1x1024, .f32⟩
  | 75 => ⟨S2x8192x1024, .f32⟩
  | 76 => ⟨S2x8192x1024, .f32⟩
  | 77 => ⟨S2x8192x256, .f32⟩
  | 78 => ⟨S1x1x256, .f32⟩
  | 79 => ⟨S2x8192x256, .f32⟩
  | 80 => ⟨S2x8192x256, .f32⟩
  | 81 => ⟨S128x4x1024, .f32⟩
  | 82 => ⟨S_, .f32⟩
  | 83 => ⟨S128x4, .f32⟩
  | 84 => ⟨S128x4x1, .f32⟩
  | 85 => ⟨S_, .f32⟩
  | 86 => ⟨S128x4x1, .f32⟩
  | 87 => ⟨S128x4x1, .f32⟩
  | 88 => ⟨S_, .f32⟩
  | 89 => ⟨S128x4x1, .f32⟩
  | 90 => ⟨S128x4x1, .f32⟩
  | 91 => ⟨S128x4x1, .f32⟩
  | 92 => ⟨S128x4x1024, .f32⟩
  | 93 => ⟨S128x4x1024, .f32⟩
  | 94 => ⟨S1x1x1024, .f32⟩
  | 95 => ⟨S128x4x1024, .f32⟩
  | 96 => ⟨S128x4x1024, .f32⟩
  | 97 => ⟨S128x4x5632, .f32⟩
  | 98 => ⟨S128x4x2816, .f32⟩
  | 99 => ⟨S128x4x2816, .f32⟩
  | 100 => ⟨S128x4x2816, .f32⟩
  | 101 => ⟨S128x4x2816, .f32⟩
  | 102 => ⟨S_, .f32⟩
  | 103 => ⟨S128x4x2816, .f32⟩
  | 104 => ⟨S128x4x2816, .f32⟩
  | 105 => ⟨S_, .f32⟩
  | 106 => ⟨S128x4x2816, .f32⟩
  | 107 => ⟨S128x4x2816, .f32⟩
  | 108 => ⟨S128x4x2816, .f32⟩
  | 109 => ⟨S128x4x2816, .f32⟩
  | 110 => ⟨S128x4x1024, .f32⟩
  | 111 => ⟨S128x4x1024, .f32⟩
  | 112 => ⟨S_, .f32⟩
  | 113 => ⟨S128x4, .f32⟩
  | 114 => ⟨S128x4x1, .f32⟩
  | 115 => ⟨S_, .f32⟩
  | 116 => ⟨S128x4x1, .f32⟩
  | 117 => ⟨S128x4x1, .f32⟩
  | 118 => ⟨S_, .f32⟩
  | 119 => ⟨S128x4x1, .f32⟩
  | 120 => ⟨S128x4x1, .f32⟩
  | 121 => ⟨S128x4x1, .f32⟩
  | 122 => ⟨S128x4x1024, .f32⟩
  | 123 => ⟨S128x4x1024, .f32⟩
  | 124 => ⟨S1x1x1024, .f32⟩
  | 125 => ⟨S128x4x1024, .f32⟩
  | 126 => ⟨S128x4x1024, .f32⟩
  | 127 => ⟨S_, .f32⟩
  | _ => ⟨S2x8192x1024, .f32⟩

abbrev hbmTy0_1 (i : Nat) : BufTy := match i % 128 with
  | 0 => ⟨S128x4x1024, .f32⟩
  | 1 => ⟨S128x4x1024, .f32⟩
  | 2 => ⟨S128x4x1024, .f32⟩
  | 3 => ⟨S128x4x1024, .f32⟩
  | 4 => ⟨S_, .f32⟩
  | 5 => ⟨S128x4, .f32⟩
  | 6 => ⟨S128x4x1, .f32⟩
  | 7 => ⟨S_, .f32⟩
  | 8 => ⟨S128x4x1, .f32⟩
  | 9 => ⟨S128x4x1, .f32⟩
  | 10 => ⟨S_, .f32⟩
  | 11 => ⟨S128x4x1, .f32⟩
  | 12 => ⟨S128x4x1, .f32⟩
  | 13 => ⟨S128x4x1, .f32⟩
  | 14 => ⟨S128x4x1024, .f32⟩
  | 15 => ⟨S128x4x1024, .f32⟩
  | 16 => ⟨S1x1x1024, .f32⟩
  | 17 => ⟨S128x4x1024, .f32⟩
  | 18 => ⟨S128x4x1024, .f32⟩
  | 19 => ⟨S128x4x256, .f32⟩
  | 20 => ⟨S1x1x256, .f32⟩
  | 21 => ⟨S128x4x256, .f32⟩
  | 22 => ⟨S128x4x256, .f32⟩
  | 23 => ⟨S2x8192x2x2x64, .f32⟩
  | 24 => ⟨S128x4x2x2x64, .f32⟩
  | 25 => ⟨S2x8192x1x2x64, .f32⟩
  | 26 => ⟨S2x8192x2x64, .f32⟩
  | 27 => ⟨S2x8192x1x2x64, .f32⟩
  | 28 => ⟨S2x8192x2x64, .f32⟩
  | 29 => ⟨S128x4x1x2x64, .f32⟩
  | 30 => ⟨S128x4x2x64, .f32⟩
  | 31 => ⟨S128x4x1x2x64, .f32⟩
  | 32 => ⟨S128x4x2x64, .f32⟩
  | 33 => ⟨S16384x1024, .f32⟩
  | 34 => ⟨S512x1024, .f32⟩
  | 35 => ⟨S16384x256, .f32⟩
  | 36 => ⟨S2x128x2x64, .f32⟩
  | 37 => ⟨S2x128x2x64, .f32⟩
  | 38 => ⟨S128x132x2x64, .f32⟩
  | 39 => ⟨S128x128x2x64, .f32⟩
  | 40 => ⟨S128x132x2x64, .f32⟩
  | 41 => ⟨S128x128x2x64, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_12 : Ref sig .tc := ⟨.hbm, 112, rfl⟩
abbrev main_v72 : Ref sig .tc := ⟨.hbm, 113, rfl⟩
abbrev main_v73 : Ref sig .tc := ⟨.hbm, 114, rfl⟩
abbrev main_cst_13 : Ref sig .tc := ⟨.hbm, 115, rfl⟩
abbrev main_v74 : Ref sig .tc := ⟨.hbm, 116, rfl⟩
abbrev main_v75 : Ref sig .tc := ⟨.hbm, 117, rfl⟩
abbrev main_cst_14 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_15 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_16 : Ref sig .tc := ⟨.hbm, 132, rfl⟩
abbrev main_v88 : Ref sig .tc := ⟨.hbm, 133, rfl⟩
abbrev main_v89 : Ref sig .tc := ⟨.hbm, 134, rfl⟩
abbrev main_cst_17 : Ref sig .tc := ⟨.hbm, 135, rfl⟩
abbrev main_v90 : Ref sig .tc := ⟨.hbm, 136, rfl⟩
abbrev main_v91 : Ref sig .tc := ⟨.hbm, 137, rfl⟩
abbrev main_cst_18 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩

abbrev nD : Nat := 1
abbrev τ : Topo := Topo.v7x

variable {F : FTy → Type} [FloatOps F]
-- ==== Proof.AttnEntry.lean ====
/- What the attention call's operands hold when it starts: the weights and the bias that the host's operations prepare, one
   stretch of operations at a time. -/
module

public import proofs.«01_k».proof.Proof.Gen.AttnIdeal.Frame
public import Idealize.ShloMosaic.Lib.Pipeline.ValueKit

@[expose] public section

set_option maxRecDepth 16384

noncomputable section

namespace Cert.AttnIdeal.Entry

open Idealize.ShloMosaic Idealize.ShloMosaic.TcCoe Idealize.SL.Sem
open Cert.AttnIdeal Cert.AttnIdeal.Gen
open Idealize.ShloMosaic.StableHlo

/-- The distance from a query of a block back to a key of the two blocks it sees. -/
def dist : IVec S128x256 32 :=
  subi (broadcastInDim S128x256 ![0, 1] bcast_S128x1_S128x256_0_1
      (addi (broadcastInDim S128x1 ![0] bcast_S128_S128x1_0 (iotaInDim S128 32 0))
        (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- A number at every place. -/
def all (n : BitVec 32) : IVec S128x256 32 := broadcastInDim S128x256 ![] bcast_S_S128x256 (constantI S_ 32 n)

/-- A float at every place. -/
def allF (n : BitVec 32) : FVec Ideal S128x256 .f32 := broadcastInDim S128x256 ![] bcast_S_S128x256 (constant S_ .f32 n)

/-- The distance, none below zero. -/
def near : IVec S128x256 32 := maxsi dist (all 0#32)

/-- The bucket of a far distance, by its logarithm. -/
def far : IVec S128x256 32 :=
  minsi (addi (all 16#32) (fptosi 32 (mulf (Host.divf (Host.log (Host.divf (sitofp .f32 (maxsi near (all 1#32))) (allF 0x41800000#32)))
    (allF 0x40051592#32)) (allF 0x41800000#32)))) (all 31#32)

/-- The bucket of a distance. -/
def bucket : IVec S128x256 32 := select (cmpi .slt near (all 16#32)) near far

/-- The row of the table of biases that a bucket names. -/
def rowOf (u : IVec S128x256 32) : IVec S128x256x1 32 :=
  broadcastInDim S128x256x1 ![0, 1] bcast_S128x256_S128x256x1_0_1 (select (cmpi .slt u (all 0#32)) (addi u (all 32#32)) u)

/-- The bias of each head at each place. -/
def planes (rel : FVec Ideal S32x16 .f32) (u : IVec S128x256 32) : FVec Ideal S128x256x16 .f32 :=
  Host.gather gather_S32x16_S128x256x1_S128x256x16_2_0_n_n_0_2_116 rel (rowOf u)

/-- Whether a key lies in a query's window. -/
def inWindow (d : IVec S128x256 32) : IVec S128x256 1 := andi (cmpi .sge d (all 0#32)) (cmpi .slt d (all 128#32))

/-- Whether a key lies in the query's own block. -/
def inBlock : IVec S1x256 1 :=
  cmpi .sge (broadcastInDim S1x256 ![1] bcast_S256_S1x256_1 (iotaInDim S256 32 0))
    (broadcastInDim S1x256 ![] bcast_S_S1x256 (constantI S_ 32 128#32))

/-- The two masks: the window, and the window without the block before. -/
def masks (d : IVec S128x256 32) : IVec S2x128x256x1 1 :=
  broadcastInDim S2x128x256x1 ![0, 1, 2] bcast_S2x128x256_S2x128x256x1_0_1_2
    (concatenate S2x128x256 0 [⟨S1x128x256, broadcastInDim S1x128x256 ![1, 2] bcast_S128x256_S1x128x256_1_2 (inWindow d)⟩,
      ⟨S1x128x256, broadcastInDim S1x128x256 ![1, 2] bcast_S128x256_S1x128x256_1_2
        (andi (inWindow d) (broadcastInDim S128x256 ![0, 1] bcast_S1x256_S128x256_0_1 inBlock))⟩]
      concatenates_S1x128x256_S1x128x256_S2x128x256_d0)

/-- The masked biases. -/
def masked (k : IVec S2x128x256x1 1) (p : FVec Ideal S1x128x256x16 .f32) (z : FVec Ideal S_ .f32) : FVec Ideal S2x128x256x16 .f32 :=
  select (broadcastInDim S2x128x256x16 ![0, 1, 2, 3] bcast_S2x128x256x1_S2x128x256x16_0_1_2_3 k)
    (broadcastInDim S2x128x256x16 ![0, 1, 2, 3] bcast_S1x128x256x16_S2x128x256x16_0_1_2_3 p)
    (broadcastInDim S2x128x256x16 ![] bcast_S_S2x128x256x16 z)

/-- The masked biases as the call reads them: keys by queries, two heads over one another and four pairs side by side. -/
def biasTiles (t : FVec Ideal S2x128x256x16 .f32) : FVec Ideal S2x2x512x512 .f32 :=
  shapeCast S2x2x512x512 (transpose S2x2x2x256x4x128 [0, 3, 5, 2, 4, 1]
    (shapeCast S2x128x256x2x4x2 t shapeCasts_S2x128x256x16_S2x128x256x2x4x2) transposes_S2x128x256x2x4x2_S2x2x2x256x4x128_0_3_5_2_4_1)
    shapeCasts_S2x2x2x256x4x128_S2x2x512x512

/-- The sinks as the call reads them. -/
def sinkCols (z : FVec Ideal S16 .f32) : FVec Ideal S2x2x512 .f32 :=
  shapeCast S2x2x512 (broadcastInDim S2x2x4x128 ![0, 1, 2, 3] bcast_S2x2x4x1_S2x2x4x128_0_1_2_3
    (broadcastInDim S2x2x4x1 ![0, 1, 2] bcast_S2x2x4_S2x2x4x1_0_1_2
      (transpose S2x2x4 [0, 2, 1] (shapeCast S2x4x2 z shapeCasts_S16_S2x4x2) transposes_S2x4x2_S2x2x4_0_2_1)))
    shapeCasts_S2x2x4x128_S2x2x512

variable (σ : Valuation τ sig (Elt Ideal))

theorem k0_1_arg3 : after hostOps0_1 σ (Proc.devRef .tc main_arg3) = σ (Proc.devRef .tc main_arg3) :=
  StableHlo.after_of_forall_not_mem (b := Proc.devRef .tc main_arg3) _ _ (List.forall_iff_forall_mem.mp (by
    simp only [hostOps0_1, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_2_arg3 : after hostOps0_2 σ (Proc.devRef .tc main_arg3) = σ (Proc.devRef .tc main_arg3) :=
  StableHlo.after_of_forall_not_mem (b := Proc.devRef .tc main_arg3) _ _ (List.forall_iff_forall_mem.mp (by
    simp only [hostOps0_2, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_3_arg3 : after hostOps0_3 σ (Proc.devRef .tc main_arg3) = σ (Proc.devRef .tc main_arg3) :=
  StableHlo.after_of_forall_not_mem (b := Proc.devRef .tc main_arg3) _ _ (List.forall_iff_forall_mem.mp (by
    simp only [hostOps0_3, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_1_arg4 : after hostOps0_1 σ (Proc.devRef .tc main_arg4) = σ (Proc.devRef .tc main_arg4) :=
  StableHlo.after_of_forall_not_mem (b := Proc.devRef .tc main_arg4) _ _ (List.forall_iff_forall_mem.mp (by
    simp only [hostOps0_1, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_2_arg4 : after hostOps0_2 σ (Proc.devRef .tc main_arg4) = σ (Proc.devRef .tc main_arg4) :=
  StableHlo.after_of_forall_not_mem (b := Proc.devRef .tc main_arg4) _ _ (List.forall_iff_forall_mem.mp (by
    simp only [hostOps0_2, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_3_arg4 : after hostOps0_3 σ (Proc.devRef .tc main_arg4) = σ (Proc.devRef .tc main_arg4) :=
  StableHlo.after_of_forall_not_mem (b := Proc.devRef .tc main_arg4) _ _ (List.forall_iff_forall_mem.mp (by
    simp only [hostOps0_3, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_1_arg5 : after hostOps0_1 σ (Proc.devRef .tc main_arg5) = σ (Proc.devRef .tc main_arg5) :=
  StableHlo.after_of_forall_not_mem (b := Proc.devRef .tc main_arg5) _ _ (List.forall_iff_forall_mem.mp (by
    simp only [hostOps0_1, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_2_arg5 : after hostOps0_2 σ (Proc.devRef .tc main_arg5) = σ (Proc.devRef .tc main_arg5) :=
  StableHlo.after_of_forall_not_mem (b := Proc.devRef .tc main_arg5) _ _ (List.forall_iff_forall_mem.mp (by
    simp only [hostOps0_2, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_3_arg5 : after hostOps0_3 σ (Proc.devRef .tc main_arg5) = σ (Proc.devRef .tc main_arg5) :=
  StableHlo.after_of_forall_not_mem (b := Proc.devRef .tc main_arg5) _ _ (List.forall_iff_forall_mem.mp (by
    simp only [hostOps0_3, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_1_arg9 : after hostOps0_1 σ (Proc.devRef .tc main_arg9) = σ (Proc.devRef .tc main_arg9) :=
  StableHlo.after_of_forall_not_mem (b := Proc.devRef .tc main_arg9) _ _ (List.forall_iff_forall_mem.mp (by
    simp only [hostOps0_1, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_2_arg9 : after hostOps0_2 σ (Proc.devRef .tc main_arg9) = σ (Proc.devRef .tc main_arg9) :=
  StableHlo.after_of_forall_not_mem (b := Proc.devRef .tc main_arg9) _ _ (List.forall_iff_forall_mem.mp (by
    simp only [hostOps0_2, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_3_arg9 : after hostOps0_3 σ (Proc.devRef .tc main_arg9) = σ (Proc.devRef .tc main_arg9) :=
  StableHlo.after_of_forall_not_mem (b := Proc.devRef .tc main_arg9) _ _ (List.forall_iff_forall_mem.mp (by
    simp only [hostOps0_3, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_1_v0 : after hostOps0_1 σ (Proc.devRef .tc main_v0) = σ (Proc.devRef .tc main_v0) :=
  StableHlo.after_of_forall_not_mem (b := Proc.devRef .tc main_v0) _ _ (List.forall_iff_forall_mem.mp (by
    simp only [hostOps0_1, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_2_v0 : after hostOps0_2 σ (Proc.devRef .tc main_v0) = σ (Proc.devRef .tc main_v0) :=
  StableHlo.after_of_forall_not_mem (b := Proc.devRef .tc main_v0) _ _ (List.forall_iff_forall_mem.mp (by
    simp only [hostOps0_2, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_3_v0 : after hostOps0_3 σ (Proc.devRef .tc main_v0) = σ (Proc.devRef .tc main_v0) :=
  StableHlo.after_of_forall_not_mem (b := Proc.devRef .tc main_v0) _ _ (List.forall_iff_forall_mem.mp (by
    simp only [hostOps0_3, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_1_v1 : after hostOps0_1 σ (Proc.devRef .tc main_v1) = σ (Proc.devRef .tc main_v1) :=
  StableHlo.after_of_forall_not_mem (b := Proc.devRef .tc main_v1) _ _ (List.forall_iff_forall_mem.mp (by
    simp only [hostOps0_1, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_2_v1 : after hostOps0_2 σ (Proc.devRef .tc main_v1) = σ (Proc.devRef .tc main_v1) :=
  StableHlo.after_of_forall_not_mem (b := Proc.devRef .tc main_v1) _ _ (List.forall_iff_forall_mem.mp (by
    simp only [hostOps0_2, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_3_v1 : after hostOps0_3 σ (Proc.devRef .tc main_v1) = σ (Proc.devRef .tc main_v1) :=
  StableHlo.after_of_forall_not_mem (b := Proc.devRef .tc main_v1) _ _ (List.forall_iff_forall_mem.mp (by
    simp only [hostOps0_3, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_1_v3 : after hostOps0_1 σ (Proc.devRef .tc main_v3) = σ (Proc.devRef .tc main_v3) :=
  StableHlo.after_of_forall_not_mem (b := Proc.devRef .tc main_v3) _ _ (List.forall_iff_forall_mem.mp (by
    simp only [hostOps0_1, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_2_v3 : after hostOps0_2 σ (Proc.devRef .tc main_v3) = σ (Proc.devRef .tc main_v3) :=
  StableHlo.after_of_forall_not_mem (b := Proc.devRef .tc main_v3) _ _ (List.forall_iff_forall_mem.mp (by
    simp only [hostOps0_2, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_3_v3 : after hostOps0_3 σ (Proc.devRef .tc main_v3) = σ (Proc.devRef .tc main_v3) :=
  StableHlo.after_of_forall_not_mem (b := Proc.devRef .tc main_v3) _ _ (List.forall_iff_forall_mem.mp (by
    simp only [hostOps0_3, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_4_v3 : after hostOps0_4 σ (Proc.devRef .tc main_v3) = σ (Proc.devRef .tc main_v3) :=
  StableHlo.after_of_forall_not_mem (b := Proc.devRef .tc main_v3) _ _ (List.forall_iff_forall_mem.mp (by
    simp only [hostOps0_4, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_arg3 : after hostOps0 σ (Proc.devRef .tc main_arg3) = σ (Proc.devRef .tc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_arg4 : after hostOps0 σ (Proc.devRef .tc main_arg4) = σ (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_arg5 : after hostOps0 σ (Proc.devRef .tc main_arg5) = σ (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_arg9 : after hostOps0 σ (Proc.devRef .tc main_arg9) = σ (Proc.devRef .tc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_arg2 : after hostOps0 σ (Proc.devRef .tc main_arg2) = σ (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_1_arg2 : after hostOps0_1 σ (Proc.devRef .tc main_arg2) = σ (Proc.devRef .tc main_arg2) :=
  StableHlo.after_of_forall_not_mem (b := Proc.devRef .tc main_arg2) _ _ (List.forall_iff_forall_mem.mp (by
    simp only [hostOps0_1, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem k0_1_v14 : after hostOps0_1 σ (Proc.devRef .tc main_v14) = σ (Proc.devRef .tc main_v14) :=
  StableHlo.after_of_forall_not_mem (b := Proc.devRef .tc main_v14) _ _ (List.forall_iff_forall_mem.mp (by
    simp only [hostOps0_1, List.Forall, StableHlo.nullary_writes, StableHlo.unary_writes, StableHlo.binary_writes, StableHlo.ternary_writes, StableHlo.reshape_writes, TRef.unary, TRef.ternary, Finset.mem_singleton]
    repeat' apply And.intro
    all_goals exact StableHlo.devRef_ne_of_ne (by decide)))

theorem w4_v61 : after hostOps0_4 σ (Proc.devRef .tc main_v61) = biasTiles (σ (Proc.devRef .tc main_v58)) := by
  simp only [hostOps0_4, TRef.ternary, TRef.unary, TRef.toBuf, TRef.ofBuf, cast_eq]
  after_results_simp
  try rfl

theorem w4_v66 : after hostOps0_4 σ (Proc.devRef .tc main_v66) = sinkCols (σ (Proc.devRef .tc main_arg3)) := by
  simp only [hostOps0_4, TRef.ternary, TRef.unary, TRef.toBuf, TRef.ofBuf, cast_eq]
  after_results_simp
  try rfl

theorem w4_v67 : after hostOps0_4 σ (Proc.devRef .tc main_v67) = shapeCast S1x1024 (σ (Proc.devRef .tc main_arg4)) shapeCasts_S1024_S1x1024 := by
  simp only [hostOps0_4, TRef.ternary, TRef.unary, TRef.toBuf, TRef.ofBuf, cast_eq]
  after_results_simp
  try rfl

theorem w4_v68 : after hostOps0_4 σ (Proc.devRef .tc main_v68) = shapeCast S1x1024 (σ (Proc.devRef .tc main_arg5)) shapeCasts_S1024_S1x1024 := by
  simp only [hostOps0_4, TRef.ternary, TRef.unary, TRef.toBuf, TRef.ofBuf, cast_eq]
  after_results_simp
  try rfl

theorem w4_v70 : after hostOps0_4 σ (Proc.devRef .tc main_v70) = broadcastInDim S1x1024x1024 ![1, 2] bcast_S1024x1024_S1x1024x1024_1_2 (transpose S1024x1024 [1, 0] (σ (Proc.devRef .tc main_v0)) transposes_S1024x1024_S1024x1024_1_0) := by
  simp only [hostOps0_4, TRef.ternary, TRef.unary, TRef.toBuf, TRef.ofBuf, cast_eq]
  after_results_simp
  try rfl

theorem w4_v71 : after hostOps0_4 σ (Proc.devRef .tc main_v71) = broadcastInDim S1x1024x1024 ![1, 2] bcast_S1024x1024_S1x1024x1024_1_2 (σ (Proc.devRef .tc main_v1)) := by
  simp only [hostOps0_4, TRef.ternary, TRef.unary, TRef.toBuf, TRef.ofBuf, cast_eq]
  after_results_simp
  try rfl

theorem w4_v72 : after hostOps0_4 σ (Proc.devRef .tc main_v72) = shapeCast S1x1024 (σ (Proc.devRef .tc main_arg9)) shapeCasts_S1024_S1x1024 := by
  simp only [hostOps0_4, TRef.ternary, TRef.unary, TRef.toBuf, TRef.ofBuf, cast_eq]
  after_results_simp
  try rfl

theorem w3_v58 : after hostOps0_3 σ (Proc.devRef .tc main_v58) = masked (σ (Proc.devRef .tc main_v56)) (σ (Proc.devRef .tc main_v57)) (σ (Proc.devRef .tc main_cst_12)) := by
  simp only [hostOps0_3, TRef.ternary, TRef.unary, TRef.toBuf, TRef.ofBuf, cast_eq]
  after_results_simp
  try rfl

theorem w2_v56 : after hostOps0_2 σ (Proc.devRef .tc main_v56) = masks (σ (Proc.devRef .tc main_v14)) := by
  simp only [hostOps0_2, TRef.ternary, TRef.unary, TRef.toBuf, TRef.ofBuf, cast_eq]
  after_results_simp
  try rfl

theorem w2_v57 : after hostOps0_2 σ (Proc.devRef .tc main_v57) = broadcastInDim S1x128x256x16 ![1, 2, 3] bcast_S128x256x16_S1x128x256x16_1_2_3 (planes (σ (Proc.devRef .tc main_arg2)) (σ (Proc.devRef .tc main_v34))) := by
  simp only [hostOps0_2, TRef.ternary, TRef.unary, TRef.toBuf, TRef.ofBuf, cast_eq]
  after_results_simp
  try rfl

theorem w2_cst : after hostOps0_2 σ (Proc.devRef .tc main_cst_12) = (constant S_ .f32 0xFF800000#32 : FVec Ideal S_ .f32) := by
  simp only [hostOps0_2, TRef.ternary, TRef.unary, TRef.toBuf, TRef.ofBuf, cast_eq]
  after_results_simp
  try rfl

theorem w1_v34 : after hostOps0_1 σ (Proc.devRef .tc main_v34) = (select (σ (Proc.devRef .tc main_v33)) (σ (Proc.devRef .tc main_v16)) (σ (Proc.devRef .tc main_v31)) : IVec S128x256 32) := by
  simp only [hostOps0_1, TRef.ternary, TRef.unary, TRef.toBuf, TRef.ofBuf, cast_eq]
  after_results_simp
  try rfl

theorem w0_v14 : after hostOps0 σ (Proc.devRef .tc main_v14) = dist := by
  simp only [hostOps0, TRef.ternary, TRef.unary, TRef.toBuf, TRef.ofBuf, cast_eq]
  after_results_simp
  try rfl

theorem w0_v16 : after hostOps0 σ (Proc.devRef .tc main_v16) = near := by
  simp only [hostOps0, TRef.ternary, TRef.unary, TRef.toBuf, TRef.ofBuf, cast_eq]
  after_results_simp
  try rfl

theorem w0_v31 : after hostOps0 σ (Proc.devRef .tc main_v31) = far := by
  simp only [hostOps0, TRef.ternary, TRef.unary, TRef.toBuf, TRef.ofBuf, cast_eq]
  after_results_simp
  try rfl

theorem w0_v33 : after hostOps0 σ (Proc.devRef .tc main_v33) = (cmpi .slt near (all 16#32) : IVec S128x256 1) := by
  simp only [hostOps0, TRef.ternary, TRef.unary, TRef.toBuf, TRef.ofBuf, cast_eq]
  after_results_simp
  try rfl

theorem w0_v0 : after hostOps0 σ (Proc.devRef .tc main_v0) = (truncf .bf16 (σ (Proc.devRef .tc main_arg6)) bitsLt_bf16_f32 : FVec Ideal S1024x1024 .bf16) := by
  simp only [hostOps0, TRef.ternary, TRef.unary, TRef.toBuf, TRef.ofBuf, cast_eq]
  after_results_simp
  try rfl

theorem w0_v1 : after hostOps0 σ (Proc.devRef .tc main_v1) = (truncf .bf16 (σ (Proc.devRef .tc main_arg8)) bitsLt_bf16_f32 : FVec Ideal S1024x1024 .bf16) := by
  simp only [hostOps0, TRef.ternary, TRef.unary, TRef.toBuf, TRef.ofBuf, cast_eq]
  after_results_simp
  try rfl

theorem w0_v3 : after hostOps0 σ (Proc.devRef .tc main_v3) = broadcastInDim S1024x128 ![0, 1] bcast_S1024x1_S1024x128_0_1 (broadcastInDim S1024x1 ![0] bcast_S1024_S1024x1_0 (σ (Proc.devRef .tc main_arg7))) := by
  simp only [hostOps0, TRef.ternary, TRef.unary, TRef.toBuf, TRef.ofBuf, cast_eq]
  after_results_simp
  try rfl

variable (m : (ℓ : Loc nD τ sig) → Buf (Elt Ideal) ℓ)

theorem entry_eq (c : Dev nD) (b : Ref sig .tc) : V m c b = after hostOps0_4 (after hostOps0_3 (after hostOps0_2 (after hostOps0_1
      (after hostOps0 (fun b => m (c, b)))))) (Proc.devRef .tc b) := by
  show after (List.flatten [hostOps0, hostOps0_1, hostOps0_2, hostOps0_3, hostOps0_4]) _ _ = _
  simp only [List.flatten_cons, List.flatten_nil, List.append_nil, after_append]

theorem e_v66 (c : Dev nD) : V m c main_v66 = sinkCols (m ((c : Thread nD τ).loc main_arg3)) := by
  rw [entry_eq, w4_v66, k0_3_arg3, k0_2_arg3, k0_1_arg3, k0_arg3]
  try rfl

theorem e_v67 (c : Dev nD) : V m c main_v67 = shapeCast S1x1024 (m ((c : Thread nD τ).loc main_arg4)) shapeCasts_S1024_S1x1024 := by
  rw [entry_eq, w4_v67, k0_3_arg4, k0_2_arg4, k0_1_arg4, k0_arg4]
  try rfl

theorem e_v68 (c : Dev nD) : V m c main_v68 = shapeCast S1x1024 (m ((c : Thread nD τ).loc main_arg5)) shapeCasts_S1024_S1x1024 := by
  rw [entry_eq, w4_v68, k0_3_arg5, k0_2_arg5, k0_1_arg5, k0_arg5]
  try rfl

theorem e_v72 (c : Dev nD) : V m c main_v72 = shapeCast S1x1024 (m ((c : Thread nD τ).loc main_arg9)) shapeCasts_S1024_S1x1024 := by
  rw [entry_eq, w4_v72, k0_3_arg9, k0_2_arg9, k0_1_arg9, k0_arg9]
  try rfl

theorem e_v70 (c : Dev nD) : V m c main_v70 = broadcastInDim S1x1024x1024 ![1, 2] bcast_S1024x1024_S1x1024x1024_1_2 (transpose S1024x1024 [1, 0] (truncf .bf16 (m ((c : Thread nD τ).loc main_arg6)) bitsLt_bf16_f32 : FVec Ideal S1024x1024 .bf16) transposes_S1024x1024_S1024x1024_1_0) := by
  rw [entry_eq, w4_v70, k0_3_v0, k0_2_v0, k0_1_v0, w0_v0]
  try rfl

theorem e_v71 (c : Dev nD) : V m c main_v71 = broadcastInDim S1x1024x1024 ![1, 2] bcast_S1024x1024_S1x1024x1024_1_2 (truncf .bf16 (m ((c : Thread nD τ).loc main_arg8)) bitsLt_bf16_f32 : FVec Ideal S1024x1024 .bf16) := by
  rw [entry_eq, w4_v71, k0_3_v1, k0_2_v1, k0_1_v1, w0_v1]
  try rfl

theorem e_v3 (c : Dev nD) : V m c main_v3 = broadcastInDim S1024x128 ![0, 1] bcast_S1024x1_S1024x128_0_1 (broadcastInDim S1024x1 ![0] bcast_S1024_S1024x1_0 (m ((c : Thread nD τ).loc main_arg7))) := by
  rw [entry_eq, k0_4_v3, k0_3_v3, k0_2_v3, k0_1_v3, w0_v3]
  try rfl

theorem e_v61 (c : Dev nD) : V m c main_v61 = biasTiles (masked (masks dist) (broadcastInDim S1x128x256x16 ![1, 2, 3] bcast_S128x256x16_S1x128x256x16_1_2_3 (planes (m ((c : Thread nD τ).loc main_arg2)) bucket)) (constant S_ .f32 0xFF800000#32)) := by
  rw [entry_eq, w4_v61, w3_v58, w2_v56, w2_v57, w2_cst, k0_1_v14, w0_v14, k0_1_arg2, k0_arg2, w1_v34, w0_v33, w0_v16, w0_v31]
  try rfl

end Cert.AttnIdeal.Entry

end
-- ==== Proof.AttnCore.lean ====
/- One head of one query over the extended reals: weights by powers of two, divided at the end, are the weights by
   exponentials, divided at once. -/
module

public import Idealize.ShloMosaic.Lib.Pointwise
public import Mathlib.Analysis.SpecialFunctions.Pow.Real

@[expose] public section

noncomputable section

namespace Cert.Attn.Core

open Idealize.ShloMosaic Idealize

/-- An extended real that is a real. -/
def Fin' (x : EReal) : Prop := ∃ r : ℝ, x = r

theorem Fin'.add {x y : EReal} : Fin' x → Fin' y → Fin' (x + y) := by
  rintro ⟨a, rfl⟩ ⟨b, rfl⟩
  exact ⟨a + b, (EReal.coe_add a b).symm⟩

theorem Fin'.mul {x y : EReal} : Fin' x → Fin' y → Fin' (x * y) := by
  rintro ⟨a, rfl⟩ ⟨b, rfl⟩
  exact ⟨a * b, (EReal.coe_mul a b).symm⟩

theorem coe_sum {n : ℕ} (f : Fin n → ℝ) : ((∑ j, f j : ℝ) : EReal) = ∑ j, (f j : EReal) :=
  map_sum (⟨⟨Real.toEReal, EReal.coe_zero⟩, EReal.coe_add⟩ : ℝ →+ EReal) f Finset.univ

theorem sum_mul_coe {n : ℕ} (f : Fin n → EReal) {r : ℝ} (hr : 0 ≤ r) : (∑ j, f j) * (r : EReal) = ∑ j, f j * (r : EReal) := by
  induction (Finset.univ : Finset (Fin n)) using Finset.induction with
  | empty => simp
  | insert j s hj ih =>
    rw [Finset.sum_insert hj, Finset.sum_insert hj, ← ih]
    exact EReal.right_distrib_of_nonneg_of_ne_top (EReal.coe_nonneg.2 hr) (EReal.coe_ne_top r) _ _

theorem Fin'.sum {n : ℕ} {f : Fin n → EReal} (h : ∀ j, Fin' (f j)) : Fin' (∑ j, f j) := by
  choose r hr using h
  exact ⟨∑ j, r j, by rw [coe_sum]; exact Finset.sum_congr rfl fun j _ => hr j⟩

theorem div_coe {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The factor between the two bases. -/
def ln2inv : ℝ := (Real.log 2)⁻¹

theorem ln2inv_pos : 0 < ln2inv := inv_pos.2 (Real.log_pos (by norm_num))

theorem exp2_coe (r : ℝ) : Ideal.exp2 ((r * ln2inv : ℝ) : EReal) = (Real.exp r : EReal) := by
  show ((Real.rpow 2 (r * ln2inv) : ℝ) : EReal) = _
  congr 1
  show (2 : ℝ) ^ (r * ln2inv) = _
  rw [Real.rpow_def_of_pos (by norm_num)]
  congr 1
  unfold ln2inv
  have : Real.log 2 ≠ 0 := (Real.log_pos (by norm_num)).ne'
  field_simp

theorem exp_coe (r : ℝ) : Ideal.exp (r : EReal) = (Real.exp r : EReal) := rfl

section Head
variable {n : ℕ} (a : Fin n → ℝ) (ok : Fin n → Prop) [DecidablePred ok] (t : ℝ)

/-- A score, with nothing below the mask. -/
def score (j : Fin n) : EReal := if ok j then (a j : EReal) else ⊥

/-- The same score for the other base. -/
def score2 (j : Fin n) : EReal := if ok j then ((a j * ln2inv : ℝ) : EReal) else ⊥

/-- The greatest score, the sink's among them. -/
def top : ℝ := Finset.univ.fold max t fun j => if ok j then a j else t

theorem max_fold (f : ℝ → EReal) (hf : Monotone f) : max (Finset.univ.fold max ⊥ fun j => if ok j then f (a j) else ⊥) (f t)
    = f (top a ok t) := by
  unfold top
  induction (Finset.univ : Finset (Fin n)) using Finset.induction with
  | empty => simp
  | insert j s hj ih =>
    rw [Finset.fold_insert hj, Finset.fold_insert hj, hf.map_max, max_assoc, ih]
    split
    · rfl
    · rw [bot_sup_eq]
      symm
      apply max_eq_right
      apply hf
      rw [Finset.le_fold_max]
      exact Or.inl le_rfl

theorem head (v w : Fin n → EReal) (hv : ∀ j, ok j → v j = w j) (μ : ℝ) :
    (∑ j, v j * Ideal.exp2 (score2 a ok j - ((μ * ln2inv : ℝ) : EReal)))
        * Ideal.div 1 ((∑ j, Ideal.exp2 (score2 a ok j - ((μ * ln2inv : ℝ) : EReal)))
          + Ideal.exp2 (((t * ln2inv : ℝ) : EReal) - ((μ * ln2inv : ℝ) : EReal)))
      = ∑ j, Ideal.div (Ideal.exp (score a ok j - (μ : EReal)))
          ((∑ j, Ideal.exp (score a ok j - (μ : EReal))) + Ideal.exp ((t : EReal) - (μ : EReal))) * w j := by
  set e : Fin n → ℝ := fun j => if ok j then Real.exp (a j - μ) else 0 with he
  have h2 : ∀ j, Ideal.exp2 (score2 a ok j - ((μ * ln2inv : ℝ) : EReal)) = (e j : EReal) := by
    intro j
    by_cases h : ok j
    · simp only [score2, he, h, if_true]
      rw [← EReal.coe_sub, ← sub_mul, exp2_coe]
    · simp only [score2, he, h, if_false]
      rw [EReal.bot_sub]
      rfl
  have h1 : ∀ j, Ideal.exp (score a ok j - (μ : EReal)) = (e j : EReal) := by
    intro j
    by_cases h : ok j
    · simp only [score, he, h, if_true]
      rw [← EReal.coe_sub, exp_coe]
    · simp only [score, he, h, if_false]
      rw [EReal.bot_sub]
      rfl
  have hs2 : Ideal.exp2 (((t * ln2inv : ℝ) : EReal) - ((μ * ln2inv : ℝ) : EReal)) = (Real.exp (t - μ) : EReal) := by
    rw [← EReal.coe_sub, ← sub_mul, exp2_coe]
  have hs1 : Ideal.exp ((t : EReal) - (μ : EReal)) = (Real.exp (t - μ) : EReal) := by
    rw [← EReal.coe_sub, exp_coe]
  set D : ℝ := (∑ j, e j) + Real.exp (t - μ) with hD
  have hDpos : 0 < D := by
    have : 0 ≤ ∑ j, e j := Finset.sum_nonneg fun j _ => by
      simp only [he]
      split
      · exact (Real.exp_pos _).le
      · exact le_rfl
    linarith [Real.exp_pos (t - μ)]
  have hden : (∑ j, (e j : EReal)) + (Real.exp (t - μ) : EReal) = (D : EReal) := by
    rw [← coe_sum, ← EReal.coe_add]
  simp only [h1, h2, hs1, hs2, hden]
  have h1D : Ideal.div 1 (D : EReal) = ((1 / D : ℝ) : EReal) := by
    rw [← div_coe hDpos.ne', EReal.coe_one]
  rw [h1D, sum_mul_coe _ (one_div_pos.2 hDpos).le]
  refine Finset.sum_congr rfl fun j _ => ?_
  rw [div_coe hDpos.ne', mul_assoc, ← EReal.coe_mul, mul_one_div]
  by_cases h : ok j
  · rw [hv j h, mul_comm]
  · have : e j = 0 := by simp only [he, h, if_false]
    rw [this, zero_div, EReal.coe_zero, mul_zero, zero_mul]

end Head

/-! ### The literals -/

theorem bot_bits : Ideal.ofBits FTy.f32 0xFF800000#32 = ⊥ := by simp [Ideal.ofBits, Ideal.ieee]

theorem inf_bits : Ideal.ofBits FTy.f32 0x7F800000#32 = ⊤ := by simp [Ideal.ofBits, Ideal.ieee]

theorem eighth_bits : Ideal.ofBits FTy.f32 0x3E000000#32 = ((1 / 8 : ℝ) : EReal) := by
  simp [Ideal.ofBits, Ideal.ieee, -EReal.coe_mul]
  norm_num

theorem width_bits : Ideal.ofBits FTy.f32 0x44800000#32 = ((1024 : ℝ) : EReal) := by
  simp [Ideal.ofBits, Ideal.ieee, -EReal.coe_mul]
  norm_num

theorem eps_bits : ∃ r : ℝ, 0 < r ∧ Ideal.ofBits FTy.f32 0x358637BD#32 = (r : EReal) := by
  refine ⟨(8796093 : ℝ) * 2 ^ (-43 : ℤ), by positivity, ?_⟩
  simp [Ideal.ofBits, Ideal.ieee, -EReal.coe_mul]
  try norm_num

end Cert.Attn.Core

end
-- ==== Proof.AttnPure.lean ====
/- One tile of the attention call: 1024 queries, their keys and values, and the 128 before them. The call's text is put
   together from a few functions: the rows of keys with half their lanes cleared, one chain of scores, weights and weighted
   values, and the last projection. -/
module

public import proofs.«01_k».proof.Proof.AttnCore
public import proofs.«01_k».proof.Proof.Gen.AttnIdeal.Skeleton
public import Idealize.ShloMosaic.Lib.Pointwise
public import Idealize.ShloMosaic.Lib.Pipeline.ValueKit

@[expose] public section

set_option maxRecDepth 16384

noncomputable section

namespace Cert.AttnIdeal.Pure

open Idealize.ShloMosaic Idealize.ShloMosaic.TcCoe Idealize.SL.Sem
open Cert.AttnIdeal Cert.AttnIdeal.Gen

/-- The factor that every score of a base-two weight carries. -/
def log2e : EReal := (Named.named κ "log2e" 0x3FB8AA3B#32 : Ideal .f32)

/-- That factor with the scale of the queries. -/
def qscale : EReal := (Named.named κ "qscale" 0x3E38AA3B#32 : Ideal .f32)

/-- Lanes below 64 of rows. -/
def lowLanes (kv : FVec Ideal S1152x128 .f32) : FVec Ideal S1152x128 .f32 :=
  select (cmpi .slt (iota .tc S1152x128 32 [1] iota_S1152x128_d1_w32) (broadcast S1152x128 64#32)) kv
    (broadcast S1152x128 (Scalar.ofBits (F := Ideal) .f32 0x00000000#32))

/-- Lanes from 64 on of rows. -/
def highLanes (kv : FVec Ideal S1152x128 .f32) : FVec Ideal S1152x128 .f32 :=
  select (cmpi .sge (iota .tc S1152x128 32 [1] iota_S1152x128_d1_w32) (broadcast S1152x128 64#32)) kv
    (broadcast S1152x128 (Scalar.ofBits (F := Ideal) .f32 0x00000000#32))

/-- Rows with the two halves of the lanes exchanged. -/
def swapped (kv : FVec Ideal S1152x128 .f32) : FVec Ideal S1152x128 .f32 :=
  dynamicRotate 1 64#32 none kv rotates_S1152x128_d1

section Chain
variable (qp : FVec Ideal S128x512 .bf16) (ke ko ve vo : FVec Ideal S256x128 .f32) (b : FVec Ideal S512x512 .f32)
  (sink : FVec Ideal S2x512 .f32) (s : FVec Ideal S256x512 .f32) (sk : FVec Ideal S1x512 .f32)

/-- The greatest score of a column, the sink's among them. -/
def greatest : FVec Ideal S1x512 .f32 :=
  maximumf (shapeCast S1x512 (multiReduction .maximumf [0] S512 s 0xFF800000#32 reduces_S256x512_S512 (.inl rfl) rfl)
    shapeCasts_S512_S1x512) sk

/-- The weights before they are divided. -/
def weights : FVec Ideal S256x512 .f32 := exp2 (subf s (broadcastTo S256x512 (greatest s sk) broadcasts_S1x512_S256x512))

/-- What a column's weights are divided by, inverted. -/
def inverse : FVec Ideal S1x512 .f32 :=
  divf (broadcast S1x512 (Scalar.ofBits (F := Ideal) .f32 0x3F800000#32))
    (addf (shapeCast S1x512 (multiReduction .add [0] S512 (weights s sk) 0x00000000#32 reduces_S256x512_S512 (.inl rfl) rfl)
      shapeCasts_S512_S1x512) (exp2 (subf sk (greatest s sk))))

/-- The scores of the even heads' keys above those of the odd heads' keys. -/
def scores : FVec Ideal S512x512 .f32 :=
  addf (matmul dot_S512x128_S128x512_S512x512_1_0_0_1_n_n none
    (truncf .bf16 (concatenate S512x128 0 [⟨S256x128, ke⟩, ⟨S256x128, ko⟩] concatenates_S256x128_S256x128_S512x128_d0)
      bitsLt_bf16_f32) qp (constant S512x512 .f32 0x00000000#32))
    (mulf b (broadcast S512x512 (Named.named κ "log2e" 0x3FB8AA3B#32 : Ideal .f32)))

def scoresEven : FVec Ideal S256x512 .f32 :=
  extractStridedSlice S256x512 ![0, 0] (scores qp ke ko b) slices_S512x512_o0_0_S256x512

def scoresOdd : FVec Ideal S256x512 .f32 :=
  extractStridedSlice S256x512 ![256, 0] (scores qp ke ko b) slices_S512x512_o256_0_S256x512

def sinkEven : FVec Ideal S1x512 .f32 :=
  mulf (extractStridedSlice S1x512 ![0, 0] sink slices_S2x512_o0_0_S1x512)
    (broadcast S1x512 (Named.named κ "log2e" 0x3FB8AA3B#32 : Ideal .f32))

def sinkOdd : FVec Ideal S1x512 .f32 :=
  mulf (extractStridedSlice S1x512 ![1, 0] sink slices_S2x512_o1_0_S1x512)
    (broadcast S1x512 (Named.named κ "log2e" 0x3FB8AA3B#32 : Ideal .f32))

/-- The weighted values of 64 lanes of an even head above those of an odd head, for 4 pairs of heads of 128 queries. -/
def chain : FVec Ideal S128x512 .f32 :=
  mulf (matmul dot_S512x128_S512x512_S128x512_0_0_1_1_n_n none
      (truncf .bf16 (concatenate S512x128 0 [⟨S256x128, ve⟩, ⟨S256x128, vo⟩] concatenates_S256x128_S256x128_S512x128_d0)
        bitsLt_bf16_f32)
      (concatenate S512x512 0 [⟨S256x512, truncf .bf16 (weights (scoresEven qp ke ko b) (sinkEven sink)) bitsLt_bf16_f32⟩,
          ⟨S256x512, truncf .bf16 (weights (scoresOdd qp ke ko b) (sinkOdd sink)) bitsLt_bf16_f32⟩]
        concatenates_S256x512_S256x512_S512x512_d0) (constant S128x512 .f32 0x00000000#32))
    (select (cmpi .slt (iota .tc S128x512 32 [0] iota_S128x512_d0_w32) (broadcast S128x512 64#32))
      (broadcastTo S128x512 (shapeCast S1x512 (inverse (scoresEven qp ke ko b) (sinkEven sink)) shapeCasts_S1x512_S1x512)
        broadcasts_S1x512_S128x512)
      (broadcastTo S128x512 (shapeCast S1x512 (inverse (scoresOdd qp ke ko b) (sinkOdd sink)) shapeCasts_S1x512_S1x512)
        broadcasts_S1x512_S128x512))

end Chain

section Tile
variable (x : FVec Ideal S1024x1024 .f32) (kvc : FVec Ideal S1024x256 .f32) (kvp : FVec Ideal S128x256 .f32)
  (g2 g3 : FVec Ideal S1x1024 .f32) (wq : FVec Ideal S1x1024x1024 .bf16) (bq : FVec Ideal S1024x128 .f32)
  (wo : FVec Ideal S1x1024x1024 .bf16) (bo : FVec Ideal S1x1024 .f32)

/-- The keys' lanes of the rows a tile reads. -/
def keys : FVec Ideal S1152x128 .f32 :=
  extractStridedSlice S1152x128 ![0, 0] (k0_pay4 kvp kvc) slices_S1152x256_o0_0_S1152x128

/-- The values' lanes. -/
def values : FVec Ideal S1152x128 .f32 :=
  extractStridedSlice S1152x128 ![0, 128] (k0_pay4 kvp kvc) slices_S1152x256_o0_128_S1152x128

variable (q : FVec Ideal S1024x1024 .bf16) (k v : FVec Ideal S1152x128 .f32)

/-- The queries of block 0 of the tile for the key head 0, four pairs of heads side by side. -/
def qp0_0 : FVec Ideal S128x512 .bf16 := concatenate S128x512 1 [⟨S128x128, extractStridedSlice S128x128 ![0, 0] q slices_S1024x1024_o0_0_S128x128⟩, ⟨S128x128, extractStridedSlice S128x128 ![128, 0] q slices_S1024x1024_o128_0_S128x128⟩, ⟨S128x128, extractStridedSlice S128x128 ![256, 0] q slices_S1024x1024_o256_0_S128x128⟩, ⟨S128x128, extractStridedSlice S128x128 ![384, 0] q slices_S1024x1024_o384_0_S128x128⟩] concatenates_S128x128_S128x128_S128x128_S128x128_S128x512_d1

/-- The queries of block 0 of the tile for the key head 1, four pairs of heads side by side. -/
def qp0_1 : FVec Ideal S128x512 .bf16 := concatenate S128x512 1 [⟨S128x128, extractStridedSlice S128x128 ![512, 0] q slices_S1024x1024_o512_0_S128x128⟩, ⟨S128x128, extractStridedSlice S128x128 ![640, 0] q slices_S1024x1024_o640_0_S128x128⟩, ⟨S128x128, extractStridedSlice S128x128 ![768, 0] q slices_S1024x1024_o768_0_S128x128⟩, ⟨S128x128, extractStridedSlice S128x128 ![896, 0] q slices_S1024x1024_o896_0_S128x128⟩] concatenates_S128x128_S128x128_S128x128_S128x128_S128x512_d1

/-- The queries of block 1 of the tile for the key head 0, four pairs of heads side by side. -/
def qp1_0 : FVec Ideal S128x512 .bf16 := concatenate S128x512 1 [⟨S128x128, extractStridedSlice S128x128 ![0, 128] q slices_S1024x1024_o0_128_S128x128⟩, ⟨S128x128, extractStridedSlice S128x128 ![128, 128] q slices_S1024x1024_o128_128_S128x128⟩, ⟨S128x128, extractStridedSlice S128x128 ![256, 128] q slices_S1024x1024_o256_128_S128x128⟩, ⟨S128x128, extractStridedSlice S128x128 ![384, 128] q slices_S1024x1024_o384_128_S128x128⟩] concatenates_S128x128_S128x128_S128x128_S128x128_S128x512_d1

/-- The queries of block 1 of the tile for the key head 1, four pairs of heads side by side. -/
def qp1_1 : FVec Ideal S128x512 .bf16 := concatenate S128x512 1 [⟨S128x128, extractStridedSlice S128x128 ![512, 128] q slices_S1024x1024_o512_128_S128x128⟩, ⟨S128x128, extractStridedSlice S128x128 ![640, 128] q slices_S1024x1024_o640_128_S128x128⟩, ⟨S128x128, extractStridedSlice S128x128 ![768, 128] q slices_S1024x1024_o768_128_S128x128⟩, ⟨S128x128, extractStridedSlice S128x128 ![896, 128] q slices_S1024x1024_o896_128_S128x128⟩] concatenates_S128x128_S128x128_S128x128_S128x128_S128x512_d1

/-- The queries of block 2 of the tile for the key head 0, four pairs of heads side by side. -/
def qp2_0 : FVec Ideal S128x512 .bf16 := concatenate S128x512 1 [⟨S128x128, extractStridedSlice S128x128 ![0, 256] q slices_S1024x1024_o0_256_S128x128⟩, ⟨S128x128, extractStridedSlice S128x128 ![128, 256] q slices_S1024x1024_o128_256_S128x128⟩, ⟨S128x128, extractStridedSlice S128x128 ![256, 256] q slices_S1024x1024_o256_256_S128x128⟩, ⟨S128x128, extractStridedSlice S128x128 ![384, 256] q slices_S1024x1024_o384_256_S128x128⟩] concatenates_S128x128_S128x128_S128x128_S128x128_S128x512_d1

/-- The queries of block 2 of the tile for the key head 1, four pairs of heads side by side. -/
def qp2_1 : FVec Ideal S128x512 .bf16 := concatenate S128x512 1 [⟨S128x128, extractStridedSlice S128x128 ![512, 256] q slices_S1024x1024_o512_256_S128x128⟩, ⟨S128x128, extractStridedSlice S128x128 ![640, 256] q slices_S1024x1024_o640_256_S128x128⟩, ⟨S128x128, extractStridedSlice S128x128 ![768, 256] q slices_S1024x1024_o768_256_S128x128⟩, ⟨S128x128, extractStridedSlice S128x128 ![896, 256] q slices_S1024x1024_o896_256_S128x128⟩] concatenates_S128x128_S128x128_S128x128_S128x128_S128x512_d1

/-- The queries of block 3 of the tile for the key head 0, four pairs of heads side by side. -/
def qp3_0 : FVec Ideal S128x512 .bf16 := concatenate S128x512 1 [⟨S128x128, extractStridedSlice S128x128 ![0, 384] q slices_S1024x1024_o0_384_S128x128⟩, ⟨S128x128, extractStridedSlice S128x128 ![128, 384] q slices_S1024x1024_o128_384_S128x128⟩, ⟨S128x128, extractStridedSlice S128x128 ![256, 384] q slices_S1024x1024_o256_384_S128x128⟩, ⟨S128x128, extractStridedSlice S128x128 ![384, 384] q slices_S1024x1024_o384_384_S128x128⟩] concatenates_S128x128_S128x128_S128x128_S128x128_S128x512_d1

/-- The queries of block 3 of the tile for the key head 1, four pairs of heads side by side. -/
def qp3_1 : FVec Ideal S128x512 .bf16 := concatenate S128x512 1 [⟨S128x128, extractStridedSlice S128x128 ![512, 384] q slices_S1024x1024_o512_384_S128x128⟩, ⟨S128x128, extractStridedSlice S128x128 ![640, 384] q slices_S1024x1024_o640_384_S128x128⟩, ⟨S128x128, extractStridedSlice S128x128 ![768, 384] q slices_S1024x1024_o768_384_S128x128⟩, ⟨S128x128, extractStridedSlice S128x128 ![896, 384] q slices_S1024x1024_o896_384_S128x128⟩] concatenates_S128x128_S128x128_S128x128_S128x128_S128x512_d1

/-- The queries of block 4 of the tile for the key head 0, four pairs of heads side by side. -/
def qp4_0 : FVec Ideal S128x512 .bf16 := concatenate S128x512 1 [⟨S128x128, extractStridedSlice S128x128 ![0, 512] q slices_S1024x1024_o0_512_S128x128⟩, ⟨S128x128, extractStridedSlice S128x128 ![128, 512] q slices_S1024x1024_o128_512_S128x128⟩, ⟨S128x128, extractStridedSlice S128x128 ![256, 512] q slices_S1024x1024_o256_512_S128x128⟩, ⟨S128x128, extractStridedSlice S128x128 ![384, 512] q slices_S1024x1024_o384_512_S128x128⟩] concatenates_S128x128_S128x128_S128x128_S128x128_S128x512_d1

/-- The queries of block 4 of the tile for the key head 1, four pairs of heads side by side. -/
def qp4_1 : FVec Ideal S128x512 .bf16 := concatenate S128x512 1 [⟨S128x128, extractStridedSlice S128x128 ![512, 512] q slices_S1024x1024_o512_512_S128x128⟩, ⟨S128x128, extractStridedSlice S128x128 ![640, 512] q slices_S1024x1024_o640_512_S128x128⟩, ⟨S128x128, extractStridedSlice S128x128 ![768, 512] q slices_S1024x1024_o768_512_S128x128⟩, ⟨S128x128, extractStridedSlice S128x128 ![896, 512] q slices_S1024x1024_o896_512_S128x128⟩] concatenates_S128x128_S128x128_S128x128_S128x128_S128x512_d1

/-- The queries of block 5 of the tile for the key head 0, four pairs of heads side by side. -/
def qp5_0 : FVec Ideal S128x512 .bf16 := concatenate S128x512 1 [⟨S128x128, extractStridedSlice S128x128 ![0, 640] q slices_S1024x1024_o0_640_S128x128⟩, ⟨S128x128, extractStridedSlice S128x128 ![128, 640] q slices_S1024x1024_o128_640_S128x128⟩, ⟨S128x128, extractStridedSlice S128x128 ![256, 640] q slices_S1024x1024_o256_640_S128x128⟩, ⟨S128x128, extractStridedSlice S128x128 ![384, 640] q slices_S1024x1024_o384_640_S128x128⟩] concatenates_S128x128_S128x128_S128x128_S128x128_S128x512_d1

/-- The queries of block 5 of the tile for the key head 1, four pairs of heads side by side. -/
def qp5_1 : FVec Ideal S128x512 .bf16 := concatenate S128x512 1 [⟨S128x128, extractStridedSlice S128x128 ![512, 640] q slices_S1024x1024_o512_640_S128x128⟩, ⟨S128x128, extractStridedSlice S128x128 ![640, 640] q slices_S1024x1024_o640_640_S128x128⟩, ⟨S128x128, extractStridedSlice S128x128 ![768, 640] q slices_S1024x1024_o768_640_S128x128⟩, ⟨S128x128, extractStridedSlice S128x128 ![896, 640] q slices_S1024x1024_o896_640_S128x128⟩] concatenates_S128x128_S128x128_S128x128_S128x128_S128x512_d1

/-- The queries of block 6 of the tile for the key head 0, four pairs of heads side by side. -/
def qp6_0 : FVec Ideal S128x512 .bf16 := concatenate S128x512 1 [⟨S128x128, extractStridedSlice S128x128 ![0, 768] q slices_S1024x1024_o0_768_S128x128⟩, ⟨S128x128, extractStridedSlice S128x128 ![128, 768] q slices_S1024x1024_o128_768_S128x128⟩, ⟨S128x128, extractStridedSlice S128x128 ![256, 768] q slices_S1024x1024_o256_768_S128x128⟩, ⟨S128x128, extractStridedSlice S128x128 ![384, 768] q slices_S1024x1024_o384_768_S128x128⟩] concatenates_S128x128_S128x128_S128x128_S128x128_S128x512_d1

/-- The queries of block 6 of the tile for the key head 1, four pairs of heads side by side. -/
def qp6_1 : FVec Ideal S128x512 .bf16 := concatenate S128x512 1 [⟨S128x128, extractStridedSlice S128x128 ![512, 768] q slices_S1024x1024_o512_768_S128x128⟩, ⟨S128x128, extractStridedSlice S128x128 ![640, 768] q slices_S1024x1024_o640_768_S128x128⟩, ⟨S128x128, extractStridedSlice S128x128 ![768, 768] q slices_S1024x1024_o768_768_S128x128⟩, ⟨S128x128, extractStridedSlice S128x128 ![896, 768] q slices_S1024x1024_o896_768_S128x128⟩] concatenates_S128x128_S128x128_S128x128_S128x128_S128x512_d1

/-- The queries of block 7 of the tile for the key head 0, four pairs of heads side by side. -/
def qp7_0 : FVec Ideal S128x512 .bf16 := concatenate S128x512 1 [⟨S128x128, extractStridedSlice S128x128 ![0, 896] q slices_S1024x1024_o0_896_S128x128⟩, ⟨S128x128, extractStridedSlice S128x128 ![128, 896] q slices_S1024x1024_o128_896_S128x128⟩, ⟨S128x128, extractStridedSlice S128x128 ![256, 896] q slices_S1024x1024_o256_896_S128x128⟩, ⟨S128x128, extractStridedSlice S128x128 ![384, 896] q slices_S1024x1024_o384_896_S128x128⟩] concatenates_S128x128_S128x128_S128x128_S128x128_S128x512_d1

/-- The queries of block 7 of the tile for the key head 1, four pairs of heads side by side. -/
def qp7_1 : FVec Ideal S128x512 .bf16 := concatenate S128x512 1 [⟨S128x128, extractStridedSlice S128x128 ![512, 896] q slices_S1024x1024_o512_896_S128x128⟩, ⟨S128x128, extractStridedSlice S128x128 ![640, 896] q slices_S1024x1024_o640_896_S128x128⟩, ⟨S128x128, extractStridedSlice S128x128 ![768, 896] q slices_S1024x1024_o768_896_S128x128⟩, ⟨S128x128, extractStridedSlice S128x128 ![896, 896] q slices_S1024x1024_o896_896_S128x128⟩] concatenates_S128x128_S128x128_S128x128_S128x128_S128x512_d1

def rows0 (y : FVec Ideal S1152x128 .f32) : FVec Ideal S256x128 .f32 :=
  extractStridedSlice S256x128 ![0, 0] y slices_S1152x128_o0_0_S256x128

def rows1 (y : FVec Ideal S1152x128 .f32) : FVec Ideal S256x128 .f32 :=
  extractStridedSlice S256x128 ![128, 0] y slices_S1152x128_o128_0_S256x128

def rows2 (y : FVec Ideal S1152x128 .f32) : FVec Ideal S256x128 .f32 :=
  extractStridedSlice S256x128 ![256, 0] y slices_S1152x128_o256_0_S256x128

def rows3 (y : FVec Ideal S1152x128 .f32) : FVec Ideal S256x128 .f32 :=
  extractStridedSlice S256x128 ![384, 0] y slices_S1152x128_o384_0_S256x128

def rows4 (y : FVec Ideal S1152x128 .f32) : FVec Ideal S256x128 .f32 :=
  extractStridedSlice S256x128 ![512, 0] y slices_S1152x128_o512_0_S256x128

def rows5 (y : FVec Ideal S1152x128 .f32) : FVec Ideal S256x128 .f32 :=
  extractStridedSlice S256x128 ![640, 0] y slices_S1152x128_o640_0_S256x128

def rows6 (y : FVec Ideal S1152x128 .f32) : FVec Ideal S256x128 .f32 :=
  extractStridedSlice S256x128 ![768, 0] y slices_S1152x128_o768_0_S256x128

def rows7 (y : FVec Ideal S1152x128 .f32) : FVec Ideal S256x128 .f32 :=
  extractStridedSlice S256x128 ![896, 0] y slices_S1152x128_o896_0_S256x128

def chain0_0 (b : FVec Ideal S512x512 .f32) (sink : FVec Ideal S2x512 .f32) : FVec Ideal S128x512 .f32 :=
  chain (qp0_0 q) (rows0 (lowLanes k)) (rows0 (highLanes (swapped k))) (rows0 (lowLanes v)) (rows0 (highLanes (swapped v))) b sink

def chain0_1 (b : FVec Ideal S512x512 .f32) (sink : FVec Ideal S2x512 .f32) : FVec Ideal S128x512 .f32 :=
  chain (qp0_1 q) (rows0 (lowLanes (swapped k))) (rows0 (highLanes k)) (rows0 (lowLanes (swapped v))) (rows0 (highLanes v)) b sink

def chain1_0 (b : FVec Ideal S512x512 .f32) (sink : FVec Ideal S2x512 .f32) : FVec Ideal S128x512 .f32 :=
  chain (qp1_0 q) (rows1 (lowLanes k)) (rows1 (highLanes (swapped k))) (rows1 (lowLanes v)) (rows1 (highLanes (swapped v))) b sink

def chain1_1 (b : FVec Ideal S512x512 .f32) (sink : FVec Ideal S2x512 .f32) : FVec Ideal S128x512 .f32 :=
  chain (qp1_1 q) (rows1 (lowLanes (swapped k))) (rows1 (highLanes k)) (rows1 (lowLanes (swapped v))) (rows1 (highLanes v)) b sink

def chain2_0 (b : FVec Ideal S512x512 .f32) (sink : FVec Ideal S2x512 .f32) : FVec Ideal S128x512 .f32 :=
  chain (qp2_0 q) (rows2 (lowLanes k)) (rows2 (highLanes (swapped k))) (rows2 (lowLanes v)) (rows2 (highLanes (swapped v))) b sink

def chain2_1 (b : FVec Ideal S512x512 .f32) (sink : FVec Ideal S2x512 .f32) : FVec Ideal S128x512 .f32 :=
  chain (qp2_1 q) (rows2 (lowLanes (swapped k))) (rows2 (highLanes k)) (rows2 (lowLanes (swapped v))) (rows2 (highLanes v)) b sink

def chain3_0 (b : FVec Ideal S512x512 .f32) (sink : FVec Ideal S2x512 .f32) : FVec Ideal S128x512 .f32 :=
  chain (qp3_0 q) (rows3 (lowLanes k)) (rows3 (highLanes (swapped k))) (rows3 (lowLanes v)) (rows3 (highLanes (swapped v))) b sink

def chain3_1 (b : FVec Ideal S512x512 .f32) (sink : FVec Ideal S2x512 .f32) : FVec Ideal S128x512 .f32 :=
  chain (qp3_1 q) (rows3 (lowLanes (swapped k))) (rows3 (highLanes k)) (rows3 (lowLanes (swapped v))) (rows3 (highLanes v)) b sink

def chain4_0 (b : FVec Ideal S512x512 .f32) (sink : FVec Ideal S2x512 .f32) : FVec Ideal S128x512 .f32 :=
  chain (qp4_0 q) (rows4 (lowLanes k)) (rows4 (highLanes (swapped k))) (rows4 (lowLanes v)) (rows4 (highLanes (swapped v))) b sink

def chain4_1 (b : FVec Ideal S512x512 .f32) (sink : FVec Ideal S2x512 .f32) : FVec Ideal S128x512 .f32 :=
  chain (qp4_1 q) (rows4 (lowLanes (swapped k))) (rows4 (highLanes k)) (rows4 (lowLanes (swapped v))) (rows4 (highLanes v)) b sink

def chain5_0 (b : FVec Ideal S512x512 .f32) (sink : FVec Ideal S2x512 .f32) : FVec Ideal S128x512 .f32 :=
  chain (qp5_0 q) (rows5 (lowLanes k)) (rows5 (highLanes (swapped k))) (rows5 (lowLanes v)) (rows5 (highLanes (swapped v))) b sink

def chain5_1 (b : FVec Ideal S512x512 .f32) (sink : FVec Ideal S2x512 .f32) : FVec Ideal S128x512 .f32 :=
  chain (qp5_1 q) (rows5 (lowLanes (swapped k))) (rows5 (highLanes k)) (rows5 (lowLanes (swapped v))) (rows5 (highLanes v)) b sink

def chain6_0 (b : FVec Ideal S512x512 .f32) (sink : FVec Ideal S2x512 .f32) : FVec Ideal S128x512 .f32 :=
  chain (qp6_0 q) (rows6 (lowLanes k)) (rows6 (highLanes (swapped k))) (rows6 (lowLanes v)) (rows6 (highLanes (swapped v))) b sink

def chain6_1 (b : FVec Ideal S512x512 .f32) (sink : FVec Ideal S2x512 .f32) : FVec Ideal S128x512 .f32 :=
  chain (qp6_1 q) (rows6 (lowLanes (swapped k))) (rows6 (highLanes k)) (rows6 (lowLanes (swapped v))) (rows6 (highLanes v)) b sink

def chain7_0 (b : FVec Ideal S512x512 .f32) (sink : FVec Ideal S2x512 .f32) : FVec Ideal S128x512 .f32 :=
  chain (qp7_0 q) (rows7 (lowLanes k)) (rows7 (highLanes (swapped k))) (rows7 (lowLanes v)) (rows7 (highLanes (swapped v))) b sink

def chain7_1 (b : FVec Ideal S512x512 .f32) (sink : FVec Ideal S2x512 .f32) : FVec Ideal S128x512 .f32 :=
  chain (qp7_1 q) (rows7 (lowLanes (swapped k))) (rows7 (highLanes k)) (rows7 (lowLanes (swapped v))) (rows7 (highLanes v)) b sink

/-- The pair 0 of heads of all blocks, side by side. -/
def pair0 (c : Fin 8 → FVec Ideal S128x512 .f32) : FVec Ideal S128x1024 .f32 :=
  concatenate S128x1024 1 [⟨S128x128, extractStridedSlice S128x128 ![0, 0] (c 0) slices_S128x512_o0_0_S128x128⟩, ⟨S128x128, extractStridedSlice S128x128 ![0, 0] (c 1) slices_S128x512_o0_0_S128x128⟩, ⟨S128x128, extractStridedSlice S128x128 ![0, 0] (c 2) slices_S128x512_o0_0_S128x128⟩, ⟨S128x128, extractStridedSlice S128x128 ![0, 0] (c 3) slices_S128x512_o0_0_S128x128⟩, ⟨S128x128, extractStridedSlice S128x128 ![0, 0] (c 4) slices_S128x512_o0_0_S128x128⟩, ⟨S128x128, extractStridedSlice S128x128 ![0, 0] (c 5) slices_S128x512_o0_0_S128x128⟩, ⟨S128x128, extractStridedSlice S128x128 ![0, 0] (c 6) slices_S128x512_o0_0_S128x128⟩, ⟨S128x128, extractStridedSlice S128x128 ![0, 0] (c 7) slices_S128x512_o0_0_S128x128⟩] concatenates_S128x128_S128x128_S128x128_S128x128_S128x128_S128x128_S128x128_S128x128_S128x1024_d1

/-- The pair 1 of heads of all blocks, side by side. -/
def pair1 (c : Fin 8 → FVec Ideal S128x512 .f32) : FVec Ideal S128x1024 .f32 :=
  concatenate S128x1024 1 [⟨S128x128, extractStridedSlice S128x128 ![0, 128] (c 0) slices_S128x512_o0_128_S128x128⟩, ⟨S128x128, extractStridedSlice S128x128 ![0, 128] (c 1) slices_S128x512_o0_128_S128x128⟩, ⟨S128x128, extractStridedSlice S128x128 ![0, 128] (c 2) slices_S128x512_o0_128_S128x128⟩, ⟨S128x128, extractStridedSlice S128x128 ![0, 128] (c 3) slices_S128x512_o0_128_S128x128⟩, ⟨S128x128, extractStridedSlice S128x128 ![0, 128] (c 4) slices_S128x512_o0_128_S128x128⟩, ⟨S128x128, extractStridedSlice S128x128 ![0, 128] (c 5) slices_S128x512_o0_128_S128x128⟩, ⟨S128x128, extractStridedSlice S128x128 ![0, 128] (c 6) slices_S128x512_o0_128_S128x128⟩, ⟨S128x128, extractStridedSlice S128x128 ![0, 128] (c 7) slices_S128x512_o0_128_S128x128⟩] concatenates_S128x128_S128x128_S128x128_S128x128_S128x128_S128x128_S128x128_S128x128_S128x1024_d1

/-- The pair 2 of heads of all blocks, side by side. -/
def pair2 (c : Fin 8 → FVec Ideal S128x512 .f32) : FVec Ideal S128x1024 .f32 :=
  concatenate S128x1024 1 [⟨S128x128, extractStridedSlice S128x128 ![0, 256] (c 0) slices_S128x512_o0_256_S128x128⟩, ⟨S128x128, extractStridedSlice S128x128 ![0, 256] (c 1) slices_S128x512_o0_256_S128x128⟩, ⟨S128x128, extractStridedSlice S128x128 ![0, 256] (c 2) slices_S128x512_o0_256_S128x128⟩, ⟨S128x128, extractStridedSlice S128x128 ![0, 256] (c 3) slices_S128x512_o0_256_S128x128⟩, ⟨S128x128, extractStridedSlice S128x128 ![0, 256] (c 4) slices_S128x512_o0_256_S128x128⟩, ⟨S128x128, extractStridedSlice S128x128 ![0, 256] (c 5) slices_S128x512_o0_256_S128x128⟩, ⟨S128x128, extractStridedSlice S128x128 ![0, 256] (c 6) slices_S128x512_o0_256_S128x128⟩, ⟨S128x128, extractStridedSlice S128x128 ![0, 256] (c 7) slices_S128x512_o0_256_S128x128⟩] concatenates_S128x128_S128x128_S128x128_S128x128_S128x128_S128x128_S128x128_S128x128_S128x1024_d1

/-- The pair 3 of heads of all blocks, side by side. -/
def pair3 (c : Fin 8 → FVec Ideal S128x512 .f32) : FVec Ideal S128x1024 .f32 :=
  concatenate S128x1024 1 [⟨S128x128, extractStridedSlice S128x128 ![0, 384] (c 0) slices_S128x512_o0_384_S128x128⟩, ⟨S128x128, extractStridedSlice S128x128 ![0, 384] (c 1) slices_S128x512_o0_384_S128x128⟩, ⟨S128x128, extractStridedSlice S128x128 ![0, 384] (c 2) slices_S128x512_o0_384_S128x128⟩, ⟨S128x128, extractStridedSlice S128x128 ![0, 384] (c 3) slices_S128x512_o0_384_S128x128⟩, ⟨S128x128, extractStridedSlice S128x128 ![0, 384] (c 4) slices_S128x512_o0_384_S128x128⟩, ⟨S128x128, extractStridedSlice S128x128 ![0, 384] (c 5) slices_S128x512_o0_384_S128x128⟩, ⟨S128x128, extractStridedSlice S128x128 ![0, 384] (c 6) slices_S128x512_o0_384_S128x128⟩, ⟨S128x128, extractStridedSlice S128x128 ![0, 384] (c 7) slices_S128x512_o0_384_S128x128⟩] concatenates_S128x128_S128x128_S128x128_S128x128_S128x128_S128x128_S128x128_S128x128_S128x1024_d1

/-- All heads' weighted values. -/
def heads (c d : Fin 8 → FVec Ideal S128x512 .f32) : FVec Ideal S1024x1024 .bf16 :=
  truncf .bf16 (concatenate S1024x1024 0 [⟨S128x1024, pair0 c⟩, ⟨S128x1024, pair1 c⟩, ⟨S128x1024, pair2 c⟩, ⟨S128x1024, pair3 c⟩,
    ⟨S128x1024, pair0 d⟩, ⟨S128x1024, pair1 d⟩, ⟨S128x1024, pair2 d⟩, ⟨S128x1024, pair3 d⟩]
    concatenates_S128x1024_S128x1024_S128x1024_S128x1024_S128x1024_S128x1024_S128x1024_S128x1024_S1024x1024_d0) bitsLt_bf16_f32

/-- The chains of the key head 0: block 0 has its own tile of the bias. -/
def chains0 (b b' : FVec Ideal S512x512 .f32) (sink : FVec Ideal S2x512 .f32) : Fin 8 → FVec Ideal S128x512 .f32 :=
  ![chain0_0 q k v b sink, chain1_0 q k v b' sink, chain2_0 q k v b' sink, chain3_0 q k v b' sink, chain4_0 q k v b' sink, chain5_0 q k v b' sink, chain6_0 q k v b' sink, chain7_0 q k v b' sink]

/-- The chains of the key head 1. -/
def chains1 (b b' : FVec Ideal S512x512 .f32) (sink : FVec Ideal S2x512 .f32) : Fin 8 → FVec Ideal S128x512 .f32 :=
  ![chain0_1 q k v b sink, chain1_1 q k v b' sink, chain2_1 q k v b' sink, chain3_1 q k v b' sink, chain4_1 q k v b' sink, chain5_1 q k v b' sink, chain6_1 q k v b' sink, chain7_1 q k v b' sink]

/-- The last projection of the heads' lanes. -/
def projected (o : FVec Ideal S1024x1024 .bf16) : FVec Ideal S1024x1024 .f32 :=
  addf (matmul dot_S1024x1024_S1024x1024_S1024x1024_0_0_1_1_n_n none o
      (shapeCast S1024x1024 wo shapeCasts_S1x1024x1024_S1024x1024) (constant S1024x1024 .f32 0x00000000#32))
    (broadcastTo S1024x1024 (shapeCast S1x1024 bo shapeCasts_S1x1024_S1x1024) broadcasts_S1x1024_S1024x1024)

/-- The rows with the normalised projection added. -/
def finished (o : FVec Ideal S1024x1024 .bf16) : FVec Ideal S1024x1024 .f32 :=
  k0_pay1 (k0_pay2 x) (projected wo bo o) (k0_pay384 g3) (mulf (projected wo bo o) (projected wo bo o))

/-- The tile that the call stores, from the blocks it reads: `f0`, `f1` are the tiles of the bias for the first block of
    queries, `b0`, `b1` for the others. -/
def tile (f0 f1 b0 b1 : FVec Ideal S1x1x512x512 .f32) (s0 s1 : FVec Ideal S1x2x512 .f32) : FVec Ideal S1024x1024 .f32 :=
  finished x g3 wo bo
    (heads
      (chains0 (k0_pay3 x g2 wq bq) (keys kvc kvp) (values kvc kvp) (shapeCast S512x512 f0 shapeCasts_S1x1x512x512_S512x512)
        (shapeCast S512x512 b0 shapeCasts_S1x1x512x512_S512x512) (shapeCast S2x512 s0 shapeCasts_S1x2x512_S2x512))
      (chains1 (k0_pay3 x g2 wq bq) (keys kvc kvp) (values kvc kvp) (shapeCast S512x512 f1 shapeCasts_S1x1x512x512_S512x512)
        (shapeCast S512x512 b1 shapeCasts_S1x1x512x512_S512x512) (shapeCast S2x512 s1 shapeCasts_S1x2x512_S2x512)))

end Tile

end Cert.AttnIdeal.Pure

end
-- ==== Proof.AttnHeads.lean ====
/- The attention call's tile read at a row and a lane: each head of each query is one weighted sum over 256 keys. -/
module

public import proofs.«01_k».proof.Proof.AttnPure
public import proofs.«01_k».proof.Proof.AttnCore

@[expose] public section

set_option maxRecDepth 16384

noncomputable section

namespace Cert.AttnIdeal.Pure

open Idealize.ShloMosaic Idealize.ShloMosaic.TcCoe Idealize.SL.Sem
open Cert.AttnIdeal Cert.AttnIdeal.Gen

/-- The scores of a query against 256 keys, in base two. -/
def scoreOf (K : Fin 256 → Fin 64 → EReal) (Q : Fin 64 → EReal) (B : Fin 256 → EReal) (j : Fin 256) : EReal :=
  (∑ e, K j e * Q e) + B j * log2e

/-- The greatest of the scores and the sink's. -/
def topOf (S : Fin 256 → EReal) (z : EReal) : EReal := max (Finset.univ.fold max ⊥ S) z

/-- One lane of one head of a query: values weighted by powers of two of scores, the sum divided at the end. -/
def headOut (K : Fin 256 → Fin 64 → EReal) (V : Fin 256 → EReal) (Q : Fin 64 → EReal) (B : Fin 256 → EReal) (z : EReal) : EReal :=
  (∑ j, V j * Ideal.exp2 (scoreOf K Q B j - topOf (scoreOf K Q B) z))
    * Ideal.div 1 ((∑ j, Ideal.exp2 (scoreOf K Q B j - topOf (scoreOf K Q B) z)) + Ideal.exp2 (z - topOf (scoreOf K Q B) z))

theorem headOut_congr {K K' : Fin 256 → Fin 64 → EReal} {V V' : Fin 256 → EReal} {Q Q' : Fin 64 → EReal}
    {B B' : Fin 256 → EReal} {z z' : EReal} (hK : ∀ j e, K j e = K' j e) (hV : ∀ j, V j = V' j) (hQ : ∀ e, Q e = Q' e)
    (hB : ∀ j, B j = B' j) (hz : z = z') : headOut K V Q B z = headOut K' V' Q' B' z' := by
  obtain rfl : K = K' := funext fun j => funext fun e => hK j e
  obtain rfl : V = V' := funext hV
  obtain rfl : Q = Q' := funext hQ
  obtain rfl : B = B' := funext hB
  rw [hz]

section Chain
variable (qp : FVec Ideal S128x512 .bf16) (ke ko ve vo : FVec Ideal S256x128 .f32) (b : FVec Ideal S512x512 .f32)
  (sink : FVec Ideal S2x512 .f32) (s : FVec Ideal S256x512 .f32) (sk : FVec Ideal S1x512 .f32) (y : FVec Ideal S1152x128 .f32)

theorem slt64 (l : Fin 128) : IntOp.cmpi CmpIPredicate.slt (BitVec.ofNat 32 (l : ℕ)) 64#32 = if (l : ℕ) < 64 then 1#1 else 0#1 := by
  revert l; decide +kernel

theorem sge64 (l : Fin 128) : IntOp.cmpi CmpIPredicate.sge (BitVec.ofNat 32 (l : ℕ)) 64#32 = if (l : ℕ) < 64 then 0#1 else 1#1 := by
  revert l; decide +kernel

theorem lowLanes_at (r : Fin 1152) (l : Fin 128) : lowLanes y (ix2 r l) = if (l : ℕ) < 64 then y (ix2 r l) else 0 := by
  pointwise [lowLanes]
  rw [slt64]
  split <;> rfl

theorem highLanes_at (r : Fin 1152) (l : Fin 128) : highLanes y (ix2 r l) = if (l : ℕ) < 64 then 0 else y (ix2 r l) := by
  pointwise [highLanes]
  rw [sge64]
  split <;> rfl

theorem low_low (r : Fin 1152) (e : Fin 64) : lowLanes y (ix2 r ⟨e, by omega⟩) = y (ix2 r ⟨e, by omega⟩) := by
  rw [lowLanes_at, if_pos e.isLt]

theorem low_high (r : Fin 1152) (e : Fin 64) : lowLanes y (ix2 r ⟨64 + e, by omega⟩) = 0 := by
  rw [lowLanes_at, if_neg (by show ¬ 64 + (e : ℕ) < 64; omega)]

theorem high_low (r : Fin 1152) (e : Fin 64) : highLanes y (ix2 r ⟨e, by omega⟩) = 0 := by
  rw [highLanes_at, if_pos e.isLt]

theorem high_high (r : Fin 1152) (e : Fin 64) : highLanes y (ix2 r ⟨64 + e, by omega⟩) = y (ix2 r ⟨64 + e, by omega⟩) := by
  rw [highLanes_at, if_neg (by show ¬ 64 + (e : ℕ) < 64; omega)]

theorem swapped_low (r : Fin 1152) (e : Fin 64) : swapped y (ix2 r ⟨e, by omega⟩) = y (ix2 r ⟨64 + e, by omega⟩) := by
  pointwise [swapped]
  congr 2
  apply Fin.ext
  show ((e : ℕ) + 128 - 64) % 128 = 64 + e
  omega

theorem swapped_high (r : Fin 1152) (e : Fin 64) : swapped y (ix2 r ⟨64 + e, by omega⟩) = y (ix2 r ⟨e, by omega⟩) := by
  pointwise [swapped]
  congr 2
  apply Fin.ext
  show (64 + (e : ℕ) + 128 - 64) % 128 = e
  omega

open Cert.Attn.Core (bot_bits)

theorem greatest_at (c : Fin 512) : greatest s sk (ix2 0 c) = topOf (fun j => s (ix2 j c)) (sk (ix2 0 c)) := by
  pointwise [greatest]
  rw [bot_bits]
  rfl

theorem weights_at (c : Fin 512) (j : Fin 256) :
    weights s sk (ix2 j c) = Ideal.exp2 (s (ix2 j c) - topOf (fun j => s (ix2 j c)) (sk (ix2 0 c))) := by
  rw [← greatest_at]
  pointwise [weights]
  rfl

theorem inverse_at (c : Fin 512) : inverse s sk (ix2 0 c)
    = Ideal.div 1 ((∑ j, Ideal.exp2 (s (ix2 j c) - topOf (fun j => s (ix2 j c)) (sk (ix2 0 c))))
      + Ideal.exp2 (sk (ix2 0 c) - topOf (fun j => s (ix2 j c)) (sk (ix2 0 c)))) := by
  simp only [← weights_at]
  rw [← greatest_at]
  pointwise [inverse]
  rfl

theorem scoresEven_at (j : Fin 256) (c : Fin 512) :
    scoresEven qp ke ko b (ix2 j c) = (∑ l, ke (ix2 j l) * qp (ix2 l c)) + b (ix2 ⟨j, by omega⟩ c) * log2e := by
  pointwise [scoresEven, scores, log2e]

theorem scoresOdd_at (j : Fin 256) (c : Fin 512) :
    scoresOdd qp ke ko b (ix2 j c) = (∑ l, ko (ix2 j l) * qp (ix2 l c)) + b (ix2 ⟨256 + j, by omega⟩ c) * log2e := by
  pointwise [scoresOdd, scores, log2e]

theorem sinkEven_at (c : Fin 512) : sinkEven sink (ix2 0 c) = sink (ix2 0 c) * log2e := by
  pointwise [sinkEven, log2e]

theorem sinkOdd_at (c : Fin 512) : sinkOdd sink (ix2 0 c) = sink (ix2 1 c) * log2e := by
  pointwise [sinkOdd, log2e]

theorem chain_at (d : Fin 128) (c : Fin 512) : chain qp ke ko ve vo b sink (ix2 d c)
    = (∑ j : Fin 256, ve (ix2 j d) * weights (scoresEven qp ke ko b) (sinkEven sink) (ix2 j c)
        + ∑ j : Fin 256, vo (ix2 j d) * weights (scoresOdd qp ke ko b) (sinkOdd sink) (ix2 j c))
      * if (d : ℕ) < 64 then inverse (scoresEven qp ke ko b) (sinkEven sink) (ix2 0 c)
        else inverse (scoresOdd qp ke ko b) (sinkOdd sink) (ix2 0 c) := by
  pointwise [chain]
  rw [slt64]
  split <;> rfl

theorem sum_halves (f : Fin 128 → EReal) : ∑ l, f l = (∑ e : Fin 64, f ⟨e, by omega⟩) + ∑ e : Fin 64, f ⟨64 + e, by omega⟩ :=
  Fin.sum_univ_add (a := 64) (b := 64) f

theorem chain_low (hk : ∀ j (e : Fin 64), ke (ix2 j ⟨64 + e, by omega⟩) = 0)
    (hv : ∀ j (e : Fin 64), vo (ix2 j ⟨e, by omega⟩) = 0) (d : Fin 64) (c : Fin 512) :
    chain qp ke ko ve vo b sink (ix2 ⟨d, by omega⟩ c)
      = headOut (fun j e => ke (ix2 j ⟨e, by omega⟩)) (fun j => ve (ix2 j ⟨d, by omega⟩)) (fun e => qp (ix2 ⟨e, by omega⟩ c))
          (fun j => b (ix2 ⟨j, by omega⟩ c)) (sink (ix2 0 c) * log2e) := by
  rw [chain_at, if_pos d.isLt, inverse_at]
  have hs : (fun j => scoresEven qp ke ko b (ix2 j c)) = scoreOf (fun j e => ke (ix2 j ⟨e, by omega⟩))
      (fun e => qp (ix2 ⟨e, by omega⟩ c)) (fun j => b (ix2 ⟨j, by omega⟩ c)) := by
    funext j
    rw [scoresEven_at, sum_halves]
    simp only [hk, zero_mul, Finset.sum_const_zero, add_zero]
    rfl
  have hs' := fun j => congrFun hs j
  simp only [hv, zero_mul, Finset.sum_const_zero, add_zero, weights_at, hs, sinkEven_at]
  simp only [hs']
  rfl

theorem chain_high (hk : ∀ j (e : Fin 64), ko (ix2 j ⟨e, by omega⟩) = 0)
    (hv : ∀ j (e : Fin 64), ve (ix2 j ⟨64 + e, by omega⟩) = 0) (d : Fin 64) (c : Fin 512) :
    chain qp ke ko ve vo b sink (ix2 ⟨64 + d, by omega⟩ c)
      = headOut (fun j e => ko (ix2 j ⟨64 + e, by omega⟩)) (fun j => vo (ix2 j ⟨64 + d, by omega⟩))
          (fun e => qp (ix2 ⟨64 + e, by omega⟩ c))
          (fun j => b (ix2 ⟨256 + j, by omega⟩ c)) (sink (ix2 1 c) * log2e) := by
  rw [chain_at, if_neg (by show ¬ 64 + (d : ℕ) < 64; omega), inverse_at]
  have hs : (fun j => scoresOdd qp ke ko b (ix2 j c)) = scoreOf (fun j e => ko (ix2 j ⟨64 + e, by omega⟩))
      (fun e => qp (ix2 ⟨64 + e, by omega⟩ c)) (fun j => b (ix2 ⟨256 + j, by omega⟩ c)) := by
    funext j
    rw [scoresOdd_at, sum_halves]
    simp only [hk, zero_mul, Finset.sum_const_zero, zero_add]
    rfl
  have hs' := fun j => congrFun hs j
  simp only [hv, zero_mul, Finset.sum_const_zero, zero_add, weights_at, hs, sinkOdd_at]
  simp only [hs']
  rfl

end Chain

section Tile
variable (q : FVec Ideal S1024x1024 .bf16) (k v : FVec Ideal S1152x128 .f32) (b b' f f' : FVec Ideal S512x512 .f32)
  (z z' : FVec Ideal S2x512 .f32)

theorem rows0_at (y : FVec Ideal S1152x128 .f32) (j : Fin 256) (l : Fin 128) :
    rows0 y (ix2 j l) = y (ix2 ⟨0 + j, by omega⟩ l) := by
  pointwise [rows0]

theorem rows1_at (y : FVec Ideal S1152x128 .f32) (j : Fin 256) (l : Fin 128) :
    rows1 y (ix2 j l) = y (ix2 ⟨128 + j, by omega⟩ l) := by
  pointwise [rows1]

theorem rows2_at (y : FVec Ideal S1152x128 .f32) (j : Fin 256) (l : Fin 128) :
    rows2 y (ix2 j l) = y (ix2 ⟨256 + j, by omega⟩ l) := by
  pointwise [rows2]

theorem rows3_at (y : FVec Ideal S1152x128 .f32) (j : Fin 256) (l : Fin 128) :
    rows3 y (ix2 j l) = y (ix2 ⟨384 + j, by omega⟩ l) := by
  pointwise [rows3]

theorem rows4_at (y : FVec Ideal S1152x128 .f32) (j : Fin 256) (l : Fin 128) :
    rows4 y (ix2 j l) = y (ix2 ⟨512 + j, by omega⟩ l) := by
  pointwise [rows4]

theorem rows5_at (y : FVec Ideal S1152x128 .f32) (j : Fin 256) (l : Fin 128) :
    rows5 y (ix2 j l) = y (ix2 ⟨640 + j, by omega⟩ l) := by
  pointwise [rows5]

theorem rows6_at (y : FVec Ideal S1152x128 .f32) (j : Fin 256) (l : Fin 128) :
    rows6 y (ix2 j l) = y (ix2 ⟨768 + j, by omega⟩ l) := by
  pointwise [rows6]

theorem rows7_at (y : FVec Ideal S1152x128 .f32) (j : Fin 256) (l : Fin 128) :
    rows7 y (ix2 j l) = y (ix2 ⟨896 + j, by omega⟩ l) := by
  pointwise [rows7]

theorem qp0_0_at (i : Fin 4) (l c : Fin 128) :
    qp0_0 q (ix2 l ⟨128 * i + c, by omega⟩) = q (ix2 ⟨0 + 128 * i + l, by omega⟩ ⟨0 + c, by omega⟩) := by
  fin_cases i <;> pointwise [qp0_0] <;> (repeat first | rw [dif_pos (by omega)] | rw [dif_neg (by omega)]) <;>
    (try (congr 2; apply Fin.ext; simp only []; omega))

theorem qp0_1_at (i : Fin 4) (l c : Fin 128) :
    qp0_1 q (ix2 l ⟨128 * i + c, by omega⟩) = q (ix2 ⟨512 + 128 * i + l, by omega⟩ ⟨0 + c, by omega⟩) := by
  fin_cases i <;> pointwise [qp0_1] <;> (repeat first | rw [dif_pos (by omega)] | rw [dif_neg (by omega)]) <;>
    (try (congr 2; apply Fin.ext; simp only []; omega))

theorem qp1_0_at (i : Fin 4) (l c : Fin 128) :
    qp1_0 q (ix2 l ⟨128 * i + c, by omega⟩) = q (ix2 ⟨0 + 128 * i + l, by omega⟩ ⟨128 + c, by omega⟩) := by
  fin_cases i <;> pointwise [qp1_0] <;> (repeat first | rw [dif_pos (by omega)] | rw [dif_neg (by omega)]) <;>
    (try (congr 2; apply Fin.ext; simp only []; omega))

theorem qp1_1_at (i : Fin 4) (l c : Fin 128) :
    qp1_1 q (ix2 l ⟨128 * i + c, by omega⟩) = q (ix2 ⟨512 + 128 * i + l, by omega⟩ ⟨128 + c, by omega⟩) := by
  fin_cases i <;> pointwise [qp1_1] <;> (repeat first | rw [dif_pos (by omega)] | rw [dif_neg (by omega)]) <;>
    (try (congr 2; apply Fin.ext; simp only []; omega))

theorem qp2_0_at (i : Fin 4) (l c : Fin 128) :
    qp2_0 q (ix2 l ⟨128 * i + c, by omega⟩) = q (ix2 ⟨0 + 128 * i + l, by omega⟩ ⟨256 + c, by omega⟩) := by
  fin_cases i <;> pointwise [qp2_0] <;> (repeat first | rw [dif_pos (by omega)] | rw [dif_neg (by omega)]) <;>
    (try (congr 2; apply Fin.ext; simp only []; omega))

theorem qp2_1_at (i : Fin 4) (l c : Fin 128) :
    qp2_1 q (ix2 l ⟨128 * i + c, by omega⟩) = q (ix2 ⟨512 + 128 * i + l, by omega⟩ ⟨256 + c, by omega⟩) := by
  fin_cases i <;> pointwise [qp2_1] <;> (repeat first | rw [dif_pos (by omega)] | rw [dif_neg (by omega)]) <;>
    (try (congr 2; apply Fin.ext; simp only []; omega))

theorem qp3_0_at (i : Fin 4) (l c : Fin 128) :
    qp3_0 q (ix2 l ⟨128 * i + c, by omega⟩) = q (ix2 ⟨0 + 128 * i + l, by omega⟩ ⟨384 + c, by omega⟩) := by
  fin_cases i <;> pointwise [qp3_0] <;> (repeat first | rw [dif_pos (by omega)] | rw [dif_neg (by omega)]) <;>
    (try (congr 2; apply Fin.ext; simp only []; omega))

theorem qp3_1_at (i : Fin 4) (l c : Fin 128) :
    qp3_1 q (ix2 l ⟨128 * i + c, by omega⟩) = q (ix2 ⟨512 + 128 * i + l, by omega⟩ ⟨384 + c, by omega⟩) := by
  fin_cases i <;> pointwise [qp3_1] <;> (repeat first | rw [dif_pos (by omega)] | rw [dif_neg (by omega)]) <;>
    (try (congr 2; apply Fin.ext; simp only []; omega))

theorem qp4_0_at (i : Fin 4) (l c : Fin 128) :
    qp4_0 q (ix2 l ⟨128 * i + c, by omega⟩) = q (ix2 ⟨0 + 128 * i + l, by omega⟩ ⟨512 + c, by omega⟩) := by
  fin_cases i <;> pointwise [qp4_0] <;> (repeat first | rw [dif_pos (by omega)] | rw [dif_neg (by omega)]) <;>
    (try (congr 2; apply Fin.ext; simp only []; omega))

theorem qp4_1_at (i : Fin 4) (l c : Fin 128) :
    qp4_1 q (ix2 l ⟨128 * i + c, by omega⟩) = q (ix2 ⟨512 + 128 * i + l, by omega⟩ ⟨512 + c, by omega⟩) := by
  fin_cases i <;> pointwise [qp4_1] <;> (repeat first | rw [dif_pos (by omega)] | rw [dif_neg (by omega)]) <;>
    (try (congr 2; apply Fin.ext; simp only []; omega))

theorem qp5_0_at (i : Fin 4) (l c : Fin 128) :
    qp5_0 q (ix2 l ⟨128 * i + c, by omega⟩) = q (ix2 ⟨0 + 128 * i + l, by omega⟩ ⟨640 + c, by omega⟩) := by
  fin_cases i <;> pointwise [qp5_0] <;> (repeat first | rw [dif_pos (by omega)] | rw [dif_neg (by omega)]) <;>
    (try (congr 2; apply Fin.ext; simp only []; omega))

theorem qp5_1_at (i : Fin 4) (l c : Fin 128) :
    qp5_1 q (ix2 l ⟨128 * i + c, by omega⟩) = q (ix2 ⟨512 + 128 * i + l, by omega⟩ ⟨640 + c, by omega⟩) := by
  fin_cases i <;> pointwise [qp5_1] <;> (repeat first | rw [dif_pos (by omega)] | rw [dif_neg (by omega)]) <;>
    (try (congr 2; apply Fin.ext; simp only []; omega))

theorem qp6_0_at (i : Fin 4) (l c : Fin 128) :
    qp6_0 q (ix2 l ⟨128 * i + c, by omega⟩) = q (ix2 ⟨0 + 128 * i + l, by omega⟩ ⟨768 + c, by omega⟩) := by
  fin_cases i <;> pointwise [qp6_0] <;> (repeat first | rw [dif_pos (by omega)] | rw [dif_neg (by omega)]) <;>
    (try (congr 2; apply Fin.ext; simp only []; omega))

theorem qp6_1_at (i : Fin 4) (l c : Fin 128) :
    qp6_1 q (ix2 l ⟨128 * i + c, by omega⟩) = q (ix2 ⟨512 + 128 * i + l, by omega⟩ ⟨768 + c, by omega⟩) := by
  fin_cases i <;> pointwise [qp6_1] <;> (repeat first | rw [dif_pos (by omega)] | rw [dif_neg (by omega)]) <;>
    (try (congr 2; apply Fin.ext; simp only []; omega))

theorem qp7_0_at (i : Fin 4) (l c : Fin 128) :
    qp7_0 q (ix2 l ⟨128 * i + c, by omega⟩) = q (ix2 ⟨0 + 128 * i + l, by omega⟩ ⟨896 + c, by omega⟩) := by
  fin_cases i <;> pointwise [qp7_0] <;> (repeat first | rw [dif_pos (by omega)] | rw [dif_neg (by omega)]) <;>
    (try (congr 2; apply Fin.ext; simp only []; omega))

theorem qp7_1_at (i : Fin 4) (l c : Fin 128) :
    qp7_1 q (ix2 l ⟨128 * i + c, by omega⟩) = q (ix2 ⟨512 + 128 * i + l, by omega⟩ ⟨896 + c, by omega⟩) := by
  fin_cases i <;> pointwise [qp7_1] <;> (repeat first | rw [dif_pos (by omega)] | rw [dif_neg (by omega)]) <;>
    (try (congr 2; apply Fin.ext; simp only []; omega))

theorem pair0_at (c : Fin 8 → FVec Ideal S128x512 .f32) (s : Fin 8) (d r : Fin 128) :
    pair0 c (ix2 d ⟨128 * s + r, by omega⟩) = c s (ix2 d ⟨128 * 0 + r, by omega⟩) := by
  fin_cases s <;> pointwise [pair0] <;> (repeat first | rw [dif_pos (by omega)] | rw [dif_neg (by omega)]) <;>
    (try (congr 2; apply Fin.ext; simp only []; omega))

theorem pair1_at (c : Fin 8 → FVec Ideal S128x512 .f32) (s : Fin 8) (d r : Fin 128) :
    pair1 c (ix2 d ⟨128 * s + r, by omega⟩) = c s (ix2 d ⟨128 * 1 + r, by omega⟩) := by
  fin_cases s <;> pointwise [pair1] <;> (repeat first | rw [dif_pos (by omega)] | rw [dif_neg (by omega)]) <;>
    (try (congr 2; apply Fin.ext; simp only []; omega))

theorem pair2_at (c : Fin 8 → FVec Ideal S128x512 .f32) (s : Fin 8) (d r : Fin 128) :
    pair2 c (ix2 d ⟨128 * s + r, by omega⟩) = c s (ix2 d ⟨128 * 2 + r, by omega⟩) := by
  fin_cases s <;> pointwise [pair2] <;> (repeat first | rw [dif_pos (by omega)] | rw [dif_neg (by omega)]) <;>
    (try (congr 2; apply Fin.ext; simp only []; omega))

theorem pair3_at (c : Fin 8 → FVec Ideal S128x512 .f32) (s : Fin 8) (d r : Fin 128) :
    pair3 c (ix2 d ⟨128 * s + r, by omega⟩) = c s (ix2 d ⟨128 * 3 + r, by omega⟩) := by
  fin_cases s <;> pointwise [pair3] <;> (repeat first | rw [dif_pos (by omega)] | rw [dif_neg (by omega)]) <;>
    (try (congr 2; apply Fin.ext; simp only []; omega))

theorem heads_at (c c' : Fin 8 → FVec Ideal S128x512 .f32) (g : Fin 2) (i : Fin 4) (s : Fin 8) (d r : Fin 128) :
    heads c c' (ix2 ⟨512 * g + 128 * i + d, by omega⟩ ⟨128 * s + r, by omega⟩)
      = (if g = 0 then c else c') s (ix2 d ⟨128 * i + r, by omega⟩) := by
  fin_cases g <;> fin_cases i
  · refine Eq.trans ?_ (pair0_at c s d r)
    pointwise [heads]
    repeat first | rw [dif_pos (by omega)] | rw [dif_neg (by omega)]
    try (congr 2; apply Fin.ext; simp only []; omega)
  · refine Eq.trans ?_ (pair1_at c s d r)
    pointwise [heads]
    repeat first | rw [dif_pos (by omega)] | rw [dif_neg (by omega)]
    try (congr 2; apply Fin.ext; simp only []; omega)
  · refine Eq.trans ?_ (pair2_at c s d r)
    pointwise [heads]
    repeat first | rw [dif_pos (by omega)] | rw [dif_neg (by omega)]
    try (congr 2; apply Fin.ext; simp only []; omega)
  · refine Eq.trans ?_ (pair3_at c s d r)
    pointwise [heads]
    repeat first | rw [dif_pos (by omega)] | rw [dif_neg (by omega)]
    try (congr 2; apply Fin.ext; simp only []; omega)
  · refine Eq.trans ?_ (pair0_at c' s d r)
    pointwise [heads]
    repeat first | rw [dif_pos (by omega)] | rw [dif_neg (by omega)]
    try (congr 2; apply Fin.ext; simp only []; omega)
  · refine Eq.trans ?_ (pair1_at c' s d r)
    pointwise [heads]
    repeat first | rw [dif_pos (by omega)] | rw [dif_neg (by omega)]
    try (congr 2; apply Fin.ext; simp only []; omega)
  · refine Eq.trans ?_ (pair2_at c' s d r)
    pointwise [heads]
    repeat first | rw [dif_pos (by omega)] | rw [dif_neg (by omega)]
    try (congr 2; apply Fin.ext; simp only []; omega)
  · refine Eq.trans ?_ (pair3_at c' s d r)
    pointwise [heads]
    repeat first | rw [dif_pos (by omega)] | rw [dif_neg (by omega)]
    try (congr 2; apply Fin.ext; simp only []; omega)

theorem chain0_0_low (i : Fin 4) (d : Fin 64) (c : Fin 128) :
    chain0_0 q k v b z (ix2 ⟨d, by omega⟩ ⟨128 * i + c, by omega⟩)
      = headOut (fun j e => k (ix2 ⟨0 + j, by omega⟩ ⟨0 + e, by omega⟩)) (fun j => v (ix2 ⟨0 + j, by omega⟩ ⟨0 + d, by omega⟩))
          (fun e => q (ix2 ⟨0 + 128 * i + e, by omega⟩ ⟨0 + c, by omega⟩))
          (fun j => b (ix2 ⟨j, by omega⟩ ⟨128 * i + c, by omega⟩)) (z (ix2 0 ⟨128 * i + c, by omega⟩) * log2e) := by
  refine (chain_low _ _ _ _ _ _ _ (fun j e => ?_) (fun j e => ?_) d _).trans (headOut_congr (fun j e => ?_) (fun j => ?_)
    (fun e => ?_) (fun j => rfl) rfl)
  · rw [rows0_at, low_high]
  · rw [rows0_at, high_low]
  · rw [rows0_at, low_low]; try (congr 2; apply Fin.ext; simp)
  · rw [rows0_at, low_low]; try (congr 2; apply Fin.ext; simp)
  · exact qp0_0_at q i ⟨e, by omega⟩ c

theorem chain0_0_high (i : Fin 4) (d : Fin 64) (c : Fin 128) :
    chain0_0 q k v b z (ix2 ⟨64 + d, by omega⟩ ⟨128 * i + c, by omega⟩)
      = headOut (fun j e => k (ix2 ⟨0 + j, by omega⟩ ⟨0 + e, by omega⟩)) (fun j => v (ix2 ⟨0 + j, by omega⟩ ⟨0 + d, by omega⟩))
          (fun e => q (ix2 ⟨0 + 128 * i + (64 + e), by omega⟩ ⟨0 + c, by omega⟩))
          (fun j => b (ix2 ⟨256 + j, by omega⟩ ⟨128 * i + c, by omega⟩)) (z (ix2 1 ⟨128 * i + c, by omega⟩) * log2e) := by
  refine (chain_high _ _ _ _ _ _ _ (fun j e => ?_) (fun j e => ?_) d _).trans (headOut_congr (fun j e => ?_) (fun j => ?_)
    (fun e => ?_) (fun j => rfl) rfl)
  · rw [rows0_at, high_low]
  · rw [rows0_at, low_high]
  · rw [rows0_at, high_high, swapped_high]; try (congr 2; apply Fin.ext; simp)
  · rw [rows0_at, high_high, swapped_high]; try (congr 2; apply Fin.ext; simp)
  · exact qp0_0_at q i ⟨64 + e, by omega⟩ c

theorem chain0_1_low (i : Fin 4) (d : Fin 64) (c : Fin 128) :
    chain0_1 q k v b z (ix2 ⟨d, by omega⟩ ⟨128 * i + c, by omega⟩)
      = headOut (fun j e => k (ix2 ⟨0 + j, by omega⟩ ⟨64 + e, by omega⟩)) (fun j => v (ix2 ⟨0 + j, by omega⟩ ⟨64 + d, by omega⟩))
          (fun e => q (ix2 ⟨512 + 128 * i + e, by omega⟩ ⟨0 + c, by omega⟩))
          (fun j => b (ix2 ⟨j, by omega⟩ ⟨128 * i + c, by omega⟩)) (z (ix2 0 ⟨128 * i + c, by omega⟩) * log2e) := by
  refine (chain_low _ _ _ _ _ _ _ (fun j e => ?_) (fun j e => ?_) d _).trans (headOut_congr (fun j e => ?_) (fun j => ?_)
    (fun e => ?_) (fun j => rfl) rfl)
  · rw [rows0_at, low_high]
  · rw [rows0_at, high_low]
  · rw [rows0_at, low_low, swapped_low]; try (congr 2; apply Fin.ext; simp)
  · rw [rows0_at, low_low, swapped_low]; try (congr 2; apply Fin.ext; simp)
  · exact qp0_1_at q i ⟨e, by omega⟩ c

theorem chain0_1_high (i : Fin 4) (d : Fin 64) (c : Fin 128) :
    chain0_1 q k v b z (ix2 ⟨64 + d, by omega⟩ ⟨128 * i + c, by omega⟩)
      = headOut (fun j e => k (ix2 ⟨0 + j, by omega⟩ ⟨64 + e, by omega⟩)) (fun j => v (ix2 ⟨0 + j, by omega⟩ ⟨64 + d, by omega⟩))
          (fun e => q (ix2 ⟨512 + 128 * i + (64 + e), by omega⟩ ⟨0 + c, by omega⟩))
          (fun j => b (ix2 ⟨256 + j, by omega⟩ ⟨128 * i + c, by omega⟩)) (z (ix2 1 ⟨128 * i + c, by omega⟩) * log2e) := by
  refine (chain_high _ _ _ _ _ _ _ (fun j e => ?_) (fun j e => ?_) d _).trans (headOut_congr (fun j e => ?_) (fun j => ?_)
    (fun e => ?_) (fun j => rfl) rfl)
  · rw [rows0_at, high_low]
  · rw [rows0_at, low_high]
  · rw [rows0_at, high_high]; try (congr 2; apply Fin.ext; simp)
  · rw [rows0_at, high_high]; try (congr 2; apply Fin.ext; simp)
  · exact qp0_1_at q i ⟨64 + e, by omega⟩ c

theorem chain1_0_low (i : Fin 4) (d : Fin 64) (c : Fin 128) :
    chain1_0 q k v b z (ix2 ⟨d, by omega⟩ ⟨128 * i + c, by omega⟩)
      = headOut (fun j e => k (ix2 ⟨128 + j, by omega⟩ ⟨0 + e, by omega⟩)) (fun j => v (ix2 ⟨128 + j, by omega⟩ ⟨0 + d, by omega⟩))
          (fun e => q (ix2 ⟨0 + 128 * i + e, by omega⟩ ⟨128 + c, by omega⟩))
          (fun j => b (ix2 ⟨j, by omega⟩ ⟨128 * i + c, by omega⟩)) (z (ix2 0 ⟨128 * i + c, by omega⟩) * log2e) := by
  refine (chain_low _ _ _ _ _ _ _ (fun j e => ?_) (fun j e => ?_) d _).trans (headOut_congr (fun j e => ?_) (fun j => ?_)
    (fun e => ?_) (fun j => rfl) rfl)
  · rw [rows1_at, low_high]
  · rw [rows1_at, high_low]
  · rw [rows1_at, low_low]; try (congr 2; apply Fin.ext; simp)
  · rw [rows1_at, low_low]; try (congr 2; apply Fin.ext; simp)
  · exact qp1_0_at q i ⟨e, by omega⟩ c

theorem chain1_0_high (i : Fin 4) (d : Fin 64) (c : Fin 128) :
    chain1_0 q k v b z (ix2 ⟨64 + d, by omega⟩ ⟨128 * i + c, by omega⟩)
      = headOut (fun j e => k (ix2 ⟨128 + j, by omega⟩ ⟨0 + e, by omega⟩)) (fun j => v (ix2 ⟨128 + j, by omega⟩ ⟨0 + d, by omega⟩))
          (fun e => q (ix2 ⟨0 + 128 * i + (64 + e), by omega⟩ ⟨128 + c, by omega⟩))
          (fun j => b (ix2 ⟨256 + j, by omega⟩ ⟨128 * i + c, by omega⟩)) (z (ix2 1 ⟨128 * i + c, by omega⟩) * log2e) := by
  refine (chain_high _ _ _ _ _ _ _ (fun j e => ?_) (fun j e => ?_) d _).trans (headOut_congr (fun j e => ?_) (fun j => ?_)
    (fun e => ?_) (fun j => rfl) rfl)
  · rw [rows1_at, high_low]
  · rw [rows1_at, low_high]
  · rw [rows1_at, high_high, swapped_high]; try (congr 2; apply Fin.ext; simp)
  · rw [rows1_at, high_high, swapped_high]; try (congr 2; apply Fin.ext; simp)
  · exact qp1_0_at q i ⟨64 + e, by omega⟩ c

theorem chain1_1_low (i : Fin 4) (d : Fin 64) (c : Fin 128) :
    chain1_1 q k v b z (ix2 ⟨d, by omega⟩ ⟨128 * i + c, by omega⟩)
      = headOut (fun j e => k (ix2 ⟨128 + j, by omega⟩ ⟨64 + e, by omega⟩)) (fun j => v (ix2 ⟨128 + j, by omega⟩ ⟨64 + d, by omega⟩))
          (fun e => q (ix2 ⟨512 + 128 * i + e, by omega⟩ ⟨128 + c, by omega⟩))
          (fun j => b (ix2 ⟨j, by omega⟩ ⟨128 * i + c, by omega⟩)) (z (ix2 0 ⟨128 * i + c, by omega⟩) * log2e) := by
  refine (chain_low _ _ _ _ _ _ _ (fun j e => ?_) (fun j e => ?_) d _).trans (headOut_congr (fun j e => ?_) (fun j => ?_)
    (fun e => ?_) (fun j => rfl) rfl)
  · rw [rows1_at, low_high]
  · rw [rows1_at, high_low]
  · rw [rows1_at, low_low, swapped_low]; try (congr 2; apply Fin.ext; simp)
  · rw [rows1_at, low_low, swapped_low]; try (congr 2; apply Fin.ext; simp)
  · exact qp1_1_at q i ⟨e, by omega⟩ c

theorem chain1_1_high (i : Fin 4) (d : Fin 64) (c : Fin 128) :
    chain1_1 q k v b z (ix2 ⟨64 + d, by omega⟩ ⟨128 * i + c, by omega⟩)
      = headOut (fun j e => k (ix2 ⟨128 + j, by omega⟩ ⟨64 + e, by omega⟩)) (fun j => v (ix2 ⟨128 + j, by omega⟩ ⟨64 + d, by omega⟩))
          (fun e => q (ix2 ⟨512 + 128 * i + (64 + e), by omega⟩ ⟨128 + c, by omega⟩))
          (fun j => b (ix2 ⟨256 + j, by omega⟩ ⟨128 * i + c, by omega⟩)) (z (ix2 1 ⟨128 * i + c, by omega⟩) * log2e) := by
  refine (chain_high _ _ _ _ _ _ _ (fun j e => ?_) (fun j e => ?_) d _).trans (headOut_congr (fun j e => ?_) (fun j => ?_)
    (fun e => ?_) (fun j => rfl) rfl)
  · rw [rows1_at, high_low]
  · rw [rows1_at, low_high]
  · rw [rows1_at, high_high]; try (congr 2; apply Fin.ext; simp)
  · rw [rows1_at, high_high]; try (congr 2; apply Fin.ext; simp)
  · exact qp1_1_at q i ⟨64 + e, by omega⟩ c

theorem chain2_0_low (i : Fin 4) (d : Fin 64) (c : Fin 128) :
    chain2_0 q k v b z (ix2 ⟨d, by omega⟩ ⟨128 * i + c, by omega⟩)
      = headOut (fun j e => k (ix2 ⟨256 + j, by omega⟩ ⟨0 + e, by omega⟩)) (fun j => v (ix2 ⟨256 + j, by omega⟩ ⟨0 + d, by omega⟩))
          (fun e => q (ix2 ⟨0 + 128 * i + e, by omega⟩ ⟨256 + c, by omega⟩))
          (fun j => b (ix2 ⟨j, by omega⟩ ⟨128 * i + c, by omega⟩)) (z (ix2 0 ⟨128 * i + c, by omega⟩) * log2e) := by
  refine (chain_low _ _ _ _ _ _ _ (fun j e => ?_) (fun j e => ?_) d _).trans (headOut_congr (fun j e => ?_) (fun j => ?_)
    (fun e => ?_) (fun j => rfl) rfl)
  · rw [rows2_at, low_high]
  · rw [rows2_at, high_low]
  · rw [rows2_at, low_low]; try (congr 2; apply Fin.ext; simp)
  · rw [rows2_at, low_low]; try (congr 2; apply Fin.ext; simp)
  · exact qp2_0_at q i ⟨e, by omega⟩ c

theorem chain2_0_high (i : Fin 4) (d : Fin 64) (c : Fin 128) :
    chain2_0 q k v b z (ix2 ⟨64 + d, by omega⟩ ⟨128 * i + c, by omega⟩)
      = headOut (fun j e => k (ix2 ⟨256 + j, by omega⟩ ⟨0 + e, by omega⟩)) (fun j => v (ix2 ⟨256 + j, by omega⟩ ⟨0 + d, by omega⟩))
          (fun e => q (ix2 ⟨0 + 128 * i + (64 + e), by omega⟩ ⟨256 + c, by omega⟩))
          (fun j => b (ix2 ⟨256 + j, by omega⟩ ⟨128 * i + c, by omega⟩)) (z (ix2 1 ⟨128 * i + c, by omega⟩) * log2e) := by
  refine (chain_high _ _ _ _ _ _ _ (fun j e => ?_) (fun j e => ?_) d _).trans (headOut_congr (fun j e => ?_) (fun j => ?_)
    (fun e => ?_) (fun j => rfl) rfl)
  · rw [rows2_at, high_low]
  · rw [rows2_at, low_high]
  · rw [rows2_at, high_high, swapped_high]; try (congr 2; apply Fin.ext; simp)
  · rw [rows2_at, high_high, swapped_high]; try (congr 2; apply Fin.ext; simp)
  · exact qp2_0_at q i ⟨64 + e, by omega⟩ c

theorem chain2_1_low (i : Fin 4) (d : Fin 64) (c : Fin 128) :
    chain2_1 q k v b z (ix2 ⟨d, by omega⟩ ⟨128 * i + c, by omega⟩)
      = headOut (fun j e => k (ix2 ⟨256 + j, by omega⟩ ⟨64 + e, by omega⟩)) (fun j => v (ix2 ⟨256 + j, by omega⟩ ⟨64 + d, by omega⟩))
          (fun e => q (ix2 ⟨512 + 128 * i + e, by omega⟩ ⟨256 + c, by omega⟩))
          (fun j => b (ix2 ⟨j, by omega⟩ ⟨128 * i + c, by omega⟩)) (z (ix2 0 ⟨128 * i + c, by omega⟩) * log2e) := by
  refine (chain_low _ _ _ _ _ _ _ (fun j e => ?_) (fun j e => ?_) d _).trans (headOut_congr (fun j e => ?_) (fun j => ?_)
    (fun e => ?_) (fun j => rfl) rfl)
  · rw [rows2_at, low_high]
  · rw [rows2_at, high_low]
  · rw [rows2_at, low_low, swapped_low]; try (congr 2; apply Fin.ext; simp)
  · rw [rows2_at, low_low, swapped_low]; try (congr 2; apply Fin.ext; simp)
  · exact qp2_1_at q i ⟨e, by omega⟩ c

theorem chain2_1_high (i : Fin 4) (d : Fin 64) (c : Fin 128) :
    chain2_1 q k v b z (ix2 ⟨64 + d, by omega⟩ ⟨128 * i + c, by omega⟩)
      = headOut (fun j e => k (ix2 ⟨256 + j, by omega⟩ ⟨64 + e, by omega⟩)) (fun j => v (ix2 ⟨256 + j, by omega⟩ ⟨64 + d, by omega⟩))
          (fun e => q (ix2 ⟨512 + 128 * i + (64 + e), by omega⟩ ⟨256 + c, by omega⟩))
          (fun j => b (ix2 ⟨256 + j, by omega⟩ ⟨128 * i + c, by omega⟩)) (z (ix2 1 ⟨128 * i + c, by omega⟩) * log2e) := by
  refine (chain_high _ _ _ _ _ _ _ (fun j e => ?_) (fun j e => ?_) d _).trans (headOut_congr (fun j e => ?_) (fun j => ?_)
    (fun e => ?_) (fun j => rfl) rfl)
  · rw [rows2_at, high_low]
  · rw [rows2_at, low_high]
  · rw [rows2_at, high_high]; try (congr 2; apply Fin.ext; simp)
  · rw [rows2_at, high_high]; try (congr 2; apply Fin.ext; simp)
  · exact qp2_1_at q i ⟨64 + e, by omega⟩ c

theorem chain3_0_low (i : Fin 4) (d : Fin 64) (c : Fin 128) :
    chain3_0 q k v b z (ix2 ⟨d, by omega⟩ ⟨128 * i + c, by omega⟩)
      = headOut (fun j e => k (ix2 ⟨384 + j, by omega⟩ ⟨0 + e, by omega⟩)) (fun j => v (ix2 ⟨384 + j, by omega⟩ ⟨0 + d, by omega⟩))
          (fun e => q (ix2 ⟨0 + 128 * i + e, by omega⟩ ⟨384 + c, by omega⟩))
          (fun j => b (ix2 ⟨j, by omega⟩ ⟨128 * i + c, by omega⟩)) (z (ix2 0 ⟨128 * i + c, by omega⟩) * log2e) := by
  refine (chain_low _ _ _ _ _ _ _ (fun j e => ?_) (fun j e => ?_) d _).trans (headOut_congr (fun j e => ?_) (fun j => ?_)
    (fun e => ?_) (fun j => rfl) rfl)
  · rw [rows3_at, low_high]
  · rw [rows3_at, high_low]
  · rw [rows3_at, low_low]; try (congr 2; apply Fin.ext; simp)
  · rw [rows3_at, low_low]; try (congr 2; apply Fin.ext; simp)
  · exact qp3_0_at q i ⟨e, by omega⟩ c

theorem chain3_0_high (i : Fin 4) (d : Fin 64) (c : Fin 128) :
    chain3_0 q k v b z (ix2 ⟨64 + d, by omega⟩ ⟨128 * i + c, by omega⟩)
      = headOut (fun j e => k (ix2 ⟨384 + j, by omega⟩ ⟨0 + e, by omega⟩)) (fun j => v (ix2 ⟨384 + j, by omega⟩ ⟨0 + d, by omega⟩))
          (fun e => q (ix2 ⟨0 + 128 * i + (64 + e), by omega⟩ ⟨384 + c, by omega⟩))
          (fun j => b (ix2 ⟨256 + j, by omega⟩ ⟨128 * i + c, by omega⟩)) (z (ix2 1 ⟨128 * i + c, by omega⟩) * log2e) := by
  refine (chain_high _ _ _ _ _ _ _ (fun j e => ?_) (fun j e => ?_) d _).trans (headOut_congr (fun j e => ?_) (fun j => ?_)
    (fun e => ?_) (fun j => rfl) rfl)
  · rw [rows3_at, high_low]
  · rw [rows3_at, low_high]
  · rw [rows3_at, high_high, swapped_high]; try (congr 2; apply Fin.ext; simp)
  · rw [rows3_at, high_high, swapped_high]; try (congr 2; apply Fin.ext; simp)
  · exact qp3_0_at q i ⟨64 + e, by omega⟩ c

theorem chain3_1_low (i : Fin 4) (d : Fin 64) (c : Fin 128) :
    chain3_1 q k v b z (ix2 ⟨d, by omega⟩ ⟨128 * i + c, by omega⟩)
      = headOut (fun j e => k (ix2 ⟨384 + j, by omega⟩ ⟨64 + e, by omega⟩)) (fun j => v (ix2 ⟨384 + j, by omega⟩ ⟨64 + d, by omega⟩))
          (fun e => q (ix2 ⟨512 + 128 * i + e, by omega⟩ ⟨384 + c, by omega⟩))
          (fun j => b (ix2 ⟨j, by omega⟩ ⟨128 * i + c, by omega⟩)) (z (ix2 0 ⟨128 * i + c, by omega⟩) * log2e) := by
  refine (chain_low _ _ _ _ _ _ _ (fun j e => ?_) (fun j e => ?_) d _).trans (headOut_congr (fun j e => ?_) (fun j => ?_)
    (fun e => ?_) (fun j => rfl) rfl)
  · rw [rows3_at, low_high]
  · rw [rows3_at, high_low]
  · rw [rows3_at, low_low, swapped_low]; try (congr 2; apply Fin.ext; simp)
  · rw [rows3_at, low_low, swapped_low]; try (congr 2; apply Fin.ext; simp)
  · exact qp3_1_at q i ⟨e, by omega⟩ c

theorem chain3_1_high (i : Fin 4) (d : Fin 64) (c : Fin 128) :
    chain3_1 q k v b z (ix2 ⟨64 + d, by omega⟩ ⟨128 * i + c, by omega⟩)
      = headOut (fun j e => k (ix2 ⟨384 + j, by omega⟩ ⟨64 + e, by omega⟩)) (fun j => v (ix2 ⟨384 + j, by omega⟩ ⟨64 + d, by omega⟩))
          (fun e => q (ix2 ⟨512 + 128 * i + (64 + e), by omega⟩ ⟨384 + c, by omega⟩))
          (fun j => b (ix2 ⟨256 + j, by omega⟩ ⟨128 * i + c, by omega⟩)) (z (ix2 1 ⟨128 * i + c, by omega⟩) * log2e) := by
  refine (chain_high _ _ _ _ _ _ _ (fun j e => ?_) (fun j e => ?_) d _).trans (headOut_congr (fun j e => ?_) (fun j => ?_)
    (fun e => ?_) (fun j => rfl) rfl)
  · rw [rows3_at, high_low]
  · rw [rows3_at, low_high]
  · rw [rows3_at, high_high]; try (congr 2; apply Fin.ext; simp)
  · rw [rows3_at, high_high]; try (congr 2; apply Fin.ext; simp)
  · exact qp3_1_at q i ⟨64 + e, by omega⟩ c

theorem chain4_0_low (i : Fin 4) (d : Fin 64) (c : Fin 128) :
    chain4_0 q k v b z (ix2 ⟨d, by omega⟩ ⟨128 * i + c, by omega⟩)
      = headOut (fun j e => k (ix2 ⟨512 + j, by omega⟩ ⟨0 + e, by omega⟩)) (fun j => v (ix2 ⟨512 + j, by omega⟩ ⟨0 + d, by omega⟩))
          (fun e => q (ix2 ⟨0 + 128 * i + e, by omega⟩ ⟨512 + c, by omega⟩))
          (fun j => b (ix2 ⟨j, by omega⟩ ⟨128 * i + c, by omega⟩)) (z (ix2 0 ⟨128 * i + c, by omega⟩) * log2e) := by
  refine (chain_low _ _ _ _ _ _ _ (fun j e => ?_) (fun j e => ?_) d _).trans (headOut_congr (fun j e => ?_) (fun j => ?_)
    (fun e => ?_) (fun j => rfl) rfl)
  · rw [rows4_at, low_high]
  · rw [rows4_at, high_low]
  · rw [rows4_at, low_low]; try (congr 2; apply Fin.ext; simp)
  · rw [rows4_at, low_low]; try (congr 2; apply Fin.ext; simp)
  · exact qp4_0_at q i ⟨e, by omega⟩ c

theorem chain4_0_high (i : Fin 4) (d : Fin 64) (c : Fin 128) :
    chain4_0 q k v b z (ix2 ⟨64 + d, by omega⟩ ⟨128 * i + c, by omega⟩)
      = headOut (fun j e => k (ix2 ⟨512 + j, by omega⟩ ⟨0 + e, by omega⟩)) (fun j => v (ix2 ⟨512 + j, by omega⟩ ⟨0 + d, by omega⟩))
          (fun e => q (ix2 ⟨0 + 128 * i + (64 + e), by omega⟩ ⟨512 + c, by omega⟩))
          (fun j => b (ix2 ⟨256 + j, by omega⟩ ⟨128 * i + c, by omega⟩)) (z (ix2 1 ⟨128 * i + c, by omega⟩) * log2e) := by
  refine (chain_high _ _ _ _ _ _ _ (fun j e => ?_) (fun j e => ?_) d _).trans (headOut_congr (fun j e => ?_) (fun j => ?_)
    (fun e => ?_) (fun j => rfl) rfl)
  · rw [rows4_at, high_low]
  · rw [rows4_at, low_high]
  · rw [rows4_at, high_high, swapped_high]; try (congr 2; apply Fin.ext; simp)
  · rw [rows4_at, high_high, swapped_high]; try (congr 2; apply Fin.ext; simp)
  · exact qp4_0_at q i ⟨64 + e, by omega⟩ c

theorem chain4_1_low (i : Fin 4) (d : Fin 64) (c : Fin 128) :
    chain4_1 q k v b z (ix2 ⟨d, by omega⟩ ⟨128 * i + c, by omega⟩)
      = headOut (fun j e => k (ix2 ⟨512 + j, by omega⟩ ⟨64 + e, by omega⟩)) (fun j => v (ix2 ⟨512 + j, by omega⟩ ⟨64 + d, by omega⟩))
          (fun e => q (ix2 ⟨512 + 128 * i + e, by omega⟩ ⟨512 + c, by omega⟩))
          (fun j => b (ix2 ⟨j, by omega⟩ ⟨128 * i + c, by omega⟩)) (z (ix2 0 ⟨128 * i + c, by omega⟩) * log2e) := by
  refine (chain_low _ _ _ _ _ _ _ (fun j e => ?_) (fun j e => ?_) d _).trans (headOut_congr (fun j e => ?_) (fun j => ?_)
    (fun e => ?_) (fun j => rfl) rfl)
  · rw [rows4_at, low_high]
  · rw [rows4_at, high_low]
  · rw [rows4_at, low_low, swapped_low]; try (congr 2; apply Fin.ext; simp)
  · rw [rows4_at, low_low, swapped_low]; try (congr 2; apply Fin.ext; simp)
  · exact qp4_1_at q i ⟨e, by omega⟩ c

theorem chain4_1_high (i : Fin 4) (d : Fin 64) (c : Fin 128) :
    chain4_1 q k v b z (ix2 ⟨64 + d, by omega⟩ ⟨128 * i + c, by omega⟩)
      = headOut (fun j e => k (ix2 ⟨512 + j, by omega⟩ ⟨64 + e, by omega⟩)) (fun j => v (ix2 ⟨512 + j, by omega⟩ ⟨64 + d, by omega⟩))
          (fun e => q (ix2 ⟨512 + 128 * i + (64 + e), by omega⟩ ⟨512 + c, by omega⟩))
          (fun j => b (ix2 ⟨256 + j, by omega⟩ ⟨128 * i + c, by omega⟩)) (z (ix2 1 ⟨128 * i + c, by omega⟩) * log2e) := by
  refine (chain_high _ _ _ _ _ _ _ (fun j e => ?_) (fun j e => ?_) d _).trans (headOut_congr (fun j e => ?_) (fun j => ?_)
    (fun e => ?_) (fun j => rfl) rfl)
  · rw [rows4_at, high_low]
  · rw [rows4_at, low_high]
  · rw [rows4_at, high_high]; try (congr 2; apply Fin.ext; simp)
  · rw [rows4_at, high_high]; try (congr 2; apply Fin.ext; simp)
  · exact qp4_1_at q i ⟨64 + e, by omega⟩ c

theorem chain5_0_low (i : Fin 4) (d : Fin 64) (c : Fin 128) :
    chain5_0 q k v b z (ix2 ⟨d, by omega⟩ ⟨128 * i + c, by omega⟩)
      = headOut (fun j e => k (ix2 ⟨640 + j, by omega⟩ ⟨0 + e, by omega⟩)) (fun j => v (ix2 ⟨640 + j, by omega⟩ ⟨0 + d, by omega⟩))
          (fun e => q (ix2 ⟨0 + 128 * i + e, by omega⟩ ⟨640 + c, by omega⟩))
          (fun j => b (ix2 ⟨j, by omega⟩ ⟨128 * i + c, by omega⟩)) (z (ix2 0 ⟨128 * i + c, by omega⟩) * log2e) := by
  refine (chain_low _ _ _ _ _ _ _ (fun j e => ?_) (fun j e => ?_) d _).trans (headOut_congr (fun j e => ?_) (fun j => ?_)
    (fun e => ?_) (fun j => rfl) rfl)
  · rw [rows5_at, low_high]
  · rw [rows5_at, high_low]
  · rw [rows5_at, low_low]; try (congr 2; apply Fin.ext; simp)
  · rw [rows5_at, low_low]; try (congr 2; apply Fin.ext; simp)
  · exact qp5_0_at q i ⟨e, by omega⟩ c

theorem chain5_0_high (i : Fin 4) (d : Fin 64) (c : Fin 128) :
    chain5_0 q k v b z (ix2 ⟨64 + d, by omega⟩ ⟨128 * i + c, by omega⟩)
      = headOut (fun j e => k (ix2 ⟨640 + j, by omega⟩ ⟨0 + e, by omega⟩)) (fun j => v (ix2 ⟨640 + j, by omega⟩ ⟨0 + d, by omega⟩))
          (fun e => q (ix2 ⟨0 + 128 * i + (64 + e), by omega⟩ ⟨640 + c, by omega⟩))
          (fun j => b (ix2 ⟨256 + j, by omega⟩ ⟨128 * i + c, by omega⟩)) (z (ix2 1 ⟨128 * i + c, by omega⟩) * log2e) := by
  refine (chain_high _ _ _ _ _ _ _ (fun j e => ?_) (fun j e => ?_) d _).trans (headOut_congr (fun j e => ?_) (fun j => ?_)
    (fun e => ?_) (fun j => rfl) rfl)
  · rw [rows5_at, high_low]
  · rw [rows5_at, low_high]
  · rw [rows5_at, high_high, swapped_high]; try (congr 2; apply Fin.ext; simp)
  · rw [rows5_at, high_high, swapped_high]; try (congr 2; apply Fin.ext; simp)
  · exact qp5_0_at q i ⟨64 + e, by omega⟩ c

theorem chain5_1_low (i : Fin 4) (d : Fin 64) (c : Fin 128) :
    chain5_1 q k v b z (ix2 ⟨d, by omega⟩ ⟨128 * i + c, by omega⟩)
      = headOut (fun j e => k (ix2 ⟨640 + j, by omega⟩ ⟨64 + e, by omega⟩)) (fun j => v (ix2 ⟨640 + j, by omega⟩ ⟨64 + d, by omega⟩))
          (fun e => q (ix2 ⟨512 + 128 * i + e, by omega⟩ ⟨640 + c, by omega⟩))
          (fun j => b (ix2 ⟨j, by omega⟩ ⟨128 * i + c, by omega⟩)) (z (ix2 0 ⟨128 * i + c, by omega⟩) * log2e) := by
  refine (chain_low _ _ _ _ _ _ _ (fun j e => ?_) (fun j e => ?_) d _).trans (headOut_congr (fun j e => ?_) (fun j => ?_)
    (fun e => ?_) (fun j => rfl) rfl)
  · rw [rows5_at, low_high]
  · rw [rows5_at, high_low]
  · rw [rows5_at, low_low, swapped_low]; try (congr 2; apply Fin.ext; simp)
  · rw [rows5_at, low_low, swapped_low]; try (congr 2; apply Fin.ext; simp)
  · exact qp5_1_at q i ⟨e, by omega⟩ c

theorem chain5_1_high (i : Fin 4) (d : Fin 64) (c : Fin 128) :
    chain5_1 q k v b z (ix2 ⟨64 + d, by omega⟩ ⟨128 * i + c, by omega⟩)
      = headOut (fun j e => k (ix2 ⟨640 + j, by omega⟩ ⟨64 + e, by omega⟩)) (fun j => v (ix2 ⟨640 + j, by omega⟩ ⟨64 + d, by omega⟩))
          (fun e => q (ix2 ⟨512 + 128 * i + (64 + e), by omega⟩ ⟨640 + c, by omega⟩))
          (fun j => b (ix2 ⟨256 + j, by omega⟩ ⟨128 * i + c, by omega⟩)) (z (ix2 1 ⟨128 * i + c, by omega⟩) * log2e) := by
  refine (chain_high _ _ _ _ _ _ _ (fun j e => ?_) (fun j e => ?_) d _).trans (headOut_congr (fun j e => ?_) (fun j => ?_)
    (fun e => ?_) (fun j => rfl) rfl)
  · rw [rows5_at, high_low]
  · rw [rows5_at, low_high]
  · rw [rows5_at, high_high]; try (congr 2; apply Fin.ext; simp)
  · rw [rows5_at, high_high]; try (congr 2; apply Fin.ext; simp)
  · exact qp5_1_at q i ⟨64 + e, by omega⟩ c

theorem chain6_0_low (i : Fin 4) (d : Fin 64) (c : Fin 128) :
    chain6_0 q k v b z (ix2 ⟨d, by omega⟩ ⟨128 * i + c, by omega⟩)
      = headOut (fun j e => k (ix2 ⟨768 + j, by omega⟩ ⟨0 + e, by omega⟩)) (fun j => v (ix2 ⟨768 + j, by omega⟩ ⟨0 + d, by omega⟩))
          (fun e => q (ix2 ⟨0 + 128 * i + e, by omega⟩ ⟨768 + c, by omega⟩))
          (fun j => b (ix2 ⟨j, by omega⟩ ⟨128 * i + c, by omega⟩)) (z (ix2 0 ⟨128 * i + c, by omega⟩) * log2e) := by
  refine (chain_low _ _ _ _ _ _ _ (fun j e => ?_) (fun j e => ?_) d _).trans (headOut_congr (fun j e => ?_) (fun j => ?_)
    (fun e => ?_) (fun j => rfl) rfl)
  · rw [rows6_at, low_high]
  · rw [rows6_at, high_low]
  · rw [rows6_at, low_low]; try (congr 2; apply Fin.ext; simp)
  · rw [rows6_at, low_low]; try (congr 2; apply Fin.ext; simp)
  · exact qp6_0_at q i ⟨e, by omega⟩ c

theorem chain6_0_high (i : Fin 4) (d : Fin 64) (c : Fin 128) :
    chain6_0 q k v b z (ix2 ⟨64 + d, by omega⟩ ⟨128 * i + c, by omega⟩)
      = headOut (fun j e => k (ix2 ⟨768 + j, by omega⟩ ⟨0 + e, by omega⟩)) (fun j => v (ix2 ⟨768 + j, by omega⟩ ⟨0 + d, by omega⟩))
          (fun e => q (ix2 ⟨0 + 128 * i + (64 + e), by omega⟩ ⟨768 + c, by omega⟩))
          (fun j => b (ix2 ⟨256 + j, by omega⟩ ⟨128 * i + c, by omega⟩)) (z (ix2 1 ⟨128 * i + c, by omega⟩) * log2e) := by
  refine (chain_high _ _ _ _ _ _ _ (fun j e => ?_) (fun j e => ?_) d _).trans (headOut_congr (fun j e => ?_) (fun j => ?_)
    (fun e => ?_) (fun j => rfl) rfl)
  · rw [rows6_at, high_low]
  · rw [rows6_at, low_high]
  · rw [rows6_at, high_high, swapped_high]; try (congr 2; apply Fin.ext; simp)
  · rw [rows6_at, high_high, swapped_high]; try (congr 2; apply Fin.ext; simp)
  · exact qp6_0_at q i ⟨64 + e, by omega⟩ c

theorem chain6_1_low (i : Fin 4) (d : Fin 64) (c : Fin 128) :
    chain6_1 q k v b z (ix2 ⟨d, by omega⟩ ⟨128 * i + c, by omega⟩)
      = headOut (fun j e => k (ix2 ⟨768 + j, by omega⟩ ⟨64 + e, by omega⟩)) (fun j => v (ix2 ⟨768 + j, by omega⟩ ⟨64 + d, by omega⟩))
          (fun e => q (ix2 ⟨512 + 128 * i + e, by omega⟩ ⟨768 + c, by omega⟩))
          (fun j => b (ix2 ⟨j, by omega⟩ ⟨128 * i + c, by omega⟩)) (z (ix2 0 ⟨128 * i + c, by omega⟩) * log2e) := by
  refine (chain_low _ _ _ _ _ _ _ (fun j e => ?_) (fun j e => ?_) d _).trans (headOut_congr (fun j e => ?_) (fun j => ?_)
    (fun e => ?_) (fun j => rfl) rfl)
  · rw [rows6_at, low_high]
  · rw [rows6_at, high_low]
  · rw [rows6_at, low_low, swapped_low]; try (congr 2; apply Fin.ext; simp)
  · rw [rows6_at, low_low, swapped_low]; try (congr 2; apply Fin.ext; simp)
  · exact qp6_1_at q i ⟨e, by omega⟩ c

theorem chain6_1_high (i : Fin 4) (d : Fin 64) (c : Fin 128) :
    chain6_1 q k v b z (ix2 ⟨64 + d, by omega⟩ ⟨128 * i + c, by omega⟩)
      = headOut (fun j e => k (ix2 ⟨768 + j, by omega⟩ ⟨64 + e, by omega⟩)) (fun j => v (ix2 ⟨768 + j, by omega⟩ ⟨64 + d, by omega⟩))
          (fun e => q (ix2 ⟨512 + 128 * i + (64 + e), by omega⟩ ⟨768 + c, by omega⟩))
          (fun j => b (ix2 ⟨256 + j, by omega⟩ ⟨128 * i + c, by omega⟩)) (z (ix2 1 ⟨128 * i + c, by omega⟩) * log2e) := by
  refine (chain_high _ _ _ _ _ _ _ (fun j e => ?_) (fun j e => ?_) d _).trans (headOut_congr (fun j e => ?_) (fun j => ?_)
    (fun e => ?_) (fun j => rfl) rfl)
  · rw [rows6_at, high_low]
  · rw [rows6_at, low_high]
  · rw [rows6_at, high_high]; try (congr 2; apply Fin.ext; simp)
  · rw [rows6_at, high_high]; try (congr 2; apply Fin.ext; simp)
  · exact qp6_1_at q i ⟨64 + e, by omega⟩ c

theorem chain7_0_low (i : Fin 4) (d : Fin 64) (c : Fin 128) :
    chain7_0 q k v b z (ix2 ⟨d, by omega⟩ ⟨128 * i + c, by omega⟩)
      = headOut (fun j e => k (ix2 ⟨896 + j, by omega⟩ ⟨0 + e, by omega⟩)) (fun j => v (ix2 ⟨896 + j, by omega⟩ ⟨0 + d, by omega⟩))
          (fun e => q (ix2 ⟨0 + 128 * i + e, by omega⟩ ⟨896 + c, by omega⟩))
          (fun j => b (ix2 ⟨j, by omega⟩ ⟨128 * i + c, by omega⟩)) (z (ix2 0 ⟨128 * i + c, by omega⟩) * log2e) := by
  refine (chain_low _ _ _ _ _ _ _ (fun j e => ?_) (fun j e => ?_) d _).trans (headOut_congr (fun j e => ?_) (fun j => ?_)
    (fun e => ?_) (fun j => rfl) rfl)
  · rw [rows7_at, low_high]
  · rw [rows7_at, high_low]
  · rw [rows7_at, low_low]; try (congr 2; apply Fin.ext; simp)
  · rw [rows7_at, low_low]; try (congr 2; apply Fin.ext; simp)
  · exact qp7_0_at q i ⟨e, by omega⟩ c

theorem chain7_0_high (i : Fin 4) (d : Fin 64) (c : Fin 128) :
    chain7_0 q k v b z (ix2 ⟨64 + d, by omega⟩ ⟨128 * i + c, by omega⟩)
      = headOut (fun j e => k (ix2 ⟨896 + j, by omega⟩ ⟨0 + e, by omega⟩)) (fun j => v (ix2 ⟨896 + j, by omega⟩ ⟨0 + d, by omega⟩))
          (fun e => q (ix2 ⟨0 + 128 * i + (64 + e), by omega⟩ ⟨896 + c, by omega⟩))
          (fun j => b (ix2 ⟨256 + j, by omega⟩ ⟨128 * i + c, by omega⟩)) (z (ix2 1 ⟨128 * i + c, by omega⟩) * log2e) := by
  refine (chain_high _ _ _ _ _ _ _ (fun j e => ?_) (fun j e => ?_) d _).trans (headOut_congr (fun j e => ?_) (fun j => ?_)
    (fun e => ?_) (fun j => rfl) rfl)
  · rw [rows7_at, high_low]
  · rw [rows7_at, low_high]
  · rw [rows7_at, high_high, swapped_high]; try (congr 2; apply Fin.ext; simp)
  · rw [rows7_at, high_high, swapped_high]; try (congr 2; apply Fin.ext; simp)
  · exact qp7_0_at q i ⟨64 + e, by omega⟩ c

theorem chain7_1_low (i : Fin 4) (d : Fin 64) (c : Fin 128) :
    chain7_1 q k v b z (ix2 ⟨d, by omega⟩ ⟨128 * i + c, by omega⟩)
      = headOut (fun j e => k (ix2 ⟨896 + j, by omega⟩ ⟨64 + e, by omega⟩)) (fun j => v (ix2 ⟨896 + j, by omega⟩ ⟨64 + d, by omega⟩))
          (fun e => q (ix2 ⟨512 + 128 * i + e, by omega⟩ ⟨896 + c, by omega⟩))
          (fun j => b (ix2 ⟨j, by omega⟩ ⟨128 * i + c, by omega⟩)) (z (ix2 0 ⟨128 * i + c, by omega⟩) * log2e) := by
  refine (chain_low _ _ _ _ _ _ _ (fun j e => ?_) (fun j e => ?_) d _).trans (headOut_congr (fun j e => ?_) (fun j => ?_)
    (fun e => ?_) (fun j => rfl) rfl)
  · rw [rows7_at, low_high]
  · rw [rows7_at, high_low]
  · rw [rows7_at, low_low, swapped_low]; try (congr 2; apply Fin.ext; simp)
  · rw [rows7_at, low_low, swapped_low]; try (congr 2; apply Fin.ext; simp)
  · exact qp7_1_at q i ⟨e, by omega⟩ c

theorem chain7_1_high (i : Fin 4) (d : Fin 64) (c : Fin 128) :
    chain7_1 q k v b z (ix2 ⟨64 + d, by omega⟩ ⟨128 * i + c, by omega⟩)
      = headOut (fun j e => k (ix2 ⟨896 + j, by omega⟩ ⟨64 + e, by omega⟩)) (fun j => v (ix2 ⟨896 + j, by omega⟩ ⟨64 + d, by omega⟩))
          (fun e => q (ix2 ⟨512 + 128 * i + (64 + e), by omega⟩ ⟨896 + c, by omega⟩))
          (fun j => b (ix2 ⟨256 + j, by omega⟩ ⟨128 * i + c, by omega⟩)) (z (ix2 1 ⟨128 * i + c, by omega⟩) * log2e) := by
  refine (chain_high _ _ _ _ _ _ _ (fun j e => ?_) (fun j e => ?_) d _).trans (headOut_congr (fun j e => ?_) (fun j => ?_)
    (fun e => ?_) (fun j => rfl) rfl)
  · rw [rows7_at, high_low]
  · rw [rows7_at, low_high]
  · rw [rows7_at, high_high]; try (congr 2; apply Fin.ext; simp)
  · rw [rows7_at, high_high]; try (congr 2; apply Fin.ext; simp)
  · exact qp7_1_at q i ⟨64 + e, by omega⟩ c

/-- A lane of a head of a query of the tile: head `8 g + 2 i + p`, query `128 s + r`. -/
def tileHead (g p : Fin 2) (i : Fin 4) (s : Fin 8) (d : Fin 64) (r : Fin 128) : EReal :=
  headOut (fun j e => k (ix2 ⟨128 * s + j, by omega⟩ ⟨64 * g + e, by omega⟩))
    (fun j => v (ix2 ⟨128 * s + j, by omega⟩ ⟨64 * g + d, by omega⟩))
    (fun e => q (ix2 ⟨512 * g + 128 * i + (64 * p + e), by omega⟩ ⟨128 * s + r, by omega⟩))
    (fun j => (if g = 0 then (if s = 0 then f else b) else (if s = 0 then f' else b'))
      (ix2 ⟨256 * p + j, by omega⟩ ⟨128 * i + r, by omega⟩))
    ((if g = 0 then z else z') (ix2 p ⟨128 * i + r, by omega⟩) * log2e)

theorem heads_chains (g p : Fin 2) (i : Fin 4) (s : Fin 8) (d : Fin 64) (r : Fin 128) :
    heads (chains0 q k v f b z) (chains1 q k v f' b' z')
        (ix2 ⟨512 * g + 128 * i + (64 * p + d), by omega⟩ ⟨128 * s + r, by omega⟩)
      = tileHead q k v b b' f f' z z' g p i s d r := by
  refine (heads_at _ _ g i s ⟨64 * p + d, by omega⟩ r).trans ?_
  fin_cases g <;> fin_cases p <;> fin_cases s
  · refine Eq.trans ?_ ((chain0_0_low q k v f z i d r).trans ?_)
    · exact congrArg (fun n => chain0_0 q k v f z (ix2 n _)) (Fin.ext (by simp))
    · refine headOut_congr (fun j e => ?_) (fun j => ?_) (fun e => ?_) (fun j => ?_) ?_ <;> simp
  · refine Eq.trans ?_ ((chain1_0_low q k v b z i d r).trans ?_)
    · exact congrArg (fun n => chain1_0 q k v b z (ix2 n _)) (Fin.ext (by simp))
    · refine headOut_congr (fun j e => ?_) (fun j => ?_) (fun e => ?_) (fun j => ?_) ?_ <;> simp
  · refine Eq.trans ?_ ((chain2_0_low q k v b z i d r).trans ?_)
    · exact congrArg (fun n => chain2_0 q k v b z (ix2 n _)) (Fin.ext (by simp))
    · refine headOut_congr (fun j e => ?_) (fun j => ?_) (fun e => ?_) (fun j => ?_) ?_ <;> simp
  · refine Eq.trans ?_ ((chain3_0_low q k v b z i d r).trans ?_)
    · exact congrArg (fun n => chain3_0 q k v b z (ix2 n _)) (Fin.ext (by simp))
    · refine headOut_congr (fun j e => ?_) (fun j => ?_) (fun e => ?_) (fun j => ?_) ?_ <;> simp
  · refine Eq.trans ?_ ((chain4_0_low q k v b z i d r).trans ?_)
    · exact congrArg (fun n => chain4_0 q k v b z (ix2 n _)) (Fin.ext (by simp))
    · refine headOut_congr (fun j e => ?_) (fun j => ?_) (fun e => ?_) (fun j => ?_) ?_ <;> simp
  · refine Eq.trans ?_ ((chain5_0_low q k v b z i d r).trans ?_)
    · exact congrArg (fun n => chain5_0 q k v b z (ix2 n _)) (Fin.ext (by simp))
    · refine headOut_congr (fun j e => ?_) (fun j => ?_) (fun e => ?_) (fun j => ?_) ?_ <;> simp
  · refine Eq.trans ?_ ((chain6_0_low q k v b z i d r).trans ?_)
    · exact congrArg (fun n => chain6_0 q k v b z (ix2 n _)) (Fin.ext (by simp))
    · refine headOut_congr (fun j e => ?_) (fun j => ?_) (fun e => ?_) (fun j => ?_) ?_ <;> simp
  · refine Eq.trans ?_ ((chain7_0_low q k v b z i d r).trans ?_)
    · exact congrArg (fun n => chain7_0 q k v b z (ix2 n _)) (Fin.ext (by simp))
    · refine headOut_congr (fun j e => ?_) (fun j => ?_) (fun e => ?_) (fun j => ?_) ?_ <;> simp
  · refine Eq.trans ?_ ((chain0_0_high q k v f z i d r).trans ?_)
    · exact congrArg (fun n => chain0_0 q k v f z (ix2 n _)) (Fin.ext (by simp))
    · refine headOut_congr (fun j e => ?_) (fun j => ?_) (fun e => ?_) (fun j => ?_) ?_ <;> simp
  · refine Eq.trans ?_ ((chain1_0_high q k v b z i d r).trans ?_)
    · exact congrArg (fun n => chain1_0 q k v b z (ix2 n _)) (Fin.ext (by simp))
    · refine headOut_congr (fun j e => ?_) (fun j => ?_) (fun e => ?_) (fun j => ?_) ?_ <;> simp
  · refine Eq.trans ?_ ((chain2_0_high q k v b z i d r).trans ?_)
    · exact congrArg (fun n => chain2_0 q k v b z (ix2 n _)) (Fin.ext (by simp))
    · refine headOut_congr (fun j e => ?_) (fun j => ?_) (fun e => ?_) (fun j => ?_) ?_ <;> simp
  · refine Eq.trans ?_ ((chain3_0_high q k v b z i d r).trans ?_)
    · exact congrArg (fun n => chain3_0 q k v b z (ix2 n _)) (Fin.ext (by simp))
    · refine headOut_congr (fun j e => ?_) (fun j => ?_) (fun e => ?_) (fun j => ?_) ?_ <;> simp
  · refine Eq.trans ?_ ((chain4_0_high q k v b z i d r).trans ?_)
    · exact congrArg (fun n => chain4_0 q k v b z (ix2 n _)) (Fin.ext (by simp))
    · refine headOut_congr (fun j e => ?_) (fun j => ?_) (fun e => ?_) (fun j => ?_) ?_ <;> simp
  · refine Eq.trans ?_ ((chain5_0_high q k v b z i d r).trans ?_)
    · exact congrArg (fun n => chain5_0 q k v b z (ix2 n _)) (Fin.ext (by simp))
    · refine headOut_congr (fun j e => ?_) (fun j => ?_) (fun e => ?_) (fun j => ?_) ?_ <;> simp
  · refine Eq.trans ?_ ((chain6_0_high q k v b z i d r).trans ?_)
    · exact congrArg (fun n => chain6_0 q k v b z (ix2 n _)) (Fin.ext (by simp))
    · refine headOut_congr (fun j e => ?_) (fun j => ?_) (fun e => ?_) (fun j => ?_) ?_ <;> simp
  · refine Eq.trans ?_ ((chain7_0_high q k v b z i d r).trans ?_)
    · exact congrArg (fun n => chain7_0 q k v b z (ix2 n _)) (Fin.ext (by simp))
    · refine headOut_congr (fun j e => ?_) (fun j => ?_) (fun e => ?_) (fun j => ?_) ?_ <;> simp
  · refine Eq.trans ?_ ((chain0_1_low q k v f' z' i d r).trans ?_)
    · exact congrArg (fun n => chain0_1 q k v f' z' (ix2 n _)) (Fin.ext (by simp))
    · refine headOut_congr (fun j e => ?_) (fun j => ?_) (fun e => ?_) (fun j => ?_) ?_ <;> simp
  · refine Eq.trans ?_ ((chain1_1_low q k v b' z' i d r).trans ?_)
    · exact congrArg (fun n => chain1_1 q k v b' z' (ix2 n _)) (Fin.ext (by simp))
    · refine headOut_congr (fun j e => ?_) (fun j => ?_) (fun e => ?_) (fun j => ?_) ?_ <;> simp
  · refine Eq.trans ?_ ((chain2_1_low q k v b' z' i d r).trans ?_)
    · exact congrArg (fun n => chain2_1 q k v b' z' (ix2 n _)) (Fin.ext (by simp))
    · refine headOut_congr (fun j e => ?_) (fun j => ?_) (fun e => ?_) (fun j => ?_) ?_ <;> simp
  · refine Eq.trans ?_ ((chain3_1_low q k v b' z' i d r).trans ?_)
    · exact congrArg (fun n => chain3_1 q k v b' z' (ix2 n _)) (Fin.ext (by simp))
    · refine headOut_congr (fun j e => ?_) (fun j => ?_) (fun e => ?_) (fun j => ?_) ?_ <;> simp
  · refine Eq.trans ?_ ((chain4_1_low q k v b' z' i d r).trans ?_)
    · exact congrArg (fun n => chain4_1 q k v b' z' (ix2 n _)) (Fin.ext (by simp))
    · refine headOut_congr (fun j e => ?_) (fun j => ?_) (fun e => ?_) (fun j => ?_) ?_ <;> simp
  · refine Eq.trans ?_ ((chain5_1_low q k v b' z' i d r).trans ?_)
    · exact congrArg (fun n => chain5_1 q k v b' z' (ix2 n _)) (Fin.ext (by simp))
    · refine headOut_congr (fun j e => ?_) (fun j => ?_) (fun e => ?_) (fun j => ?_) ?_ <;> simp
  · refine Eq.trans ?_ ((chain6_1_low q k v b' z' i d r).trans ?_)
    · exact congrArg (fun n => chain6_1 q k v b' z' (ix2 n _)) (Fin.ext (by simp))
    · refine headOut_congr (fun j e => ?_) (fun j => ?_) (fun e => ?_) (fun j => ?_) ?_ <;> simp
  · refine Eq.trans ?_ ((chain7_1_low q k v b' z' i d r).trans ?_)
    · exact congrArg (fun n => chain7_1 q k v b' z' (ix2 n _)) (Fin.ext (by simp))
    · refine headOut_congr (fun j e => ?_) (fun j => ?_) (fun e => ?_) (fun j => ?_) ?_ <;> simp
  · refine Eq.trans ?_ ((chain0_1_high q k v f' z' i d r).trans ?_)
    · exact congrArg (fun n => chain0_1 q k v f' z' (ix2 n _)) (Fin.ext (by simp))
    · refine headOut_congr (fun j e => ?_) (fun j => ?_) (fun e => ?_) (fun j => ?_) ?_ <;> simp
  · refine Eq.trans ?_ ((chain1_1_high q k v b' z' i d r).trans ?_)
    · exact congrArg (fun n => chain1_1 q k v b' z' (ix2 n _)) (Fin.ext (by simp))
    · refine headOut_congr (fun j e => ?_) (fun j => ?_) (fun e => ?_) (fun j => ?_) ?_ <;> simp
  · refine Eq.trans ?_ ((chain2_1_high q k v b' z' i d r).trans ?_)
    · exact congrArg (fun n => chain2_1 q k v b' z' (ix2 n _)) (Fin.ext (by simp))
    · refine headOut_congr (fun j e => ?_) (fun j => ?_) (fun e => ?_) (fun j => ?_) ?_ <;> simp
  · refine Eq.trans ?_ ((chain3_1_high q k v b' z' i d r).trans ?_)
    · exact congrArg (fun n => chain3_1 q k v b' z' (ix2 n _)) (Fin.ext (by simp))
    · refine headOut_congr (fun j e => ?_) (fun j => ?_) (fun e => ?_) (fun j => ?_) ?_ <;> simp
  · refine Eq.trans ?_ ((chain4_1_high q k v b' z' i d r).trans ?_)
    · exact congrArg (fun n => chain4_1 q k v b' z' (ix2 n _)) (Fin.ext (by simp))
    · refine headOut_congr (fun j e => ?_) (fun j => ?_) (fun e => ?_) (fun j => ?_) ?_ <;> simp
  · refine Eq.trans ?_ ((chain5_1_high q k v b' z' i d r).trans ?_)
    · exact congrArg (fun n => chain5_1 q k v b' z' (ix2 n _)) (Fin.ext (by simp))
    · refine headOut_congr (fun j e => ?_) (fun j => ?_) (fun e => ?_) (fun j => ?_) ?_ <;> simp
  · refine Eq.trans ?_ ((chain6_1_high q k v b' z' i d r).trans ?_)
    · exact congrArg (fun n => chain6_1 q k v b' z' (ix2 n _)) (Fin.ext (by simp))
    · refine headOut_congr (fun j e => ?_) (fun j => ?_) (fun e => ?_) (fun j => ?_) ?_ <;> simp
  · refine Eq.trans ?_ ((chain7_1_high q k v b' z' i d r).trans ?_)
    · exact congrArg (fun n => chain7_1 q k v b' z' (ix2 n _)) (Fin.ext (by simp))
    · refine headOut_congr (fun j e => ?_) (fun j => ?_) (fun e => ?_) (fun j => ?_) ?_ <;> simp

end Tile

end Cert.AttnIdeal.Pure

end
-- ==== Proof.FfnPure.lean ====
/- What the feed-forward call's body stores, read at a row and a lane: a row function of the tile's row. -/
module

public import proofs.«01_k».proof.Proof.Gen.FfnIdeal.Skeleton
public import Idealize.ShloMosaic.Lib.Pointwise

@[expose] public section

set_option maxRecDepth 16384

noncomputable section

namespace Cert.FfnIdeal.Pure

open Idealize.ShloMosaic Idealize.ShloMosaic.TcCoe Idealize.SL.Sem

/-- Root-mean-square normalisation of a row of 1024 numbers, scaled by `g`. -/
def normRow (v g : Fin 1024 → EReal) (j : Fin 1024) : EReal :=
  v j * Ideal.rsqrt (Ideal.div (∑ k, v k * v k) (Ideal.ofBits .f32 0x44800000#32) + Ideal.ofBits .f32 0x358637BD#32) * g j

/-- The gate (first 2816) and up (last 2816) projections of a normalised row. -/
def guRow (v ga : Fin 1024 → EReal) (wgu : Fin 1024 → Fin 5632 → EReal) (f : Fin 5632) : EReal :=
  ∑ k, normRow v ga k * wgu k f

/-- The down projection of the gated row. -/
def downRow (gu : Fin 5632 → EReal) (wd : Fin 2816 → Fin 1024 → EReal) (j : Fin 1024) : EReal :=
  ∑ f : Fin 2816, gu ⟨f, by omega⟩ * Ideal.div 1 (1 + Ideal.exp (0 - gu ⟨f, by omega⟩)) * gu ⟨2816 + f, by omega⟩ * wd f j

/-- One row of the half-step feed-forward layer. -/
def ffnRow (v ga gb : Fin 1024 → EReal) (wgu : Fin 1024 → Fin 5632 → EReal) (wd : Fin 2816 → Fin 1024 → EReal)
    (j : Fin 1024) : EReal :=
  v j + Ideal.ofBits .f32 0x3F000000#32 * normRow (downRow (guRow v ga wgu) wd) gb j

open Cert.FfnIdeal Cert.FfnIdeal.Gen

variable (x : FVec Ideal S512x1024 .f32) (ga gb : FVec Ideal S1x1024 .f32) (wgu : FVec Ideal S1x1024x5632 .bf16)
  (wd : FVec Ideal S1x2816x1024 .bf16)

theorem main_gu (r : Fin 256) (f : Fin 5632) : k0_pay16 (F := Ideal) x ga wgu (ix2 r f)
    = guRow (fun k => x (ix2 ⟨r, by omega⟩ k)) (fun k => ga (ix2 0 k)) (fun k f => wgu (ix3 0 k f)) f := by
  pointwise [k0_pay16, k0_pay13, k0_pay12, guRow, normRow]

theorem main_norm (r : Fin 256) (k : Fin 1024) : k0_pay15 (F := Ideal) x ga (ix2 r k)
    = normRow (fun k => x (ix2 ⟨256 + r, by omega⟩ k)) (fun k => ga (ix2 0 k)) k := by
  pointwise [k0_pay15, k0_pay14, k0_pay12, normRow]

theorem main_w (k : Fin 1024) (f : Fin 5632) : k0_pay17 (F := Ideal) wgu (ix2 k f) = wgu (ix3 0 k f) := by
  pointwise [k0_pay17]

theorem main_down (u : FVec Ideal S256x5632 .f32) (r : Fin 256) (j : Fin 1024) : k0_pay18 (F := Ideal) u wd (ix2 r j)
    = downRow (fun f => u (ix2 r f)) (fun f k => wd (ix3 0 f k)) j := by
  pointwise [k0_pay18, downRow]

theorem main_down' (v : FVec Ideal S256x1024 .bf16) (w : FVec Ideal S1024x5632 .bf16) (r : Fin 256) (j : Fin 1024) :
    k0_pay19 (F := Ideal) v w (constant S256x5632 .f32 0x00000000#32) wd (ix2 r j)
    = downRow (fun f => ∑ k, v (ix2 r k) * w (ix2 k f)) (fun f k => wd (ix3 0 f k)) j := by
  pointwise [k0_pay19, downRow]

theorem main_ms (u : FVec Ideal S256x5632 .f32) (r : Fin 256) : k0_pay21 (F := Ideal) u wd (ix2 r 0)
    = Ideal.div (∑ j, downRow (fun f => u (ix2 r f)) (fun f k => wd (ix3 0 f k)) j
        * downRow (fun f => u (ix2 r f)) (fun f k => wd (ix3 0 f k)) j) (Ideal.ofBits .f32 0x44800000#32) := by
  pointwise [k0_pay21, k0_pay18, downRow]

theorem main_out (a b c d : FVec Ideal S256x1024 .f32) (e : FVec Ideal S256x1 .f32) (r : Fin 512) (j : Fin 1024) :
    k0_pay1 (F := Ideal) a b c d (k0_pay20 gb) e k0_pay22 gb (ix2 r j)
      = if h : (r : ℕ) < 256 then a (ix2 ⟨r, h⟩ j) + Ideal.ofBits .f32 0x3F000000#32 * (c (ix2 ⟨r, h⟩ j)
            * Ideal.rsqrt (e (ix2 ⟨r, h⟩ 0) + Ideal.ofBits .f32 0x358637BD#32) * gb (ix2 0 j))
        else b (ix2 ⟨r - 256, by omega⟩ j) + Ideal.ofBits .f32 0x3F000000#32
            * normRow (fun k => d (ix2 ⟨r - 256, by omega⟩ k)) (fun k => gb (ix2 0 k)) j := by
  pointwise [k0_pay1, k0_pay20, k0_pay22, normRow]

theorem main_lo (r : Fin 256) (j : Fin 1024) : k0_pay13 (F := Ideal) x (ix2 r j) = x (ix2 ⟨r, by omega⟩ j) := by
  pointwise [k0_pay13, k0_pay12]

theorem main_hi (r : Fin 256) (j : Fin 1024) : k0_pay14 (F := Ideal) x (ix2 r j) = x (ix2 ⟨256 + r, by omega⟩ j) := by
  pointwise [k0_pay14, k0_pay12]

/-- The tile that a grid point stores for its own 512 rows. -/
theorem tile_main (r : Fin 512) (j : Fin 1024) :
    k0_pay1 (F := Ideal) (k0_pay13 x) (k0_pay14 x) (k0_pay18 (k0_pay16 x ga wgu) wd)
      (k0_pay19 (k0_pay15 x ga) (k0_pay17 wgu) (constant S256x5632 .f32 0x00000000#32) wd) (k0_pay20 gb)
      (k0_pay21 (k0_pay16 x ga wgu) wd) (k0_pay22 (F := Ideal)) gb (ix2 r j)
      = ffnRow (fun k => x (ix2 r k)) (fun k => ga (ix2 0 k)) (fun k => gb (ix2 0 k)) (fun k f => wgu (ix3 0 k f))
          (fun f k => wd (ix3 0 f k)) j := by
  rw [main_out]
  split_ifs with h
  · simp only [main_lo, main_down, main_gu, main_ms]
    rfl
  · have e : 256 + ((r : ℕ) - 256) = r := by omega
    simp only [main_hi, main_down', main_norm, main_w, e, Fin.eta]
    rfl

theorem rider_lo (r : Fin 256) (j : Fin 1024) : k0_pay4 (F := Ideal) x (ix2 r j) = x (ix2 ⟨r, by omega⟩ j) := by
  pointwise [k0_pay4, k0_pay3]

theorem rider_hi (r : Fin 256) (j : Fin 1024) : k0_pay5 (F := Ideal) x (ix2 r j) = x (ix2 ⟨256 + r, by omega⟩ j) := by
  pointwise [k0_pay5, k0_pay3]

theorem rider_gu (r : Fin 256) (f : Fin 5632) : k0_pay6 (F := Ideal) x ga wgu (ix2 r f)
    = guRow (fun k => x (ix2 ⟨r, by omega⟩ k)) (fun k => ga (ix2 0 k)) (fun k f => wgu (ix3 0 k f)) f := by
  pointwise [k0_pay6, k0_pay4, k0_pay3, guRow, normRow]

theorem rider_gu' (r : Fin 256) (f : Fin 5632) : k0_pay7 (F := Ideal) x ga wgu (ix2 r f)
    = guRow (fun k => x (ix2 ⟨256 + r, by omega⟩ k)) (fun k => ga (ix2 0 k)) (fun k f => wgu (ix3 0 k f)) f := by
  pointwise [k0_pay7, k0_pay5, k0_pay3, guRow, normRow]

theorem rider_down (u : FVec Ideal S256x5632 .f32) (r : Fin 256) (j : Fin 1024) : k0_pay8 (F := Ideal) u wd (ix2 r j)
    = downRow (fun f => u (ix2 r f)) (fun f k => wd (ix3 0 f k)) j := by
  pointwise [k0_pay8, downRow]

theorem rider_down' (u : FVec Ideal S256x5632 .f32) (r : Fin 256) (j : Fin 1024) : k0_pay9 (F := Ideal) u wd (ix2 r j)
    = downRow (fun f => u (ix2 r f)) (fun f k => wd (ix3 0 f k)) j := by
  pointwise [k0_pay9, downRow]

theorem rider_ms (u : FVec Ideal S256x5632 .f32) (r : Fin 256) : k0_pay11 (F := Ideal) u wd (ix2 r 0)
    = Ideal.div (∑ j, downRow (fun f => u (ix2 r f)) (fun f k => wd (ix3 0 f k)) j
        * downRow (fun f => u (ix2 r f)) (fun f k => wd (ix3 0 f k)) j) (Ideal.ofBits .f32 0x44800000#32)
      + Ideal.ofBits .f32 0x358637BD#32 := by
  pointwise [k0_pay11, k0_pay8, downRow]

theorem rider_out (a b c d : FVec Ideal S256x1024 .f32) (e : FVec Ideal S256x1 .f32) (r : Fin 512) (j : Fin 1024) :
    k0_pay2 (F := Ideal) a b c d (k0_pay10 gb) e gb (ix2 r j)
      = if h : (r : ℕ) < 256 then a (ix2 ⟨r, h⟩ j) + Ideal.ofBits .f32 0x3F000000#32 * (c (ix2 ⟨r, h⟩ j)
            * Ideal.rsqrt (e (ix2 ⟨r, h⟩ 0)) * gb (ix2 0 j))
        else b (ix2 ⟨r - 256, by omega⟩ j) + Ideal.ofBits .f32 0x3F000000#32
            * normRow (fun k => d (ix2 ⟨r - 256, by omega⟩ k)) (fun k => gb (ix2 0 k)) j := by
  pointwise [k0_pay2, k0_pay10, normRow]

/-- The tile that the last grid point stores for the 512 sample rows. -/
theorem tile_rider (r : Fin 512) (j : Fin 1024) :
    k0_pay2 (F := Ideal) (k0_pay4 x) (k0_pay5 x) (k0_pay8 (k0_pay6 x ga wgu) wd) (k0_pay9 (k0_pay7 x ga wgu) wd)
      (k0_pay10 gb) (k0_pay11 (k0_pay6 x ga wgu) wd) gb (ix2 r j)
      = ffnRow (fun k => x (ix2 r k)) (fun k => ga (ix2 0 k)) (fun k => gb (ix2 0 k)) (fun k f => wgu (ix3 0 k f))
          (fun f k => wd (ix3 0 f k)) j := by
  rw [rider_out]
  split_ifs with h
  · simp only [rider_lo, rider_down, rider_gu, rider_ms]
    rfl
  · have e : 256 + ((r : ℕ) - 256) = r := by omega
    simp only [rider_hi, rider_down', rider_gu', e, Fin.eta]
    rfl

end Cert.FfnIdeal.Pure

end
-- ==== Proof.AttnTile.lean ====
/- The attention call's tile at a row and a lane: the queries, the keys and values it reads, and the last projection. -/
module

public import proofs.«01_k».proof.Proof.AttnHeads
public import proofs.«01_k».proof.Proof.FfnPure

@[expose] public section

set_option maxRecDepth 16384

noncomputable section

namespace Cert.AttnIdeal.Pure

open Idealize.ShloMosaic Idealize.ShloMosaic.TcCoe Idealize.SL.Sem
open Cert.AttnIdeal Cert.AttnIdeal.Gen
open Cert.FfnIdeal.Pure (normRow)

variable (x : FVec Ideal S1024x1024 .f32) (kvc : FVec Ideal S1024x256 .f32) (kvp : FVec Ideal S128x256 .f32)
  (g2 g3 : FVec Ideal S1x1024 .f32) (wq : FVec Ideal S1x1024x1024 .bf16) (bq : FVec Ideal S1024x128 .f32)
  (wo : FVec Ideal S1x1024x1024 .bf16) (bo : FVec Ideal S1x1024 .f32)

theorem query_at (R c : Fin 1024) : k0_pay3 (F := Ideal) x g2 wq bq (ix2 R c)
    = ((∑ k, wq (ix3 0 R k) * normRow (fun k => x (ix2 c k)) (fun k => g2 (ix2 0 k)) k) + bq (ix2 R ⟨c % 128, by omega⟩)) * qscale := by
  pointwise [k0_pay3, k0_pay2, normRow, qscale]
  congr 2
  split_ifs <;> (congr 2; apply Fin.ext; simp only []; omega)

theorem keys_at (j : Fin 1152) (l : Fin 128) : keys kvc kvp (ix2 j l)
    = if h : (j : ℕ) < 128 then kvp (ix2 ⟨j, h⟩ ⟨l, by omega⟩) else kvc (ix2 ⟨j - 128, by omega⟩ ⟨l, by omega⟩) := by
  pointwise [keys, k0_pay4]
  try rfl

theorem values_at (j : Fin 1152) (l : Fin 128) : values kvc kvp (ix2 j l)
    = if h : (j : ℕ) < 128 then kvp (ix2 ⟨j, h⟩ ⟨128 + l, by omega⟩) else kvc (ix2 ⟨j - 128, by omega⟩ ⟨128 + l, by omega⟩) := by
  pointwise [values, k0_pay4]
  try rfl

theorem proj_at (o : FVec Ideal S1024x1024 .bf16) (r n : Fin 1024) :
    finished x g3 wo bo o (ix2 r n)
      = x (ix2 r n) + normRow (fun n => (∑ R, o (ix2 R r) * wo (ix3 0 R n)) + bo (ix2 0 n)) (fun n => g3 (ix2 0 n)) n := by
  pointwise [finished, projected, k0_pay384, k0_pay1, k0_pay2, normRow]
  try rfl

end Cert.AttnIdeal.Pure

end
-- ==== Proof.AttnSoft.lean ====
/- A head of the kernel against the weights by exponentials, and which intermediate values are reals. -/
module

public import proofs.«01_k».proof.Proof.AttnTile

@[expose] public section

set_option maxRecDepth 16384

noncomputable section

namespace Cert.Attn.Core

open Idealize.ShloMosaic Idealize
open Cert.AttnIdeal.Pure (headOut scoreOf topOf log2e qscale)
open Cert.FfnIdeal.Pure (normRow)

theorem log2e_value : log2e = (ln2inv : EReal) :=
  Idealize.ShloMosaic.IdealRules.named_const.ideal_named_scalar _ _ _ _ rfl

theorem qscale_value : qscale = ((ln2inv / 8 : ℝ) : EReal) :=
  Idealize.ShloMosaic.IdealRules.named_const.ideal_named_scalar _ _ _ _ (by rw [div_eq_mul_inv]; rfl)

/-- A score of the attention of the problem's own text: scaled product and bias where the mask allows, nothing elsewhere. -/
def softScore {n : ℕ} (k : Fin n → Fin 64 → EReal) (q : Fin 64 → EReal) (β : Fin n → EReal) (ok : Fin n → Prop) [DecidablePred ok]
    (j : Fin n) : EReal :=
  if ok j then (∑ e, k j e * q e) * Ideal.ofBits .f32 0x3E000000#32 + β j else Ideal.ofBits .f32 0xFF800000#32

/-- The greatest of the scores and the sink's. -/
def softTop {n : ℕ} (S : Fin n → EReal) (z : EReal) : EReal :=
  max (Finset.univ.fold max (Ideal.ofBits .f32 0xFF800000#32) S) z

/-- One lane of one head of a query: values weighted by exponentials of scores over their sum and the sink's. -/
def softOut {n : ℕ} (S : Fin n → EReal) (w : Fin n → EReal) (z : EReal) : EReal :=
  ∑ j, w j * Ideal.div (Ideal.exp (S j - softTop S z)) ((∑ j, Ideal.exp (S j - softTop S z)) + Ideal.exp (z - softTop S z))

theorem head_soft (K k : Fin 256 → Fin 64 → EReal) (V w : Fin 256 → EReal) (Q q : Fin 64 → EReal) (B β : Fin 256 → EReal)
    (z : EReal) (ok : Fin 256 → Prop) [DecidablePred ok]
    (hK : ∀ j, ok j → ∀ e, K j e = k j e) (hV : ∀ j, ok j → V j = w j) (hQ : ∀ e, Q e = q e * qscale)
    (hB : ∀ j, B j = if ok j then β j else ⊥)
    (fk : ∀ j, ok j → ∀ e, Fin' (k j e)) (fq : ∀ e, Fin' (q e)) (fβ : ∀ j, Fin' (β j)) (fz : Fin' z) :
    headOut K V Q B (z * log2e) = softOut (softScore k q β ok) w z := by
  choose rq hrq using fq
  choose rβ hrβ using fβ
  obtain ⟨rz, rfl⟩ := fz
  have hx : ∀ j, ∃ r : Fin 64 → ℝ, ok j → ∀ e, k j e = (r e : EReal) := fun j => by
    by_cases h : ok j
    · choose r hr using fk j h
      exact ⟨r, fun _ => hr⟩
    · exact ⟨fun _ => 0, fun h' => absurd h' h⟩
  choose rk hrk using hx
  set a : Fin 256 → ℝ := fun j => (∑ e, rk j e * rq e) * (1 / 8) + rβ j with ha
  have h1 : ∀ j, softScore k q β ok j = score a ok j := by
    intro j
    by_cases h : ok j
    · simp only [softScore, score, h, if_true, ha, eighth_bits, hrβ, hrk j h, hrq]
      simp only [← EReal.coe_mul, ← coe_sum, ← EReal.coe_add]
    · simp only [softScore, score, h, if_false, bot_bits]
  have h2 : ∀ j, scoreOf K Q B j = score2 a ok j := by
    intro j
    by_cases h : ok j
    · simp only [scoreOf, score2, hB, hQ, h, if_true, ha, hK j h, hrβ, hrk j h, hrq, qscale_value, log2e_value]
      simp only [← EReal.coe_mul, ← coe_sum, ← EReal.coe_add]
      congr 1
      rw [add_mul, Finset.sum_mul, Finset.sum_mul]
      congr 1
      exact Finset.sum_congr rfl fun e _ => by ring
    · simp only [scoreOf, score2, hB, h, if_false, log2e_value, EReal.bot_mul_coe_of_pos ln2inv_pos, EReal.add_bot]
  have t1 : softTop (score a ok) (rz : EReal) = (top a ok rz : EReal) := by
    have := max_fold a ok rz (fun r => (r : EReal)) (fun _ _ h => EReal.coe_le_coe_iff.2 h)
    rw [softTop, bot_bits, ← this]
    rfl
  have t2 : topOf (score2 a ok) ((rz * ln2inv : ℝ) : EReal) = ((top a ok rz * ln2inv : ℝ) : EReal) := by
    have := max_fold a ok rz (fun r => ((r * ln2inv : ℝ) : EReal))
      (fun _ _ h => EReal.coe_le_coe_iff.2 (mul_le_mul_of_nonneg_right h ln2inv_pos.le))
    rw [topOf, ← this]
    rfl
  have s1 : softScore k q β ok = score a ok := funext h1
  have s2 : scoreOf K Q B = score2 a ok := funext h2
  rw [headOut, softOut, s1, s2, log2e_value, ← EReal.coe_mul, t1, t2, head a ok rz V w hV]
  exact Finset.sum_congr rfl fun j _ => mul_comm _ _

/-- A normalised row is a row of reals: it is nothing where an entry of the row is infinite. -/
theorem norm_fin (v : Fin 1024 → EReal) {g : Fin 1024 → EReal} (hg : ∀ k, Fin' (g k)) (j : Fin 1024) : Fin' (normRow v g j) := by
  obtain ⟨ε, hε, e⟩ := eps_bits
  by_cases hv : ∀ k, Fin' (v k)
  swap
  · obtain ⟨k, hk⟩ := not_forall.1 hv
    have hsq : v k * v k = ⊤ := by
      induction hx : v k using EReal.rec with
      | bot => rfl
      | top => rfl
      | coe r => exact absurd ⟨r, hx⟩ hk
    have hs : (∑ k, v k * v k) = ⊤ := by
      refine top_le_iff.1 (hsq ▸ Finset.single_le_sum (f := fun k => v k * v k) (fun i _ => ?_) (Finset.mem_univ k))
      induction v i using EReal.rec with
      | bot => exact le_top
      | top => exact le_top
      | coe r => exact EReal.coe_nonneg.2 (mul_self_nonneg r)
    refine ⟨0, ?_⟩
    have hd : Ideal.div ⊤ ((1024 : ℝ) : EReal) = ⊤ := by
      unfold Ideal.div
      rw [if_neg (by norm_num), ← EReal.coe_inv, EReal.top_mul_coe_of_pos (by norm_num)]
    rw [normRow, hs, width_bits, hd, e, EReal.top_add_coe]
    show v j * 0 * g j = _
    rw [mul_zero, zero_mul, EReal.coe_zero]
  choose r hr using hv
  refine Fin'.mul (Fin'.mul ⟨r j, hr j⟩ ?_) (hg j)
  rw [e, width_bits]
  have hs : (∑ k, v k * v k) = ((∑ k, r k * r k : ℝ) : EReal) := by
    rw [coe_sum]
    exact Finset.sum_congr rfl fun k _ => by rw [hr, EReal.coe_mul]
  rw [hs, div_coe (by norm_num), ← EReal.coe_add]
  have hpos : 0 < (∑ k, r k * r k) / 1024 + ε := by
    have : 0 ≤ ∑ k, r k * r k := Finset.sum_nonneg fun k _ => mul_self_nonneg _
    positivity
  rw [Ideal.rsqrt_coe, if_neg (not_lt.2 hpos.le), if_neg hpos.ne']
  exact ⟨_, rfl⟩

end Cert.Attn.Core

end
-- ==== Proof.AttnBlocks.lean ====
/- What the attention call stores at a point of its grid, and the rows of the stream that it reads there. -/
module

public import proofs.«01_k».proof.Proof.Gen.AttnIdeal.Frame
public import proofs.«01_k».proof.Proof.AttnSoft
public import Idealize.ShloMosaic.Lib.Pipeline.ValueKit
public import Idealize.ShloMosaic.Lib.Claim

@[expose] public section

set_option maxRecDepth 16384

noncomputable section

namespace Cert.AttnIdeal.Final

open Idealize.ShloMosaic Idealize.ShloMosaic.TcCoe Idealize.SL.Sem
open Cert.AttnIdeal Cert.AttnIdeal.Gen Cert.AttnIdeal.Pure

variable (m : (ℓ : Loc nD τ sig) → Buf (Elt Ideal) ℓ)

theorem idx : ∀ t : Fin cfg0.N, win0_0.index t = ![t.val, 0] ∧ win0_1.index t = ![t.val, 0] ∧ win0_2.index t = ![8 * t.val - 1, 0]
    ∧ win0_3.index t = ![0, 0, 0, 0] ∧ win0_4.index t = ![0, 0, 0] ∧ win0_5.index t = ![0, 0] ∧ win0_6.index t = ![0, 0]
    ∧ win0_7.index t = ![0, 0, 0] ∧ win0_8.index t = ![0, 0] ∧ win0_9.index t = ![0, 0, 0] ∧ win0_10.index t = ![0, 0]
    ∧ win0_11.index t = ![t.val, 0] :=
  (by decide +kernel : ∀ t : Fin grid0.N, _)

/-- Which tiles of the bias the first block of a point's queries is given. -/
theorem off : ∀ t : Fin cfg0.N, k0_off1 (grid0.coords t) = ![if t.val % 8 = 0 then 1 else 0, 0, 0, 0]
    ∧ k0_off2 (grid0.coords t) = ![if t.val % 8 = 0 then 1 else 0, 1, 0, 0] :=
  (by decide +kernel : ∀ t : Fin grid0.N, _)

theorem read_x (c : Dev nD) (t : Fin cfg0.N) (r k : Fin 1024) (h : 1024 * t.val + r.val < 16384) :
    iblk m c 0 t (ix2 r k)
      = shapeCast S16384x1024 (m ((c : Thread nD τ).loc main_arg0)) shapeCasts_S2x8192x1024_S16384x1024
          (ix2 ⟨1024 * t.val + r.val, h⟩ k) := by
  blk_simp [iblk, idx t]
  entry_read
  blk_ext [idx t]

theorem read_kvc (c : Dev nD) (t : Fin cfg0.N) (r : Fin 1024) (l : Fin 256) (h : 1024 * t.val + r.val < 16384) :
    iblk m c 1 t (ix2 r l)
      = shapeCast S16384x256 (m ((c : Thread nD τ).loc main_arg1)) shapeCasts_S2x8192x256_S16384x256
          (ix2 ⟨1024 * t.val + r.val, h⟩ l) := by
  blk_simp [iblk, idx t]
  entry_read
  blk_ext [idx t]

theorem read_kvp (c : Dev nD) (t : Fin cfg0.N) (r : Fin 128) (l : Fin 256) (h : 128 * (8 * t.val - 1) + r.val < 16384) :
    iblk m c 2 t (ix2 r l)
      = shapeCast S16384x256 (m ((c : Thread nD τ).loc main_arg1)) shapeCasts_S2x8192x256_S16384x256
          (ix2 ⟨128 * (8 * t.val - 1) + r.val, h⟩ l) := by
  blk_simp [iblk, idx t]
  entry_read
  blk_ext [idx t]

set_option maxHeartbeats 4000000 in
/-- A point stores the tile of the blocks it reads. -/
theorem stored (c : Dev nD) (t : Fin cfg0.N) : outsAt0 m c t
    = tile (iblk m c 0 t) (iblk m c 1 t) (iblk m c 2 t) (iblk m c 5 t) (iblk m c 6 t) (iblk m c 7 t) (iblk m c 8 t) (iblk m c 9 t)
        (iblk m c 10 t)
        (View.ld (iblk m c 3 t) (Rect.unit (s := S2x2x512x512) (k0_off1 (grid0.coords t)) S1x1x512x512.size (k0_off1_inb _)))
        (View.ld (iblk m c 3 t) (Rect.unit (s := S2x2x512x512) (k0_off2 (grid0.coords t)) S1x1x512x512.size (k0_off2_inb _)))
        (View.ld (iblk m c 3 t) (Rect.unit (s := S2x2x512x512) ![0, 0, 0, 0] S1x1x512x512.size inb_S2x2x512x512_S1x1x512x512_0_0_0_0))
        (View.ld (iblk m c 3 t) (Rect.unit (s := S2x2x512x512) ![0, 1, 0, 0] S1x1x512x512.size inb_S2x2x512x512_S1x1x512x512_0_1_0_0))
        (View.ld (iblk m c 4 t) (Rect.unit (s := S2x2x512) ![0, 0, 0] S1x2x512.size inb_S2x2x512_S1x2x512_0_0_0))
        (View.ld (iblk m c 4 t) (Rect.unit (s := S2x2x512) ![1, 0, 0] S1x2x512.size inb_S2x2x512_S1x2x512_1_0_0)) := by
  unfold outsAt0
  frame_out
  unfold tile finished projected
  congr 1

end Cert.AttnIdeal.Final

end
-- ==== Proof.AttnFinal.lean ====
/- The attention's result at a row and a lane, as one function of the layer's arrays, and the operands of the call read at their
   indices. -/
module

public import proofs.«01_k».proof.Proof.AttnEntry
public import proofs.«01_k».proof.Proof.AttnBlocks

@[expose] public section

set_option maxRecDepth 16384

noncomputable section

namespace Cert.AttnIdeal.Final

open Idealize.ShloMosaic Idealize.ShloMosaic.TcCoe Idealize.SL.Sem
open Cert.AttnIdeal Cert.AttnIdeal.Gen Cert.AttnIdeal.Pure Cert.AttnIdeal.Entry

variable (m : (ℓ : Loc nD τ sig) → Buf (Elt Ideal) ℓ)

theorem sinkCols_at (z : FVec Ideal S16 .f32) (g p : Fin 2) (i : Fin 4) (r : Fin 128) :
    sinkCols z (ix3 g p (⟨128 * i + r, by omega⟩ : Fin 512)) = z (ix1 ⟨8 * g + 2 * i + p, by omega⟩) := by
  pointwise [sinkCols]
  exact congrArg (fun h => z (ix1 h)) (Fin.ext (by simp only []; omega))

theorem biasTiles_at (y : FVec Ideal S2x128x256x16 .f32) (u g p : Fin 2) (i : Fin 4) (j : Fin 256) (r : Fin 128) :
    biasTiles y (ix4 u g (⟨256 * p + j, by omega⟩ : Fin 512) (⟨128 * i + r, by omega⟩ : Fin 512))
      = y (ix4 u r j ⟨8 * g + 2 * i + p, by omega⟩) := by
  pointwise [biasTiles]
  exact congrArg (fun h => y (ix4 u r j h)) (Fin.ext (by simp only []; omega))

theorem own_block (j : Fin 256) : IntOp.cmpi CmpIPredicate.sge (BitVec.ofNat 32 (j : ℕ)) 128#32 = if 128 ≤ (j : ℕ) then 1#1 else 0#1 := by
  revert j; decide +kernel

theorem masked_at (k : IVec S128x256 32) (P : FVec Ideal S128x256x16 .f32) (z : FVec Ideal S_ .f32) (u : Fin 2) (r : Fin 128)
    (j : Fin 256) (h : Fin 16) :
    masked (masks k) (broadcastInDim S1x128x256x16 ![1, 2, 3] bcast_S128x256x16_S1x128x256x16_1_2_3 P) z (ix4 u r j h)
      = if inWindow k (ix2 r j) = 1#1 ∧ (u = 0 ∨ 128 ≤ (j : ℕ)) then P (ix3 r j h) else z ix0 := by
  pointwise [masked, masks, inBlock]
  rw [own_block]
  generalize inWindow k (ix2 r j) = w
  by_cases hu : (u : ℕ) < 1
  · have : u = 0 := Fin.ext (by show (u : ℕ) = 0; omega)
    rw [dif_pos hu]
    simp only [this, true_or, and_true]
    rfl
  · have : u ≠ 0 := fun h => hu (by rw [h]; decide)
    rw [dif_neg hu]
    simp only [this, false_or]
    by_cases hj : 128 ≤ (j : ℕ)
    · simp only [hj, and_true, if_true]
      have : IntOp.andi w 1#1 = w := by revert w; decide
      rw [this]
      rfl
    · simp only [hj, and_false, if_false]
      have : IntOp.andi w 0#1 = 0#1 := by revert w; decide
      rw [this]
      rfl

theorem read_g2 (c : Dev nD) (t : Fin cfg0.N) (k : Fin 1024) :
    iblk m c 5 t (ix2 0 k) = (m ((c : Thread nD τ).loc main_arg4)) (ix1 k) := by
  refine Eq.trans (b := (shapeCast S1x1024 (m ((c : Thread nD τ).loc main_arg4)) shapeCasts_S1024_S1x1024) (ix2 0 k)) ?_ (by pointwise)
  blk_simp [iblk, idx t]
  rw [e_v67]
  refine congrArg _ ?_
  blk_ext [idx t]

theorem read_g3 (c : Dev nD) (t : Fin cfg0.N) (k : Fin 1024) :
    iblk m c 6 t (ix2 0 k) = (m ((c : Thread nD τ).loc main_arg5)) (ix1 k) := by
  refine Eq.trans (b := (shapeCast S1x1024 (m ((c : Thread nD τ).loc main_arg5)) shapeCasts_S1024_S1x1024) (ix2 0 k)) ?_ (by pointwise)
  blk_simp [iblk, idx t]
  rw [e_v68]
  refine congrArg _ ?_
  blk_ext [idx t]

theorem read_bo (c : Dev nD) (t : Fin cfg0.N) (k : Fin 1024) :
    iblk m c 10 t (ix2 0 k) = (m ((c : Thread nD τ).loc main_arg9)) (ix1 k) := by
  refine Eq.trans (b := (shapeCast S1x1024 (m ((c : Thread nD τ).loc main_arg9)) shapeCasts_S1024_S1x1024) (ix2 0 k)) ?_ (by pointwise)
  blk_simp [iblk, idx t]
  rw [e_v72]
  refine congrArg _ ?_
  blk_ext [idx t]

theorem read_wq (c : Dev nD) (t : Fin cfg0.N) (R k : Fin 1024) :
    iblk m c 7 t (ix3 0 R k) = (m ((c : Thread nD τ).loc main_arg6)) (ix2 k R) := by
  refine Eq.trans (b := (broadcastInDim S1x1024x1024 ![1, 2] bcast_S1024x1024_S1x1024x1024_1_2 (transpose S1024x1024 [1, 0] (truncf .bf16 (m ((c : Thread nD τ).loc main_arg6)) bitsLt_bf16_f32 : FVec Ideal S1024x1024 .bf16) transposes_S1024x1024_S1024x1024_1_0)) (ix3 0 R k)) ?_ (by pointwise)
  blk_simp [iblk, idx t]
  rw [e_v70]
  refine congrArg _ ?_
  blk_ext [idx t]

theorem read_wo (c : Dev nD) (t : Fin cfg0.N) (R k : Fin 1024) :
    iblk m c 9 t (ix3 0 R k) = (m ((c : Thread nD τ).loc main_arg8)) (ix2 R k) := by
  refine Eq.trans (b := (broadcastInDim S1x1024x1024 ![1, 2] bcast_S1024x1024_S1x1024x1024_1_2 (truncf .bf16 (m ((c : Thread nD τ).loc main_arg8)) bitsLt_bf16_f32 : FVec Ideal S1024x1024 .bf16)) (ix3 0 R k)) ?_ (by pointwise)
  blk_simp [iblk, idx t]
  rw [e_v71]
  refine congrArg _ ?_
  blk_ext [idx t]

theorem read_bq (c : Dev nD) (t : Fin cfg0.N) (R : Fin 1024) (r : Fin 128) :
    iblk m c 8 t (ix2 R r) = (m ((c : Thread nD τ).loc main_arg7)) (ix1 R) := by
  refine Eq.trans (b := (broadcastInDim S1024x128 ![0, 1] bcast_S1024x1_S1024x128_0_1 (broadcastInDim S1024x1 ![0] bcast_S1024_S1024x1_0 (m ((c : Thread nD τ).loc main_arg7)))) (ix2 R r)) ?_ (by pointwise)
  blk_simp [iblk, idx t]
  rw [e_v3]
  refine congrArg _ ?_
  blk_ext [idx t]

theorem read_sink (c : Dev nD) (t : Fin cfg0.N) (y : S2x2x512.Idx) :
    iblk m c 4 t y = sinkCols (m ((c : Thread nD τ).loc main_arg3)) y := by
  blk_simp [iblk, idx t]
  rw [e_v66]
  refine congrArg _ ?_
  blk_ext [idx t]

/-- The bias of a variant, a key and a query's head, where the mask allows it. -/
theorem read_bias (c : Dev nD) (t : Fin cfg0.N) (u g p : Fin 2) (i : Fin 4) (j : Fin 256) (r : Fin 128) :
    iblk m c 3 t (ix4 u g (⟨256 * p + j, by omega⟩ : Fin 512) (⟨128 * i + r, by omega⟩ : Fin 512))
      = if inWindow dist (ix2 r j) = 1#1 ∧ (u = 0 ∨ 128 ≤ (j : ℕ)) then
          planes (m ((c : Thread nD τ).loc main_arg2)) bucket (ix3 r j ⟨8 * g + 2 * i + p, by omega⟩) else ⊥ := by
  rw [← Cert.Attn.Core.bot_bits]
  refine Eq.trans ?_ ((biasTiles_at _ u g p i j r).trans (masked_at dist _ (constant S_ .f32 0xFF800000#32) u r j _))
  blk_simp [iblk, idx t]
  rw [e_v61]
  refine congrArg _ ?_
  blk_ext [idx t]

end Cert.AttnIdeal.Final

end
-- ==== Proof.AttnShared.lean ====
/- The attention's result at a token and a lane, as one function of the layer's arrays. -/
module

public import proofs.«01_k».proof.Proof.AttnSoft
public import proofs.«01_k».proof.Proof.AttnEntry

@[expose] public section

set_option maxRecDepth 16384

noncomputable section

namespace Cert.Attn.Core

open Idealize.ShloMosaic Idealize
open Cert.AttnIdeal
open Cert.FfnIdeal.Pure (normRow)

/-- The arrays of the layer by their indices: `β` is the bias of a query, a key and a head, `win` the window's mask. -/
structure Arrs where
  x : Fin 2 → Fin 8192 → Fin 1024 → EReal
  kv : Fin 2 → Fin 8192 → Fin 256 → EReal
  β : Fin 128 → Fin 256 → Fin 16 → EReal
  win : Fin 128 → Fin 256 → BitVec 1
  sink : Fin 16 → EReal
  g2 : Fin 1024 → EReal
  g3 : Fin 1024 → EReal
  wq : Fin 1024 → Fin 1024 → EReal
  bq : Fin 1024 → EReal
  wo : Fin 1024 → Fin 1024 → EReal
  bo : Fin 1024 → EReal

namespace Arrs
variable (A : Arrs) (b : Fin 2) (n : Fin 64) (r : Fin 128)

/-- A lane of the key or value row `j` of the two blocks that block `n` sees: nothing stands before a sequence. -/
def keyRow (j : Fin 256) (l : Fin 256) : EReal :=
  if h : 128 ≤ 128 * (n : ℕ) + j then A.kv b ⟨128 * n + j - 128, by omega⟩ l else 0

/-- Whether query `r` of block `n` sees key `j`. -/
def seen (j : Fin 256) : Prop := A.win r j = 1#1 ∧ (n ≠ 0 ∨ 128 ≤ (j : ℕ))

instance : DecidablePred (A.seen n r) := fun j => inferInstanceAs (Decidable (_ ∧ _))

/-- A lane of a token's queries. -/
def query (tok : Fin 8192) (R : Fin 1024) : EReal := (∑ k, normRow (A.x b tok) A.g2 k * A.wq k R) + A.bq R

/-- A lane of a head of a token. -/
def headRow (h : Fin 16) (d : Fin 64) : EReal :=
  softOut (softScore (fun j e => A.keyRow b n j ⟨64 * (h / 8) + e, by omega⟩)
      (fun e => A.query b ⟨128 * n + r, by omega⟩ ⟨64 * h + e, by omega⟩) (fun j => A.β r j h) (A.seen n r))
    (fun j => A.keyRow b n j ⟨128 + (64 * (h / 8) + d), by omega⟩) (A.sink h)

/-- A lane of a token's result. -/
def outRow (c : Fin 1024) : EReal :=
  A.x b ⟨128 * n + r, by omega⟩ c
    + normRow (fun c => (∑ R : Fin 1024, A.headRow b n r ⟨R / 64, by omega⟩ ⟨R % 64, by omega⟩ * A.wo R c) + A.bo c) A.g3 c

/-- The result's array. -/
def out : FVec Ideal S16384x1024 .f32 := fun i =>
  A.outRow ⟨(i 0).val / 8192, by have : (i 0).val < 16384 := (i 0).isLt; omega⟩ ⟨(i 0).val % 8192 / 128, by omega⟩
    ⟨(i 0).val % 128, by omega⟩ (i 1)

end Arrs

/-- The keys, the biases, the sinks and what makes the queries of a normalised row are finite. -/
structure Arrs.Finite (A : Arrs) : Prop where
  kv : ∀ b t (l : Fin 256), (l : ℕ) < 128 → Fin' (A.kv b t l)
  β : ∀ r j h, Fin' (A.β r j h)
  sink : ∀ h, Fin' (A.sink h)
  g2 : ∀ k, Fin' (A.g2 k)
  wq : ∀ k R, Fin' (A.wq k R)
  bq : ∀ R, Fin' (A.bq R)

theorem Arrs.Finite.query {A : Arrs} (hA : A.Finite) (b : Fin 2) (t : Fin 8192) (R : Fin 1024) : Fin' (A.query b t R) :=
  Fin'.add (Fin'.sum fun k => Fin'.mul (norm_fin (A.x b t) hA.g2 k) (hA.wq k R)) (hA.bq R)

theorem Arrs.Finite.keyRow {A : Arrs} (hA : A.Finite) (b : Fin 2) (n : Fin 64) (j l : Fin 256) (hl : (l : ℕ) < 128) :
    Fin' (A.keyRow b n j l) := by
  rw [Arrs.keyRow]
  split
  · exact hA.kv _ _ _ hl
  · exact ⟨0, rfl⟩

/-- The arrays as the layer's programs are given them. -/
def arrs (a0 : FVec Ideal S2x8192x1024 .f32) (a1 : FVec Ideal S2x8192x256 .f32) (a2 : FVec Ideal S32x16 .f32)
    (a3 : FVec Ideal S16 .f32) (a4 a5 : FVec Ideal S1024 .f32) (a6 : FVec Ideal S1024x1024 .f32) (a7 : FVec Ideal S1024 .f32)
    (a8 : FVec Ideal S1024x1024 .f32) (a9 : FVec Ideal S1024 .f32) : Arrs where
  x b t k := a0 (ix3 b t k)
  kv b t l := a1 (ix3 b t l)
  β r j h := Entry.planes a2 Entry.bucket (ix3 r j h)
  win r j := Entry.inWindow Entry.dist (ix2 r j)
  sink h := a3 (ix1 h)
  g2 k := a4 (ix1 k)
  g3 k := a5 (ix1 k)
  wq k R := a6 (ix2 k R)
  bq R := a7 (ix1 R)
  wo R k := a8 (ix2 R k)
  bo k := a9 (ix1 k)

end Cert.Attn.Core

end
-- ==== Proof.AttnValue.lean ====
/- The attention call's result array after the run: the function of the layer's arrays, where what a score is made of is finite. -/
module

public import proofs.«01_k».proof.Proof.AttnFinal
public import proofs.«01_k».proof.Proof.AttnShared

@[expose] public section

set_option maxRecDepth 16384

noncomputable section

namespace Cert.AttnIdeal.Final

open Idealize.ShloMosaic Idealize.ShloMosaic.TcCoe Idealize.SL.Sem Idealize
open Cert.AttnIdeal Cert.AttnIdeal.Gen Cert.AttnIdeal.Pure Cert.AttnIdeal.Entry Cert.Attn.Core
open Cert.FfnIdeal.Pure (normRow)

variable (m : (ℓ : Loc nD τ sig) → Buf (Elt Ideal) ℓ)

theorem flat_x (x : FVec Ideal S2x8192x1024 .f32) (T : Fin 16384) (b : Fin 2) (k : Fin 8192) (l : Fin 1024)
    (h : (T : ℕ) = 8192 * b + k) :
    shapeCast S16384x1024 x shapeCasts_S2x8192x1024_S16384x1024 (ix2 T l) = x (ix3 b k l) := by
  refine shapeCast_apply _ _ _ _ ?_
  rw [Shape.rowMajor_val_three, Shape.rowMajor_val_two]
  show ((b : ℕ) * 8192 + k) * 1024 + l = T * 1024 + l
  omega

theorem flat_kv (x : FVec Ideal S2x8192x256 .f32) (T : Fin 16384) (b : Fin 2) (k : Fin 8192) (l : Fin 256)
    (h : (T : ℕ) = 8192 * b + k) :
    shapeCast S16384x256 x shapeCasts_S2x8192x256_S16384x256 (ix2 T l) = x (ix3 b k l) := by
  refine shapeCast_apply _ _ _ _ ?_
  rw [Shape.rowMajor_val_three, Shape.rowMajor_val_two]
  show ((b : ℕ) * 8192 + k) * 256 + l = T * 256 + l
  omega

/-- The layer's arrays as the launch finds them. -/
def given (c : Dev nD) : Arrs :=
  arrs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

section Point
variable (c : Dev nD) (t : Fin cfg0.N) (s : Fin 8) (b : Fin 2) (n : Fin 64) (hb : 8 * t.val + s = 64 * b + n)
include hb

theorem x_at (r : Fin 128) (k : Fin 1024) :
    iblk m c 0 t (ix2 ⟨128 * s + r, by omega⟩ k) = (given m c).x b ⟨128 * n + r, by omega⟩ k := by
  rw [read_x m c t _ _ (by show 1024 * t.val + (128 * s + r) < 16384; omega)]
  exact flat_x _ _ _ _ _ (by show 1024 * t.val + (128 * s + r) = 8192 * b + (128 * n + r); omega)

/-- The rows that a block's queries see are the stream's rows. -/
theorem row_at (r : Fin 128) (j : Fin 256) (l : Fin 256) (h : (given m c).seen n r j) :
    (if h : 128 * (s : ℕ) + j < 128 then iblk m c 2 t (ix2 ⟨128 * s + j, h⟩ l)
      else iblk m c 1 t (ix2 ⟨128 * s + j - 128, by omega⟩ l)) = (given m c).keyRow b n j l := by
  have hn : (n : ℕ) ≠ 0 ∨ 128 ≤ (j : ℕ) := h.2.imp (fun h e => h (Fin.ext e)) id
  have hk : 128 ≤ 128 * (n : ℕ) + j := by omega
  rw [Arrs.keyRow, dif_pos hk]
  split
  · rename_i hs
    rw [read_kvp m c t _ _ (by show 128 * (8 * t.val - 1) + (128 * s + j) < 16384; omega)]
    exact flat_kv _ _ _ _ _ (by show 128 * (8 * t.val - 1) + (128 * s + j) = 8192 * b + (128 * n + j - 128); omega)
  · rename_i hs
    rw [read_kvc m c t _ _ (by show 1024 * t.val + (128 * s + j - 128) < 16384; omega)]
    exact flat_kv _ _ _ _ _ (by show 1024 * t.val + (128 * s + j - 128) = 8192 * b + (128 * n + j - 128); omega)

theorem q_at (r : Fin 128) (R : Fin 1024) :
    k0_pay3 (F := Ideal) (iblk m c 0 t) (iblk m c 5 t) (iblk m c 7 t) (iblk m c 8 t) (ix2 R ⟨128 * s + r, by omega⟩)
      = (given m c).query b ⟨128 * n + r, by omega⟩ R * qscale := by
  refine (query_at _ _ _ _ R _).trans (congrArg (· * qscale) (congrArg₂ (· + ·) (Finset.sum_congr rfl fun k _ => ?_)
    (read_bq m c t R _)))
  exact (mul_comm _ _).trans (congrArg₂ (· * ·) (congrFun (congrArg₂ normRow (funext fun k => x_at m c t s b n hb r k)
    (funext fun k => read_g2 m c t k)) k) (read_wq m c t R k))

end Point

theorem drop_two (Y : FVec Ideal S1x1x512x512 .f32) (a l : Fin 512) :
    shapeCast S512x512 Y shapeCasts_S1x1x512x512_S512x512 (ix2 a l) = Y (ix4 0 0 a l) := by
  pointwise

theorem drop_one (Y : FVec Ideal S1x2x512 .f32) (p : Fin 2) (l : Fin 512) :
    shapeCast S2x512 Y shapeCasts_S1x2x512_S2x512 (ix2 p l) = Y (ix3 0 p l) := by
  pointwise

theorem ld_bias (X : FVec Ideal S2x2x512x512 .f32) (o : Fin 4 → ℕ) (h : ∀ a, o a + S1x1x512x512.size a ≤ S2x2x512x512.size a) (u g : Fin 2)
    (ho : o = ![(u : ℕ), (g : ℕ), 0, 0]) (a l : Fin 512) :
    shapeCast S512x512 (View.ld (Val := Elt Ideal) (e' := .f32) X (Rect.unit (s := S2x2x512x512) o S1x1x512x512.size h)) shapeCasts_S1x1x512x512_S512x512 (ix2 a l)
      = X (ix4 u g a l) := by
  subst ho
  refine Eq.trans (b := X ((Rect.unit (s := S2x2x512x512) ![(u : ℕ), (g : ℕ), 0, 0] S1x1x512x512.size h).idx (ix4 0 0 a l))) ?_ ?_
  · exact drop_two _ a l
  · refine congrArg X (funext fun q => Fin.ext ?_)
    fin_cases q
    · show (u : ℕ) + 1 * 0 = u
      omega
    · show (g : ℕ) + 1 * 0 = g
      omega
    · show 0 + 1 * (a : ℕ) = a
      omega
    · show 0 + 1 * (l : ℕ) = l
      omega

theorem ld_sink (X : FVec Ideal S2x2x512 .f32) (o : Fin 3 → ℕ) (h : ∀ a, o a + S1x2x512.size a ≤ S2x2x512.size a) (g p : Fin 2)
    (ho : o = ![(g : ℕ), 0, 0]) (l : Fin 512) :
    shapeCast S2x512 (View.ld (Val := Elt Ideal) (e' := .f32) X (Rect.unit (s := S2x2x512) o S1x2x512.size h)) shapeCasts_S1x2x512_S2x512 (ix2 p l)
      = X (ix3 g p l) := by
  subst ho
  refine Eq.trans (b := X ((Rect.unit (s := S2x2x512) ![(g : ℕ), 0, 0] S1x2x512.size h).idx (ix3 0 p l))) ?_ ?_
  · exact drop_one _ p l
  · refine congrArg X (funext fun q => Fin.ext ?_)
    fin_cases q
    · show (g : ℕ) + 1 * 0 = g
      omega
    · show 0 + 1 * (p : ℕ) = p
      omega
    · show 0 + 1 * (l : ℕ) = l
      omega

/-- A tile of the bias that a point's body loads. -/
def biasTile (c : Dev nD) (t : Fin cfg0.N) (o : Fin 4 → ℕ) (h : ∀ a, o a + S1x1x512x512.size a ≤ S2x2x512x512.size a) :
    FVec Ideal S512x512 .f32 :=
  shapeCast S512x512 (View.ld (Val := Elt Ideal) (e' := .f32) (iblk m c 3 t) (Rect.unit (s := S2x2x512x512) o S1x1x512x512.size h))
    shapeCasts_S1x1x512x512_S512x512

/-- The sinks that a point's body loads. -/
def sinkTile (c : Dev nD) (t : Fin cfg0.N) (o : Fin 3 → ℕ) (h : ∀ a, o a + S1x2x512.size a ≤ S2x2x512.size a) :
    FVec Ideal S2x512 .f32 :=
  shapeCast S2x512 (View.ld (Val := Elt Ideal) (e' := .f32) (iblk m c 4 t) (Rect.unit (s := S2x2x512) o S1x2x512.size h))
    shapeCasts_S1x2x512_S2x512

theorem biasTile_at (c : Dev nD) (t : Fin cfg0.N) (o : Fin 4 → ℕ) (h : ∀ a, o a + S1x1x512x512.size a ≤ S2x2x512x512.size a)
    (u g : Fin 2) (ho : o = ![(u : ℕ), (g : ℕ), 0, 0]) (p : Fin 2) (i : Fin 4) (j : Fin 256) (r : Fin 128) :
    biasTile m c t o h (ix2 ⟨256 * p + j, by omega⟩ ⟨128 * i + r, by omega⟩)
      = if inWindow dist (ix2 r j) = 1#1 ∧ (u = 0 ∨ 128 ≤ (j : ℕ)) then (given m c).β r j ⟨8 * g + 2 * i + p, by omega⟩ else ⊥ :=
  (ld_bias _ o h u g ho _ _).trans (read_bias m c t u g p i j r)

theorem sinkTile_at (c : Dev nD) (t : Fin cfg0.N) (o : Fin 3 → ℕ) (h : ∀ a, o a + S1x2x512.size a ≤ S2x2x512.size a)
    (g : Fin 2) (ho : o = ![(g : ℕ), 0, 0]) (p : Fin 2) (i : Fin 4) (r : Fin 128) :
    sinkTile m c t o h (ix2 p ⟨128 * i + r, by omega⟩) = (given m c).sink ⟨8 * g + 2 * i + p, by omega⟩ :=
  (ld_sink _ o h g p ho _).trans ((read_sink m c t _).trans (sinkCols_at _ g p i r))

/-- The heads' lanes of a point's queries. -/
def pointHeads (c : Dev nD) (t : Fin cfg0.N) : FVec Ideal S1024x1024 .bf16 :=
  heads
    (chains0 (k0_pay3 (iblk m c 0 t) (iblk m c 5 t) (iblk m c 7 t) (iblk m c 8 t)) (keys (iblk m c 1 t) (iblk m c 2 t))
      (values (iblk m c 1 t) (iblk m c 2 t)) (biasTile m c t (k0_off1 (grid0.coords t)) (k0_off1_inb _))
      (biasTile m c t ![0, 0, 0, 0] inb_S2x2x512x512_S1x1x512x512_0_0_0_0) (sinkTile m c t ![0, 0, 0] inb_S2x2x512_S1x2x512_0_0_0))
    (chains1 (k0_pay3 (iblk m c 0 t) (iblk m c 5 t) (iblk m c 7 t) (iblk m c 8 t)) (keys (iblk m c 1 t) (iblk m c 2 t))
      (values (iblk m c 1 t) (iblk m c 2 t)) (biasTile m c t (k0_off2 (grid0.coords t)) (k0_off2_inb _))
      (biasTile m c t ![0, 1, 0, 0] inb_S2x2x512x512_S1x1x512x512_0_1_0_0) (sinkTile m c t ![1, 0, 0] inb_S2x2x512_S1x2x512_1_0_0))

theorem stored_heads (c : Dev nD) (t : Fin cfg0.N) : outsAt0 m c t
    = finished (iblk m c 0 t) (iblk m c 6 t) (iblk m c 9 t) (iblk m c 10 t) (pointHeads m c t) := stored m c t

theorem head_at (c : Dev nD) (hA : (given m c).Finite) (t : Fin cfg0.N) (s : Fin 8) (b : Fin 2) (n : Fin 64)
    (hb : 8 * t.val + s = 64 * b + n) (g p : Fin 2) (i : Fin 4) (d : Fin 64) (r : Fin 128) :
    pointHeads m c t (ix2 ⟨512 * g + 128 * i + (64 * p + d), by omega⟩ ⟨128 * s + r, by omega⟩)
      = (given m c).headRow b n r ⟨8 * g + 2 * i + p, by omega⟩ d := by
  have hg : (8 * (g : ℕ) + 2 * i + p) / 8 = g := by omega
  refine (heads_chains _ _ _ _ _ _ _ _ _ g p i s d r).trans ?_
  unfold tileHead
  have hz : (if g = 0 then sinkTile m c t ![0, 0, 0] inb_S2x2x512_S1x2x512_0_0_0 else sinkTile m c t ![1, 0, 0] inb_S2x2x512_S1x2x512_1_0_0)
      (ix2 p ⟨128 * i + r, by omega⟩) = (given m c).sink ⟨8 * g + 2 * i + p, by omega⟩ := by
    split
    · rename_i h
      exact sinkTile_at m c t _ _ g (by rw [h]; rfl) p i r
    · rename_i h
      exact sinkTile_at m c t _ _ g (by have : (g : ℕ) = 1 := by (have : (g : ℕ) ≠ 0 := fun e => h (Fin.ext e)); omega
                                        rw [this]) p i r
  rw [hz]
  refine head_soft _ (fun j e => (given m c).keyRow b n j ⟨64 * ((8 * g + 2 * i + p) / 8) + e, by omega⟩) _ _ _ _ _ _ _
    ((given m c).seen n r) (fun j hj e => ?_) (fun j hj => ?_) (fun e => ?_) (fun j => ?_)
    (fun j _ e => hA.keyRow _ _ _ _ (by show 64 * ((8 * (g : ℕ) + 2 * i + p) / 8) + (e : ℕ) < 128; omega)) (fun e => hA.query _ _ _) (fun j => hA.β _ _ _) (hA.sink _)
  · refine (keys_at _ _ _ _).trans (Eq.trans ?_ (row_at m c t s b n hb r j _ hj))
    simp only [hg]
  · refine (values_at _ _ _ _).trans (Eq.trans ?_ (row_at m c t s b n hb r j _ hj))
    simp only [hg]
  · refine (congrArg (fun R => k0_pay3 (F := Ideal) (iblk m c 0 t) (iblk m c 5 t) (iblk m c 7 t) (iblk m c 8 t)
      (ix2 R ⟨128 * s + r, by omega⟩)) (Fin.ext ?_)).trans (q_at m c t s b n hb r _)
    show 512 * (g : ℕ) + 128 * i + (64 * p + e) = 64 * (8 * g + 2 * i + p) + e
    omega
  · have key : ∀ (u : Fin 2) (o : Fin 4 → ℕ) (h : ∀ a, o a + S1x1x512x512.size a ≤ S2x2x512x512.size a),
        o = ![(u : ℕ), (g : ℕ), 0, 0] → (u = 0 ↔ n ≠ 0) →
        biasTile m c t o h (ix2 ⟨256 * p + j, by omega⟩ ⟨128 * i + r, by omega⟩)
          = if (given m c).seen n r j then (given m c).β r j ⟨8 * g + 2 * i + p, by omega⟩ else ⊥ := by
      intro u o h ho hu
      refine (biasTile_at m c t o h u g ho p i j r).trans ?_
      simp only [hu]
      rfl
    have h1 : g ≠ 0 → (g : ℕ) = 1 := fun h => by
      have : (g : ℕ) ≠ 0 := fun e => h (Fin.ext e)
      omega
    by_cases hs : s = 0
    · have hs' : (s : ℕ) = 0 := by rw [hs]; rfl
      rw [if_pos hs, if_pos hs]
      by_cases hn : n = 0
      · have hn' : (n : ℕ) = 0 := by rw [hn]; rfl
        have ht : t.val % 8 = 0 := by omega
        have ho := off t
        rw [if_pos ht] at ho
        split
        · rename_i h
          exact key 1 _ _ (by rw [ho.1, h]; rfl) (by rw [hn]; decide)
        · rename_i h
          exact key 1 _ _ (by rw [ho.2, h1 h]; rfl) (by rw [hn]; decide)
      · have hn' : (n : ℕ) ≠ 0 := fun e => hn (Fin.ext e)
        have ht : ¬ t.val % 8 = 0 := by omega
        have ho := off t
        rw [if_neg ht] at ho
        split
        · rename_i h
          exact key 0 _ _ (by rw [ho.1, h]; rfl) (iff_of_true rfl hn)
        · rename_i h
          exact key 0 _ _ (by rw [ho.2, h1 h]; rfl) (iff_of_true rfl hn)
    · have hs' : (s : ℕ) ≠ 0 := fun e => hs (Fin.ext e)
      have hn : n ≠ 0 := fun e => by
        have : (n : ℕ) = 0 := by rw [e]; rfl
        omega
      rw [if_neg hs, if_neg hs]
      split
      · rename_i h
        exact key 0 _ _ (by rw [h]; rfl) (iff_of_true rfl hn)
      · rename_i h
        exact key 0 _ _ (by rw [h1 h]; rfl) (iff_of_true rfl hn)

/-- What a point stores, at a row and a lane. -/
theorem stored_at (c : Dev nD) (hA : (given m c).Finite) (t : Fin cfg0.N) (s : Fin 8) (b : Fin 2) (n : Fin 64)
    (hb : 8 * t.val + s = 64 * b + n) (r : Fin 128) (k : Fin 1024) :
    outsAt0 m c t (ix2 ⟨128 * s + r, by omega⟩ k) = (given m c).outRow b n r k := by
  rw [stored_heads]
  refine (proj_at _ _ _ _ _ _ _).trans ?_
  refine congrArg₂ (· + ·) (x_at m c t s b n hb r k) (congrFun (congrArg₂ normRow (funext fun k => ?_)
    (funext fun k => read_g3 m c t k)) k)
  refine congrArg₂ (· + ·) (Finset.sum_congr rfl fun R _ => congrArg₂ (· * ·) ?_ (read_wo m c t R k)) (read_bo m c t k)
  have e := head_at m c hA t s b n hb ⟨R / 512, by omega⟩ ⟨R / 64 % 2, by omega⟩ ⟨R % 512 / 128, by omega⟩ ⟨R % 64, by omega⟩ r
  refine (congrArg (fun R => pointHeads m c t (ix2 R _)) (Fin.ext ?_)).trans (e.trans ?_)
  · show (R : ℕ) = 512 * (R / 512) + 128 * (R % 512 / 128) + (64 * (R / 64 % 2) + R % 64)
    omega
  · refine congrArg (fun h => (given m c).headRow b n r h _) (Fin.ext ?_)
    show 8 * ((R : ℕ) / 512) + 2 * (R % 512 / 128) + R / 64 % 2 = R / 64
    omega

/-- The array of results when the call has run. -/
theorem final (c : Dev nD) (hA : (given m c).Finite) : (dats m 0 c).arrAt 11 (cfgs 0).N = (given m c).out := by
  refine (dats m 0 c).arrAt_eq_of_covers 11 _ (by decide +kernel) fun t _ y => ?_
  obtain ⟨r, j, rfl⟩ : ∃ (r : Fin 1024) (j : Fin 1024), y = ix2 r j := ⟨y 0, y 1, by blk_ext⟩
  have ht : t.val < 16 := lt_of_lt_of_eq t.isLt (by decide)
  have he : (win0_11.blk t).view.emb (ix2 r j) = ix2 (⟨1024 * t.val + r.val, by omega⟩ : Fin 16384) j := by blk_ext [idx t]
  blk_simp
  rw [after0_11, he]
  have e := stored_at m c hA t ⟨r / 128, by omega⟩ ⟨t.val / 8, by omega⟩ ⟨8 * (t.val % 8) + r / 128, by omega⟩
    (by show 8 * t.val + r / 128 = 64 * (t.val / 8) + (8 * (t.val % 8) + r / 128); omega) ⟨r % 128, by omega⟩ j
  refine (congrArg (fun r => outsAt0 m c t (ix2 r j)) (Fin.ext ?_)).trans (e.trans ?_)
  · show (r : ℕ) = 128 * (r / 128) + r % 128
    omega
  · have h : ∀ (b b' : Fin 2) (n n' : Fin 64) (r r' : Fin 128), b = b' → n = n' → r = r' →
        (given m c).outRow b n r j = (given m c).outRow b' n' r' j := by
      rintro _ _ _ _ _ _ rfl rfl rfl; rfl
    exact h _ _ _ _ _ _ (Fin.ext (by show t.val / 8 = (1024 * t.val + r.val) / 8192; omega))
      (Fin.ext (by show 8 * (t.val % 8) + r.val / 128 = (1024 * t.val + r.val) % 8192 / 128; omega))
      (Fin.ext (by show r.val % 128 = (1024 * t.val + r.val) % 128; omega))

end Cert.AttnIdeal.Final

end
-- ==== Proof.AttnRefRun.lean ====
/- The attention reference's host operations as a list, and its run: every execution ends with the result at the
   operations' composed term of the arguments, the arguments unchanged. The last window of operations works on arrays of
   six axes, and its equality with the program takes a larger budget than the other windows'. -/
module

public import proofs.«01_k».proof.Proof.Gen.AttnReferenceIdeal
public import Idealize.ShloMosaic.Lib.StableHlo.Run
public import Idealize.ShloMosaic.Lib.Pipeline.Frame

@[expose] public section

set_option Elab.async false

noncomputable section

namespace Cert.AttnReferenceIdeal.Exec

open Cert.AttnReferenceIdeal Cert.AttnReferenceIdeal.Gen Idealize.ShloMosaic Idealize.ShloMosaic.TcCoe Idealize.SL.Sem Idealize.ShloMosaic.StableHlo

variable {F : FTy → Type} [FloatOps F]

/-- The joining that writes `main_v7`, a function of its two operands. -/
def fn_main_v7 : (⟨S2x1x128x2x64, .f32⟩ : BufTy).Contents (Elt F) → (⟨S2x63x128x2x64, .f32⟩ : BufTy).Contents (Elt F) → (⟨S2x64x128x2x64, .f32⟩ : BufTy).Contents (Elt F) :=
  (fun a b => concatenate S2x64x128x2x64 1 [⟨S2x1x128x2x64, a⟩, ⟨S2x63x128x2x64, b⟩] concatenates_S2x1x128x2x64_S2x63x128x2x64_S2x64x128x2x64_d1)

/-- The joining that writes `main_v8`, a function of its two operands. -/
def fn_main_v8 : (⟨S2x64x128x2x64, .f32⟩ : BufTy).Contents (Elt F) → (⟨S2x64x128x2x64, .f32⟩ : BufTy).Contents (Elt F) → (⟨S2x64x256x2x64, .f32⟩ : BufTy).Contents (Elt F) :=
  (fun a b => concatenate S2x64x256x2x64 2 [⟨S2x64x128x2x64, a⟩, ⟨S2x64x128x2x64, b⟩] concatenates_S2x64x128x2x64_S2x64x128x2x64_S2x64x256x2x64_d2)

/-- The joining that writes `main_v15`, a function of its two operands. -/
def fn_main_v15 : (⟨S2x1x128x2x64, .f32⟩ : BufTy).Contents (Elt F) → (⟨S2x63x128x2x64, .f32⟩ : BufTy).Contents (Elt F) → (⟨S2x64x128x2x64, .f32⟩ : BufTy).Contents (Elt F) :=
  (fun a b => concatenate S2x64x128x2x64 1 [⟨S2x1x128x2x64, a⟩, ⟨S2x63x128x2x64, b⟩] concatenates_S2x1x128x2x64_S2x63x128x2x64_S2x64x128x2x64_d1)

/-- The joining that writes `main_v16`, a function of its two operands. -/
def fn_main_v16 : (⟨S2x64x128x2x64, .f32⟩ : BufTy).Contents (Elt F) → (⟨S2x64x128x2x64, .f32⟩ : BufTy).Contents (Elt F) → (⟨S2x64x256x2x64, .f32⟩ : BufTy).Contents (Elt F) :=
  (fun a b => concatenate S2x64x256x2x64 2 [⟨S2x64x128x2x64, a⟩, ⟨S2x64x128x2x64, b⟩] concatenates_S2x64x128x2x64_S2x64x128x2x64_S2x64x256x2x64_d2)

/-- @main's operations 1 … 60 of 172 (window `main_part0`). -/
abbrev ops_part0 : List (HloOp τ sig (Elt F)) :=
  [ reshape main_arg1 main_v0 (rfl : (.f32 : EltTy) = .f32) shapeCasts_S2x8192x256_S2x8192x2x2x64,
    unary main_v0 main_v1 ((extractStridedSlice S2x8192x1x2x64 ![0, 0, 0, 0, 0] · slices_S2x8192x2x2x64_S2x8192x1x2x64_0_0_0_0_0) : (⟨S2x8192x2x2x64, .f32⟩ : BufTy).Contents (Elt F) → (⟨S2x8192x1x2x64, .f32⟩ : BufTy).Contents (Elt F)),
    reshape main_v1 main_v2 (rfl : (.f32 : EltTy) = .f32) shapeCasts_S2x8192x1x2x64_S2x8192x2x64,
    reshape main_v2 main_v3 (rfl : (.f32 : EltTy) = .f32) shapeCasts_S2x8192x2x64_S2x64x128x2x64,
    unary main_v3 main_v4 ((extractStridedSlice S2x1x128x2x64 ![0, 0, 0, 0, 0] · slices_S2x64x128x2x64_S2x1x128x2x64_0_0_0_0_0) : (⟨S2x64x128x2x64, .f32⟩ : BufTy).Contents (Elt F) → (⟨S2x1x128x2x64, .f32⟩ : BufTy).Contents (Elt F)),
    nullary main_cst (constant S_ .f32 0x00000000#32),
    unary main_cst main_v5 (broadcastInDim S2x1x128x2x64 ![] bcast_S_S2x1x128x2x64 : (⟨S_, .f32⟩ : BufTy).Contents (Elt F) → (⟨S2x1x128x2x64, .f32⟩ : BufTy).Contents (Elt F)),
    unary main_v3 main_v6 ((extractStridedSlice S2x63x128x2x64 ![0, 0, 0, 0, 0] · slices_S2x64x128x2x64_S2x63x128x2x64_0_0_0_0_0) : (⟨S2x64x128x2x64, .f32⟩ : BufTy).Contents (Elt F) → (⟨S2x63x128x2x64, .f32⟩ : BufTy).Contents (Elt F)),
    binary main_v5 main_v6 main_v7 (fn_main_v7 (F := F)),
    binary main_v7 main_v3 main_v8 (fn_main_v8 (F := F)),
    unary main_v0 main_v9 ((extractStridedSlice S2x8192x1x2x64 ![0, 0, 1, 0, 0] · slices_S2x8192x2x2x64_S2x8192x1x2x64_0_0_1_0_0) : (⟨S2x8192x2x2x64, .f32⟩ : BufTy).Contents (Elt F) → (⟨S2x8192x1x2x64, .f32⟩ : BufTy).Contents (Elt F)),
    reshape main_v9 main_v10 (rfl : (.f32 : EltTy) = .f32) shapeCasts_S2x8192x1x2x64_S2x8192x2x64,
    reshape main_v10 main_v11 (rfl : (.f32 : EltTy) = .f32) shapeCasts_S2x8192x2x64_S2x64x128x2x64,
    unary main_v11 main_v12 ((extractStridedSlice S2x1x128x2x64 ![0, 0, 0, 0, 0] · slices_S2x64x128x2x64_S2x1x128x2x64_0_0_0_0_0) : (⟨S2x64x128x2x64, .f32⟩ : BufTy).Contents (Elt F) → (⟨S2x1x128x2x64, .f32⟩ : BufTy).Contents (Elt F)),
    nullary main_cst_0 (constant S_ .f32 0x00000000#32),
    unary main_cst_0 main_v13 (broadcastInDim S2x1x128x2x64 ![] bcast_S_S2x1x128x2x64 : (⟨S_, .f32⟩ : BufTy).Contents (Elt F) → (⟨S2x1x128x2x64, .f32⟩ : BufTy).Contents (Elt F)),
    unary main_v11 main_v14 ((extractStridedSlice S2x63x128x2x64 ![0, 0, 0, 0, 0] · slices_S2x64x128x2x64_S2x63x128x2x64_0_0_0_0_0) : (⟨S2x64x128x2x64, .f32⟩ : BufTy).Contents (Elt F) → (⟨S2x63x128x2x64, .f32⟩ : BufTy).Contents (Elt F)),
    binary main_v13 main_v14 main_v15 (fn_main_v15 (F := F)),
    binary main_v15 main_v11 main_v16 (fn_main_v16 (F := F)),
    nullary main_v17 (iotaInDim S128 32 0),
    unary main_v17 main_v18 (broadcastInDim S128x1 ![0] bcast_S128_S128x1_0 : (⟨S128, .i32⟩ : BufTy).Contents (Elt F) → (⟨S128x1, .i32⟩ : BufTy).Contents (Elt F)),
    nullary main_c (constantI S_ 32 128#32),
    unary main_c main_v19 (broadcastInDim S128x1 ![] bcast_S_S128x1 : (⟨S_, .i32⟩ : BufTy).Contents (Elt F) → (⟨S128x1, .i32⟩ : BufTy).Contents (Elt F)),
    binary main_v18 main_v19 main_v20 (addi : (⟨S128x1, .i32⟩ : BufTy).Contents (Elt F) → (⟨S128x1, .i32⟩ : BufTy).Contents (Elt F) → (⟨S128x1, .i32⟩ : BufTy).Contents (Elt F)),
    nullary main_v21 (iotaInDim S256 32 0),
    unary main_v21 main_v22 (broadcastInDim S1x256 ![1] bcast_S256_S1x256_1 : (⟨S256, .i32⟩ : BufTy).Contents (Elt F) → (⟨S1x256, .i32⟩ : BufTy).Contents (Elt F)),
    unary main_v20 main_v23 (broadcastInDim S128x256 ![0, 1] bcast_S128x1_S128x256_0_1 : (⟨S128x1, .i32⟩ : BufTy).Contents (Elt F) → (⟨S128x256, .i32⟩ : BufTy).Contents (Elt F)),
    unary main_v22 main_v24 (broadcastInDim S128x256 ![0, 1] bcast_S1x256_S128x256_0_1 : (⟨S1x256, .i32⟩ : BufTy).Contents (Elt F) → (⟨S128x256, .i32⟩ : BufTy).Contents (Elt F)),
    binary main_v23 main_v24 main_v25 (subi : (⟨S128x256, .i32⟩ : BufTy).Contents (Elt F) → (⟨S128x256, .i32⟩ : BufTy).Contents (Elt F) → (⟨S128x256, .i32⟩ : BufTy).Contents (Elt F)),
    nullary main_c_1 (constantI S_ 32 0#32),
    unary main_c_1 main_v26 (broadcastInDim S128x256 ![] bcast_S_S128x256 : (⟨S_, .i32⟩ : BufTy).Contents (Elt F) → (⟨S128x256, .i32⟩ : BufTy).Contents (Elt F)),
    binary main_v25 main_v26 main_v27 (cmpi .sge : (⟨S128x256, .i32⟩ : BufTy).Contents (Elt F) → (⟨S128x256, .i32⟩ : BufTy).Contents (Elt F) → (⟨S128x256, .i1⟩ : BufTy).Contents (Elt F)),
    nullary main_c_2 (constantI S_ 32 128#32),
    unary main_c_2 main_v28 (broadcastInDim S128x256 ![] bcast_S_S128x256 : (⟨S_, .i32⟩ : BufTy).Contents (Elt F) → (⟨S128x256, .i32⟩ : BufTy).Contents (Elt F)),
    binary main_v25 main_v28 main_v29 (cmpi .slt : (⟨S128x256, .i32⟩ : BufTy).Contents (Elt F) → (⟨S128x256, .i32⟩ : BufTy).Contents (Elt F) → (⟨S128x256, .i1⟩ : BufTy).Contents (Elt F)),
    binary main_v27 main_v29 main_v30 (andi : (⟨S128x256, .i1⟩ : BufTy).Contents (Elt F) → (⟨S128x256, .i1⟩ : BufTy).Contents (Elt F) → (⟨S128x256, .i1⟩ : BufTy).Contents (Elt F)),
    nullary main_c_3 (constantI S_ 32 0#32),
    unary main_c_3 main_v31 (broadcastInDim S128x256 ![] bcast_S_S128x256 : (⟨S_, .i32⟩ : BufTy).Contents (Elt F) → (⟨S128x256, .i32⟩ : BufTy).Contents (Elt F)),
    binary main_v25 main_v31 main_v32 (maxsi : (⟨S128x256, .i32⟩ : BufTy).Contents (Elt F) → (⟨S128x256, .i32⟩ : BufTy).Contents (Elt F) → (⟨S128x256, .i32⟩ : BufTy).Contents (Elt F)),
    nullary main_c_4 (constantI S_ 32 1#32),
    unary main_c_4 main_v33 (broadcastInDim S128x256 ![] bcast_S_S128x256 : (⟨S_, .i32⟩ : BufTy).Contents (Elt F) → (⟨S128x256, .i32⟩ : BufTy).Contents (Elt F)),
    binary main_v32 main_v33 main_v34 (maxsi : (⟨S128x256, .i32⟩ : BufTy).Contents (Elt F) → (⟨S128x256, .i32⟩ : BufTy).Contents (Elt F) → (⟨S128x256, .i32⟩ : BufTy).Contents (Elt F)),
    unary main_v34 main_v35 (sitofp .f32 : (⟨S128x256, .i32⟩ : BufTy).Contents (Elt F) → (⟨S128x256, .f32⟩ : BufTy).Contents (Elt F)),
    nullary main_cst_5 (constant S_ .f32 0x41800000#32),
    unary main_cst_5 main_v36 (broadcastInDim S128x256 ![] bcast_S_S128x256 : (⟨S_, .f32⟩ : BufTy).Contents (Elt F) → (⟨S128x256, .f32⟩ : BufTy).Contents (Elt F)),
    binary main_v35 main_v36 main_v37 (Host.divf : (⟨S128x256, .f32⟩ : BufTy).Contents (Elt F) → (⟨S128x256, .f32⟩ : BufTy).Contents (Elt F) → (⟨S128x256, .f32⟩ : BufTy).Contents (Elt F)),
    unary main_v37 main_v38 (Host.log : (⟨S128x256, .f32⟩ : BufTy).Contents (Elt F) → (⟨S128x256, .f32⟩ : BufTy).Contents (Elt F)),
    nullary main_cst_6 (constant S_ .f32 0x40051592#32),
    unary main_cst_6 main_v39 (broadcastInDim S128x256 ![] bcast_S_S128x256 : (⟨S_, .f32⟩ : BufTy).Contents (Elt F) → (⟨S128x256, .f32⟩ : BufTy).Contents (Elt F)),
    binary main_v38 main_v39 main_v40 (Host.divf : (⟨S128x256, .f32⟩ : BufTy).Contents (Elt F) → (⟨S128x256, .f32⟩ : BufTy).Contents (Elt F) → (⟨S128x256, .f32⟩ : BufTy).Contents (Elt F)),
    nullary main_cst_7 (constant S_ .f32 0x41800000#32),
    unary main_cst_7 main_v41 (broadcastInDim S128x256 ![] bcast_S_S128x256 : (⟨S_, .f32⟩ : BufTy).Contents (Elt F) → (⟨S128x256, .f32⟩ : BufTy).Contents (Elt F)),
    binary main_v40 main_v41 main_v42 (mulf : (⟨S128x256, .f32⟩ : BufTy).Contents (Elt F) → (⟨S128x256, .f32⟩ : BufTy).Contents (Elt F) → (⟨S128x256, .f32⟩ : BufTy).Contents (Elt F)),
    unary main_v42 main_v43 (fptosi 32 : (⟨S128x256, .f32⟩ : BufTy).Contents (Elt F) → (⟨S128x256, .i32⟩ : BufTy).Contents (Elt F)),
    nullary main_c_8 (constantI S_ 32 16#32),
    unary main_c_8 main_v44 (broadcastInDim S128x256 ![] bcast_S_S128x256 : (⟨S_, .i32⟩ : BufTy).Contents (Elt F) → (⟨S128x256, .i32⟩ : BufTy).Contents (Elt F)),
    binary main_v44 main_v43 main_v45 (addi : (⟨S128x256, .i32⟩ : BufTy).Contents (Elt F) → (⟨S128x256, .i32⟩ : BufTy).Contents (Elt F) → (⟨S128x256, .i32⟩ : BufTy).Contents (Elt F)),
    nullary main_c_9 (constantI S_ 32 31#32),
    unary main_c_9 main_v46 (broadcastInDim S128x256 ![] bcast_S_S128x256 : (⟨S_, .i32⟩ : BufTy).Contents (Elt F) → (⟨S128x256, .i32⟩ : BufTy).Contents (Elt F)),
    binary main_v45 main_v46 main_v47 (minsi : (⟨S128x256, .i32⟩ : BufTy).Contents (Elt F) → (⟨S128x256, .i32⟩ : BufTy).Contents (Elt F) → (⟨S128x256, .i32⟩ : BufTy).Contents (Elt F)) ]

/-- @main's operations 61 … 120 of 172 (window `main_part1`). -/
abbrev ops_part1 : List (HloOp τ sig (Elt F)) :=
  [ nullary main_c_10 (constantI S_ 32 16#32),
    unary main_c_10 main_v48 (broadcastInDim S128x256 ![] bcast_S_S128x256 : (⟨S_, .i32⟩ : BufTy).Contents (Elt F) → (⟨S128x256, .i32⟩ : BufTy).Contents (Elt F)),
    binary main_v32 main_v48 main_v49 (cmpi .slt : (⟨S128x256, .i32⟩ : BufTy).Contents (Elt F) → (⟨S128x256, .i32⟩ : BufTy).Contents (Elt F) → (⟨S128x256, .i1⟩ : BufTy).Contents (Elt F)),
    TRef.ternary (TRef.of (T := ⟨S128x256, .i1⟩) main_v49) (TRef.of (T := ⟨S128x256, .i32⟩) main_v32) (TRef.of (T := ⟨S128x256, .i32⟩) main_v47) (TRef.of (T := ⟨S128x256, .i32⟩) main_v50) select,
    nullary main_c_11 (constantI S_ 32 0#32),
    unary main_c_11 main_v51 (broadcastInDim S128x256 ![] bcast_S_S128x256 : (⟨S_, .i32⟩ : BufTy).Contents (Elt F) → (⟨S128x256, .i32⟩ : BufTy).Contents (Elt F)),
    binary main_v50 main_v51 main_v52 (cmpi .slt : (⟨S128x256, .i32⟩ : BufTy).Contents (Elt F) → (⟨S128x256, .i32⟩ : BufTy).Contents (Elt F) → (⟨S128x256, .i1⟩ : BufTy).Contents (Elt F)),
    nullary main_c_12 (constantI S_ 32 32#32),
    unary main_c_12 main_v53 (broadcastInDim S128x256 ![] bcast_S_S128x256 : (⟨S_, .i32⟩ : BufTy).Contents (Elt F) → (⟨S128x256, .i32⟩ : BufTy).Contents (Elt F)),
    binary main_v50 main_v53 main_v54 (addi : (⟨S128x256, .i32⟩ : BufTy).Contents (Elt F) → (⟨S128x256, .i32⟩ : BufTy).Contents (Elt F) → (⟨S128x256, .i32⟩ : BufTy).Contents (Elt F)),
    ternary main_v52 main_v54 main_v50 main_v55 (select : (⟨S128x256, .i1⟩ : BufTy).Contents (Elt F) → (⟨S128x256, .i32⟩ : BufTy).Contents (Elt F) → (⟨S128x256, .i32⟩ : BufTy).Contents (Elt F) → (⟨S128x256, .i32⟩ : BufTy).Contents (Elt F)),
    unary main_v55 main_v56 (broadcastInDim S128x256x1 ![0, 1] bcast_S128x256_S128x256x1_0_1 : (⟨S128x256, .i32⟩ : BufTy).Contents (Elt F) → (⟨S128x256x1, .i32⟩ : BufTy).Contents (Elt F)),
    binary main_arg2 main_v56 main_v57 ((fun x i => Host.gather gather_S32x16_S128x256x1_S128x256x16_2_0_n_n_0_2_116 x i) : (⟨S32x16, .f32⟩ : BufTy).Contents (Elt F) → (⟨S128x256x1, .i32⟩ : BufTy).Contents (Elt F) → (⟨S128x256x16, .f32⟩ : BufTy).Contents (Elt F)),
    unary main_v57 main_v58 ((transpose S16x128x256 [2, 0, 1] · transposes_S128x256x16_S16x128x256_2_0_1) : (⟨S128x256x16, .f32⟩ : BufTy).Contents (Elt F) → (⟨S16x128x256, .f32⟩ : BufTy).Contents (Elt F)),
    reshape main_v58 main_v59 (rfl : (.f32 : EltTy) = .f32) shapeCasts_S16x128x256_S2x8x128x256,
    nullary main_v60 (iotaInDim S64 32 0),
    unary main_v60 main_v61 (broadcastInDim S64x1 ![0] bcast_S64_S64x1_0 : (⟨S64, .i32⟩ : BufTy).Contents (Elt F) → (⟨S64x1, .i32⟩ : BufTy).Contents (Elt F)),
    nullary main_c_13 (constantI S_ 32 0#32),
    unary main_c_13 main_v62 (broadcastInDim S64x1 ![] bcast_S_S64x1 : (⟨S_, .i32⟩ : BufTy).Contents (Elt F) → (⟨S64x1, .i32⟩ : BufTy).Contents (Elt F)),
    binary main_v61 main_v62 main_v63 (cmpi .sgt : (⟨S64x1, .i32⟩ : BufTy).Contents (Elt F) → (⟨S64x1, .i32⟩ : BufTy).Contents (Elt F) → (⟨S64x1, .i1⟩ : BufTy).Contents (Elt F)),
    nullary main_v64 (iotaInDim S256 32 0),
    unary main_v64 main_v65 (broadcastInDim S1x256 ![1] bcast_S256_S1x256_1 : (⟨S256, .i32⟩ : BufTy).Contents (Elt F) → (⟨S1x256, .i32⟩ : BufTy).Contents (Elt F)),
    nullary main_c_14 (constantI S_ 32 128#32),
    unary main_c_14 main_v66 (broadcastInDim S1x256 ![] bcast_S_S1x256 : (⟨S_, .i32⟩ : BufTy).Contents (Elt F) → (⟨S1x256, .i32⟩ : BufTy).Contents (Elt F)),
    binary main_v65 main_v66 main_v67 (cmpi .sge : (⟨S1x256, .i32⟩ : BufTy).Contents (Elt F) → (⟨S1x256, .i32⟩ : BufTy).Contents (Elt F) → (⟨S1x256, .i1⟩ : BufTy).Contents (Elt F)),
    unary main_v63 main_v68 (broadcastInDim S64x256 ![0, 1] bcast_S64x1_S64x256_0_1 : (⟨S64x1, .i1⟩ : BufTy).Contents (Elt F) → (⟨S64x256, .i1⟩ : BufTy).Contents (Elt F)),
    unary main_v67 main_v69 (broadcastInDim S64x256 ![0, 1] bcast_S1x256_S64x256_0_1 : (⟨S1x256, .i1⟩ : BufTy).Contents (Elt F) → (⟨S64x256, .i1⟩ : BufTy).Contents (Elt F)),
    binary main_v68 main_v69 main_v70 (ori : (⟨S64x256, .i1⟩ : BufTy).Contents (Elt F) → (⟨S64x256, .i1⟩ : BufTy).Contents (Elt F) → (⟨S64x256, .i1⟩ : BufTy).Contents (Elt F)),
    unary main_v30 main_v71 (broadcastInDim S1x128x256 ![1, 2] bcast_S128x256_S1x128x256_1_2 : (⟨S128x256, .i1⟩ : BufTy).Contents (Elt F) → (⟨S1x128x256, .i1⟩ : BufTy).Contents (Elt F)),
    unary main_v70 main_v72 (broadcastInDim S64x1x256 ![0, 2] bcast_S64x256_S64x1x256_0_2 : (⟨S64x256, .i1⟩ : BufTy).Contents (Elt F) → (⟨S64x1x256, .i1⟩ : BufTy).Contents (Elt F)),
    unary main_v71 main_v73 (broadcastInDim S64x128x256 ![0, 1, 2] bcast_S1x128x256_S64x128x256_0_1_2 : (⟨S1x128x256, .i1⟩ : BufTy).Contents (Elt F) → (⟨S64x128x256, .i1⟩ : BufTy).Contents (Elt F)),
    unary main_v72 main_v74 (broadcastInDim S64x128x256 ![0, 1, 2] bcast_S64x1x256_S64x128x256_0_1_2 : (⟨S64x1x256, .i1⟩ : BufTy).Contents (Elt F) → (⟨S64x128x256, .i1⟩ : BufTy).Contents (Elt F)),
    binary main_v73 main_v74 main_v75 (andi : (⟨S64x128x256, .i1⟩ : BufTy).Contents (Elt F) → (⟨S64x128x256, .i1⟩ : BufTy).Contents (Elt F) → (⟨S64x128x256, .i1⟩ : BufTy).Contents (Elt F)),
    binary main_arg0 main_arg0 main_v76 (mulf : (⟨S2x8192x1024, .f32⟩ : BufTy).Contents (Elt F) → (⟨S2x8192x1024, .f32⟩ : BufTy).Contents (Elt F) → (⟨S2x8192x1024, .f32⟩ : BufTy).Contents (Elt F)),
    nullary main_cst_15 (constant S_ .f32 0x00000000#32),
    binary main_v76 main_cst_15 main_v77 ((fun x v => Host.reduceAdd x v reducesTo_S2x8192x1024_S2x8192_d2 h_S_) : (⟨S2x8192x1024, .f32⟩ : BufTy).Contents (Elt F) → (⟨S_, .f32⟩ : BufTy).Contents (Elt F) → (⟨S2x8192, .f32⟩ : BufTy).Contents (Elt F)),
    unary main_v77 main_v78 (broadcastInDim S2x8192x1 ![0, 1] bcast_S2x8192_S2x8192x1_0_1 : (⟨S2x8192, .f32⟩ : BufTy).Contents (Elt F) → (⟨S2x8192x1, .f32⟩ : BufTy).Contents (Elt F)),
    nullary main_cst_16 (constant S_ .f32 0x44800000#32),
    unary main_cst_16 main_v79 (broadcastInDim S2x8192x1 ![] bcast_S_S2x8192x1 : (⟨S_, .f32⟩ : BufTy).Contents (Elt F) → (⟨S2x8192x1, .f32⟩ : BufTy).Contents (Elt F)),
    binary main_v78 main_v79 main_v80 (Host.divf : (⟨S2x8192x1, .f32⟩ : BufTy).Contents (Elt F) → (⟨S2x8192x1, .f32⟩ : BufTy).Contents (Elt F) → (⟨S2x8192x1, .f32⟩ : BufTy).Contents (Elt F)),
    nullary main_cst_17 (constant S_ .f32 0x358637BD#32),
    unary main_cst_17 main_v81 (broadcastInDim S2x8192x1 ![] bcast_S_S2x8192x1 : (⟨S_, .f32⟩ : BufTy).Contents (Elt F) → (⟨S2x8192x1, .f32⟩ : BufTy).Contents (Elt F)),
    binary main_v80 main_v81 main_v82 (addf : (⟨S2x8192x1, .f32⟩ : BufTy).Contents (Elt F) → (⟨S2x8192x1, .f32⟩ : BufTy).Contents (Elt F) → (⟨S2x8192x1, .f32⟩ : BufTy).Contents (Elt F)),
    unary main_v82 main_v83 (Host.rsqrt : (⟨S2x8192x1, .f32⟩ : BufTy).Contents (Elt F) → (⟨S2x8192x1, .f32⟩ : BufTy).Contents (Elt F)),
    unary main_v83 main_v84 (broadcastInDim S2x8192x1024 ![0, 1, 2] bcast_S2x8192x1_S2x8192x1024_0_1_2 : (⟨S2x8192x1, .f32⟩ : BufTy).Contents (Elt F) → (⟨S2x8192x1024, .f32⟩ : BufTy).Contents (Elt F)),
    binary main_arg0 main_v84 main_v85 (mulf : (⟨S2x8192x1024, .f32⟩ : BufTy).Contents (Elt F) → (⟨S2x8192x1024, .f32⟩ : BufTy).Contents (Elt F) → (⟨S2x8192x1024, .f32⟩ : BufTy).Contents (Elt F)),
    unary main_arg4 main_v86 (broadcastInDim S1x1x1024 ![2] bcast_S1024_S1x1x1024_2 : (⟨S1024, .f32⟩ : BufTy).Contents (Elt F) → (⟨S1x1x1024, .f32⟩ : BufTy).Contents (Elt F)),
    unary main_v86 main_v87 (broadcastInDim S2x8192x1024 ![0, 1, 2] bcast_S1x1x1024_S2x8192x1024_0_1_2 : (⟨S1x1x1024, .f32⟩ : BufTy).Contents (Elt F) → (⟨S2x8192x1024, .f32⟩ : BufTy).Contents (Elt F)),
    binary main_v85 main_v87 main_v88 (mulf : (⟨S2x8192x1024, .f32⟩ : BufTy).Contents (Elt F) → (⟨S2x8192x1024, .f32⟩ : BufTy).Contents (Elt F) → (⟨S2x8192x1024, .f32⟩ : BufTy).Contents (Elt F)),
    binary main_v88 main_arg6 main_v89 ((fun l r => Host.dotGeneral dot_S2x8192x1024_S1024x1024_S2x8192x1024_2_0_01_1_n_n none l r) : (⟨S2x8192x1024, .f32⟩ : BufTy).Contents (Elt F) → (⟨S1024x1024, .f32⟩ : BufTy).Contents (Elt F) → (⟨S2x8192x1024, .f32⟩ : BufTy).Contents (Elt F)),
    unary main_arg7 main_v90 (broadcastInDim S1x1x1024 ![2] bcast_S1024_S1x1x1024_2 : (⟨S1024, .f32⟩ : BufTy).Contents (Elt F) → (⟨S1x1x1024, .f32⟩ : BufTy).Contents (Elt F)),
    unary main_v90 main_v91 (broadcastInDim S2x8192x1024 ![0, 1, 2] bcast_S1x1x1024_S2x8192x1024_0_1_2 : (⟨S1x1x1024, .f32⟩ : BufTy).Contents (Elt F) → (⟨S2x8192x1024, .f32⟩ : BufTy).Contents (Elt F)),
    binary main_v89 main_v91 main_v92 (addf : (⟨S2x8192x1024, .f32⟩ : BufTy).Contents (Elt F) → (⟨S2x8192x1024, .f32⟩ : BufTy).Contents (Elt F) → (⟨S2x8192x1024, .f32⟩ : BufTy).Contents (Elt F)),
    reshape main_v92 main_v93 (rfl : (.f32 : EltTy) = .f32) shapeCasts_S2x8192x1024_S2x64x128x2x8x64,
    binary main_v8 main_v93 main_v94 ((fun l r => Host.dotGeneral dot_S2x64x256x2x64_S2x64x128x2x8x64_S2x64x2x256x128x8_4_5_2_24_013_013 none l r) : (⟨S2x64x256x2x64, .f32⟩ : BufTy).Contents (Elt F) → (⟨S2x64x128x2x8x64, .f32⟩ : BufTy).Contents (Elt F) → (⟨S2x64x2x256x128x8, .f32⟩ : BufTy).Contents (Elt F)),
    unary main_v94 main_v95 ((transpose S2x64x2x8x128x256 [0, 1, 2, 5, 4, 3] · transposes_S2x64x2x256x128x8_S2x64x2x8x128x256_0_1_2_5_4_3) : (⟨S2x64x2x256x128x8, .f32⟩ : BufTy).Contents (Elt F) → (⟨S2x64x2x8x128x256, .f32⟩ : BufTy).Contents (Elt F)),
    nullary main_cst_18 (constant S_ .f32 0x3E000000#32),
    unary main_cst_18 main_v96 (broadcastInDim S2x64x2x8x128x256 ![] bcast_S_S2x64x2x8x128x256 : (⟨S_, .f32⟩ : BufTy).Contents (Elt F) → (⟨S2x64x2x8x128x256, .f32⟩ : BufTy).Contents (Elt F)),
    binary main_v95 main_v96 main_v97 (mulf : (⟨S2x64x2x8x128x256, .f32⟩ : BufTy).Contents (Elt F) → (⟨S2x64x2x8x128x256, .f32⟩ : BufTy).Contents (Elt F) → (⟨S2x64x2x8x128x256, .f32⟩ : BufTy).Contents (Elt F)),
    unary main_v59 main_v98 (broadcastInDim S1x1x2x8x128x256 ![2, 3, 4, 5] bcast_S2x8x128x256_S1x1x2x8x128x256_2_3_4_5 : (⟨S2x8x128x256, .f32⟩ : BufTy).Contents (Elt F) → (⟨S1x1x2x8x128x256, .f32⟩ : BufTy).Contents (Elt F)) ]

/-- @main's operations 121 … 172 of 172 (window `main_part2`). -/
abbrev ops_part2 : List (HloOp τ sig (Elt F)) :=
  [ unary main_v98 main_v99 (broadcastInDim S2x64x2x8x128x256 ![0, 1, 2, 3, 4, 5] bcast_S1x1x2x8x128x256_S2x64x2x8x128x256_0_1_2_3_4_5 : (⟨S1x1x2x8x128x256, .f32⟩ : BufTy).Contents (Elt F) → (⟨S2x64x2x8x128x256, .f32⟩ : BufTy).Contents (Elt F)),
    binary main_v97 main_v99 main_v100 (addf : (⟨S2x64x2x8x128x256, .f32⟩ : BufTy).Contents (Elt F) → (⟨S2x64x2x8x128x256, .f32⟩ : BufTy).Contents (Elt F) → (⟨S2x64x2x8x128x256, .f32⟩ : BufTy).Contents (Elt F)),
    unary main_v75 main_v101 (broadcastInDim S1x64x1x1x128x256 ![1, 4, 5] bcast_S64x128x256_S1x64x1x1x128x256_1_4_5 : (⟨S64x128x256, .i1⟩ : BufTy).Contents (Elt F) → (⟨S1x64x1x1x128x256, .i1⟩ : BufTy).Contents (Elt F)),
    nullary main_cst_19 (constant S_ .f32 0xFF800000#32),
    TRef.unary (TRef.of (T := ⟨S_, .f32⟩) main_cst_19) (TRef.of (T := ⟨S_, .f32⟩) main_call1_v0) id,
    TRef.unary (TRef.of (T := ⟨S1x64x1x1x128x256, .i1⟩) main_v101) (TRef.of (T := ⟨S2x64x2x8x128x256, .i1⟩) main_call1_v1) (broadcastInDim S2x64x2x8x128x256 ![0, 1, 2, 3, 4, 5] bcast_S1x64x1x1x128x256_S2x64x2x8x128x256_0_1_2_3_4_5),
    TRef.unary (TRef.of (T := ⟨S_, .f32⟩) main_call1_v0) (TRef.of (T := ⟨S2x64x2x8x128x256, .f32⟩) main_call1_v2) (broadcastInDim S2x64x2x8x128x256 ![] bcast_S_S2x64x2x8x128x256),
    TRef.ternary (TRef.of (T := ⟨S2x64x2x8x128x256, .i1⟩) main_call1_v1) (TRef.of (T := ⟨S2x64x2x8x128x256, .f32⟩) main_v100) (TRef.of (T := ⟨S2x64x2x8x128x256, .f32⟩) main_call1_v2) (TRef.of (T := ⟨S2x64x2x8x128x256, .f32⟩) main_v102) select,
    reshape main_arg3 main_v103 (rfl : (.f32 : EltTy) = .f32) shapeCasts_S16_S2x8,
    unary main_v103 main_v104 (broadcastInDim S1x1x2x8x1x1 ![2, 3] bcast_S2x8_S1x1x2x8x1x1_2_3 : (⟨S2x8, .f32⟩ : BufTy).Contents (Elt F) → (⟨S1x1x2x8x1x1, .f32⟩ : BufTy).Contents (Elt F)),
    nullary main_cst_20 (constant S_ .f32 0xFF800000#32),
    binary main_v102 main_cst_20 main_v105 ((fun x v => Host.reduce FloatOps.maximumf x v reducesTo_S2x64x2x8x128x256_S2x64x2x8x128_d5 h_S_) : (⟨S2x64x2x8x128x256, .f32⟩ : BufTy).Contents (Elt F) → (⟨S_, .f32⟩ : BufTy).Contents (Elt F) → (⟨S2x64x2x8x128, .f32⟩ : BufTy).Contents (Elt F)),
    unary main_v105 main_v106 (broadcastInDim S2x64x2x8x128x1 ![0, 1, 2, 3, 4] bcast_S2x64x2x8x128_S2x64x2x8x128x1_0_1_2_3_4 : (⟨S2x64x2x8x128, .f32⟩ : BufTy).Contents (Elt F) → (⟨S2x64x2x8x128x1, .f32⟩ : BufTy).Contents (Elt F)),
    unary main_v104 main_v107 (broadcastInDim S2x64x2x8x128x1 ![0, 1, 2, 3, 4, 5] bcast_S1x1x2x8x1x1_S2x64x2x8x128x1_0_1_2_3_4_5 : (⟨S1x1x2x8x1x1, .f32⟩ : BufTy).Contents (Elt F) → (⟨S2x64x2x8x128x1, .f32⟩ : BufTy).Contents (Elt F)),
    binary main_v106 main_v107 main_v108 (maximumf : (⟨S2x64x2x8x128x1, .f32⟩ : BufTy).Contents (Elt F) → (⟨S2x64x2x8x128x1, .f32⟩ : BufTy).Contents (Elt F) → (⟨S2x64x2x8x128x1, .f32⟩ : BufTy).Contents (Elt F)),
    unary main_v108 main_v109 (broadcastInDim S2x64x2x8x128x256 ![0, 1, 2, 3, 4, 5] bcast_S2x64x2x8x128x1_S2x64x2x8x128x256_0_1_2_3_4_5 : (⟨S2x64x2x8x128x1, .f32⟩ : BufTy).Contents (Elt F) → (⟨S2x64x2x8x128x256, .f32⟩ : BufTy).Contents (Elt F)),
    binary main_v102 main_v109 main_v110 (subf : (⟨S2x64x2x8x128x256, .f32⟩ : BufTy).Contents (Elt F) → (⟨S2x64x2x8x128x256, .f32⟩ : BufTy).Contents (Elt F) → (⟨S2x64x2x8x128x256, .f32⟩ : BufTy).Contents (Elt F)),
    unary main_v110 main_v111 (Host.exp : (⟨S2x64x2x8x128x256, .f32⟩ : BufTy).Contents (Elt F) → (⟨S2x64x2x8x128x256, .f32⟩ : BufTy).Contents (Elt F)),
    nullary main_cst_21 (constant S_ .f32 0x00000000#32),
    binary main_v111 main_cst_21 main_v112 ((fun x v => Host.reduceAdd x v reducesTo_S2x64x2x8x128x256_S2x64x2x8x128_d5 h_S_) : (⟨S2x64x2x8x128x256, .f32⟩ : BufTy).Contents (Elt F) → (⟨S_, .f32⟩ : BufTy).Contents (Elt F) → (⟨S2x64x2x8x128, .f32⟩ : BufTy).Contents (Elt F)),
    unary main_v112 main_v113 (broadcastInDim S2x64x2x8x128x1 ![0, 1, 2, 3, 4] bcast_S2x64x2x8x128_S2x64x2x8x128x1_0_1_2_3_4 : (⟨S2x64x2x8x128, .f32⟩ : BufTy).Contents (Elt F) → (⟨S2x64x2x8x128x1, .f32⟩ : BufTy).Contents (Elt F)),
    unary main_v104 main_v114 (broadcastInDim S2x64x2x8x128x1 ![0, 1, 2, 3, 4, 5] bcast_S1x1x2x8x1x1_S2x64x2x8x128x1_0_1_2_3_4_5 : (⟨S1x1x2x8x1x1, .f32⟩ : BufTy).Contents (Elt F) → (⟨S2x64x2x8x128x1, .f32⟩ : BufTy).Contents (Elt F)),
    binary main_v114 main_v108 main_v115 (subf : (⟨S2x64x2x8x128x1, .f32⟩ : BufTy).Contents (Elt F) → (⟨S2x64x2x8x128x1, .f32⟩ : BufTy).Contents (Elt F) → (⟨S2x64x2x8x128x1, .f32⟩ : BufTy).Contents (Elt F)),
    unary main_v115 main_v116 (Host.exp : (⟨S2x64x2x8x128x1, .f32⟩ : BufTy).Contents (Elt F) → (⟨S2x64x2x8x128x1, .f32⟩ : BufTy).Contents (Elt F)),
    binary main_v113 main_v116 main_v117 (addf : (⟨S2x64x2x8x128x1, .f32⟩ : BufTy).Contents (Elt F) → (⟨S2x64x2x8x128x1, .f32⟩ : BufTy).Contents (Elt F) → (⟨S2x64x2x8x128x1, .f32⟩ : BufTy).Contents (Elt F)),
    unary main_v117 main_v118 (broadcastInDim S2x64x2x8x128x256 ![0, 1, 2, 3, 4, 5] bcast_S2x64x2x8x128x1_S2x64x2x8x128x256_0_1_2_3_4_5 : (⟨S2x64x2x8x128x1, .f32⟩ : BufTy).Contents (Elt F) → (⟨S2x64x2x8x128x256, .f32⟩ : BufTy).Contents (Elt F)),
    binary main_v111 main_v118 main_v119 (Host.divf : (⟨S2x64x2x8x128x256, .f32⟩ : BufTy).Contents (Elt F) → (⟨S2x64x2x8x128x256, .f32⟩ : BufTy).Contents (Elt F) → (⟨S2x64x2x8x128x256, .f32⟩ : BufTy).Contents (Elt F)),
    binary main_v16 main_v119 main_v120 ((fun l r => Host.dotGeneral dot_S2x64x256x2x64_S2x64x2x8x128x256_S2x64x2x64x8x128_2_5_4_34_013_012 none l r) : (⟨S2x64x256x2x64, .f32⟩ : BufTy).Contents (Elt F) → (⟨S2x64x2x8x128x256, .f32⟩ : BufTy).Contents (Elt F) → (⟨S2x64x2x64x8x128, .f32⟩ : BufTy).Contents (Elt F)),
    unary main_v120 main_v121 ((transpose S2x64x128x2x8x64 [0, 1, 5, 2, 4, 3] · transposes_S2x64x2x64x8x128_S2x64x128x2x8x64_0_1_5_2_4_3) : (⟨S2x64x2x64x8x128, .f32⟩ : BufTy).Contents (Elt F) → (⟨S2x64x128x2x8x64, .f32⟩ : BufTy).Contents (Elt F)),
    reshape main_v121 main_v122 (rfl : (.f32 : EltTy) = .f32) shapeCasts_S2x64x128x2x8x64_S2x8192x1024,
    binary main_v122 main_arg8 main_v123 ((fun l r => Host.dotGeneral dot_S2x8192x1024_S1024x1024_S2x8192x1024_2_0_01_1_n_n none l r) : (⟨S2x8192x1024, .f32⟩ : BufTy).Contents (Elt F) → (⟨S1024x1024, .f32⟩ : BufTy).Contents (Elt F) → (⟨S2x8192x1024, .f32⟩ : BufTy).Contents (Elt F)),
    unary main_arg9 main_v124 (broadcastInDim S1x1x1024 ![2] bcast_S1024_S1x1x1024_2 : (⟨S1024, .f32⟩ : BufTy).Contents (Elt F) → (⟨S1x1x1024, .f32⟩ : BufTy).Contents (Elt F)),
    unary main_v124 main_v125 (broadcastInDim S2x8192x1024 ![0, 1, 2] bcast_S1x1x1024_S2x8192x1024_0_1_2 : (⟨S1x1x1024, .f32⟩ : BufTy).Contents (Elt F) → (⟨S2x8192x1024, .f32⟩ : BufTy).Contents (Elt F)),
    binary main_v123 main_v125 main_v126 (addf : (⟨S2x8192x1024, .f32⟩ : BufTy).Contents (Elt F) → (⟨S2x8192x1024, .f32⟩ : BufTy).Contents (Elt F) → (⟨S2x8192x1024, .f32⟩ : BufTy).Contents (Elt F)),
    binary main_v126 main_v126 main_v127 (mulf : (⟨S2x8192x1024, .f32⟩ : BufTy).Contents (Elt F) → (⟨S2x8192x1024, .f32⟩ : BufTy).Contents (Elt F) → (⟨S2x8192x1024, .f32⟩ : BufTy).Contents (Elt F)),
    nullary main_cst_22 (constant S_ .f32 0x00000000#32),
    binary main_v127 main_cst_22 main_v128 ((fun x v => Host.reduceAdd x v reducesTo_S2x8192x1024_S2x8192_d2 h_S_) : (⟨S2x8192x1024, .f32⟩ : BufTy).Contents (Elt F) → (⟨S_, .f32⟩ : BufTy).Contents (Elt F) → (⟨S2x8192, .f32⟩ : BufTy).Contents (Elt F)),
    unary main_v128 main_v129 (broadcastInDim S2x8192x1 ![0, 1] bcast_S2x8192_S2x8192x1_0_1 : (⟨S2x8192, .f32⟩ : BufTy).Contents (Elt F) → (⟨S2x8192x1, .f32⟩ : BufTy).Contents (Elt F)),
    nullary main_cst_23 (constant S_ .f32 0x44800000#32),
    unary main_cst_23 main_v130 (broadcastInDim S2x8192x1 ![] bcast_S_S2x8192x1 : (⟨S_, .f32⟩ : BufTy).Contents (Elt F) → (⟨S2x8192x1, .f32⟩ : BufTy).Contents (Elt F)),
    binary main_v129 main_v130 main_v131 (Host.divf : (⟨S2x8192x1, .f32⟩ : BufTy).Contents (Elt F) → (⟨S2x8192x1, .f32⟩ : BufTy).Contents (Elt F) → (⟨S2x8192x1, .f32⟩ : BufTy).Contents (Elt F)),
    nullary main_cst_24 (constant S_ .f32 0x358637BD#32),
    unary main_cst_24 main_v132 (broadcastInDim S2x8192x1 ![] bcast_S_S2x8192x1 : (⟨S_, .f32⟩ : BufTy).Contents (Elt F) → (⟨S2x8192x1, .f32⟩ : BufTy).Contents (Elt F)),
    binary main_v131 main_v132 main_v133 (addf : (⟨S2x8192x1, .f32⟩ : BufTy).Contents (Elt F) → (⟨S2x8192x1, .f32⟩ : BufTy).Contents (Elt F) → (⟨S2x8192x1, .f32⟩ : BufTy).Contents (Elt F)),
    unary main_v133 main_v134 (Host.rsqrt : (⟨S2x8192x1, .f32⟩ : BufTy).Contents (Elt F) → (⟨S2x8192x1, .f32⟩ : BufTy).Contents (Elt F)),
    unary main_v134 main_v135 (broadcastInDim S2x8192x1024 ![0, 1, 2] bcast_S2x8192x1_S2x8192x1024_0_1_2 : (⟨S2x8192x1, .f32⟩ : BufTy).Contents (Elt F) → (⟨S2x8192x1024, .f32⟩ : BufTy).Contents (Elt F)),
    binary main_v126 main_v135 main_v136 (mulf : (⟨S2x8192x1024, .f32⟩ : BufTy).Contents (Elt F) → (⟨S2x8192x1024, .f32⟩ : BufTy).Contents (Elt F) → (⟨S2x8192x1024, .f32⟩ : BufTy).Contents (Elt F)),
    unary main_arg5 main_v137 (broadcastInDim S1x1x1024 ![2] bcast_S1024_S1x1x1024_2 : (⟨S1024, .f32⟩ : BufTy).Contents (Elt F) → (⟨S1x1x1024, .f32⟩ : BufTy).Contents (Elt F)),
    unary main_v137 main_v138 (broadcastInDim S2x8192x1024 ![0, 1, 2] bcast_S1x1x1024_S2x8192x1024_0_1_2 : (⟨S1x1x1024, .f32⟩ : BufTy).Contents (Elt F) → (⟨S2x8192x1024, .f32⟩ : BufTy).Contents (Elt F)),
    binary main_v136 main_v138 main_v139 (mulf : (⟨S2x8192x1024, .f32⟩ : BufTy).Contents (Elt F) → (⟨S2x8192x1024, .f32⟩ : BufTy).Contents (Elt F) → (⟨S2x8192x1024, .f32⟩ : BufTy).Contents (Elt F)),
    binary main_arg0 main_v139 main_v140 (addf : (⟨S2x8192x1024, .f32⟩ : BufTy).Contents (Elt F) → (⟨S2x8192x1024, .f32⟩ : BufTy).Contents (Elt F) → (⟨S2x8192x1024, .f32⟩ : BufTy).Contents (Elt F)),
    reshape main_v140 main_v141 (rfl : (.f32 : EltTy) = .f32) shapeCasts_S2x8192x1024_S16384x1024 ]

/-- @main's 172 operations, in order (a called function's operations stand in its call's place, spelt `TRef.…`). -/
abbrev ops : List (HloOp τ sig (Elt F)) :=
  ops_part0 ++ (ops_part1 ++ (ops_part2))

set_option maxRecDepth 8192 in
set_option maxHeartbeats 8000000 in
theorem main_part0_eq (c : Dev nD) : main_part0 (F := F) c = seq ops_part0 := rfl
set_option maxRecDepth 8192 in
set_option maxHeartbeats 8000000 in
theorem main_part1_eq (c : Dev nD) : main_part1 (F := F) c = seq ops_part1 := rfl
set_option maxRecDepth 8192 in
set_option maxHeartbeats 8000000 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨reshape_bufs_sub .., unary_bufs_sub .., reshape_bufs_sub .., reshape_bufs_sub .., unary_bufs_sub .., nullary_bufs_sub .., unary_bufs_sub .., unary_bufs_sub .., binary_bufs_sub .., binary_bufs_sub .., unary_bufs_sub .., reshape_bufs_sub .., reshape_bufs_sub .., unary_bufs_sub .., nullary_bufs_sub .., unary_bufs_sub .., unary_bufs_sub .., binary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., nullary_bufs_sub .., unary_bufs_sub .., binary_bufs_sub .., nullary_bufs_sub .., unary_bufs_sub .., nullary_bufs_sub .., unary_bufs_sub .., binary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., reshape_bufs_sub .., binary_bufs_sub .., unary_bufs_sub .., nullary_bufs_sub .., unary_bufs_sub .., binary_bufs_sub .., unary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨unary_bufs_sub .., binary_bufs_sub .., unary_bufs_sub .., nullary_bufs_sub .., unary_bufs_sub .., unary_bufs_sub .., unary_bufs_sub .., ternary_bufs_sub .., reshape_bufs_sub .., unary_bufs_sub .., nullary_bufs_sub .., binary_bufs_sub .., unary_bufs_sub .., unary_bufs_sub .., binary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., binary_bufs_sub .., binary_bufs_sub .., unary_bufs_sub .., reshape_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., reshape_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h, List.forall_iff_forall_mem.mp ops_part2_sub op h]
theorem ops_fresh : ∀ op ∈ (ops : List (HloOp τ sig (Elt F))), op.fresh = ∅ := fun op h => by
    simp only [ops, List.mem_append] at h
    rcases h with h | h | h
    exacts [List.forall_iff_forall_mem.mp ops_part0_fresh op h, List.forall_iff_forall_mem.mp ops_part1_fresh op h, List.forall_iff_forall_mem.mp ops_part2_fresh op h]

set_option maxRecDepth 8192 in
/-- `main_v0`'s composed term of the arguments (named: it is used 2 times). -/
def res_main_v0 (V0 : Valuation τ sig (Elt F)) : (Proc.devRef .tc main_v0 : DevRef τ sig).ty.Contents (Elt F) :=
  shapeCast _ (V0 (Proc.devRef .tc main_arg1)) shapeCasts_S2x8192x256_S2x8192x2x2x64

set_option maxRecDepth 8192 in
/-- `main_v3`'s composed term of the arguments (named: it is used 3 times). -/
def res_main_v3 (V0 : Valuation τ sig (Elt F)) : (Proc.devRef .tc main_v3 : DevRef τ sig).ty.Contents (Elt F) :=
  shapeCast _ (shapeCast _ (extractStridedSlice S2x8192x1x2x64 ![0, 0, 0, 0, 0] (res_main_v0 V0) slices_S2x8192x2x2x64_S2x8192x1x2x64_0_0_0_0_0) shapeCasts_S2x8192x1x2x64_S2x8192x2x64) shapeCasts_S2x8192x2x64_S2x64x128x2x64

set_option maxRecDepth 8192 in
/-- `main_v11`'s composed term of the arguments (named: it is used 3 times). -/
def res_main_v11 (V0 : Valuation τ sig (Elt F)) : (Proc.devRef .tc main_v11 : DevRef τ sig).ty.Contents (Elt F) :=
  shapeCast _ (shapeCast _ (extractStridedSlice S2x8192x1x2x64 ![0, 0, 1, 0, 0] (res_main_v0 V0) slices_S2x8192x2x2x64_S2x8192x1x2x64_0_0_1_0_0) shapeCasts_S2x8192x1x2x64_S2x8192x2x64) shapeCasts_S2x8192x2x64_S2x64x128x2x64

set_option maxRecDepth 8192 in
/-- `main_v25`'s composed term of the arguments (named: it is used 3 times). -/
def res_main_v25 (V0 : Valuation τ sig (Elt F)) : (Proc.devRef .tc main_v25 : DevRef τ sig).ty.Contents (Elt F) :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

set_option maxRecDepth 8192 in
/-- `main_v32`'s composed term of the arguments (named: it is used 3 times). -/
def res_main_v32 (V0 : Valuation τ sig (Elt F)) : (Proc.devRef .tc main_v32 : DevRef τ sig).ty.Contents (Elt F) :=
  maxsi (res_main_v25 V0) (broadcastInDim S128x256 ![] bcast_S_S128x256 (constantI S_ 32 0#32))

set_option maxRecDepth 8192 in
/-- `main_v50`'s composed term of the arguments (named: it is used 3 times). -/
def res_main_v50 (V0 : Valuation τ sig (Elt F)) : (Proc.devRef .tc main_v50 : DevRef τ sig).ty.Contents (Elt F) :=
  select (cmpi .slt (res_main_v32 V0) (broadcastInDim S128x256 ![] bcast_S_S128x256 (constantI S_ 32 16#32))) (res_main_v32 V0) (minsi (addi (broadcastInDim S128x256 ![] bcast_S_S128x256 (constantI S_ 32 16#32)) (fptosi 32 (mulf (Host.divf (Host.log (Host.divf (sitofp .f32 (maxsi (res_main_v32 V0) (broadcastInDim S128x256 ![] bcast_S_S128x256 (constantI S_ 32 1#32)))) (broadcastInDim S128x256 ![] bcast_S_S128x256 (constant S_ .f32 0x41800000#32)))) (broadcastInDim S128x256 ![] bcast_S_S128x256 (constant S_ .f32 0x40051592#32))) (broadcastInDim S128x256 ![] bcast_S_S128x256 (constant S_ .f32 0x41800000#32)) : (⟨S128x256, .f32⟩ : BufTy).Contents (Elt F)))) (broadcastInDim S128x256 ![] bcast_S_S128x256 (constantI S_ 32 31#32)))

set_option maxRecDepth 8192 in
/-- `main_v102`'s composed term of the arguments (named: it is used 2 times). -/
def res_main_v102 (V0 : Valuation τ sig (Elt F)) : (Proc.devRef .tc main_v102 : DevRef τ sig).ty.Contents (Elt F) :=
  select (broadcastInDim S2x64x2x8x128x256 ![0, 1, 2, 3, 4, 5] bcast_S1x64x1x1x128x256_S2x64x2x8x128x256_0_1_2_3_4_5 (broadcastInDim S1x64x1x1x128x256 ![1, 4, 5] bcast_S64x128x256_S1x64x1x1x128x256_1_4_5 (andi (broadcastInDim S64x128x256 ![0, 1, 2] bcast_S1x128x256_S64x128x256_0_1_2 (broadcastInDim S1x128x256 ![1, 2] bcast_S128x256_S1x128x256_1_2 (andi (cmpi .sge (res_main_v25 V0) (broadcastInDim S128x256 ![] bcast_S_S128x256 (constantI S_ 32 0#32))) (cmpi .slt (res_main_v25 V0) (broadcastInDim S128x256 ![] bcast_S_S128x256 (constantI S_ 32 128#32)))))) (broadcastInDim S64x128x256 ![0, 1, 2] bcast_S64x1x256_S64x128x256_0_1_2 (broadcastInDim S64x1x256 ![0, 2] bcast_S64x256_S64x1x256_0_2 (ori (broadcastInDim S64x256 ![0, 1] bcast_S64x1_S64x256_0_1 (cmpi .sgt (broadcastInDim S64x1 ![0] bcast_S64_S64x1_0 (iotaInDim S64 32 0)) (broadcastInDim S64x1 ![] bcast_S_S64x1 (constantI S_ 32 0#32)))) (broadcastInDim S64x256 ![0, 1] bcast_S1x256_S64x256_0_1 (cmpi .sge (broadcastInDim S1x256 ![1] bcast_S256_S1x256_1 (iotaInDim S256 32 0)) (broadcastInDim S1x256 ![] bcast_S_S1x256 (constantI S_ 32 128#32)))))))))) (addf (mulf (transpose S2x64x2x8x128x256 [0, 1, 2, 5, 4, 3] (Host.dotGeneral dot_S2x64x256x2x64_S2x64x128x2x8x64_S2x64x2x256x128x8_4_5_2_24_013_013 none (concatenate S2x64x256x2x64 2 [⟨S2x64x128x2x64, (concatenate S2x64x128x2x64 1 [⟨S2x1x128x2x64, (broadcastInDim S2x1x128x2x64 ![] bcast_S_S2x1x128x2x64 (constant S_ .f32 0x00000000#32))⟩, ⟨S2x63x128x2x64, (extractStridedSlice S2x63x128x2x64 ![0, 0, 0, 0, 0] (res_main_v3 V0) slices_S2x64x128x2x64_S2x63x128x2x64_0_0_0_0_0)⟩] concatenates_S2x1x128x2x64_S2x63x128x2x64_S2x64x128x2x64_d1)⟩, ⟨S2x64x128x2x64, (res_main_v3 V0)⟩] concatenates_S2x64x128x2x64_S2x64x128x2x64_S2x64x256x2x64_d2) (shapeCast _ (addf (Host.dotGeneral dot_S2x8192x1024_S1024x1024_S2x8192x1024_2_0_01_1_n_n none (mulf (mulf (V0 (Proc.devRef .tc main_arg0)) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (V0 (Proc.devRef .tc main_arg0)) (V0 (Proc.devRef .tc main_arg0))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (V0 (Proc.devRef .tc main_arg4))))) (V0 (Proc.devRef .tc main_arg6))) (broadcastInDim S2x8192x1024 ![0, 1, 2] bcast_S1x1x1024_S2x8192x1024_0_1_2 (broadcastInDim S1x1x1024 ![2] bcast_S1024_S1x1x1024_2 (V0 (Proc.devRef .tc main_arg7))))) shapeCasts_S2x8192x1024_S2x64x128x2x8x64)) transposes_S2x64x2x256x128x8_S2x64x2x8x128x256_0_1_2_5_4_3) (broadcastInDim S2x64x2x8x128x256 ![] bcast_S_S2x64x2x8x128x256 (constant S_ .f32 0x3E000000#32))) (broadcastInDim S2x64x2x8x128x256 ![0, 1, 2, 3, 4, 5] bcast_S1x1x2x8x128x256_S2x64x2x8x128x256_0_1_2_3_4_5 (broadcastInDim S1x1x2x8x128x256 ![2, 3, 4, 5] bcast_S2x8x128x256_S1x1x2x8x128x256_2_3_4_5 (shapeCast _ (transpose S16x128x256 [2, 0, 1] (Host.gather gather_S32x16_S128x256x1_S128x256x16_2_0_n_n_0_2_116 (V0 (Proc.devRef .tc main_arg2)) (broadcastInDim S128x256x1 ![0, 1] bcast_S128x256_S128x256x1_0_1 (select (cmpi .slt (res_main_v50 V0) (broadcastInDim S128x256 ![] bcast_S_S128x256 (constantI S_ 32 0#32))) (addi (res_main_v50 V0) (broadcastInDim S128x256 ![] bcast_S_S128x256 (constantI S_ 32 32#32))) (res_main_v50 V0)))) transposes_S128x256x16_S16x128x256_2_0_1) shapeCasts_S16x128x256_S2x8x128x256)))) (broadcastInDim S2x64x2x8x128x256 ![] bcast_S_S2x64x2x8x128x256 (id (constant S_ .f32 0xFF800000#32)))

set_option maxRecDepth 8192 in
/-- `main_v104`'s composed term of the arguments (named: it is used 2 times). -/
def res_main_v104 (V0 : Valuation τ sig (Elt F)) : (Proc.devRef .tc main_v104 : DevRef τ sig).ty.Contents (Elt F) :=
  broadcastInDim S1x1x2x8x1x1 ![2, 3] bcast_S2x8_S1x1x2x8x1x1_2_3 (shapeCast _ (V0 (Proc.devRef .tc main_arg3)) shapeCasts_S16_S2x8)

set_option maxRecDepth 8192 in
/-- `main_v108`'s composed term of the arguments (named: it is used 2 times). -/
def res_main_v108 (V0 : Valuation τ sig (Elt F)) : (Proc.devRef .tc main_v108 : DevRef τ sig).ty.Contents (Elt F) :=
  maximumf (broadcastInDim S2x64x2x8x128x1 ![0, 1, 2, 3, 4] bcast_S2x64x2x8x128_S2x64x2x8x128x1_0_1_2_3_4 (Host.reduce FloatOps.maximumf (res_main_v102 V0) (constant S_ .f32 0xFF800000#32) reducesTo_S2x64x2x8x128x256_S2x64x2x8x128_d5 h_S_)) (broadcastInDim S2x64x2x8x128x1 ![0, 1, 2, 3, 4, 5] bcast_S1x1x2x8x1x1_S2x64x2x8x128x1_0_1_2_3_4_5 (res_main_v104 V0))

set_option maxRecDepth 8192 in
/-- `main_v111`'s composed term of the arguments (named: it is used 2 times). -/
def res_main_v111 (V0 : Valuation τ sig (Elt F)) : (Proc.devRef .tc main_v111 : DevRef τ sig).ty.Contents (Elt F) :=
  Host.exp (subf (res_main_v102 V0) (broadcastInDim S2x64x2x8x128x256 ![0, 1, 2, 3, 4, 5] bcast_S2x64x2x8x128x1_S2x64x2x8x128x256_0_1_2_3_4_5 (res_main_v108 V0)))

set_option maxRecDepth 8192 in
/-- `main_v126`'s composed term of the arguments (named: it is used 3 times). -/
def res_main_v126 (V0 : Valuation τ sig (Elt F)) : (Proc.devRef .tc main_v126 : DevRef τ sig).ty.Contents (Elt F) :=
  addf (Host.dotGeneral dot_S2x8192x1024_S1024x1024_S2x8192x1024_2_0_01_1_n_n none (shapeCast _ (transpose S2x64x128x2x8x64 [0, 1, 5, 2, 4, 3] (Host.dotGeneral dot_S2x64x256x2x64_S2x64x2x8x128x256_S2x64x2x64x8x128_2_5_4_34_013_012 none (concatenate S2x64x256x2x64 2 [⟨S2x64x128x2x64, (concatenate S2x64x128x2x64 1 [⟨S2x1x128x2x64, (broadcastInDim S2x1x128x2x64 ![] bcast_S_S2x1x128x2x64 (constant S_ .f32 0x00000000#32))⟩, ⟨S2x63x128x2x64, (extractStridedSlice S2x63x128x2x64 ![0, 0, 0, 0, 0] (res_main_v11 V0) slices_S2x64x128x2x64_S2x63x128x2x64_0_0_0_0_0)⟩] concatenates_S2x1x128x2x64_S2x63x128x2x64_S2x64x128x2x64_d1)⟩, ⟨S2x64x128x2x64, (res_main_v11 V0)⟩] concatenates_S2x64x128x2x64_S2x64x128x2x64_S2x64x256x2x64_d2) (Host.divf (res_main_v111 V0) (broadcastInDim S2x64x2x8x128x256 ![0, 1, 2, 3, 4, 5] bcast_S2x64x2x8x128x1_S2x64x2x8x128x256_0_1_2_3_4_5 (addf (broadcastInDim S2x64x2x8x128x1 ![0, 1, 2, 3, 4] bcast_S2x64x2x8x128_S2x64x2x8x128x1_0_1_2_3_4 (Host.reduceAdd (res_main_v111 V0) (constant S_ .f32 0x00000000#32) reducesTo_S2x64x2x8x128x256_S2x64x2x8x128_d5 h_S_)) (Host.exp (subf (broadcastInDim S2x64x2x8x128x1 ![0, 1, 2, 3, 4, 5] bcast_S1x1x2x8x1x1_S2x64x2x8x128x1_0_1_2_3_4_5 (res_main_v104 V0)) (res_main_v108 V0))))))) transposes_S2x64x2x64x8x128_S2x64x128x2x8x64_0_1_5_2_4_3) shapeCasts_S2x64x128x2x8x64_S2x8192x1024) (V0 (Proc.devRef .tc main_arg8))) (broadcastInDim S2x8192x1024 ![0, 1, 2] bcast_S1x1x1024_S2x8192x1024_0_1_2 (broadcastInDim S1x1x1024 ![2] bcast_S1024_S1x1x1024_2 (V0 (Proc.devRef .tc main_arg9))))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v0, main_v1, main_v2, main_v3, main_v4, main_cst, main_v5, main_v6, main_v7, main_v8, main_v9, main_v10, main_v11, main_v12, main_cst_0, main_v13, main_v14, main_v15, main_v16, main_v17, main_v18, main_c, main_v19, main_v20, main_v21, main_v22, main_v23, main_v24, main_v25, main_c_1, main_v26, main_v27, main_c_2, main_v28, main_v29, main_v30, main_c_3, main_v31, main_v32, main_c_4, main_v33, main_v34, main_v35, main_cst_5, main_v36, main_v37, main_v38, main_cst_6, main_v39, main_v40, main_cst_7, main_v41, main_v42, main_v43, main_c_8, main_v44, main_v45, main_c_9, main_v46, main_v47]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
set_option maxRecDepth 8192 in
set_option maxHeartbeats 2000000 in
theorem val1_main_v8 (V0 : Valuation τ sig (Elt F)) : val1 V0 (no_index (Proc.devRef .tc main_v8)) = concatenate S2x64x256x2x64 2 [⟨S2x64x128x2x64, (concatenate S2x64x128x2x64 1 [⟨S2x1x128x2x64, (broadcastInDim S2x1x128x2x64 ![] bcast_S_S2x1x128x2x64 (constant S_ .f32 0x00000000#32))⟩, ⟨S2x63x128x2x64, (extractStridedSlice S2x63x128x2x64 ![0, 0, 0, 0, 0] (res_main_v3 V0) slices_S2x64x128x2x64_S2x63x128x2x64_0_0_0_0_0)⟩] concatenates_S2x1x128x2x64_S2x63x128x2x64_S2x64x128x2x64_d1)⟩, ⟨S2x64x128x2x64, (res_main_v3 V0)⟩] concatenates_S2x64x128x2x64_S2x64x128x2x64_S2x64x256x2x64_d2 := by
  unfold val1
  simp only [ops_part0]
  after_results_simp
  simp only [val0_main_arg1] <;> rfl
set_option maxRecDepth 8192 in
set_option maxHeartbeats 2000000 in
theorem val1_main_v16 (V0 : Valuation τ sig (Elt F)) : val1 V0 (no_index (Proc.devRef .tc main_v16)) = concatenate S2x64x256x2x64 2 [⟨S2x64x128x2x64, (concatenate S2x64x128x2x64 1 [⟨S2x1x128x2x64, (broadcastInDim S2x1x128x2x64 ![] bcast_S_S2x1x128x2x64 (constant S_ .f32 0x00000000#32))⟩, ⟨S2x63x128x2x64, (extractStridedSlice S2x63x128x2x64 ![0, 0, 0, 0, 0] (res_main_v11 V0) slices_S2x64x128x2x64_S2x63x128x2x64_0_0_0_0_0)⟩] concatenates_S2x1x128x2x64_S2x63x128x2x64_S2x64x128x2x64_d1)⟩, ⟨S2x64x128x2x64, (res_main_v11 V0)⟩] concatenates_S2x64x128x2x64_S2x64x128x2x64_S2x64x256x2x64_d2 := by
  unfold val1
  simp only [ops_part0]
  after_results_simp
  simp only [val0_main_arg1] <;> rfl
set_option maxRecDepth 8192 in
set_option maxHeartbeats 2000000 in
theorem val1_main_v30 (V0 : Valuation τ sig (Elt F)) : val1 V0 (no_index (Proc.devRef .tc main_v30)) = andi (cmpi .sge (res_main_v25 V0) (broadcastInDim S128x256 ![] bcast_S_S128x256 (constantI S_ 32 0#32))) (cmpi .slt (res_main_v25 V0) (broadcastInDim S128x256 ![] bcast_S_S128x256 (constantI S_ 32 128#32))) := by
  unfold val1
  simp only [ops_part0]
  after_results_simp
  all_goals rfl
set_option maxRecDepth 8192 in
set_option maxHeartbeats 2000000 in
theorem val1_main_v32 (V0 : Valuation τ sig (Elt F)) : val1 V0 (no_index (Proc.devRef .tc main_v32)) = res_main_v32 V0 := by
  unfold val1
  simp only [ops_part0]
  after_results_simp
  all_goals rfl
set_option maxRecDepth 8192 in
set_option maxHeartbeats 2000000 in
theorem val1_main_v47 (V0 : Valuation τ sig (Elt F)) : val1 V0 (no_index (Proc.devRef .tc main_v47)) = minsi (addi (broadcastInDim S128x256 ![] bcast_S_S128x256 (constantI S_ 32 16#32)) (fptosi 32 (mulf (Host.divf (Host.log (Host.divf (sitofp .f32 (maxsi (res_main_v32 V0) (broadcastInDim S128x256 ![] bcast_S_S128x256 (constantI S_ 32 1#32)))) (broadcastInDim S128x256 ![] bcast_S_S128x256 (constant S_ .f32 0x41800000#32)))) (broadcastInDim S128x256 ![] bcast_S_S128x256 (constant S_ .f32 0x40051592#32))) (broadcastInDim S128x256 ![] bcast_S_S128x256 (constant S_ .f32 0x41800000#32)) : (⟨S128x256, .f32⟩ : BufTy).Contents (Elt F)))) (broadcastInDim S128x256 ![] bcast_S_S128x256 (constantI S_ 32 31#32)) := by
  unfold val1
  simp only [ops_part0]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_c_10, main_v48, main_v49, main_v50, main_c_11, main_v51, main_v52, main_c_12, main_v53, main_v54, main_v55, main_v56, main_v57, main_v58, main_v59, main_v60, main_v61, main_c_13, main_v62, main_v63, main_v64, main_v65, main_c_14, main_v66, main_v67, main_v68, main_v69, main_v70, main_v71, main_v72, main_v73, main_v74, main_v75, main_v76, main_cst_15, main_v77, main_v78, main_cst_16, main_v79, main_v80, main_cst_17, main_v81, main_v82, main_v83, main_v84, main_v85, main_v86, main_v87, main_v88, main_v89, main_v90, main_v91, main_v92, main_v93, main_v94, main_v95, main_cst_18, main_v96, main_v97, main_v98]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_v16 (V0 : Valuation τ sig (Elt F)) : val2 V0 (no_index (Proc.devRef .tc main_v16)) = concatenate S2x64x256x2x64 2 [⟨S2x64x128x2x64, (concatenate S2x64x128x2x64 1 [⟨S2x1x128x2x64, (broadcastInDim S2x1x128x2x64 ![] bcast_S_S2x1x128x2x64 (constant S_ .f32 0x00000000#32))⟩, ⟨S2x63x128x2x64, (extractStridedSlice S2x63x128x2x64 ![0, 0, 0, 0, 0] (res_main_v11 V0) slices_S2x64x128x2x64_S2x63x128x2x64_0_0_0_0_0)⟩] concatenates_S2x1x128x2x64_S2x63x128x2x64_S2x64x128x2x64_d1)⟩, ⟨S2x64x128x2x64, (res_main_v11 V0)⟩] concatenates_S2x64x128x2x64_S2x64x128x2x64_S2x64x256x2x64_d2 :=
  (val2_keep V0 main_v16 (by decide)).trans (val1_main_v16 V0)
set_option maxRecDepth 8192 in
set_option maxHeartbeats 2000000 in
theorem val2_main_v75 (V0 : Valuation τ sig (Elt F)) : val2 V0 (no_index (Proc.devRef .tc main_v75)) = andi (broadcastInDim S64x128x256 ![0, 1, 2] bcast_S1x128x256_S64x128x256_0_1_2 (broadcastInDim S1x128x256 ![1, 2] bcast_S128x256_S1x128x256_1_2 (andi (cmpi .sge (res_main_v25 V0) (broadcastInDim S128x256 ![] bcast_S_S128x256 (constantI S_ 32 0#32))) (cmpi .slt (res_main_v25 V0) (broadcastInDim S128x256 ![] bcast_S_S128x256 (constantI S_ 32 128#32)))))) (broadcastInDim S64x128x256 ![0, 1, 2] bcast_S64x1x256_S64x128x256_0_1_2 (broadcastInDim S64x1x256 ![0, 2] bcast_S64x256_S64x1x256_0_2 (ori (broadcastInDim S64x256 ![0, 1] bcast_S64x1_S64x256_0_1 (cmpi .sgt (broadcastInDim S64x1 ![0] bcast_S64_S64x1_0 (iotaInDim S64 32 0)) (broadcastInDim S64x1 ![] bcast_S_S64x1 (constantI S_ 32 0#32)))) (broadcastInDim S64x256 ![0, 1] bcast_S1x256_S64x256_0_1 (cmpi .sge (broadcastInDim S1x256 ![1] bcast_S256_S1x256_1 (iotaInDim S256 32 0)) (broadcastInDim S1x256 ![] bcast_S_S1x256 (constantI S_ 32 128#32))))))) := by
  unfold val2
  simp only [ops_part1, TRef.ternary, TRef.toBuf, TRef.ofBuf, cast_eq]
  after_results_simp
  simp only [val1_main_v30] <;> rfl
set_option maxRecDepth 8192 in
set_option maxHeartbeats 2000000 in
theorem val2_main_v97 (V0 : Valuation τ sig (Elt F)) : val2 V0 (no_index (Proc.devRef .tc main_v97)) = mulf (transpose S2x64x2x8x128x256 [0, 1, 2, 5, 4, 3] (Host.dotGeneral dot_S2x64x256x2x64_S2x64x128x2x8x64_S2x64x2x256x128x8_4_5_2_24_013_013 none (concatenate S2x64x256x2x64 2 [⟨S2x64x128x2x64, (concatenate S2x64x128x2x64 1 [⟨S2x1x128x2x64, (broadcastInDim S2x1x128x2x64 ![] bcast_S_S2x1x128x2x64 (constant S_ .f32 0x00000000#32))⟩, ⟨S2x63x128x2x64, (extractStridedSlice S2x63x128x2x64 ![0, 0, 0, 0, 0] (res_main_v3 V0) slices_S2x64x128x2x64_S2x63x128x2x64_0_0_0_0_0)⟩] concatenates_S2x1x128x2x64_S2x63x128x2x64_S2x64x128x2x64_d1)⟩, ⟨S2x64x128x2x64, (res_main_v3 V0)⟩] concatenates_S2x64x128x2x64_S2x64x128x2x64_S2x64x256x2x64_d2) (shapeCast _ (addf (Host.dotGeneral dot_S2x8192x1024_S1024x1024_S2x8192x1024_2_0_01_1_n_n none (mulf (mulf (V0 (Proc.devRef .tc main_arg0)) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (V0 (Proc.devRef .tc main_arg0)) (V0 (Proc.devRef .tc main_arg0))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (V0 (Proc.devRef .tc main_arg4))))) (V0 (Proc.devRef .tc main_arg6))) (broadcastInDim S2x8192x1024 ![0, 1, 2] bcast_S1x1x1024_S2x8192x1024_0_1_2 (broadcastInDim S1x1x1024 ![2] bcast_S1024_S1x1x1024_2 (V0 (Proc.devRef .tc main_arg7))))) shapeCasts_S2x8192x1024_S2x64x128x2x8x64)) transposes_S2x64x2x256x128x8_S2x64x2x8x128x256_0_1_2_5_4_3) (broadcastInDim S2x64x2x8x128x256 ![] bcast_S_S2x64x2x8x128x256 (constant S_ .f32 0x3E000000#32)) := by
  unfold val2
  simp only [ops_part1, TRef.ternary, TRef.toBuf, TRef.ofBuf, cast_eq]
  after_results_simp
  simp only [val1_main_arg7, val1_main_arg6, val1_main_arg4, val1_main_arg0, val1_main_v8] <;> rfl
set_option maxRecDepth 8192 in
set_option maxHeartbeats 2000000 in
theorem val2_main_v98 (V0 : Valuation τ sig (Elt F)) : val2 V0 (no_index (Proc.devRef .tc main_v98)) = broadcastInDim S1x1x2x8x128x256 ![2, 3, 4, 5] bcast_S2x8x128x256_S1x1x2x8x128x256_2_3_4_5 (shapeCast _ (transpose S16x128x256 [2, 0, 1] (Host.gather gather_S32x16_S128x256x1_S128x256x16_2_0_n_n_0_2_116 (V0 (Proc.devRef .tc main_arg2)) (broadcastInDim S128x256x1 ![0, 1] bcast_S128x256_S128x256x1_0_1 (select (cmpi .slt (res_main_v50 V0) (broadcastInDim S128x256 ![] bcast_S_S128x256 (constantI S_ 32 0#32))) (addi (res_main_v50 V0) (broadcastInDim S128x256 ![] bcast_S_S128x256 (constantI S_ 32 32#32))) (res_main_v50 V0)))) transposes_S128x256x16_S16x128x256_2_0_1) shapeCasts_S16x128x256_S2x8x128x256) := by
  unfold val2
  simp only [ops_part1, TRef.ternary, TRef.toBuf, TRef.ofBuf, cast_eq]
  after_results_simp
  simp only [val1_main_v47, val1_main_v32, val1_main_arg2] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v99, main_v100, main_v101, main_cst_19, main_call1_v0, main_call1_v1, main_call1_v2, main_v102, main_v103, main_v104, main_cst_20, main_v105, main_v106, main_v107, main_v108, main_v109, main_v110, main_v111, main_cst_21, main_v112, main_v113, main_v114, main_v115, main_v116, main_v117, main_v118, main_v119, main_v120, main_v121, main_v122, main_v123, main_v124, main_v125, main_v126, main_v127, main_cst_22, main_v128, main_v129, main_cst_23, main_v130, main_v131, main_cst_24, main_v132, main_v133, main_v134, main_v135, main_v136, main_v137, main_v138, main_v139, main_v140, main_v141]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
set_option maxRecDepth 8192 in
set_option maxHeartbeats 2000000 in
theorem val3_main_v141 (V0 : Valuation τ sig (Elt F)) : val3 V0 (no_index (Proc.devRef .tc main_v141)) = shapeCast _ (addf (V0 (Proc.devRef .tc main_arg0)) (mulf (mulf (res_main_v126 V0) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v126 V0) (res_main_v126 V0)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (V0 (Proc.devRef .tc main_arg5)))))) shapeCasts_S2x8192x1024_S16384x1024 := by
  unfold val3
  simp only [ops_part2, TRef.ternary, TRef.unary, TRef.toBuf, TRef.ofBuf, cast_eq]
  after_results_simp
  simp only [val2_main_arg5, val2_main_arg9, val2_main_arg8, val2_main_arg3, val2_main_v98, val2_main_v97, val2_main_v75, val2_main_v16, val2_main_arg0] <;> rfl

theorem after_ops (V0 : Valuation τ sig (Elt F)) : after ops V0 = val3 V0 := by
  simp only [ops, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v141) = shapeCast _ (addf ((launchContents m c) (Proc.devRef .tc main_arg0)) (mulf (mulf (res_main_v126 (launchContents m c)) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v126 (launchContents m c)) (res_main_v126 (launchContents m c))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 ((launchContents m c) (Proc.devRef .tc main_arg5)))))) shapeCasts_S2x8192x1024_S16384x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v141).trans ((congrFun (after_ops (launchContents m c)) (Proc.devRef .tc main_v141)).trans (val3_main_v141 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c))),
      (h c main_arg3).trans ((congrFun (after_ops (launchContents m c)) (Proc.devRef .tc main_arg3)).trans (val3_main_arg3 (launchContents m c))),
      (h c main_arg4).trans ((congrFun (after_ops (launchContents m c)) (Proc.devRef .tc main_arg4)).trans (val3_main_arg4 (launchContents m c))),
      (h c main_arg5).trans ((congrFun (after_ops (launchContents m c)) (Proc.devRef .tc main_arg5)).trans (val3_main_arg5 (launchContents m c))),
      (h c main_arg6).trans ((congrFun (after_ops (launchContents m c)) (Proc.devRef .tc main_arg6)).trans (val3_main_arg6 (launchContents m c))),
      (h c main_arg7).trans ((congrFun (after_ops (launchContents m c)) (Proc.devRef .tc main_arg7)).trans (val3_main_arg7 (launchContents m c))),
      (h c main_arg8).trans ((congrFun (after_ops (launchContents m c)) (Proc.devRef .tc main_arg8)).trans (val3_main_arg8 (launchContents m c))),
      (h c main_arg9).trans ((congrFun (after_ops (launchContents m c)) (Proc.devRef .tc main_arg9)).trans (val3_main_arg9 (launchContents m c)))⟩)
    (run_seq scopedRefs_eq scopedSems_eq defs main (fun _ => ops) main_eq (fun _ => ops_sub) m ρ fun _ => ops_fresh)

end Cert.AttnReferenceIdeal.Exec

end
-- ==== Proof.AttnTerms.lean ====
/- The attention reference's result as stages of its composed term. -/
module

public import proofs.«01_k».proof.Proof.AttnRefRun
public import proofs.«01_k».proof.Proof.AttnShared

@[expose] public section

set_option maxRecDepth 16384

noncomputable section

namespace Cert.AttnReferenceIdeal.Stages

open Idealize.ShloMosaic Idealize.ShloMosaic.TcCoe Idealize.SL.Sem
open Cert.AttnReferenceIdeal Cert.AttnReferenceIdeal.Gen
open Cert.FfnIdeal.Pure (normRow)
open Cert.Attn.Core (softScore softTop softOut Arrs arrs)

section Terms
variable {F : FTy → Type} [FloatOps F]

/-- The keys by blocks. -/
def keysOf (kv : FVec F S2x8192x256 .f32) : FVec F S2x64x128x2x64 .f32 :=
  shapeCast _ (shapeCast _ (extractStridedSlice S2x8192x1x2x64 ![0, 0, 0, 0, 0] (shapeCast _ kv shapeCasts_S2x8192x256_S2x8192x2x2x64 :
    FVec F S2x8192x2x2x64 .f32) slices_S2x8192x2x2x64_S2x8192x1x2x64_0_0_0_0_0)
    shapeCasts_S2x8192x1x2x64_S2x8192x2x64 : FVec F S2x8192x2x64 .f32) shapeCasts_S2x8192x2x64_S2x64x128x2x64

/-- The values by blocks. -/
def valsOf (kv : FVec F S2x8192x256 .f32) : FVec F S2x64x128x2x64 .f32 :=
  shapeCast _ (shapeCast _ (extractStridedSlice S2x8192x1x2x64 ![0, 0, 1, 0, 0] (shapeCast _ kv shapeCasts_S2x8192x256_S2x8192x2x2x64 :
    FVec F S2x8192x2x2x64 .f32) slices_S2x8192x2x2x64_S2x8192x1x2x64_0_0_1_0_0)
    shapeCasts_S2x8192x1x2x64_S2x8192x2x64 : FVec F S2x8192x2x64 .f32) shapeCasts_S2x8192x2x64_S2x64x128x2x64

/-- Each block behind the one before it, and zeros before the first. -/
def shifted (h : FVec F S2x64x128x2x64 .f32) : FVec F S2x64x128x2x64 .f32 :=
  concatenate S2x64x128x2x64 1 [⟨S2x1x128x2x64, (broadcastInDim S2x1x128x2x64 ![] bcast_S_S2x1x128x2x64 (constant S_ .f32 0x00000000#32))⟩, ⟨S2x63x128x2x64, (extractStridedSlice S2x63x128x2x64 ![0, 0, 0, 0, 0] h slices_S2x64x128x2x64_S2x63x128x2x64_0_0_0_0_0)⟩] concatenates_S2x1x128x2x64_S2x63x128x2x64_S2x64x128x2x64_d1

/-- The two blocks that a block sees. -/
def twoBlocks (h : FVec F S2x64x128x2x64 .f32) : FVec F S2x64x256x2x64 .f32 :=
  concatenate S2x64x256x2x64 2 [⟨S2x64x128x2x64, shifted h⟩, ⟨S2x64x128x2x64, h⟩] concatenates_S2x64x128x2x64_S2x64x128x2x64_S2x64x256x2x64_d2

/-- The root-mean-square norm of each token's row. -/
def norm (x : FVec F S2x8192x1024 .f32) (g : FVec F S1024 .f32) : FVec F S2x8192x1024 .f32 :=
  mulf (mulf x (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (mulf x x) (constant S_ .f32 0x00000000#32)
      reducesTo_S2x8192x1024_S2x8192_d2 h_S_)) (broadcastInDim S2x8192x1 ![] bcast_S_S2x8192x1 (constant S_ .f32 0x44800000#32)))
    (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- A projection with its offset. -/
def proj (u : FVec F S2x8192x1024 .f32) (w : FVec F S1024x1024 .f32) (b : FVec F S1024 .f32) : FVec F S2x8192x1024 .f32 :=
  addf (Host.dotGeneral dot_S2x8192x1024_S1024x1024_S2x8192x1024_2_0_01_1_n_n none u w)
    (broadcastInDim S2x8192x1024 ![0, 1, 2] bcast_S1x1x1024_S2x8192x1024_0_1_2 (broadcastInDim S1x1x1024 ![2] bcast_S1024_S1x1x1024_2 b))

/-- Scaled products of keys and queries. -/
def products (k : FVec F S2x64x256x2x64 .f32) (q : FVec F S2x8192x1024 .f32) : FVec F S2x64x2x8x128x256 .f32 :=
  mulf (transpose S2x64x2x8x128x256 [0, 1, 2, 5, 4, 3] (Host.dotGeneral dot_S2x64x256x2x64_S2x64x128x2x8x64_S2x64x2x256x128x8_4_5_2_24_013_013 none k
    (shapeCast _ q shapeCasts_S2x8192x1024_S2x64x128x2x8x64)) transposes_S2x64x2x256x128x8_S2x64x2x8x128x256_0_1_2_5_4_3)
    (broadcastInDim S2x64x2x8x128x256 ![] bcast_S_S2x64x2x8x128x256 (constant S_ .f32 0x3E000000#32))

/-- The bias of each head, query and key at every block. -/
def biases (p : FVec F S128x256x16 .f32) : FVec F S2x64x2x8x128x256 .f32 :=
  broadcastInDim S2x64x2x8x128x256 ![0, 1, 2, 3, 4, 5] bcast_S1x1x2x8x128x256_S2x64x2x8x128x256_0_1_2_3_4_5
    (broadcastInDim S1x1x2x8x128x256 ![2, 3, 4, 5] bcast_S2x8x128x256_S1x1x2x8x128x256_2_3_4_5
      (shapeCast _ (transpose S16x128x256 [2, 0, 1] p transposes_S128x256x16_S16x128x256_2_0_1) shapeCasts_S16x128x256_S2x8x128x256))

/-- Which keys each query sees, from the window's mask. -/
def sight (w : IVec S128x256 1) : IVec S2x64x2x8x128x256 1 :=
  broadcastInDim S2x64x2x8x128x256 ![0, 1, 2, 3, 4, 5] bcast_S1x64x1x1x128x256_S2x64x2x8x128x256_0_1_2_3_4_5
    (broadcastInDim S1x64x1x1x128x256 ![1, 4, 5] bcast_S64x128x256_S1x64x1x1x128x256_1_4_5
      (andi (broadcastInDim S64x128x256 ![0, 1, 2] bcast_S1x128x256_S64x128x256_0_1_2 (broadcastInDim S1x128x256 ![1, 2] bcast_S128x256_S1x128x256_1_2 w))
        (broadcastInDim S64x128x256 ![0, 1, 2] bcast_S64x1x256_S64x128x256_0_1_2 (broadcastInDim S64x1x256 ![0, 2] bcast_S64x256_S64x1x256_0_2
          (ori (broadcastInDim S64x256 ![0, 1] bcast_S64x1_S64x256_0_1 (cmpi .sgt (broadcastInDim S64x1 ![0] bcast_S64_S64x1_0 (iotaInDim S64 32 0))
              (broadcastInDim S64x1 ![] bcast_S_S64x1 (constantI S_ 32 0#32))))
            (broadcastInDim S64x256 ![0, 1] bcast_S1x256_S64x256_0_1 (cmpi .sge (broadcastInDim S1x256 ![1] bcast_S256_S1x256_1 (iotaInDim S256 32 0))
              (broadcastInDim S1x256 ![] bcast_S_S1x256 (constantI S_ 32 128#32)))))))))

/-- The scores. -/
def scores (w : IVec S2x64x2x8x128x256 1) (p β : FVec F S2x64x2x8x128x256 .f32) : FVec F S2x64x2x8x128x256 .f32 :=
  select w (addf p β) (broadcastInDim S2x64x2x8x128x256 ![] bcast_S_S2x64x2x8x128x256 (id (constant S_ .f32 0xFF800000#32)))

/-- The sinks by heads. -/
def sinks (z : FVec F S16 .f32) : FVec F S1x1x2x8x1x1 .f32 :=
  broadcastInDim S1x1x2x8x1x1 ![2, 3] bcast_S2x8_S1x1x2x8x1x1_2_3 (shapeCast _ z shapeCasts_S16_S2x8)

/-- The greatest of a query's scores. -/
def rowMax (s : FVec F S2x64x2x8x128x256 .f32) : FVec F S2x64x2x8x128 .f32 :=
  Host.reduce FloatOps.maximumf s (constant S_ .f32 0xFF800000#32) reducesTo_S2x64x2x8x128x256_S2x64x2x8x128_d5 h_S_

/-- The sum over a query's keys. -/
def rowSum (s : FVec F S2x64x2x8x128x256 .f32) : FVec F S2x64x2x8x128 .f32 :=
  Host.reduceAdd s (constant S_ .f32 0x00000000#32) reducesTo_S2x64x2x8x128x256_S2x64x2x8x128_d5 h_S_

/-- The greater of each query's number and its sink. -/
def withSink (u : FVec F S2x64x2x8x128 .f32) (z : FVec F S1x1x2x8x1x1 .f32) : FVec F S2x64x2x8x128x1 .f32 :=
  maximumf (broadcastInDim S2x64x2x8x128x1 ![0, 1, 2, 3, 4] bcast_S2x64x2x8x128_S2x64x2x8x128x1_0_1_2_3_4 u) (broadcastInDim S2x64x2x8x128x1 ![0, 1, 2, 3, 4, 5] bcast_S1x1x2x8x1x1_S2x64x2x8x128x1_0_1_2_3_4_5 z)

/-- The greatest of a query's scores and its sink. -/
def top (s : FVec F S2x64x2x8x128x256 .f32) (z : FVec F S1x1x2x8x1x1 .f32) : FVec F S2x64x2x8x128x1 .f32 :=
  withSink (rowMax s) z

/-- The exponentials of the scores. -/
def exps (s : FVec F S2x64x2x8x128x256 .f32) (m : FVec F S2x64x2x8x128x1 .f32) : FVec F S2x64x2x8x128x256 .f32 :=
  Host.exp (subf s (broadcastInDim S2x64x2x8x128x256 ![0, 1, 2, 3, 4, 5] bcast_S2x64x2x8x128x1_S2x64x2x8x128x256_0_1_2_3_4_5 m))

/-- The weights of the values. -/
def weights (e : FVec F S2x64x2x8x128x256 .f32) (z : FVec F S1x1x2x8x1x1 .f32) (m : FVec F S2x64x2x8x128x1 .f32) : FVec F S2x64x2x8x128x256 .f32 :=
  Host.divf e (broadcastInDim S2x64x2x8x128x256 ![0, 1, 2, 3, 4, 5] bcast_S2x64x2x8x128x1_S2x64x2x8x128x256_0_1_2_3_4_5 (addf (broadcastInDim S2x64x2x8x128x1 ![0, 1, 2, 3, 4] bcast_S2x64x2x8x128_S2x64x2x8x128x1_0_1_2_3_4 (rowSum e)) (Host.exp (subf (broadcastInDim S2x64x2x8x128x1 ![0, 1, 2, 3, 4, 5] bcast_S1x1x2x8x1x1_S2x64x2x8x128x1_0_1_2_3_4_5 z) m))))

/-- The weighted values, the heads side by side. -/
def mixed (v : FVec F S2x64x256x2x64 .f32) (w : FVec F S2x64x2x8x128x256 .f32) : FVec F S2x8192x1024 .f32 :=
  shapeCast _ (transpose S2x64x128x2x8x64 [0, 1, 5, 2, 4, 3] (Host.dotGeneral dot_S2x64x256x2x64_S2x64x2x8x128x256_S2x64x2x64x8x128_2_5_4_34_013_012 none v w)
    transposes_S2x64x2x64x8x128_S2x64x128x2x8x64_0_1_5_2_4_3) shapeCasts_S2x64x128x2x8x64_S2x8192x1024

end Terms

end Cert.AttnReferenceIdeal.Stages

end
-- ==== Proof.AttnRefA.lean ====
/- The reference's keys and values at an index. -/
module

public import proofs.«01_k».proof.Proof.AttnTerms

@[expose] public section

set_option maxRecDepth 16384

noncomputable section

namespace Cert.AttnReferenceIdeal.Stages

open Idealize.ShloMosaic Idealize.ShloMosaic.TcCoe Idealize.SL.Sem
open Cert.AttnReferenceIdeal Cert.AttnReferenceIdeal.Gen
open Cert.FfnIdeal.Pure (normRow)
open Cert.Attn.Core (softScore softTop softOut Arrs arrs)

theorem keysOf_at (kv : FVec Ideal S2x8192x256 .f32) (b : Fin 2) (n : Fin 64) (r : Fin 128) (k : Fin 2) (e : Fin 64) :
    keysOf kv (ix5 b n r k e) = kv (ix3 b ⟨128 * n + r, by omega⟩ ⟨64 * k + e, by omega⟩) := by
  pointwise [keysOf]
  exact congrArg₂ (fun u v => kv (ix3 b u v)) (Fin.ext (by simp only []; omega)) (Fin.ext (by simp only []; omega))

theorem valsOf_at (kv : FVec Ideal S2x8192x256 .f32) (b : Fin 2) (n : Fin 64) (r : Fin 128) (k : Fin 2) (e : Fin 64) :
    valsOf kv (ix5 b n r k e) = kv (ix3 b ⟨128 * n + r, by omega⟩ ⟨128 + (64 * k + e), by omega⟩) := by
  pointwise [valsOf]
  exact congrArg₂ (fun u v => kv (ix3 b u v)) (Fin.ext (by simp only []; omega)) (Fin.ext (by simp only []; omega))

theorem twoBlocks_at (h : FVec Ideal S2x64x128x2x64 .f32) (b : Fin 2) (n : Fin 64) (j : Fin 256) (k : Fin 2) (e : Fin 64) :
    twoBlocks h (ix5 b n j k e) = if hj : (j : ℕ) < 128 then
      (if hn : (n : ℕ) < 1 then 0 else h (ix5 b ⟨n - 1, by omega⟩ ⟨j, hj⟩ k e)) else h (ix5 b n ⟨j - 128, by omega⟩ k e) := by
  pointwise [twoBlocks, shifted]

end Cert.AttnReferenceIdeal.Stages

end
-- ==== Proof.AttnRefB.lean ====
/- The reference's norm, projection, biases and mask at an index. -/
module

public import proofs.«01_k».proof.Proof.AttnTerms

@[expose] public section

set_option maxRecDepth 16384

noncomputable section

namespace Cert.AttnReferenceIdeal.Stages

open Idealize.ShloMosaic Idealize.ShloMosaic.TcCoe Idealize.SL.Sem
open Cert.AttnReferenceIdeal Cert.AttnReferenceIdeal.Gen
open Cert.FfnIdeal.Pure (normRow)
open Cert.Attn.Core (softScore softTop softOut Arrs arrs)

theorem norm_at (x : FVec Ideal S2x8192x1024 .f32) (g : FVec Ideal S1024 .f32) (b : Fin 2) (s : Fin 8192) (k : Fin 1024) :
    norm x g (ix3 b s k) = normRow (fun k => x (ix3 b s k)) (fun k => g (ix1 k)) k := by
  pointwise [norm, normRow]

theorem proj_at (u : FVec Ideal S2x8192x1024 .f32) (w : FVec Ideal S1024x1024 .f32) (g : FVec Ideal S1024 .f32) (b : Fin 2) (s : Fin 8192) (k : Fin 1024) :
    proj u w g (ix3 b s k) = (∑ i, u (ix3 b s i) * w (ix2 i k)) + g (ix1 k) := by
  pointwise [proj]

theorem biases_at (p : FVec Ideal S128x256x16 .f32) (b : Fin 2) (n : Fin 64) (h : Fin 2) (g : Fin 8) (r : Fin 128) (j : Fin 256) :
    biases p (ix6 b n h g r j) = p (ix3 r j ⟨8 * h + g, by omega⟩) := by
  pointwise [biases]
  exact congrArg (fun v => p (ix3 r j v)) (Fin.ext (by show h.val * 8 + g.val = _; simp only []; omega))

theorem sight_at (w : IVec S128x256 1) (b : Fin 2) (n : Fin 64) (h : Fin 2) (g : Fin 8) (r : Fin 128) (j : Fin 256) :
    sight w (ix6 b n h g r j) = IntOp.andi (w (ix2 r j)) (IntOp.ori (IntOp.cmpi .sgt (BitVec.ofNat 32 n) 0#32) (IntOp.cmpi .sge (BitVec.ofNat 32 j) 128#32)) := by
  pointwise [sight]

end Cert.AttnReferenceIdeal.Stages

end
-- ==== Proof.AttnRefC.lean ====
/- The reference's scaled products at an index. -/
module

public import proofs.«01_k».proof.Proof.AttnTerms

@[expose] public section

set_option maxRecDepth 16384

noncomputable section

namespace Cert.AttnReferenceIdeal.Stages

open Idealize.ShloMosaic Idealize.ShloMosaic.TcCoe Idealize.SL.Sem
open Cert.AttnReferenceIdeal Cert.AttnReferenceIdeal.Gen
open Cert.FfnIdeal.Pure (normRow)
open Cert.Attn.Core (softScore softTop softOut Arrs arrs)

theorem products_at (k : FVec Ideal S2x64x256x2x64 .f32) (q : FVec Ideal S2x8192x1024 .f32) (b : Fin 2) (n : Fin 64) (h : Fin 2) (g : Fin 8) (r : Fin 128) (j : Fin 256) :
    products k q (ix6 b n h g r j) = (∑ e : Fin 64, k (ix5 b n j h e) * q (ix3 b ⟨128 * n + r, by omega⟩ ⟨64 * (8 * h + g) + e, by omega⟩)) * Ideal.ofBits .f32 0x3E000000#32 := by
  pointwise [products]
  refine congrArg (· * _) (Finset.sum_congr rfl fun e _ => congrArg (k (ix5 b n j h e) * ·) ?_)
  exact congrArg₂ (fun u v => q (ix3 b u v)) (Fin.ext (by show n.val * 128 + r.val = _; simp only []; omega))
    (Fin.ext (by show h.val * 512 + g.val * 64 + e.val = _; simp only []; omega))

end Cert.AttnReferenceIdeal.Stages

end
-- ==== Proof.AttnRefE.lean ====
/- The reference's weighted values at an index. -/
module

public import proofs.«01_k».proof.Proof.AttnTerms

@[expose] public section

set_option maxRecDepth 16384

noncomputable section

namespace Cert.AttnReferenceIdeal.Stages

open Idealize.ShloMosaic Idealize.ShloMosaic.TcCoe Idealize.SL.Sem
open Cert.AttnReferenceIdeal Cert.AttnReferenceIdeal.Gen
open Cert.FfnIdeal.Pure (normRow)
open Cert.Attn.Core (softScore softTop softOut Arrs arrs)

theorem mixed_at (v : FVec Ideal S2x64x256x2x64 .f32) (w : FVec Ideal S2x64x2x8x128x256 .f32) (b : Fin 2) (n : Fin 64) (r : Fin 128) (R : Fin 1024) :
    mixed v w (ix3 b ⟨128 * n + r, by omega⟩ R)
      = ∑ j : Fin 256, v (ix5 b n j ⟨R / 512, by omega⟩ ⟨R % 64, by omega⟩) * w (ix6 b n ⟨R / 512, by omega⟩ ⟨R / 64 % 8, by omega⟩ r j) := by
  pointwise [mixed]

end Cert.AttnReferenceIdeal.Stages

end
-- ==== Proof.AttnRefD.lean ====
/- A reduction over the last of six axes, at an index. -/
module

public import proofs.«01_k».proof.Proof.AttnTerms

@[expose] public section

set_option maxRecDepth 16384

noncomputable section

namespace Cert.AttnReferenceIdeal.Stages

open Idealize.ShloMosaic Idealize.ShloMosaic.TcCoe Idealize.SL.Sem
open Cert.AttnReferenceIdeal Cert.AttnReferenceIdeal.Gen
open Cert.FfnIdeal.Pure (normRow)
open Cert.Attn.Core (softScore softTop softOut Arrs arrs)

theorem drop_eq (i : S2x64x2x8x128x256.Idx) :
    reducesTo_S2x64x2x8x128x256_S2x64x2x8x128_d5.drop i = ix5 (i 0) (i 1) (i 2) (i 3) (i 4) := by
  funext a
  match a with | ⟨0, _⟩ => rfl | ⟨1, _⟩ => rfl | ⟨2, _⟩ => rfl | ⟨3, _⟩ => rfl | ⟨4, _⟩ => rfl

theorem rows (b : Fin 2) (n : Fin 64) (h : Fin 2) (g : Fin 8) (r : Fin 128)
    [DecidablePred fun i : S2x64x2x8x128x256.Idx => reducesTo_S2x64x2x8x128x256_S2x64x2x8x128_d5.drop i = ix5 b n h g r] :
    (Finset.univ.filter fun i : S2x64x2x8x128x256.Idx => reducesTo_S2x64x2x8x128x256_S2x64x2x8x128_d5.drop i = ix5 b n h g r)
      = (Finset.univ : Finset (Fin 256)).map ⟨fun j => (ix6 b n h g r j : S2x64x2x8x128x256.Idx), fun j j' e => congrFun e 5⟩ := by
  ext i
  rw [Finset.mem_filter, Finset.mem_map]
  constructor
  · rintro ⟨-, e⟩
    rw [drop_eq] at e
    refine ⟨i 5, Finset.mem_univ _, ?_⟩
    have e0 : i 0 = b := congrFun e 0
    have e1 : i 1 = n := congrFun e 1
    have e2 : i 2 = h := congrFun e 2
    have e3 : i 3 = g := congrFun e 3
    have e4 : i 4 = r := congrFun e 4
    subst e0 e1 e2 e3 e4
    exact (eq_ix6 i).symm
  · rintro ⟨j, -, rfl⟩
    exact ⟨Finset.mem_univ _, drop_eq _⟩

theorem rowMax_at (s : FVec Ideal S2x64x2x8x128x256 .f32) (b : Fin 2) (n : Fin 64) (h : Fin 2) (g : Fin 8) (r : Fin 128) :
    rowMax s (ix5 b n h g r) = Finset.univ.fold max (Ideal.ofBits .f32 0xFF800000#32) fun j => s (ix6 b n h g r j) := by
  unfold rowMax
  refine (Host.reduce_eq_fold (max : EReal → EReal → EReal) s _ _ _ _).trans ?_
  rw [rows, Finset.fold_map]
  rfl

theorem rowSum_at (s : FVec Ideal S2x64x2x8x128x256 .f32) (b : Fin 2) (n : Fin 64) (h : Fin 2) (g : Fin 8) (r : Fin 128) :
    rowSum s (ix5 b n h g r) = ∑ j, s (ix6 b n h g r j) := by
  show Ideal.ofBits .f32 0x00000000#32 + ∑ i ∈ Finset.univ.filter _, s i = _
  rw [rows, Finset.sum_map, show Ideal.ofBits .f32 0x00000000#32 = 0 from by pointwise, zero_add]
  rfl

end Cert.AttnReferenceIdeal.Stages

end
-- ==== Proof.AttnRefF.lean ====
/- The reference's weights at an index. -/
module

public import proofs.«01_k».proof.Proof.AttnRefD

@[expose] public section

set_option maxRecDepth 16384

noncomputable section

namespace Cert.AttnReferenceIdeal.Stages

open Idealize.ShloMosaic Idealize.ShloMosaic.TcCoe Idealize.SL.Sem
open Cert.AttnReferenceIdeal Cert.AttnReferenceIdeal.Gen
open Cert.FfnIdeal.Pure (normRow)
open Cert.Attn.Core (softScore softTop softOut Arrs arrs)

theorem withSink_at (u : FVec Ideal S2x64x2x8x128 .f32) (z : FVec Ideal S16 .f32) (b : Fin 2) (n : Fin 64) (h : Fin 2) (g : Fin 8) (r : Fin 128) :
    withSink u (sinks z) (ix6 b n h g r (0 : Fin 1)) = max (u (ix5 b n h g r)) (z (ix1 ⟨h * 8 + g, by omega⟩)) := by
  pointwise [withSink, sinks]

theorem weights_at (e : FVec Ideal S2x64x2x8x128x256 .f32) (m : FVec Ideal S2x64x2x8x128x1 .f32) (z : FVec Ideal S16 .f32) (b : Fin 2) (n : Fin 64) (h : Fin 2) (g : Fin 8) (r : Fin 128) (j : Fin 256) :
    weights e (sinks z) m (ix6 b n h g r j)
      = Ideal.div (e (ix6 b n h g r j)) ((∑ j, e (ix6 b n h g r j))
        + Ideal.exp (z (ix1 ⟨8 * h + g, by omega⟩) - m (ix6 b n h g r (0 : Fin 1)))) := by
  have a : weights e (sinks z) m (ix6 b n h g r j)
      = Ideal.div (e (ix6 b n h g r j)) (rowSum e (ix5 b n h g r) + Ideal.exp (z (ix1 ⟨h * 8 + g, by omega⟩) - m (ix6 b n h g r (0 : Fin 1)))) := by
    pointwise [weights, sinks]
  refine a.trans (congrArg (Ideal.div _) (congrArg₂ (· + ·) (rowSum_at e b n h g r) (congrArg (fun u => Ideal.exp (z (ix1 u) - _)) (Fin.ext (by simp only []; omega)))))

theorem exps_at (s : FVec Ideal S2x64x2x8x128x256 .f32) (m : FVec Ideal S2x64x2x8x128x1 .f32) (b : Fin 2) (n : Fin 64) (h : Fin 2) (g : Fin 8) (r : Fin 128) (j : Fin 256) :
    exps s m (ix6 b n h g r j) = Ideal.exp (s (ix6 b n h g r j) - m (ix6 b n h g r (0 : Fin 1))) := by
  pointwise [exps]

end Cert.AttnReferenceIdeal.Stages

end
-- ==== Proof.AttnRefG.lean ====
/- The greatest of the reference's scores and its sink, at an index. -/
module

public import proofs.«01_k».proof.Proof.AttnRefF

@[expose] public section

set_option maxRecDepth 16384

noncomputable section

namespace Cert.AttnReferenceIdeal.Stages

open Idealize.ShloMosaic Idealize.ShloMosaic.TcCoe Idealize.SL.Sem
open Cert.AttnReferenceIdeal Cert.AttnReferenceIdeal.Gen
open Cert.FfnIdeal.Pure (normRow)
open Cert.Attn.Core (softScore softTop softOut Arrs arrs)

theorem top_at (s : FVec Ideal S2x64x2x8x128x256 .f32) (z : FVec Ideal S16 .f32) (b : Fin 2) (n : Fin 64) (h : Fin 2) (g : Fin 8) (r : Fin 128) :
    top s (sinks z) (ix6 b n h g r (0 : Fin 1)) = softTop (fun j => s (ix6 b n h g r j)) (z (ix1 ⟨8 * h + g, by omega⟩)) := by
  rw [top, withSink_at, rowMax_at, softTop]
  exact congrArg (fun u => max _ (z (ix1 u))) (Fin.ext (by simp only []; omega))

end Cert.AttnReferenceIdeal.Stages

end
-- ==== Proof.AttnRef.lean ====
/- The attention reference's result is the function of the layer's arrays that the kernel's result was shown to be. -/
module

public import proofs.«01_k».proof.Proof.AttnRefA
public import proofs.«01_k».proof.Proof.AttnRefB
public import proofs.«01_k».proof.Proof.AttnRefC
public import proofs.«01_k».proof.Proof.AttnRefE
public import proofs.«01_k».proof.Proof.AttnRefG

@[expose] public section

set_option maxRecDepth 16384

noncomputable section

namespace Cert.AttnReferenceIdeal.Stages

open Idealize.ShloMosaic Idealize.ShloMosaic.TcCoe Idealize.SL.Sem
open Cert.AttnReferenceIdeal Cert.AttnReferenceIdeal.Gen
open Cert.FfnIdeal.Pure (normRow)
open Cert.Attn.Core (softScore softTop softOut Arrs arrs)
open Cert.AttnIdeal.Entry (planes bucket inWindow dist)

variable (a0 : FVec Ideal S2x8192x1024 .f32) (a1 : FVec Ideal S2x8192x256 .f32) (a2 : FVec Ideal S32x16 .f32)
    (a3 : FVec Ideal S16 .f32) (a4 a5 : FVec Ideal S1024 .f32) (a6 : FVec Ideal S1024x1024 .f32) (a7 : FVec Ideal S1024 .f32)
    (a8 : FVec Ideal S1024x1024 .f32) (a9 : FVec Ideal S1024 .f32)

/-- The reference's scores. -/
def scoresR : FVec Ideal S2x64x2x8x128x256 .f32 :=
  scores (sight (inWindow dist)) (products (twoBlocks (keysOf a1)) (proj (norm a0 a4) a6 a7)) (biases (planes a2 bucket))

/-- The greatest of them. -/
def topR : FVec Ideal S2x64x2x8x128x1 .f32 := top (scoresR a0 a1 a2 a4 a6 a7) (sinks a3)

/-- The values they weigh. -/
def mixedR : FVec Ideal S2x8192x1024 .f32 :=
  mixed (twoBlocks (valsOf a1))
    (weights (exps (scoresR a0 a1 a2 a4 a6 a7) (topR a0 a1 a2 a3 a4 a6 a7)) (sinks a3) (topR a0 a1 a2 a3 a4 a6 a7))

/-- The reference's result. -/
def outR : FVec Ideal S16384x1024 .f32 :=
  shapeCast _ (addf a0 (norm (proj (mixedR a0 a1 a2 a3 a4 a6 a7) a8 a9) a5)) shapeCasts_S2x8192x1024_S16384x1024

theorem keys_eq (b : Fin 2) (n : Fin 64) (j : Fin 256) (h : Fin 2) (e : Fin 64) (l : Fin 256) (hl : (l : ℕ) = 64 * h + e) :
    twoBlocks (keysOf a1) (ix5 b n j h e) = (arrs a0 a1 a2 a3 a4 a5 a6 a7 a8 a9).keyRow b n j l := by
  have hlt : 64 * (h : ℕ) + e < 256 := by omega
  obtain rfl : l = ⟨64 * h + e, hlt⟩ := Fin.ext hl
  refine (twoBlocks_at _ _ _ _ _ _).trans ?_
  unfold Arrs.keyRow
  by_cases h1 : (j : ℕ) < 128
  · rw [dif_pos h1]
    by_cases h2 : (n : ℕ) < 1
    · rw [dif_pos h2, dif_neg (by omega)]
    · rw [dif_neg h2, dif_pos (by omega)]
      exact (keysOf_at _ _ _ _ _ _).trans (congrArg (fun u => a1 (ix3 b u _)) (Fin.ext (by
        show 128 * (n.val - 1) + j.val = 128 * n.val + j.val - 128; omega)))
  · rw [dif_neg h1, dif_pos (by omega)]
    exact (keysOf_at _ _ _ _ _ _).trans (congrArg (fun u => a1 (ix3 b u _)) (Fin.ext (by
      show 128 * n.val + (j.val - 128) = 128 * n.val + j.val - 128; omega)))

theorem vals_eq (b : Fin 2) (n : Fin 64) (j : Fin 256) (h : Fin 2) (e : Fin 64) (l : Fin 256) (hl : (l : ℕ) = 128 + (64 * h + e)) :
    twoBlocks (valsOf a1) (ix5 b n j h e) = (arrs a0 a1 a2 a3 a4 a5 a6 a7 a8 a9).keyRow b n j l := by
  have hlt : 128 + (64 * (h : ℕ) + e) < 256 := by omega
  obtain rfl : l = ⟨128 + (64 * h + e), hlt⟩ := Fin.ext hl
  refine (twoBlocks_at _ _ _ _ _ _).trans ?_
  unfold Arrs.keyRow
  by_cases h1 : (j : ℕ) < 128
  · rw [dif_pos h1]
    by_cases h2 : (n : ℕ) < 1
    · rw [dif_pos h2, dif_neg (by omega)]
    · rw [dif_neg h2, dif_pos (by omega)]
      exact (valsOf_at _ _ _ _ _ _).trans (congrArg (fun u => a1 (ix3 b u _)) (Fin.ext (by
        show 128 * (n.val - 1) + j.val = 128 * n.val + j.val - 128; omega)))
  · rw [dif_neg h1, dif_pos (by omega)]
    exact (valsOf_at _ _ _ _ _ _).trans (congrArg (fun u => a1 (ix3 b u _)) (Fin.ext (by
      show 128 * n.val + (j.val - 128) = 128 * n.val + j.val - 128; omega)))

theorem query_eq (b : Fin 2) (t : Fin 8192) (R : Fin 1024) :
    proj (norm a0 a4) a6 a7 (ix3 b t R) = (arrs a0 a1 a2 a3 a4 a5 a6 a7 a8 a9).query b t R := by
  refine (proj_at _ _ _ _ _ _).trans ?_
  exact congrArg (· + a7 (ix1 R)) (Finset.sum_congr rfl fun k _ => congrArg (· * a6 (ix2 k R)) (norm_at _ _ _ _ _))

theorem later (n : Fin 64) : IntOp.cmpi CmpIPredicate.sgt (BitVec.ofNat 32 (n : ℕ)) 0#32 = 1#1 ↔ n ≠ 0 := by
  revert n; decide +kernel

theorem own (j : Fin 256) : IntOp.cmpi CmpIPredicate.sge (BitVec.ofNat 32 (j : ℕ)) 128#32 = 1#1 ↔ 128 ≤ (j : ℕ) := by
  revert j; decide +kernel

theorem both (a b c : BitVec 1) : IntOp.andi a (IntOp.ori b c) = 1#1 ↔ a = 1#1 ∧ (b = 1#1 ∨ c = 1#1) := by
  revert a b c; decide +kernel

theorem sight_iff (b : Fin 2) (n : Fin 64) (h : Fin 2) (g : Fin 8) (r : Fin 128) (j : Fin 256) :
    sight (inWindow dist) (ix6 b n h g r j) = 1#1 ↔ (arrs a0 a1 a2 a3 a4 a5 a6 a7 a8 a9).seen n r j := by
  rw [sight_at, both, later, own]
  rfl

theorem scores_at (w : IVec S2x64x2x8x128x256 1) (p β : FVec Ideal S2x64x2x8x128x256 .f32) (b : Fin 2) (n : Fin 64) (h : Fin 2)
    (g : Fin 8) (r : Fin 128) (j : Fin 256) :
    scores w p β (ix6 b n h g r j) = if w (ix6 b n h g r j) = 1#1 then p (ix6 b n h g r j) + β (ix6 b n h g r j)
      else Ideal.ofBits .f32 0xFF800000#32 := by
  pointwise [scores]
  rfl

theorem scoresR_at (b : Fin 2) (n : Fin 64) (h : Fin 2) (g : Fin 8) (k : Fin 16) (hk : (k : ℕ) = 8 * h + g) (r : Fin 128) (j : Fin 256) :
    scoresR a0 a1 a2 a4 a6 a7 (ix6 b n h g r j)
      = softScore (fun j e => (arrs a0 a1 a2 a3 a4 a5 a6 a7 a8 a9).keyRow b n j ⟨64 * (k / 8) + e, by omega⟩)
        (fun e => (arrs a0 a1 a2 a3 a4 a5 a6 a7 a8 a9).query b ⟨128 * n + r, by omega⟩ ⟨64 * k + e, by omega⟩)
        (fun j => (arrs a0 a1 a2 a3 a4 a5 a6 a7 a8 a9).β r j k) ((arrs a0 a1 a2 a3 a4 a5 a6 a7 a8 a9).seen n r) j := by
  rw [scoresR]
  refine (scores_at _ _ _ _ _ _ _ _ _).trans ?_
  unfold softScore
  refine if_congr (sight_iff a0 a1 a2 a3 a4 a5 a6 a7 a8 a9 b n h g r j) ?_ rfl
  refine congrArg₂ (· + ·) ((products_at _ _ _ _ _ _ _ _).trans ?_) ((biases_at _ _ _ _ _ _ _).trans ?_)
  · refine congrArg (· * Ideal.ofBits .f32 0x3E000000#32) (Finset.sum_congr rfl fun e _ => congrArg₂ (· * ·) ?_ ?_)
    · exact keys_eq a0 a1 a2 a3 a4 a5 a6 a7 a8 a9 b n j h e _ (by show 64 * (k.val / 8) + e.val = _; omega)
    · refine (query_eq a0 a1 a2 a3 a4 a5 a6 a7 a8 a9 b _ _).trans (congrArg (fun u => Arrs.query _ b _ u) (Fin.ext ?_))
      show 64 * (8 * h.val + g.val) + e.val = 64 * k.val + e.val
      omega
  · exact congrArg (fun u => planes a2 bucket (ix3 r j u)) (Fin.ext hk.symm)

theorem mixedR_at (b : Fin 2) (n : Fin 64) (r : Fin 128) (R : Fin 1024) :
    mixedR a0 a1 a2 a3 a4 a6 a7 (ix3 b ⟨128 * n + r, by omega⟩ R)
      = (arrs a0 a1 a2 a3 a4 a5 a6 a7 a8 a9).headRow b n r ⟨R / 64, by omega⟩ ⟨R % 64, by omega⟩ := by
  have hS : (fun j => scoresR a0 a1 a2 a4 a6 a7 (ix6 b n ⟨R / 512, by omega⟩ ⟨R / 64 % 8, by omega⟩ r j)) = _ :=
    funext fun j => scoresR_at a0 a1 a2 a3 a4 a5 a6 a7 a8 a9 b n ⟨R / 512, by omega⟩ ⟨R / 64 % 8, by omega⟩ ⟨R / 64, by omega⟩
      (by show R.val / 64 = 8 * (R.val / 512) + R.val / 64 % 8; omega) r j
  have hz : a3 (ix1 ⟨8 * (R / 512) + R / 64 % 8, by omega⟩) = a3 (ix1 ⟨R / 64, by omega⟩) :=
    congrArg (fun u => a3 (ix1 u)) (Fin.ext (by show 8 * (R.val / 512) + R.val / 64 % 8 = R.val / 64; omega))
  have hT : topR a0 a1 a2 a3 a4 a6 a7 (ix6 b n ⟨R / 512, by omega⟩ ⟨R / 64 % 8, by omega⟩ r (0 : Fin 1)) = _ :=
    (top_at (scoresR a0 a1 a2 a4 a6 a7) a3 b n ⟨R / 512, by omega⟩ ⟨R / 64 % 8, by omega⟩ r).trans (congrArg₂ softTop hS hz)
  have hE : ∀ j, exps (scoresR a0 a1 a2 a4 a6 a7) (topR a0 a1 a2 a3 a4 a6 a7) (ix6 b n ⟨R / 512, by omega⟩ ⟨R / 64 % 8, by omega⟩ r j) = _ :=
    fun j => (exps_at _ _ _ _ _ _ _ _).trans (congrArg₂ (fun u v => Ideal.exp (u - v)) (congrFun hS j) hT)
  rw [mixedR]
  refine (mixed_at _ _ _ _ _ _).trans ?_
  unfold Arrs.headRow softOut
  refine Finset.sum_congr rfl fun j _ => congrArg₂ (· * ·) ?_ ?_
  · exact vals_eq a0 a1 a2 a3 a4 a5 a6 a7 a8 a9 b n j _ _ _ (by
      show 128 + (64 * (R.val / 64 / 8) + R.val % 64) = 128 + (64 * (R.val / 512) + R.val % 64); omega)
  · refine (weights_at _ _ _ _ _ _ _ _ _).trans ?_
    exact congrArg₂ Ideal.div (hE j) (congrArg₂ (· + ·) (Finset.sum_congr rfl fun j _ => hE j)
      (congrArg₂ (fun u v => Ideal.exp (u - v)) hz hT))

theorem outR_at (u : FVec Ideal S2x8192x1024 .f32) (i : Fin 16384) (k : Fin 1024) :
    (shapeCast _ (addf a0 u) shapeCasts_S2x8192x1024_S16384x1024 : FVec Ideal S16384x1024 .f32) (ix2 i k)
      = a0 (ix3 ⟨i / 8192, by omega⟩ ⟨i % 8192, by omega⟩ k) + u (ix3 ⟨i / 8192, by omega⟩ ⟨i % 8192, by omega⟩ k) := by
  pointwise

theorem outR_eq : outR a0 a1 a2 a3 a4 a5 a6 a7 a8 a9 = (arrs a0 a1 a2 a3 a4 a5 a6 a7 a8 a9).out := by
  funext y
  obtain ⟨i, k, rfl⟩ : ∃ (i : Fin 16384) (k : Fin 1024), y = ix2 i k := ⟨y 0, y 1, by blk_ext⟩
  refine (outR_at _ _ _ _).trans ?_
  have ht : (⟨i % 8192, by omega⟩ : Fin 8192) = ⟨128 * (i % 8192 / 128) + i % 128, by omega⟩ :=
    Fin.ext (by show i.val % 8192 = 128 * (i.val % 8192 / 128) + i.val % 128; omega)
  rw [ht]
  refine congrArg₂ (· + ·) rfl ((norm_at _ _ _ _ _).trans ?_)
  refine congrFun (congrArg₂ normRow (funext fun k => (proj_at _ _ _ _ _ _).trans ?_) rfl) k
  exact congrArg (· + a9 (ix1 k)) (Finset.sum_congr rfl fun R _ => congrArg (· * a8 (ix2 R k))
    (mixedR_at a0 a1 a2 a3 a4 a5 a6 a7 a8 a9 ⟨i / 8192, by omega⟩ ⟨i % 8192 / 128, by omega⟩ ⟨i % 128, by omega⟩ R))

end Cert.AttnReferenceIdeal.Stages

end
-- ==== Proof.AttnPre.lean ====
/- What the attention's precondition says: the keys, the biases, the sinks and what makes the queries of a normalised row are reals. -/
module

public import proofs.«01_k».proof.Proof.AttnCore
public import proofs.«01_k».proof.Pre_finite
public import Idealize.ShloMosaic.Lib.ReduceAll

@[expose] public section

set_option maxRecDepth 16384

namespace Cert.Attn.Core

open Idealize.ShloMosaic Idealize
open Cert.Pre_finite Cert.Pre_finite.Facts

variable [Facts]

instance : Subsingleton S_.Idx := ⟨fun a b => funext fun i => i.elim0⟩

/-- An absolute value below infinity is that of a real. -/
theorem fin_of_abs {s : Shape} (x : FVec Ideal s .f32) (b : S_.BroadcastsInDim s ![]) (i : s.Idx)
    (h : cmpf .olt (Host.absf x) (broadcastInDim s ![] b (constant S_ .f32 0x7F800000#32)) i = 1#1) : Fin' (x i) := by
  have h' : Ideal.cmp .olt (max (x i : EReal) (-(x i : EReal))) (Ideal.ofBits .f32 0x7F800000#32) = 1#1 := h
  rw [inf_bits] at h'
  have h2 : max (x i : EReal) (-(x i : EReal)) < ⊤ := by
    unfold Ideal.cmp at h'
    by_contra hn
    simp only [hn, decide_false] at h'
    exact absurd h' (by decide)
  rw [max_lt_iff] at h2
  have hb : (x i : EReal) ≠ ⊥ := fun e => by
    rw [e] at h2
    exact absurd h2.2 (by simp)
  exact ⟨(x i : EReal).toReal, (EReal.coe_toReal h2.1.ne hb).symm⟩

theorem finite_of_pre (a0 : FVec Ideal S2x8192x1024 .f32) (a1 : FVec Ideal S2x8192x256 .f32) (a2 : FVec Ideal S32x16 .f32)
    (a3 : FVec Ideal S16 .f32) (a4 a5 : FVec Ideal S1024 .f32) (a6 : FVec Ideal S1024x1024 .f32) (a7 : FVec Ideal S1024 .f32)
    (a8 : FVec Ideal S1024x1024 .f32) (a9 : FVec Ideal S1024 .f32)
    (h : fn (F := Ideal) a0 a1 a2 a3 a4 a5 a6 a7 a8 a9 = fun _ => 1#1) :
    (∀ (b : Fin 2) (t : Fin 8192) (l : Fin 256), (l : ℕ) < 128 → Fin' (a1 (ix3 b t l))) ∧ (∀ i, Fin' (a2 i)) ∧ (∀ i, Fin' (a3 i))
      ∧ (∀ i, Fin' (a4 i)) ∧ (∀ i, Fin' (a6 i)) ∧ (∀ i, Fin' (a7 i)) := by
  have e := congrFun h fun i => i.elim0
  obtain ⟨e, h7⟩ := IntOp.andi_eq_one.1 e
  obtain ⟨e, h6⟩ := IntOp.andi_eq_one.1 e
  obtain ⟨e, h4⟩ := IntOp.andi_eq_one.1 e
  obtain ⟨e, h3⟩ := IntOp.andi_eq_one.1 e
  obtain ⟨h1, h2⟩ := IntOp.andi_eq_one.1 e
  refine ⟨fun b t l hl => ?_, fun i => ?_, fun i => ?_, fun i => ?_, fun i => ?_, fun i => ?_⟩
  · have k := fin_of_abs _ _ (ix3 b t (⟨l, hl⟩ : Fin 128)) (Host.reduce_andi_all _ _ _ _ _ h1 (ix3 b t (⟨l, hl⟩ : Fin 128)))
    have hi : ∀ u : S2x8192x256.Idx, u = ix3 b t l → Fin' (a1 u) → Fin' (a1 (ix3 b t l)) := fun u hu h => hu ▸ h
    refine hi _ ?_ k
    funext a
    fin_cases a <;> exact Fin.ext (Nat.zero_add _)
  · exact fin_of_abs a2 _ i (Host.reduce_andi_all _ _ _ _ _ h2 i)
  · exact fin_of_abs a3 _ i (Host.reduce_andi_all _ _ _ _ _ h3 i)
  · exact fin_of_abs a4 _ i (Host.reduce_andi_all _ _ _ _ _ h4 i)
  · exact fin_of_abs a6 _ i (Host.reduce_andi_all _ _ _ _ _ h6 i)
  · exact fin_of_abs a7 _ i (Host.reduce_andi_all _ _ _ _ _ h7 i)

end Cert.Attn.Core
-- ==== Proof.AttnClaim.lean ====
/- The attention's claims: the call against the reference, the frames, and the named constants. -/
module

public import proofs.«01_k».proof.Proof.AttnValue
public import proofs.«01_k».proof.Proof.AttnRef
public import proofs.«01_k».proof.Proof.AttnPre
public import proofs.«01_k».proof.Proof.Gen.AttnIdeal.Value
public import proofs.«01_k».proof.Proof.Gen.Attn.Frame
public import proofs.«01_k».proof.Proof.Gen.Pre_finite
public import proofs.«01_k».proof.Defs

@[expose] public section

set_option maxRecDepth 16384

noncomputable section

namespace Cert.AttnClaim

open Idealize.ShloMosaic Idealize.SL.Sem
open Cert.Attn.Core (Arrs arrs)

/-- The precondition by the arrays' indices. -/
theorem finite (m : (ℓ : Loc Cert.AttnIdeal.nD Cert.AttnIdeal.τ Cert.AttnIdeal.sig) → Buf (Elt Ideal) ℓ)
    (h : Cert.Pre_AttnIdeal_finite m) (c : Dev Cert.AttnIdeal.nD) : (Cert.AttnIdeal.Final.given m c).Finite := by
  obtain ⟨h1, h2, h3, h4, h6, h7⟩ := Cert.Attn.Core.finite_of_pre _ _ _ _ _ _ _ _ _ _ (h c)
  exact ⟨fun _ _ l hl => h1 _ _ l hl, fun _ _ _ => h2 _, fun _ => h3 _, fun _ => h4 _, fun _ _ => h6 _, fun _ => h7 _⟩

section Terms
open Cert.AttnReferenceIdeal Cert.AttnReferenceIdeal.Exec Cert.AttnReferenceIdeal.Stages
open Cert.AttnReferenceIdeal.Gen
variable (V : Valuation Cert.AttnReferenceIdeal.τ Cert.AttnReferenceIdeal.sig (Elt Ideal))

theorem term_scores : res_main_v102 V = scoresR (V (Proc.devRef .tc main_arg0)) (V (Proc.devRef .tc main_arg1)) (V (Proc.devRef .tc main_arg2))
    (V (Proc.devRef .tc main_arg4)) (V (Proc.devRef .tc main_arg6)) (V (Proc.devRef .tc main_arg7)) := rfl

theorem term_sinks : res_main_v104 V = sinks (F := Ideal) (V (Proc.devRef .tc main_arg3)) := rfl

theorem term_top : res_main_v108 V = topR (V (Proc.devRef .tc main_arg0)) (V (Proc.devRef .tc main_arg1)) (V (Proc.devRef .tc main_arg2))
    (V (Proc.devRef .tc main_arg3)) (V (Proc.devRef .tc main_arg4)) (V (Proc.devRef .tc main_arg6)) (V (Proc.devRef .tc main_arg7)) := by
  have e : res_main_v108 V = top (F := Ideal) (res_main_v102 V) (res_main_v104 V) := rfl
  rw [e, term_scores, term_sinks]
  rfl

theorem term_exps : res_main_v111 V = exps (F := Ideal) (res_main_v102 V) (res_main_v108 V) := rfl

theorem term_mixed : res_main_v126 V = proj (F := Ideal) (mixedR (V (Proc.devRef .tc main_arg0)) (V (Proc.devRef .tc main_arg1)) (V (Proc.devRef .tc main_arg2))
    (V (Proc.devRef .tc main_arg3)) (V (Proc.devRef .tc main_arg4)) (V (Proc.devRef .tc main_arg6)) (V (Proc.devRef .tc main_arg7)))
    (V (Proc.devRef .tc main_arg8)) (V (Proc.devRef .tc main_arg9)) := by
  have e : res_main_v126 V = proj (F := Ideal) (mixed (F := Ideal) (twoBlocks (valsOf (V (Proc.devRef .tc main_arg1))))
    (weights (F := Ideal) (res_main_v111 V) (res_main_v104 V) (res_main_v108 V))) (V (Proc.devRef .tc main_arg8)) (V (Proc.devRef .tc main_arg9)) := rfl
  rw [e, term_exps, term_scores, term_sinks, term_top]
  rfl

end Terms

set_option maxHeartbeats 2000000 in
/-- The call gives the reference's result. -/
theorem algebraic : Cert.algebraic_AttnIdeal_AttnReferenceIdeal_pre_finite := by
  pair_intro
  · run_from Cert.AttnIdeal.Value.run_blocks m g
  · run_from Cert.AttnReferenceIdeal.Exec.run m' g'
    obtain ⟨h0, h1, h2, h3, h4, h5, h6, h7, h8, h9⟩ := hagree c
    refine Eq.trans ?_ (Cert.AttnIdeal.Final.final m c (finite m hpre c)).symm
    refine Eq.trans ?_ (Cert.AttnReferenceIdeal.Stages.outR_eq _ _ _ _ _ _ _ _ _ _)
    have e : Cert.AttnReferenceIdeal.Exec.res_main_v126 (StableHlo.launchContents m' c)
        = Cert.AttnReferenceIdeal.Stages.proj (F := Ideal) (Cert.AttnReferenceIdeal.Stages.mixedR (m (c.tc.loc Cert.AttnIdeal.main_arg0)) (m (c.tc.loc Cert.AttnIdeal.main_arg1)) (m (c.tc.loc Cert.AttnIdeal.main_arg2)) (m (c.tc.loc Cert.AttnIdeal.main_arg3)) (m (c.tc.loc Cert.AttnIdeal.main_arg4)) (m (c.tc.loc Cert.AttnIdeal.main_arg6)) (m (c.tc.loc Cert.AttnIdeal.main_arg7))) (m (c.tc.loc Cert.AttnIdeal.main_arg8)) (m (c.tc.loc Cert.AttnIdeal.main_arg9)) := by
      refine (term_mixed (StableHlo.launchContents m' c)).trans ?_
      show Cert.AttnReferenceIdeal.Stages.proj (F := Ideal) (Cert.AttnReferenceIdeal.Stages.mixedR (m' (c.tc.loc Cert.AttnReferenceIdeal.main_arg0)) (m' (c.tc.loc Cert.AttnReferenceIdeal.main_arg1)) (m' (c.tc.loc Cert.AttnReferenceIdeal.main_arg2)) (m' (c.tc.loc Cert.AttnReferenceIdeal.main_arg3)) (m' (c.tc.loc Cert.AttnReferenceIdeal.main_arg4)) (m' (c.tc.loc Cert.AttnReferenceIdeal.main_arg6)) (m' (c.tc.loc Cert.AttnReferenceIdeal.main_arg7))) (m' (c.tc.loc Cert.AttnReferenceIdeal.main_arg8)) (m' (c.tc.loc Cert.AttnReferenceIdeal.main_arg9)) = _
      rw [h0, h1, h2, h3, h4, h6, h7, h8, h9]
    rw [e]
    rfl

theorem frame_kernel : Cert.quiescent_Attn := fun m ρ _ => Cert.Attn.Gen.frame m ρ
theorem frame_ideal : Cert.quiescent_AttnIdeal := fun m ρ _ => Cert.AttnIdeal.Gen.frame m ρ
theorem frame_ideal_pre : Cert.quiescent_AttnIdeal_pre_finite := fun m ρ _ => Cert.AttnIdeal.Gen.frame m ρ
theorem frame_reference : Cert.quiescent_AttnReferenceIdeal := by
  intro m ρ _
  run_from Cert.AttnReferenceIdeal.Exec.run m ρ
  · exact fun _ => ⟨trivial, trivial, trivial, trivial, trivial, trivial, trivial, trivial, trivial, trivial⟩
  · exact Idealize.ShloMosaic.sem_eq_zero_of_no_sems (by decide) r.2
theorem frame_reference_pre : Cert.quiescent_AttnReferenceIdeal_pre_finite := by
  intro m ρ _
  run_from Cert.AttnReferenceIdeal.Exec.run m ρ
  · exact fun _ => ⟨trivial, trivial, trivial, trivial, trivial, trivial, trivial, trivial, trivial, trivial⟩
  · exact Idealize.ShloMosaic.sem_eq_zero_of_no_sems (by decide) r.2

theorem preserves : Cert.preserves_Attn_AttnIdeal :=
  ⟨IdealRules.named_const.statement Cert.AttnIdeal.κ "qscale" .f32 _ _ rfl,
    IdealRules.named_const.statement Cert.AttnIdeal.κ "log2e" .f32 _ _ rfl⟩

end Cert.AttnClaim

end
-- ==== Proof.FfnValue.lean ====
/- The feed-forward call's two result arrays after the run: the row function of the stream's rows. -/
module

public import proofs.«01_k».proof.Proof.FfnPure
public import proofs.«01_k».proof.Proof.Gen.FfnIdeal.Frame
public import proofs.«01_k».proof.Proof.Gen.FfnReferenceIdeal.Run
public import Idealize.ShloMosaic.Lib.Pipeline.ValueKit
public import Idealize.ShloMosaic.Lib.Claim

@[expose] public section

set_option maxRecDepth 16384

noncomputable section

namespace Cert.FfnIdeal.Final

open Idealize.ShloMosaic Idealize.ShloMosaic.TcCoe Idealize.SL.Sem
open Idealize.ShloMosaic.Pipeline (Dat)
open Cert.FfnIdeal Cert.FfnIdeal.Gen Cert.FfnIdeal.Pure

variable (m : (ℓ : Loc nD τ sig) → Buf (Elt Ideal) ℓ)

/-- The layer's first result as a function of the arguments: row `i` of the flattened prompt stream. -/
def outP (x : FVec Ideal S2x8192x1024 .f32) (ga gb : FVec Ideal S1024 .f32) (wgu : FVec Ideal S1024x5632 .f32)
    (wd : FVec Ideal S2816x1024 .f32) : FVec Ideal S16384x1024 .f32 := fun i =>
  ffnRow (fun k => shapeCast S16384x1024 x (by decide) (ix2 (i 0) k)) (fun k => ga (ix1 k)) (fun k => gb (ix1 k)) (fun k f => wgu (ix2 k f))
    (fun f k => wd (ix2 f k)) (i 1)

/-- The layer's second result: row `i` of the flattened sample stream. -/
def outS (x : FVec Ideal S128x4x1024 .f32) (ga gb : FVec Ideal S1024 .f32) (wgu : FVec Ideal S1024x5632 .f32)
    (wd : FVec Ideal S2816x1024 .f32) : FVec Ideal S512x1024 .f32 := fun i =>
  ffnRow (fun k => shapeCast S512x1024 x (by decide) (ix2 (i 0) k)) (fun k => ga (ix1 k)) (fun k => gb (ix1 k)) (fun k f => wgu (ix2 k f))
    (fun f k => wd (ix2 f k)) (i 1)

theorem idx : ∀ t : Fin cfg0.N, win0_0.index t = ![t.val, 0] ∧ win0_1.index t = ![0, 0] ∧ win0_2.index t = ![0, 0]
    ∧ win0_3.index t = ![0, 0] ∧ win0_4.index t = ![0, 0, 0] ∧ win0_5.index t = ![0, 0, 0] ∧ win0_6.index t = ![t.val, 0]
    ∧ win0_7.index t = ![0, 0] :=
  (by decide +kernel : ∀ t : Fin grid0.N, _)

theorem read_x (c : Dev nD) (t : Fin cfg0.N) (r : Fin 512) (k : Fin 1024) (h : 512 * t.val + r.val < 16384) :
    iblk m c 0 t (ix2 r k)
      = shapeCast S16384x1024 (m ((c : Thread nD τ).loc main_arg0)) shapeCasts_S2x8192x1024_S16384x1024
          (ix2 ⟨512 * t.val + r.val, h⟩ k) := by
  blk_simp [iblk, idx t]
  entry_read
  blk_ext [idx t]

theorem read_xs (c : Dev nD) (t : Fin cfg0.N) (r : Fin 512) (k : Fin 1024) :
    iblk m c 1 t (ix2 r k)
      = shapeCast S512x1024 (m ((c : Thread nD τ).loc main_arg1)) shapeCasts_S128x4x1024_S512x1024 (ix2 r k) := by
  blk_simp [iblk, idx t]
  entry_read
  blk_ext [idx t]

theorem read_ga (c : Dev nD) (t : Fin cfg0.N) (k : Fin 1024) :
    iblk m c 2 t (ix2 0 k) = m ((c : Thread nD τ).loc main_arg2) (ix1 k) := by
  blk_simp [iblk, idx t]
  entry_read
  pointwise
  blk_ext [idx t]

theorem read_gb (c : Dev nD) (t : Fin cfg0.N) (k : Fin 1024) :
    iblk m c 3 t (ix2 0 k) = m ((c : Thread nD τ).loc main_arg3) (ix1 k) := by
  blk_simp [iblk, idx t]
  entry_read
  pointwise
  blk_ext [idx t]

theorem read_wgu (c : Dev nD) (t : Fin cfg0.N) (k : Fin 1024) (f : Fin 5632) :
    iblk m c 4 t (ix3 0 k f) = m ((c : Thread nD τ).loc main_arg4) (ix2 k f) := by
  blk_simp [iblk, idx t]
  entry_read
  pointwise
  blk_ext [idx t]

theorem read_wd (c : Dev nD) (t : Fin cfg0.N) (f : Fin 2816) (k : Fin 1024) :
    iblk m c 5 t (ix3 0 f k) = m ((c : Thread nD τ).loc main_arg5) (ix2 f k) := by
  blk_simp [iblk, idx t]
  entry_read
  pointwise
  blk_ext [idx t]

theorem pointP (c : Dev nD) (t : Fin cfg0.N) (y : S512x1024.Idx) :
    k0_pay1 (F := Ideal) (k0_pay13 (iblk m c 0 t)) (k0_pay14 (iblk m c 0 t))
      (k0_pay18 (k0_pay16 (iblk m c 0 t) (iblk m c 2 t) (iblk m c 4 t)) (iblk m c 5 t))
      (k0_pay19 (k0_pay15 (iblk m c 0 t) (iblk m c 2 t)) (k0_pay17 (iblk m c 4 t)) (constant S256x5632 .f32 0x00000000#32)
        (iblk m c 5 t))
      (k0_pay20 (iblk m c 3 t)) (k0_pay21 (k0_pay16 (iblk m c 0 t) (iblk m c 2 t) (iblk m c 4 t)) (iblk m c 5 t))
      (k0_pay22 (F := Ideal)) (iblk m c 3 t) y
    = outP (m ((c : Thread nD τ).loc main_arg0)) (m ((c : Thread nD τ).loc main_arg2)) (m ((c : Thread nD τ).loc main_arg3))
        (m ((c : Thread nD τ).loc main_arg4)) (m ((c : Thread nD τ).loc main_arg5)) ((win0_6.blk t).view.emb y) := by
  obtain ⟨r, j, rfl⟩ : ∃ (r : Fin 512) (j : Fin 1024), y = ix2 r j := ⟨y 0, y 1, by blk_ext⟩
  have ht : 512 * t.val + r.val < 16384 := by have := t.isLt; have : cfg0.N = 32 := by decide
                                              omega
  have he : (win0_6.blk t).view.emb (ix2 r j) = ix2 (⟨512 * t.val + r.val, ht⟩ : Fin 16384) j := by blk_ext [idx t]
  rw [he]
  refine (tile_main _ _ _ _ _ r j).trans ?_
  simp only [outP, read_x m c t _ _ ht, read_ga, read_gb, read_wgu, read_wd]
  rfl

theorem finalP (c : Dev nD) : (dats m 0 c).arrAt 6 (cfgs 0).N
    = outP (m ((c : Thread nD τ).loc main_arg0)) (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t _ y => ?_
  blk_simp
  rw [after0_6]
  by_cases h : t.val % 32 = 31
  · rw [outsAt0_B m c t h]; dsimp only; frame_out
    exact pointP m c t y
  · rw [outsAt0_A m c t h]; dsimp only; frame_out
    exact pointP m c t y

theorem finalS (c : Dev nD) : (dats m 0 c).arrAt 7 (cfgs 0).N
    = outS (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 7 _ (by decide +kernel) fun t ht y => ?_
  have h : t.val % 32 = 31 := (by decide +kernel : ∀ t : Fin cfg0.N, (cfg0.win 7).flush t = true → t.val % 32 = 31) t ht
  blk_simp
  rw [after0_7, outsAt0_B m c t h]; dsimp only; frame_out
  have y' : S512x1024.Idx := y
  obtain ⟨r, j, rfl⟩ : ∃ (r : Fin 512) (j : Fin 1024), y = ix2 r j := ⟨y 0, y 1, by blk_ext⟩
  have he : (win0_7.blk t).view.emb (ix2 r j) = ix2 (r : Fin 512) j := by blk_ext [idx t]
  refine ((tile_rider _ _ _ _ _ r j).trans ?_).trans (congrArg _ he.symm)
  simp only [outS, read_xs, read_ga, read_gb, read_wgu, read_wd]
  rfl

end Cert.FfnIdeal.Final

end
-- ==== Proof.FfnRef.lean ====
/- The feed-forward reference's two results: stages of its composed term, each read at an index, and the row function
   the kernel's results were shown to be. -/
module

public import proofs.«01_k».proof.Proof.FfnValue

@[expose] public section

set_option maxRecDepth 16384

noncomputable section

namespace Cert.FfnReferenceIdeal.Stages

open Idealize.ShloMosaic Idealize.ShloMosaic.TcCoe Idealize.SL.Sem
open Cert.FfnReferenceIdeal Cert.FfnReferenceIdeal.Gen
open Cert.FfnIdeal.Pure (normRow guRow downRow ffnRow)

section Terms
variable {F : FTy → Type} [FloatOps F]

/-! ### The prompt stream -/

section P
variable (x : FVec F S2x8192x1024 .f32) (g ga gb : FVec F S1024 .f32) (wgu : FVec F S1024x5632 .f32) (wd : FVec F S2816x1024 .f32)

def normP : FVec F S2x8192x1024 .f32 :=
  mulf (mulf x (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (mulf x x) (constant S_ .f32 0x00000000#32)
      reducesTo_S2x8192x1024_S2x8192_d2 h_S_)) (broadcastInDim S2x8192x1 ![] bcast_S_S2x8192x1 (constant S_ .f32 0x44800000#32)))
    (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

def guP : FVec F S2x8192x5632 .f32 :=
  Host.dotGeneral dot_S2x8192x1024_S1024x5632_S2x8192x5632_2_0_01_1_n_n none (normP x g) wgu

def downP (gu : FVec F S2x8192x5632 .f32) : FVec F S2x8192x1024 .f32 :=
  Host.dotGeneral dot_S2x8192x2816_S2816x1024_S2x8192x1024_2_0_01_1_n_n none
    (mulf (mulf (extractStridedSlice S2x8192x2816 ![0, 0, 0] gu slices_S2x8192x5632_S2x8192x2816_0_0_0)
      (Host.divf (broadcastInDim S2x8192x2816 ![] bcast_S_S2x8192x2816 (constant S_ .f32 0x3F800000#32))
        (addf (broadcastInDim S2x8192x2816 ![] bcast_S_S2x8192x2816 (constant S_ .f32 0x3F800000#32))
          (Host.exp (Host.negf (extractStridedSlice S2x8192x2816 ![0, 0, 0] gu slices_S2x8192x5632_S2x8192x2816_0_0_0))))))
      (extractStridedSlice S2x8192x2816 ![0, 0, 2816] gu slices_S2x8192x5632_S2x8192x2816_0_0_2816)) wd

def outP : FVec F S2x8192x1024 .f32 :=
  addf x (mulf (broadcastInDim S2x8192x1024 ![] bcast_S_S2x8192x1024 (constant S_ .f32 0x3F000000#32))
    (normP (downP wd (guP x ga wgu)) gb))

end P

/-! ### The sample stream -/

section S
variable (x : FVec F S128x4x1024 .f32) (g ga gb : FVec F S1024 .f32) (wgu : FVec F S1024x5632 .f32) (wd : FVec F S2816x1024 .f32)

def normS : FVec F S128x4x1024 .f32 :=
  mulf (mulf x (broadcastInDim S128x4x1024 ![0, 1, 2] bcast_S128x4x1_S128x4x1024_0_1_2 (Host.rsqrt (addf (Host.divf
    (broadcastInDim S128x4x1 ![0, 1] bcast_S128x4_S128x4x1_0_1 (Host.reduceAdd (mulf x x) (constant S_ .f32 0x00000000#32)
      reducesTo_S128x4x1024_S128x4_d2 h_S_)) (broadcastInDim S128x4x1 ![] bcast_S_S128x4x1 (constant S_ .f32 0x44800000#32)))
    (broadcastInDim S128x4x1 ![] bcast_S_S128x4x1 (constant S_ .f32 0x358637BD#32))))))
    (broadcastInDim S128x4x1024 ![0, 1, 2] bcast_S1x1x1024_S128x4x1024_0_1_2 (broadcastInDim S1x1x1024 ![2] bcast_S1024_S1x1x1024_2 g))

def guS : FVec F S128x4x5632 .f32 :=
  Host.dotGeneral dot_S128x4x1024_S1024x5632_S128x4x5632_2_0_01_1_n_n none (normS x g) wgu

def downS (gu : FVec F S128x4x5632 .f32) : FVec F S128x4x1024 .f32 :=
  Host.dotGeneral dot_S128x4x2816_S2816x1024_S128x4x1024_2_0_01_1_n_n none
    (mulf (mulf (extractStridedSlice S128x4x2816 ![0, 0, 0] gu slices_S128x4x5632_S128x4x2816_0_0_0)
      (Host.divf (broadcastInDim S128x4x2816 ![] bcast_S_S128x4x2816 (constant S_ .f32 0x3F800000#32))
        (addf (broadcastInDim S128x4x2816 ![] bcast_S_S128x4x2816 (constant S_ .f32 0x3F800000#32))
          (Host.exp (Host.negf (extractStridedSlice S128x4x2816 ![0, 0, 0] gu slices_S128x4x5632_S128x4x2816_0_0_0))))))
      (extractStridedSlice S128x4x2816 ![0, 0, 2816] gu slices_S128x4x5632_S128x4x2816_0_0_2816)) wd

def outS : FVec F S128x4x1024 .f32 :=
  addf x (mulf (broadcastInDim S128x4x1024 ![] bcast_S_S128x4x1024 (constant S_ .f32 0x3F000000#32))
    (normS (downS wd (guS x ga wgu)) gb))

end S

end Terms

section P
variable (x : FVec Ideal S2x8192x1024 .f32) (g ga gb : FVec Ideal S1024 .f32) (wgu : FVec Ideal S1024x5632 .f32)
  (wd : FVec Ideal S2816x1024 .f32)

theorem normP_apply (b : Fin 2) (s : Fin 8192) (k : Fin 1024) :
    normP x g (ix3 b s k) = normRow (fun k => x (ix3 b s k)) (fun k => g (ix1 k)) k := by
  pointwise [normP, normRow]

theorem guP_apply (b : Fin 2) (s : Fin 8192) (f : Fin 5632) :
    guP x g wgu (ix3 b s f) = guRow (fun k => x (ix3 b s k)) (fun k => g (ix1 k)) (fun k f => wgu (ix2 k f)) f := by
  pointwise [guP, normP, guRow, normRow]

theorem downP_apply (u : FVec Ideal S2x8192x5632 .f32) (b : Fin 2) (s : Fin 8192) (j : Fin 1024) :
    downP wd u (ix3 b s j) = downRow (fun f => u (ix3 b s f)) (fun f k => wd (ix2 f k)) j := by
  pointwise [downP, downRow]
  simp only [zero_sub]

theorem outP_apply (b : Fin 2) (s : Fin 8192) (j : Fin 1024) :
    outP x ga gb wgu wd (ix3 b s j) = ffnRow (fun k => x (ix3 b s k)) (fun k => ga (ix1 k)) (fun k => gb (ix1 k))
      (fun k f => wgu (ix2 k f)) (fun f k => wd (ix2 f k)) j := by
  have e : outP x ga gb wgu wd (ix3 b s j) = x (ix3 b s j) + Ideal.ofBits .f32 0x3F000000#32
      * normP (downP wd (guP x ga wgu)) gb (ix3 b s j) := by
    pointwise [outP]
  rw [e, normP_apply]
  simp only [downP_apply, guP_apply]
  rfl

theorem flatP : shapeCast S16384x1024 (outP x ga gb wgu wd) shapeCasts_S2x8192x1024_S16384x1024
    = Cert.FfnIdeal.Final.outP x ga gb wgu wd := by
  funext i
  obtain ⟨r, j, rfl⟩ : ∃ (r : Fin 16384) (j : Fin 1024), i = ix2 r j := ⟨i 0, i 1, by blk_ext⟩
  have key : ∀ (y : FVec Ideal S2x8192x1024 .f32) (k : Fin 1024) h, shapeCast S16384x1024 y h (ix2 r k)
      = y (ix3 ⟨r / 8192, by omega⟩ ⟨r % 8192, by omega⟩ k) := by
    intro y k h
    pointwise
  refine (key _ _ _).trans ((outP_apply _ _ _ _ _ _ _ _).trans ?_)
  simp only [Cert.FfnIdeal.Final.outP]
  refine congrArg (fun v => ffnRow v _ _ _ _ _) (funext fun k => (key x k _).symm)

theorem resultP (m : (ℓ : Loc nD τ sig) → Buf (Elt Ideal) ℓ) (c : Dev nD) : Value.res_main_v70 m c
    = Cert.FfnIdeal.Final.outP (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg5)) :=
  Eq.trans (by unfold Value.res_main_v70; rfl) (flatP _ _ _ _ _)

end P

section S
variable (x : FVec Ideal S128x4x1024 .f32) (g ga gb : FVec Ideal S1024 .f32) (wgu : FVec Ideal S1024x5632 .f32)
  (wd : FVec Ideal S2816x1024 .f32)

theorem normS_apply (b : Fin 128) (s : Fin 4) (k : Fin 1024) :
    normS x g (ix3 b s k) = normRow (fun k => x (ix3 b s k)) (fun k => g (ix1 k)) k := by
  pointwise [normS, normRow]

theorem guS_apply (b : Fin 128) (s : Fin 4) (f : Fin 5632) :
    guS x g wgu (ix3 b s f) = guRow (fun k => x (ix3 b s k)) (fun k => g (ix1 k)) (fun k f => wgu (ix2 k f)) f := by
  pointwise [guS, normS, guRow, normRow]

theorem downS_apply (u : FVec Ideal S128x4x5632 .f32) (b : Fin 128) (s : Fin 4) (j : Fin 1024) :
    downS wd u (ix3 b s j) = downRow (fun f => u (ix3 b s f)) (fun f k => wd (ix2 f k)) j := by
  pointwise [downS, downRow]
  simp only [zero_sub]

theorem outS_apply (b : Fin 128) (s : Fin 4) (j : Fin 1024) :
    outS x ga gb wgu wd (ix3 b s j) = ffnRow (fun k => x (ix3 b s k)) (fun k => ga (ix1 k)) (fun k => gb (ix1 k))
      (fun k f => wgu (ix2 k f)) (fun f k => wd (ix2 f k)) j := by
  have e : outS x ga gb wgu wd (ix3 b s j) = x (ix3 b s j) + Ideal.ofBits .f32 0x3F000000#32
      * normS (downS wd (guS x ga wgu)) gb (ix3 b s j) := by
    pointwise [outS]
  rw [e, normS_apply]
  simp only [downS_apply, guS_apply]
  rfl

theorem flatS : shapeCast S512x1024 (outS x ga gb wgu wd) shapeCasts_S128x4x1024_S512x1024
    = Cert.FfnIdeal.Final.outS x ga gb wgu wd := by
  funext i
  obtain ⟨r, j, rfl⟩ : ∃ (r : Fin 512) (j : Fin 1024), i = ix2 r j := ⟨i 0, i 1, by blk_ext⟩
  have key : ∀ (y : FVec Ideal S128x4x1024 .f32) (k : Fin 1024) h, shapeCast S512x1024 y h (ix2 r k)
      = y (ix3 ⟨r / 4, by omega⟩ ⟨r % 4, by omega⟩ k) := by
    intro y k h
    pointwise
  refine (key _ _ _).trans ((outS_apply _ _ _ _ _ _ _ _).trans ?_)
  simp only [Cert.FfnIdeal.Final.outS]
  refine congrArg (fun v => ffnRow v _ _ _ _ _) (funext fun k => (key x k _).symm)

theorem resultS (m : (ℓ : Loc nD τ sig) → Buf (Elt Ideal) ℓ) (c : Dev nD) : Value.res_main_v71 m c
    = Cert.FfnIdeal.Final.outS (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) :=
  Eq.trans (by unfold Value.res_main_v71; rfl) (flatS _ _ _ _ _)

end S

end Cert.FfnReferenceIdeal.Stages

end
-- ==== Proof.FfnClaim.lean ====
/- The feed-forward layer's claims: the call against the reference, and the frames. -/
module

public import proofs.«01_k».proof.Proof.FfnRef
public import proofs.«01_k».proof.Proof.Gen.FfnIdeal.Value
public import proofs.«01_k».proof.Proof.Gen.Ffn.Frame
public import proofs.«01_k».proof.Defs

@[expose] public section

set_option maxRecDepth 16384

noncomputable section

namespace Cert.FfnClaim

open Idealize.ShloMosaic Idealize.SL.Sem

theorem algebraic : Cert.algebraic_FfnIdeal_FfnReferenceIdeal := by
  pair_intro
  · run_from Cert.FfnIdeal.Value.run_blocks m g
  · run_from Cert.FfnReferenceIdeal.Value.run m' g'
    all_goals obtain ⟨h0, h1, h2, h3, h4, h5⟩ := hagree c
    · refine (Cert.FfnReferenceIdeal.Stages.resultP m' c).trans (Eq.trans ?_ (Cert.FfnIdeal.Final.finalP m c).symm)
      rw [h0, h2, h3, h4, h5]
    · refine (Cert.FfnReferenceIdeal.Stages.resultS m' c).trans (Eq.trans ?_ (Cert.FfnIdeal.Final.finalS m c).symm)
      rw [h1, h2, h3, h4, h5]

theorem frame_kernel : Cert.quiescent_Ffn := fun m ρ _ => Cert.Ffn.Gen.frame m ρ
theorem frame_ideal : Cert.quiescent_FfnIdeal := fun m ρ _ => Cert.FfnIdeal.Gen.frame m ρ
theorem frame_reference : Cert.quiescent_FfnReferenceIdeal := by
  intro m ρ _
  run_from Cert.FfnReferenceIdeal.Value.run m ρ
  · exact fun _ => ⟨trivial, trivial, trivial, trivial, trivial, trivial⟩
  · exact Idealize.ShloMosaic.sem_eq_zero_of_no_sems (by decide) r.2

theorem preserves : Cert.preserves_Ffn_FfnIdeal := trivial

end Cert.FfnClaim

end
-- ==== Proof.FfnKvPure.lean ====
/- What the last feed-forward call's body stores, read at a row and a lane. The tile pairs two neighbouring tokens in a row:
   the even tokens are handled first, then the odd ones, and a strided slab puts them back in order. -/
module

public import proofs.«01_k».proof.Proof.FfnPure
public import proofs.«01_k».proof.Proof.Gen.FfnKvIdeal.Skeleton
public import Idealize.ShloMosaic.Lib.Pointwise
public import Idealize.ShloMosaic.Lib.Pipeline.ValueKit

@[expose] public section

set_option maxRecDepth 16384

noncomputable section

namespace Cert.FfnKvIdeal.Pure

open Idealize.ShloMosaic Idealize.ShloMosaic.TcCoe Idealize.SL.Sem
open Cert.FfnKvIdeal Cert.FfnKvIdeal.Gen
open Cert.FfnIdeal.Pure (normRow guRow downRow ffnRow)

variable (xe xo : FVec Ideal S256x1024 .f32) (ga gb : FVec Ideal S1x1024 .f32) (wgu : FVec Ideal S1x1024x5632 .bf16)
  (wd : FVec Ideal S1x2816x1024 .bf16)

/-- Where token `r` of a tile stands in the list of the even tokens followed by the odd ones. -/
def half (r : Fin 512) : Fin 512 := if (r : ℕ) % 2 = 0 then ⟨r / 2, by omega⟩ else ⟨256 + r / 2, by omega⟩

/-- The rows of a tile put back in token order. -/
def interleave (O : FVec Ideal S512x1024 .f32) : FVec Ideal S512x1024 .f32 := fun i => O (ix2 (half (i 0)) (i 1))

/-- Token `r` of a tile whose rows hold two tokens each. -/
def tok (r : Fin 512) (k : Fin 1024) : EReal := if (r : ℕ) % 2 = 0 then xe (ix2 ⟨r / 2, by omega⟩ k) else xo (ix2 ⟨r / 2, by omega⟩ k)

/-- Row `r` of the normalised rows times the key/value weights, with the bias. -/
def kvRow (v g : Fin 1024 → EReal) (w : Fin 1024 → Fin 256 → EReal) (b : Fin 256 → EReal) (l : Fin 256) : EReal :=
  (∑ k, normRow v g k * w k l) + b l

/-- A chunk of the slab read after its even and odd rows were written. -/
theorem chunk {κ : Kind} {sp : Space} (v : View sig κ sp S8x512x128 .f32) (j : ℕ) (hj : j < 8)
    (O : FVec Ideal S512x1024 .f32) (a b : FVec Ideal S1x256x128 .f32)
    (ha : ∀ (r : Fin 256) (l : Fin 128), a (ix3 0 r l) = O (ix2 ⟨r, by omega⟩ ⟨128 * j + l, by omega⟩))
    (hb : ∀ (r : Fin 256) (l : Fin 128), b (ix3 0 r l) = O (ix2 ⟨256 + r, by omega⟩ ⟨128 * j + l, by omega⟩))
    (L : List (View.Piece (Elt Ideal) S8x512x128 .f32)) (i0 i1 i2 : _) (p0 p1 : _) (r : Fin 512) (l : Fin 128) :
    v.readCov (⟨{ off := ![j, 1, 0], size := ![1, 256, 128], stride := ![1, 2, 1], inb := i1, stride_pos := p1 }, b⟩
        :: ⟨{ off := ![j, 0, 0], size := ![1, 256, 128], stride := ![1, 2, 1], inb := i0, stride_pos := p0 }, a⟩ :: L)
      (Rect.unit (s := S8x512x128) ![j, 0, 0] ![1, 512, 128] i2).toLoadRect (ix3 0 r l)
    = O (ix2 (half r) ⟨128 * j + l, by omega⟩) := by
  rw [View.readCov_eq_canon']
  show View.canon _ _ = _
  by_cases h : (r : ℕ) % 2 = 0
  · rw [View.canon_cons_of_not_mem]
    · have e : (Rect.unit (s := S8x512x128) ![j, 0, 0] ![1, 512, 128] i2).toLoadRect.idx (ix3 0 r l)
          = (⟨⟨![j, 0, 0], ![1, 256, 128], ![1, 2, 1], i0⟩, p0⟩ : Rect S8x512x128).emb
              (ix3 (0 : Fin 1) (⟨r / 2, by omega⟩ : Fin 256) l) := by
        funext q; apply Fin.ext
        match q with
        | 0 => rfl
        | 1 => show 0 + 1 * (r : ℕ) = 0 + 2 * (r / 2); omega
        | 2 => rfl
      rw [e, View.canon_cons_emb]
      refine (ha _ _).trans ?_
      simp only [half, if_pos h]
    · intro hm
      rw [LoadRect.mem_set] at hm
      obtain ⟨n, hn, hn'⟩ := hm 1
      have hn'' : 0 + 1 * (r : ℕ) = 1 + 2 * n := hn'
      omega
  · have e : (Rect.unit (s := S8x512x128) ![j, 0, 0] ![1, 512, 128] i2).toLoadRect.idx (ix3 0 r l)
          = (⟨⟨![j, 1, 0], ![1, 256, 128], ![1, 2, 1], i1⟩, p1⟩ : Rect S8x512x128).emb
              (ix3 (0 : Fin 1) (⟨r / 2, by omega⟩ : Fin 256) l) := by
        funext q; apply Fin.ext
        match q with
        | 0 => rfl
        | 1 => show 0 + 1 * (r : ℕ) = 1 + 2 * (r / 2); omega
        | 2 => rfl
    rw [e, View.canon_cons_emb]
    refine (hb _ _).trans ?_
    simp only [half, if_neg h]

theorem main_cast0 (x : FVec Ideal S1x512x128 .f32) (r : Fin 512) (l : Fin 128) : k0_pay49 (F := Ideal) x (ix2 r l) = x (ix3 0 r l) := by
  pointwise [k0_pay49]

theorem main_cast1 (x : FVec Ideal S1x512x128 .f32) (r : Fin 512) (l : Fin 128) : k0_pay52 (F := Ideal) x (ix2 r l) = x (ix3 0 r l) := by
  pointwise [k0_pay52]

theorem main_cast2 (x : FVec Ideal S1x512x128 .f32) (r : Fin 512) (l : Fin 128) : k0_pay55 (F := Ideal) x (ix2 r l) = x (ix3 0 r l) := by
  pointwise [k0_pay55]

theorem main_cast3 (x : FVec Ideal S1x512x128 .f32) (r : Fin 512) (l : Fin 128) : k0_pay59 (F := Ideal) x (ix2 r l) = x (ix3 0 r l) := by
  pointwise [k0_pay59]

theorem main_cast4 (x : FVec Ideal S1x512x128 .f32) (r : Fin 512) (l : Fin 128) : k0_pay62 (F := Ideal) x (ix2 r l) = x (ix3 0 r l) := by
  pointwise [k0_pay62]

theorem main_cast5 (x : FVec Ideal S1x512x128 .f32) (r : Fin 512) (l : Fin 128) : k0_pay65 (F := Ideal) x (ix2 r l) = x (ix3 0 r l) := by
  pointwise [k0_pay65]

theorem main_cast6 (x : FVec Ideal S1x512x128 .f32) (r : Fin 512) (l : Fin 128) : k0_pay68 (F := Ideal) x (ix2 r l) = x (ix3 0 r l) := by
  pointwise [k0_pay68]

theorem main_cast7 (x : FVec Ideal S1x512x128 .f32) (r : Fin 512) (l : Fin 128) : k0_pay71 (F := Ideal) x (ix2 r l) = x (ix3 0 r l) := by
  pointwise [k0_pay71]

theorem main_even1 (O : FVec Ideal S512x1024 .f32) (r : Fin 256) (l : Fin 128) :
    k0_pay50 (F := Ideal) O (ix3 0 r l) = O (ix2 ⟨r, by omega⟩ ⟨128 * 1 + l, by omega⟩) := by
  pointwise [k0_pay50]

theorem main_odd1 (O : FVec Ideal S512x1024 .f32) (r : Fin 256) (l : Fin 128) :
    k0_pay51 (F := Ideal) O (ix3 0 r l) = O (ix2 ⟨256 + r, by omega⟩ ⟨128 * 1 + l, by omega⟩) := by
  pointwise [k0_pay51]

theorem main_even2 (O : FVec Ideal S512x1024 .f32) (r : Fin 256) (l : Fin 128) :
    k0_pay53 (F := Ideal) O (ix3 0 r l) = O (ix2 ⟨r, by omega⟩ ⟨128 * 2 + l, by omega⟩) := by
  pointwise [k0_pay53]

theorem main_odd2 (O : FVec Ideal S512x1024 .f32) (r : Fin 256) (l : Fin 128) :
    k0_pay54 (F := Ideal) O (ix3 0 r l) = O (ix2 ⟨256 + r, by omega⟩ ⟨128 * 2 + l, by omega⟩) := by
  pointwise [k0_pay54]

theorem main_even3 (O : FVec Ideal S512x1024 .f32) (r : Fin 256) (l : Fin 128) :
    k0_pay57 (F := Ideal) (k0_pay56 O) (ix3 0 r l) = O (ix2 ⟨r, by omega⟩ ⟨128 * 3 + l, by omega⟩) := by
  pointwise [k0_pay57, k0_pay56]

theorem main_odd3 (O : FVec Ideal S512x1024 .f32) (r : Fin 256) (l : Fin 128) :
    k0_pay58 (F := Ideal) O (ix3 0 r l) = O (ix2 ⟨256 + r, by omega⟩ ⟨128 * 3 + l, by omega⟩) := by
  pointwise [k0_pay58]

theorem main_even4 (O : FVec Ideal S512x1024 .f32) (r : Fin 256) (l : Fin 128) :
    k0_pay60 (F := Ideal) O (ix3 0 r l) = O (ix2 ⟨r, by omega⟩ ⟨128 * 4 + l, by omega⟩) := by
  pointwise [k0_pay60]

theorem main_odd4 (O : FVec Ideal S512x1024 .f32) (r : Fin 256) (l : Fin 128) :
    k0_pay61 (F := Ideal) O (ix3 0 r l) = O (ix2 ⟨256 + r, by omega⟩ ⟨128 * 4 + l, by omega⟩) := by
  pointwise [k0_pay61]

theorem main_even5 (O : FVec Ideal S512x1024 .f32) (r : Fin 256) (l : Fin 128) :
    k0_pay63 (F := Ideal) O (ix3 0 r l) = O (ix2 ⟨r, by omega⟩ ⟨128 * 5 + l, by omega⟩) := by
  pointwise [k0_pay63]

theorem main_odd5 (O : FVec Ideal S512x1024 .f32) (r : Fin 256) (l : Fin 128) :
    k0_pay64 (F := Ideal) O (ix3 0 r l) = O (ix2 ⟨256 + r, by omega⟩ ⟨128 * 5 + l, by omega⟩) := by
  pointwise [k0_pay64]

theorem main_even6 (O : FVec Ideal S512x1024 .f32) (r : Fin 256) (l : Fin 128) :
    k0_pay66 (F := Ideal) O (ix3 0 r l) = O (ix2 ⟨r, by omega⟩ ⟨128 * 6 + l, by omega⟩) := by
  pointwise [k0_pay66]

theorem main_odd6 (O : FVec Ideal S512x1024 .f32) (r : Fin 256) (l : Fin 128) :
    k0_pay67 (F := Ideal) O (ix3 0 r l) = O (ix2 ⟨256 + r, by omega⟩ ⟨128 * 6 + l, by omega⟩) := by
  pointwise [k0_pay67]

theorem main_even7 (O : FVec Ideal S512x1024 .f32) (r : Fin 256) (l : Fin 128) :
    k0_pay69 (F := Ideal) O (ix3 0 r l) = O (ix2 ⟨r, by omega⟩ ⟨128 * 7 + l, by omega⟩) := by
  pointwise [k0_pay69]

theorem main_odd7 (O : FVec Ideal S512x1024 .f32) (r : Fin 256) (l : Fin 128) :
    k0_pay70 (F := Ideal) O (ix3 0 r l) = O (ix2 ⟨256 + r, by omega⟩ ⟨128 * 7 + l, by omega⟩) := by
  pointwise [k0_pay70]

/-- The tile read back after its lane pieces, each from the slab. -/
theorem main_tile {κ : Kind} {sp : Space} (v : View sig κ sp S8x512x128 .f32) (O : FVec Ideal S512x1024 .f32)
    (a b : FVec Ideal S1x256x128 .f32)
    (ha : ∀ (r : Fin 256) (l : Fin 128), a (ix3 0 r l) = O (ix2 ⟨r, by omega⟩ ⟨128 * 0 + l, by omega⟩))
    (hb : ∀ (r : Fin 256) (l : Fin 128), b (ix3 0 r l) = O (ix2 ⟨256 + r, by omega⟩ ⟨128 * 0 + l, by omega⟩))
    (L0 L1 L2 L3 L4 L5 L6 L7 : List (View.Piece (Elt Ideal) S8x512x128 .f32)) :
    View.canon (Val := Elt Ideal) (s := S512x1024) (e := .f32) [
      ⟨Rect.unit ![0, 896] ![512, 128] inb_S512x1024_S512x128_0_896, k0_pay71 (v.readCov
        (⟨{ off := ![7, 1, 0], size := ![1, 256, 128], stride := ![1, 2, 1], inb := inb_S8x512x128_S1x256x128_7_1_0_s_1_2_1, stride_pos := spos_1_2_1 }, k0_pay70 O⟩
          :: ⟨{ off := ![7, 0, 0], size := ![1, 256, 128], stride := ![1, 2, 1], inb := inb_S8x512x128_S1x256x128_7_0_0_s_1_2_1, stride_pos := spos_1_2_1 }, k0_pay69 O⟩ :: L7)
        (Rect.unit ![7, 0, 0] ![1, 512, 128] inb_S8x512x128_S1x512x128_7_0_0).toLoadRect)⟩,
      ⟨Rect.unit ![0, 768] ![512, 128] inb_S512x1024_S512x128_0_768, k0_pay68 (v.readCov
        (⟨{ off := ![6, 1, 0], size := ![1, 256, 128], stride := ![1, 2, 1], inb := inb_S8x512x128_S1x256x128_6_1_0_s_1_2_1, stride_pos := spos_1_2_1 }, k0_pay67 O⟩
          :: ⟨{ off := ![6, 0, 0], size := ![1, 256, 128], stride := ![1, 2, 1], inb := inb_S8x512x128_S1x256x128_6_0_0_s_1_2_1, stride_pos := spos_1_2_1 }, k0_pay66 O⟩ :: L6)
        (Rect.unit ![6, 0, 0] ![1, 512, 128] inb_S8x512x128_S1x512x128_6_0_0).toLoadRect)⟩,
      ⟨Rect.unit ![0, 640] ![512, 128] inb_S512x1024_S512x128_0_640, k0_pay65 (v.readCov
        (⟨{ off := ![5, 1, 0], size := ![1, 256, 128], stride := ![1, 2, 1], inb := inb_S8x512x128_S1x256x128_5_1_0_s_1_2_1, stride_pos := spos_1_2_1 }, k0_pay64 O⟩
          :: ⟨{ off := ![5, 0, 0], size := ![1, 256, 128], stride := ![1, 2, 1], inb := inb_S8x512x128_S1x256x128_5_0_0_s_1_2_1, stride_pos := spos_1_2_1 }, k0_pay63 O⟩ :: L5)
        (Rect.unit ![5, 0, 0] ![1, 512, 128] inb_S8x512x128_S1x512x128_5_0_0).toLoadRect)⟩,
      ⟨Rect.unit ![0, 512] ![512, 128] inb_S512x1024_S512x128_0_512, k0_pay62 (v.readCov
        (⟨{ off := ![4, 1, 0], size := ![1, 256, 128], stride := ![1, 2, 1], inb := inb_S8x512x128_S1x256x128_4_1_0_s_1_2_1, stride_pos := spos_1_2_1 }, k0_pay61 O⟩
          :: ⟨{ off := ![4, 0, 0], size := ![1, 256, 128], stride := ![1, 2, 1], inb := inb_S8x512x128_S1x256x128_4_0_0_s_1_2_1, stride_pos := spos_1_2_1 }, k0_pay60 O⟩ :: L4)
        (Rect.unit ![4, 0, 0] ![1, 512, 128] inb_S8x512x128_S1x512x128_4_0_0).toLoadRect)⟩,
      ⟨Rect.unit ![0, 384] ![512, 128] inb_S512x1024_S512x128_0_384, k0_pay59 (v.readCov
        (⟨{ off := ![3, 1, 0], size := ![1, 256, 128], stride := ![1, 2, 1], inb := inb_S8x512x128_S1x256x128_3_1_0_s_1_2_1, stride_pos := spos_1_2_1 }, k0_pay58 O⟩
          :: ⟨{ off := ![3, 0, 0], size := ![1, 256, 128], stride := ![1, 2, 1], inb := inb_S8x512x128_S1x256x128_3_0_0_s_1_2_1, stride_pos := spos_1_2_1 }, k0_pay57 (k0_pay56 O)⟩ :: L3)
        (Rect.unit ![3, 0, 0] ![1, 512, 128] inb_S8x512x128_S1x512x128_3_0_0).toLoadRect)⟩,
      ⟨Rect.unit ![0, 256] ![512, 128] inb_S512x1024_S512x128_0_256, k0_pay55 (v.readCov
        (⟨{ off := ![2, 1, 0], size := ![1, 256, 128], stride := ![1, 2, 1], inb := inb_S8x512x128_S1x256x128_2_1_0_s_1_2_1, stride_pos := spos_1_2_1 }, k0_pay54 O⟩
          :: ⟨{ off := ![2, 0, 0], size := ![1, 256, 128], stride := ![1, 2, 1], inb := inb_S8x512x128_S1x256x128_2_0_0_s_1_2_1, stride_pos := spos_1_2_1 }, k0_pay53 O⟩ :: L2)
        (Rect.unit ![2, 0, 0] ![1, 512, 128] inb_S8x512x128_S1x512x128_2_0_0).toLoadRect)⟩,
      ⟨Rect.unit ![0, 128] ![512, 128] inb_S512x1024_S512x128_0_128, k0_pay52 (v.readCov
        (⟨{ off := ![1, 1, 0], size := ![1, 256, 128], stride := ![1, 2, 1], inb := inb_S8x512x128_S1x256x128_1_1_0_s_1_2_1, stride_pos := spos_1_2_1 }, k0_pay51 O⟩
          :: ⟨{ off := ![1, 0, 0], size := ![1, 256, 128], stride := ![1, 2, 1], inb := inb_S8x512x128_S1x256x128_1_0_0_s_1_2_1, stride_pos := spos_1_2_1 }, k0_pay50 O⟩ :: L1)
        (Rect.unit ![1, 0, 0] ![1, 512, 128] inb_S8x512x128_S1x512x128_1_0_0).toLoadRect)⟩,
      ⟨Rect.unit ![0, 0] ![512, 128] inb_S512x1024_S512x128_0_0, k0_pay49 (v.readCov
        (⟨{ off := ![0, 1, 0], size := ![1, 256, 128], stride := ![1, 2, 1], inb := inb_S8x512x128_S1x256x128_0_1_0_s_1_2_1, stride_pos := spos_1_2_1 }, b⟩
          :: ⟨{ off := ![0, 0, 0], size := ![1, 256, 128], stride := ![1, 2, 1], inb := inb_S8x512x128_S1x256x128_0_0_0_s_1_2_1, stride_pos := spos_1_2_1 }, a⟩ :: L0)
        (Rect.unit ![0, 0, 0] ![1, 512, 128] inb_S8x512x128_S1x512x128_0_0_0).toLoadRect)⟩] = interleave O := by
  funext y
  obtain ⟨r, k, rfl⟩ : ∃ (r : Fin 512) (k : Fin 1024), y = ix2 r k := ⟨y 0, y 1, by blk_ext⟩
  canon_tiles x q
  · obtain ⟨r', l, rfl⟩ : ∃ (r' : Fin 512) (l : Fin 128), x = ix2 r' l := ⟨x 0, x 1, by blk_ext⟩
    rw [main_cast7, chunk v 7 (by decide) O _ _ (main_even7 O) (main_odd7 O)]
    exact congrArg O (by blk_ext [half, q0, q1])
  · obtain ⟨r', l, rfl⟩ : ∃ (r' : Fin 512) (l : Fin 128), x = ix2 r' l := ⟨x 0, x 1, by blk_ext⟩
    rw [main_cast6, chunk v 6 (by decide) O _ _ (main_even6 O) (main_odd6 O)]
    exact congrArg O (by blk_ext [half, q0, q1])
  · obtain ⟨r', l, rfl⟩ : ∃ (r' : Fin 512) (l : Fin 128), x = ix2 r' l := ⟨x 0, x 1, by blk_ext⟩
    rw [main_cast5, chunk v 5 (by decide) O _ _ (main_even5 O) (main_odd5 O)]
    exact congrArg O (by blk_ext [half, q0, q1])
  · obtain ⟨r', l, rfl⟩ : ∃ (r' : Fin 512) (l : Fin 128), x = ix2 r' l := ⟨x 0, x 1, by blk_ext⟩
    rw [main_cast4, chunk v 4 (by decide) O _ _ (main_even4 O) (main_odd4 O)]
    exact congrArg O (by blk_ext [half, q0, q1])
  · obtain ⟨r', l, rfl⟩ : ∃ (r' : Fin 512) (l : Fin 128), x = ix2 r' l := ⟨x 0, x 1, by blk_ext⟩
    rw [main_cast3, chunk v 3 (by decide) O _ _ (main_even3 O) (main_odd3 O)]
    exact congrArg O (by blk_ext [half, q0, q1])
  · obtain ⟨r', l, rfl⟩ : ∃ (r' : Fin 512) (l : Fin 128), x = ix2 r' l := ⟨x 0, x 1, by blk_ext⟩
    rw [main_cast2, chunk v 2 (by decide) O _ _ (main_even2 O) (main_odd2 O)]
    exact congrArg O (by blk_ext [half, q0, q1])
  · obtain ⟨r', l, rfl⟩ : ∃ (r' : Fin 512) (l : Fin 128), x = ix2 r' l := ⟨x 0, x 1, by blk_ext⟩
    rw [main_cast1, chunk v 1 (by decide) O _ _ (main_even1 O) (main_odd1 O)]
    exact congrArg O (by blk_ext [half, q0, q1])
  · obtain ⟨r', l, rfl⟩ : ∃ (r' : Fin 512) (l : Fin 128), x = ix2 r' l := ⟨x 0, x 1, by blk_ext⟩
    rw [main_cast0, chunk v 0 (by decide) O _ _ ha hb]
    exact congrArg O (by blk_ext [half, q0, q1])

theorem main_lo (r : Fin 256) (j : Fin 1024) : k0_pay38 (F := Ideal) xe xo (ix2 r j) = xe (ix2 r j) := by
  pointwise [k0_pay38, k0_pay37]

theorem main_hi (r : Fin 256) (j : Fin 1024) : k0_pay39 (F := Ideal) xe xo (ix2 r j) = xo (ix2 r j) := by
  pointwise [k0_pay39, k0_pay37]

theorem main_gu (r : Fin 256) (f : Fin 5632) : k0_pay41 (F := Ideal) xe xo ga wgu (ix2 r f)
    = guRow (fun k => xe (ix2 r k)) (fun k => ga (ix2 0 k)) (fun k f => wgu (ix3 0 k f)) f := by
  pointwise [k0_pay41, k0_pay38, k0_pay37, guRow, normRow]

theorem main_norm (r : Fin 256) (k : Fin 1024) : k0_pay40 (F := Ideal) xe xo ga (ix2 r k)
    = normRow (fun k => xo (ix2 r k)) (fun k => ga (ix2 0 k)) k := by
  pointwise [k0_pay40, k0_pay39, k0_pay37, normRow]

theorem main_down (u : FVec Ideal S256x5632 .f32) (r : Fin 256) (j : Fin 1024) : k0_pay42 (F := Ideal) u wd (ix2 r j)
    = downRow (fun f => u (ix2 r f)) (fun f k => wd (ix3 0 f k)) j := by
  pointwise [k0_pay42, downRow]

theorem main_down' (v : FVec Ideal S256x1024 .bf16) (r : Fin 256) (j : Fin 1024) :
    k0_pay43 (F := Ideal) v wgu wd (ix2 r j)
    = downRow (fun f => ∑ k, v (ix2 r k) * wgu (ix3 0 k f)) (fun f k => wd (ix3 0 f k)) j := by
  pointwise [k0_pay43, downRow]

theorem main_ms (u : FVec Ideal S256x5632 .f32) (r : Fin 256) : k0_pay45 (F := Ideal) u wd (ix2 r 0)
    = ∑ j, downRow (fun f => u (ix2 r f)) (fun f k => wd (ix3 0 f k)) j
        * downRow (fun f => u (ix2 r f)) (fun f k => wd (ix3 0 f k)) j := by
  pointwise [k0_pay45, k0_pay42, downRow]

theorem main_out (a b c d : FVec Ideal S256x1024 .f32) (e : FVec Ideal S256x1 .f32) (r : Fin 512) (j : Fin 1024) :
    k0_pay46 (F := Ideal) a b c d (k0_pay44 gb) e gb (ix2 r j)
      = if h : (r : ℕ) < 256 then a (ix2 ⟨r, h⟩ j) + Ideal.ofBits .f32 0x3F000000#32 * (c (ix2 ⟨r, h⟩ j)
            * Ideal.rsqrt (Ideal.div (e (ix2 ⟨r, h⟩ 0)) (Ideal.ofBits .f32 0x44800000#32) + Ideal.ofBits .f32 0x358637BD#32)
            * gb (ix2 0 j))
        else b (ix2 ⟨r - 256, by omega⟩ j) + Ideal.ofBits .f32 0x3F000000#32
            * normRow (fun k => d (ix2 ⟨r - 256, by omega⟩ k)) (fun k => gb (ix2 0 k)) j := by
  pointwise [k0_pay46, k0_pay44, normRow]

theorem main_even0 (a b c d : FVec Ideal S256x1024 .f32) (e : FVec Ideal S256x1 .f32) (g : FVec Ideal S1x1024 .f32)
    (r : Fin 256) (l : Fin 128) : k0_pay47 (F := Ideal) a b c d g e gb (ix3 0 r l)
      = k0_pay46 (F := Ideal) a b c d g e gb (ix2 ⟨r, by omega⟩ ⟨128 * 0 + l, by omega⟩) := by
  unfold k0_pay47
  generalize k0_pay46 (F := Ideal) a b c d g e gb = O
  pointwise

theorem main_odd0 (a b c d : FVec Ideal S256x1024 .f32) (e : FVec Ideal S256x1 .f32) (g : FVec Ideal S1x1024 .f32)
    (r : Fin 256) (l : Fin 128) : k0_pay48 (F := Ideal) a b c d g e gb (ix3 0 r l)
      = k0_pay46 (F := Ideal) a b c d g e gb (ix2 ⟨256 + r, by omega⟩ ⟨128 * 0 + l, by omega⟩) := by
  unfold k0_pay48
  generalize k0_pay46 (F := Ideal) a b c d g e gb = O
  pointwise

/-- The tile a grid point stores for its own 512 tokens. -/
theorem main_rows (r : Fin 512) (j : Fin 1024) :
    interleave (k0_pay46 (F := Ideal) (k0_pay38 xe xo) (k0_pay39 xe xo) (k0_pay42 (k0_pay41 xe xo ga wgu) wd)
      (k0_pay43 (k0_pay40 xe xo ga) wgu wd) (k0_pay44 gb) (k0_pay45 (k0_pay41 xe xo ga wgu) wd) gb) (ix2 r j)
      = ffnRow (tok xe xo r) (fun k => ga (ix2 0 k)) (fun k => gb (ix2 0 k)) (fun k f => wgu (ix3 0 k f))
          (fun f k => wd (ix3 0 f k)) j := by
  show k0_pay46 (F := Ideal) _ _ _ _ _ _ _ (ix2 (half r) j) = _
  rw [main_out]
  by_cases h : (r : ℕ) % 2 = 0
  · have e : half r = ⟨r / 2, by omega⟩ := by simp only [half, if_pos h]
    have e' : tok xe xo r = fun k => xe (ix2 ⟨r / 2, by omega⟩ k) := by funext k; simp only [tok, if_pos h]
    have hl : (half r : ℕ) < 256 := by rw [e]; show (r : ℕ) / 2 < 256; omega
    rw [dif_pos hl, e']
    have e2 : (⟨half r, hl⟩ : Fin 256) = ⟨r / 2, by omega⟩ := Fin.ext (by simp only [e])
    simp only [e2, main_lo, main_down, main_gu, main_ms]
    rfl
  · have e : half r = ⟨256 + r / 2, by omega⟩ := by simp only [half, if_neg h]
    have e' : tok xe xo r = fun k => xo (ix2 ⟨r / 2, by omega⟩ k) := by funext k; simp only [tok, if_neg h]
    have hl : ¬ (half r : ℕ) < 256 := by rw [e]; show ¬ 256 + (r : ℕ) / 2 < 256; omega
    rw [dif_neg hl, e']
    have e2 : (⟨half r - 256, by omega⟩ : Fin 256) = ⟨r / 2, by omega⟩ :=
      Fin.ext (by simp only [e, Nat.add_sub_cancel_left])
    simp only [e2, main_hi, main_down', main_norm]
    rfl

/-- The key/value rows of a tile. -/
theorem main_kv (T : FVec Ideal S512x1024 .f32) (g : FVec Ideal S1x1024 .f32) (w : FVec Ideal S1x1024x256 .bf16)
    (b : FVec Ideal S1x256 .f32) (r : Fin 512) (l : Fin 256) : k0_pay1 (F := Ideal) T g w b (ix2 r l)
    = kvRow (fun k => T (ix2 r k)) (fun k => g (ix2 0 k)) (fun k l => w (ix3 0 k l)) (fun l => b (ix2 0 l)) l := by
  pointwise [k0_pay1, kvRow, normRow]

theorem rider_cast0 (x : FVec Ideal S1x512x128 .f32) (r : Fin 512) (l : Fin 128) : k0_pay15 (F := Ideal) x (ix2 r l) = x (ix3 0 r l) := by
  pointwise [k0_pay15]

theorem rider_cast1 (x : FVec Ideal S1x512x128 .f32) (r : Fin 512) (l : Fin 128) : k0_pay18 (F := Ideal) x (ix2 r l) = x (ix3 0 r l) := by
  pointwise [k0_pay18]

theorem rider_cast2 (x : FVec Ideal S1x512x128 .f32) (r : Fin 512) (l : Fin 128) : k0_pay21 (F := Ideal) x (ix2 r l) = x (ix3 0 r l) := by
  pointwise [k0_pay21]

theorem rider_cast3 (x : FVec Ideal S1x512x128 .f32) (r : Fin 512) (l : Fin 128) : k0_pay24 (F := Ideal) x (ix2 r l) = x (ix3 0 r l) := by
  pointwise [k0_pay24]

theorem rider_cast4 (x : FVec Ideal S1x512x128 .f32) (r : Fin 512) (l : Fin 128) : k0_pay27 (F := Ideal) x (ix2 r l) = x (ix3 0 r l) := by
  pointwise [k0_pay27]

theorem rider_cast5 (x : FVec Ideal S1x512x128 .f32) (r : Fin 512) (l : Fin 128) : k0_pay30 (F := Ideal) x (ix2 r l) = x (ix3 0 r l) := by
  pointwise [k0_pay30]

theorem rider_cast6 (x : FVec Ideal S1x512x128 .f32) (r : Fin 512) (l : Fin 128) : k0_pay33 (F := Ideal) x (ix2 r l) = x (ix3 0 r l) := by
  pointwise [k0_pay33]

theorem rider_cast7 (x : FVec Ideal S1x512x128 .f32) (r : Fin 512) (l : Fin 128) : k0_pay36 (F := Ideal) x (ix2 r l) = x (ix3 0 r l) := by
  pointwise [k0_pay36]

theorem rider_even1 (O : FVec Ideal S512x1024 .f32) (r : Fin 256) (l : Fin 128) :
    k0_pay16 (F := Ideal) O (ix3 0 r l) = O (ix2 ⟨r, by omega⟩ ⟨128 * 1 + l, by omega⟩) := by
  pointwise [k0_pay16]

theorem rider_odd1 (O : FVec Ideal S512x1024 .f32) (r : Fin 256) (l : Fin 128) :
    k0_pay17 (F := Ideal) O (ix3 0 r l) = O (ix2 ⟨256 + r, by omega⟩ ⟨128 * 1 + l, by omega⟩) := by
  pointwise [k0_pay17]

theorem rider_even2 (O : FVec Ideal S512x1024 .f32) (r : Fin 256) (l : Fin 128) :
    k0_pay19 (F := Ideal) O (ix3 0 r l) = O (ix2 ⟨r, by omega⟩ ⟨128 * 2 + l, by omega⟩) := by
  pointwise [k0_pay19]

theorem rider_odd2 (O : FVec Ideal S512x1024 .f32) (r : Fin 256) (l : Fin 128) :
    k0_pay20 (F := Ideal) O (ix3 0 r l) = O (ix2 ⟨256 + r, by omega⟩ ⟨128 * 2 + l, by omega⟩) := by
  pointwise [k0_pay20]

theorem rider_even3 (O : FVec Ideal S512x1024 .f32) (r : Fin 256) (l : Fin 128) :
    k0_pay22 (F := Ideal) O (ix3 0 r l) = O (ix2 ⟨r, by omega⟩ ⟨128 * 3 + l, by omega⟩) := by
  pointwise [k0_pay22]

theorem rider_odd3 (O : FVec Ideal S512x1024 .f32) (r : Fin 256) (l : Fin 128) :
    k0_pay23 (F := Ideal) O (ix3 0 r l) = O (ix2 ⟨256 + r, by omega⟩ ⟨128 * 3 + l, by omega⟩) := by
  pointwise [k0_pay23]

theorem rider_even4 (O : FVec Ideal S512x1024 .f32) (r : Fin 256) (l : Fin 128) :
    k0_pay25 (F := Ideal) O (ix3 0 r l) = O (ix2 ⟨r, by omega⟩ ⟨128 * 4 + l, by omega⟩) := by
  pointwise [k0_pay25]

theorem rider_odd4 (O : FVec Ideal S512x1024 .f32) (r : Fin 256) (l : Fin 128) :
    k0_pay26 (F := Ideal) O (ix3 0 r l) = O (ix2 ⟨256 + r, by omega⟩ ⟨128 * 4 + l, by omega⟩) := by
  pointwise [k0_pay26]

theorem rider_even5 (O : FVec Ideal S512x1024 .f32) (r : Fin 256) (l : Fin 128) :
    k0_pay28 (F := Ideal) O (ix3 0 r l) = O (ix2 ⟨r, by omega⟩ ⟨128 * 5 + l, by omega⟩) := by
  pointwise [k0_pay28]

theorem rider_odd5 (O : FVec Ideal S512x1024 .f32) (r : Fin 256) (l : Fin 128) :
    k0_pay29 (F := Ideal) O (ix3 0 r l) = O (ix2 ⟨256 + r, by omega⟩ ⟨128 * 5 + l, by omega⟩) := by
  pointwise [k0_pay29]

theorem rider_even6 (O : FVec Ideal S512x1024 .f32) (r : Fin 256) (l : Fin 128) :
    k0_pay31 (F := Ideal) O (ix3 0 r l) = O (ix2 ⟨r, by omega⟩ ⟨128 * 6 + l, by omega⟩) := by
  pointwise [k0_pay31]

theorem rider_odd6 (O : FVec Ideal S512x1024 .f32) (r : Fin 256) (l : Fin 128) :
    k0_pay32 (F := Ideal) O (ix3 0 r l) = O (ix2 ⟨256 + r, by omega⟩ ⟨128 * 6 + l, by omega⟩) := by
  pointwise [k0_pay32]

theorem rider_even7 (O : FVec Ideal S512x1024 .f32) (r : Fin 256) (l : Fin 128) :
    k0_pay34 (F := Ideal) O (ix3 0 r l) = O (ix2 ⟨r, by omega⟩ ⟨128 * 7 + l, by omega⟩) := by
  pointwise [k0_pay34]

theorem rider_odd7 (O : FVec Ideal S512x1024 .f32) (r : Fin 256) (l : Fin 128) :
    k0_pay35 (F := Ideal) O (ix3 0 r l) = O (ix2 ⟨256 + r, by omega⟩ ⟨128 * 7 + l, by omega⟩) := by
  pointwise [k0_pay35]

/-- The sample rows read back likewise. -/
theorem rider_tile {κ : Kind} {sp : Space} (v : View sig κ sp S8x512x128 .f32) (O : FVec Ideal S512x1024 .f32)
    (a b : FVec Ideal S1x256x128 .f32)
    (ha : ∀ (r : Fin 256) (l : Fin 128), a (ix3 0 r l) = O (ix2 ⟨r, by omega⟩ ⟨128 * 0 + l, by omega⟩))
    (hb : ∀ (r : Fin 256) (l : Fin 128), b (ix3 0 r l) = O (ix2 ⟨256 + r, by omega⟩ ⟨128 * 0 + l, by omega⟩))
    (L0 L1 L2 L3 L4 L5 L6 L7 : List (View.Piece (Elt Ideal) S8x512x128 .f32)) :
    View.canon (Val := Elt Ideal) (s := S512x1024) (e := .f32) [
      ⟨Rect.unit ![0, 896] ![512, 128] inb_S512x1024_S512x128_0_896, k0_pay36 (v.readCov
        (⟨{ off := ![7, 1, 0], size := ![1, 256, 128], stride := ![1, 2, 1], inb := inb_S8x512x128_S1x256x128_7_1_0_s_1_2_1, stride_pos := spos_1_2_1 }, k0_pay35 O⟩
          :: ⟨{ off := ![7, 0, 0], size := ![1, 256, 128], stride := ![1, 2, 1], inb := inb_S8x512x128_S1x256x128_7_0_0_s_1_2_1, stride_pos := spos_1_2_1 }, k0_pay34 O⟩ :: L7)
        (Rect.unit ![7, 0, 0] ![1, 512, 128] inb_S8x512x128_S1x512x128_7_0_0).toLoadRect)⟩,
      ⟨Rect.unit ![0, 768] ![512, 128] inb_S512x1024_S512x128_0_768, k0_pay33 (v.readCov
        (⟨{ off := ![6, 1, 0], size := ![1, 256, 128], stride := ![1, 2, 1], inb := inb_S8x512x128_S1x256x128_6_1_0_s_1_2_1, stride_pos := spos_1_2_1 }, k0_pay32 O⟩
          :: ⟨{ off := ![6, 0, 0], size := ![1, 256, 128], stride := ![1, 2, 1], inb := inb_S8x512x128_S1x256x128_6_0_0_s_1_2_1, stride_pos := spos_1_2_1 }, k0_pay31 O⟩ :: L6)
        (Rect.unit ![6, 0, 0] ![1, 512, 128] inb_S8x512x128_S1x512x128_6_0_0).toLoadRect)⟩,
      ⟨Rect.unit ![0, 640] ![512, 128] inb_S512x1024_S512x128_0_640, k0_pay30 (v.readCov
        (⟨{ off := ![5, 1, 0], size := ![1, 256, 128], stride := ![1, 2, 1], inb := inb_S8x512x128_S1x256x128_5_1_0_s_1_2_1, stride_pos := spos_1_2_1 }, k0_pay29 O⟩
          :: ⟨{ off := ![5, 0, 0], size := ![1, 256, 128], stride := ![1, 2, 1], inb := inb_S8x512x128_S1x256x128_5_0_0_s_1_2_1, stride_pos := spos_1_2_1 }, k0_pay28 O⟩ :: L5)
        (Rect.unit ![5, 0, 0] ![1, 512, 128] inb_S8x512x128_S1x512x128_5_0_0).toLoadRect)⟩,
      ⟨Rect.unit ![0, 512] ![512, 128] inb_S512x1024_S512x128_0_512, k0_pay27 (v.readCov
        (⟨{ off := ![4, 1, 0], size := ![1, 256, 128], stride := ![1, 2, 1], inb := inb_S8x512x128_S1x256x128_4_1_0_s_1_2_1, stride_pos := spos_1_2_1 }, k0_pay26 O⟩
          :: ⟨{ off := ![4, 0, 0], size := ![1, 256, 128], stride := ![1, 2, 1], inb := inb_S8x512x128_S1x256x128_4_0_0_s_1_2_1, stride_pos := spos_1_2_1 }, k0_pay25 O⟩ :: L4)
        (Rect.unit ![4, 0, 0] ![1, 512, 128] inb_S8x512x128_S1x512x128_4_0_0).toLoadRect)⟩,
      ⟨Rect.unit ![0, 384] ![512, 128] inb_S512x1024_S512x128_0_384, k0_pay24 (v.readCov
        (⟨{ off := ![3, 1, 0], size := ![1, 256, 128], stride := ![1, 2, 1], inb := inb_S8x512x128_S1x256x128_3_1_0_s_1_2_1, stride_pos := spos_1_2_1 }, k0_pay23 O⟩
          :: ⟨{ off := ![3, 0, 0], size := ![1, 256, 128], stride := ![1, 2, 1], inb := inb_S8x512x128_S1x256x128_3_0_0_s_1_2_1, stride_pos := spos_1_2_1 }, k0_pay22 O⟩ :: L3)
        (Rect.unit ![3, 0, 0] ![1, 512, 128] inb_S8x512x128_S1x512x128_3_0_0).toLoadRect)⟩,
      ⟨Rect.unit ![0, 256] ![512, 128] inb_S512x1024_S512x128_0_256, k0_pay21 (v.readCov
        (⟨{ off := ![2, 1, 0], size := ![1, 256, 128], stride := ![1, 2, 1], inb := inb_S8x512x128_S1x256x128_2_1_0_s_1_2_1, stride_pos := spos_1_2_1 }, k0_pay20 O⟩
          :: ⟨{ off := ![2, 0, 0], size := ![1, 256, 128], stride := ![1, 2, 1], inb := inb_S8x512x128_S1x256x128_2_0_0_s_1_2_1, stride_pos := spos_1_2_1 }, k0_pay19 O⟩ :: L2)
        (Rect.unit ![2, 0, 0] ![1, 512, 128] inb_S8x512x128_S1x512x128_2_0_0).toLoadRect)⟩,
      ⟨Rect.unit ![0, 128] ![512, 128] inb_S512x1024_S512x128_0_128, k0_pay18 (v.readCov
        (⟨{ off := ![1, 1, 0], size := ![1, 256, 128], stride := ![1, 2, 1], inb := inb_S8x512x128_S1x256x128_1_1_0_s_1_2_1, stride_pos := spos_1_2_1 }, k0_pay17 O⟩
          :: ⟨{ off := ![1, 0, 0], size := ![1, 256, 128], stride := ![1, 2, 1], inb := inb_S8x512x128_S1x256x128_1_0_0_s_1_2_1, stride_pos := spos_1_2_1 }, k0_pay16 O⟩ :: L1)
        (Rect.unit ![1, 0, 0] ![1, 512, 128] inb_S8x512x128_S1x512x128_1_0_0).toLoadRect)⟩,
      ⟨Rect.unit ![0, 0] ![512, 128] inb_S512x1024_S512x128_0_0, k0_pay15 (v.readCov
        (⟨{ off := ![0, 1, 0], size := ![1, 256, 128], stride := ![1, 2, 1], inb := inb_S8x512x128_S1x256x128_0_1_0_s_1_2_1, stride_pos := spos_1_2_1 }, b⟩
          :: ⟨{ off := ![0, 0, 0], size := ![1, 256, 128], stride := ![1, 2, 1], inb := inb_S8x512x128_S1x256x128_0_0_0_s_1_2_1, stride_pos := spos_1_2_1 }, a⟩ :: L0)
        (Rect.unit ![0, 0, 0] ![1, 512, 128] inb_S8x512x128_S1x512x128_0_0_0).toLoadRect)⟩] = interleave O := by
  funext y
  obtain ⟨r, k, rfl⟩ : ∃ (r : Fin 512) (k : Fin 1024), y = ix2 r k := ⟨y 0, y 1, by blk_ext⟩
  canon_tiles x q
  · obtain ⟨r', l, rfl⟩ : ∃ (r' : Fin 512) (l : Fin 128), x = ix2 r' l := ⟨x 0, x 1, by blk_ext⟩
    rw [rider_cast7, chunk v 7 (by decide) O _ _ (rider_even7 O) (rider_odd7 O)]
    exact congrArg O (by blk_ext [half, q0, q1])
  · obtain ⟨r', l, rfl⟩ : ∃ (r' : Fin 512) (l : Fin 128), x = ix2 r' l := ⟨x 0, x 1, by blk_ext⟩
    rw [rider_cast6, chunk v 6 (by decide) O _ _ (rider_even6 O) (rider_odd6 O)]
    exact congrArg O (by blk_ext [half, q0, q1])
  · obtain ⟨r', l, rfl⟩ : ∃ (r' : Fin 512) (l : Fin 128), x = ix2 r' l := ⟨x 0, x 1, by blk_ext⟩
    rw [rider_cast5, chunk v 5 (by decide) O _ _ (rider_even5 O) (rider_odd5 O)]
    exact congrArg O (by blk_ext [half, q0, q1])
  · obtain ⟨r', l, rfl⟩ : ∃ (r' : Fin 512) (l : Fin 128), x = ix2 r' l := ⟨x 0, x 1, by blk_ext⟩
    rw [rider_cast4, chunk v 4 (by decide) O _ _ (rider_even4 O) (rider_odd4 O)]
    exact congrArg O (by blk_ext [half, q0, q1])
  · obtain ⟨r', l, rfl⟩ : ∃ (r' : Fin 512) (l : Fin 128), x = ix2 r' l := ⟨x 0, x 1, by blk_ext⟩
    rw [rider_cast3, chunk v 3 (by decide) O _ _ (rider_even3 O) (rider_odd3 O)]
    exact congrArg O (by blk_ext [half, q0, q1])
  · obtain ⟨r', l, rfl⟩ : ∃ (r' : Fin 512) (l : Fin 128), x = ix2 r' l := ⟨x 0, x 1, by blk_ext⟩
    rw [rider_cast2, chunk v 2 (by decide) O _ _ (rider_even2 O) (rider_odd2 O)]
    exact congrArg O (by blk_ext [half, q0, q1])
  · obtain ⟨r', l, rfl⟩ : ∃ (r' : Fin 512) (l : Fin 128), x = ix2 r' l := ⟨x 0, x 1, by blk_ext⟩
    rw [rider_cast1, chunk v 1 (by decide) O _ _ (rider_even1 O) (rider_odd1 O)]
    exact congrArg O (by blk_ext [half, q0, q1])
  · obtain ⟨r', l, rfl⟩ : ∃ (r' : Fin 512) (l : Fin 128), x = ix2 r' l := ⟨x 0, x 1, by blk_ext⟩
    rw [rider_cast0, chunk v 0 (by decide) O _ _ ha hb]
    exact congrArg O (by blk_ext [half, q0, q1])

theorem rider_lo (r : Fin 256) (j : Fin 1024) : k0_pay4 (F := Ideal) xe xo (ix2 r j) = xe (ix2 r j) := by
  pointwise [k0_pay4, k0_pay3]

theorem rider_hi (r : Fin 256) (j : Fin 1024) : k0_pay5 (F := Ideal) xe xo (ix2 r j) = xo (ix2 r j) := by
  pointwise [k0_pay5, k0_pay3]

theorem rider_gu (r : Fin 256) (f : Fin 5632) : k0_pay7 (F := Ideal) xe xo ga wgu (ix2 r f)
    = guRow (fun k => xe (ix2 r k)) (fun k => ga (ix2 0 k)) (fun k f => wgu (ix3 0 k f)) f := by
  pointwise [k0_pay7, k0_pay4, k0_pay3, guRow, normRow]

theorem rider_norm (r : Fin 256) (k : Fin 1024) : k0_pay6 (F := Ideal) xe xo ga (ix2 r k)
    = normRow (fun k => xo (ix2 r k)) (fun k => ga (ix2 0 k)) k := by
  pointwise [k0_pay6, k0_pay5, k0_pay3, normRow]

theorem rider_down (u : FVec Ideal S256x5632 .f32) (r : Fin 256) (j : Fin 1024) : k0_pay8 (F := Ideal) u wd (ix2 r j)
    = downRow (fun f => u (ix2 r f)) (fun f k => wd (ix3 0 f k)) j := by
  pointwise [k0_pay8, downRow]

theorem rider_down' (v : FVec Ideal S256x1024 .bf16) (r : Fin 256) (j : Fin 1024) :
    k0_pay9 (F := Ideal) v wgu wd (ix2 r j)
    = downRow (fun f => ∑ k, v (ix2 r k) * wgu (ix3 0 k f)) (fun f k => wd (ix3 0 f k)) j := by
  pointwise [k0_pay9, downRow]

theorem rider_ms (u : FVec Ideal S256x5632 .f32) (r : Fin 256) : k0_pay11 (F := Ideal) u wd (ix2 r 0)
    = ∑ j, downRow (fun f => u (ix2 r f)) (fun f k => wd (ix3 0 f k)) j
        * downRow (fun f => u (ix2 r f)) (fun f k => wd (ix3 0 f k)) j := by
  pointwise [k0_pay11, k0_pay8, downRow]

theorem rider_out (a b c d : FVec Ideal S256x1024 .f32) (e : FVec Ideal S256x1 .f32) (r : Fin 512) (j : Fin 1024) :
    k0_pay12 (F := Ideal) a b c d (k0_pay10 gb) e (Scalar.ofBits .f32 0x44800000#32) gb (ix2 r j)
      = if h : (r : ℕ) < 256 then a (ix2 ⟨r, h⟩ j) + Ideal.ofBits .f32 0x3F000000#32 * (c (ix2 ⟨r, h⟩ j)
            * Ideal.rsqrt (Ideal.div (e (ix2 ⟨r, h⟩ 0)) (Ideal.ofBits .f32 0x44800000#32) + Ideal.ofBits .f32 0x358637BD#32)
            * gb (ix2 0 j))
        else b (ix2 ⟨r - 256, by omega⟩ j) + Ideal.ofBits .f32 0x3F000000#32
            * normRow (fun k => d (ix2 ⟨r - 256, by omega⟩ k)) (fun k => gb (ix2 0 k)) j := by
  pointwise [k0_pay12, k0_pay10, normRow]

theorem rider_even0 (a b c d : FVec Ideal S256x1024 .f32) (e : FVec Ideal S256x1 .f32) (g : FVec Ideal S1x1024 .f32)
    (r : Fin 256) (l : Fin 128) : k0_pay13 (F := Ideal) a b c d g e (Scalar.ofBits .f32 0x44800000#32) gb (ix3 0 r l)
      = k0_pay12 (F := Ideal) a b c d g e (Scalar.ofBits .f32 0x44800000#32) gb (ix2 ⟨r, by omega⟩ ⟨128 * 0 + l, by omega⟩) := by
  unfold k0_pay13
  generalize k0_pay12 (F := Ideal) a b c d g e (Scalar.ofBits .f32 0x44800000#32) gb = O
  pointwise

theorem rider_odd0 (a b c d : FVec Ideal S256x1024 .f32) (e : FVec Ideal S256x1 .f32) (g : FVec Ideal S1x1024 .f32)
    (r : Fin 256) (l : Fin 128) : k0_pay14 (F := Ideal) a b c d g e (Scalar.ofBits .f32 0x44800000#32) gb (ix3 0 r l)
      = k0_pay12 (F := Ideal) a b c d g e (Scalar.ofBits .f32 0x44800000#32) gb (ix2 ⟨256 + r, by omega⟩ ⟨128 * 0 + l, by omega⟩) := by
  unfold k0_pay14
  generalize k0_pay12 (F := Ideal) a b c d g e (Scalar.ofBits .f32 0x44800000#32) gb = O
  pointwise

/-- The tile the last grid point stores for the 512 sample tokens. -/
theorem rider_rows (r : Fin 512) (j : Fin 1024) :
    interleave (k0_pay12 (F := Ideal) (k0_pay4 xe xo) (k0_pay5 xe xo) (k0_pay8 (k0_pay7 xe xo ga wgu) wd)
      (k0_pay9 (k0_pay6 xe xo ga) wgu wd) (k0_pay10 gb) (k0_pay11 (k0_pay7 xe xo ga wgu) wd) (Scalar.ofBits .f32 0x44800000#32) gb) (ix2 r j)
      = ffnRow (tok xe xo r) (fun k => ga (ix2 0 k)) (fun k => gb (ix2 0 k)) (fun k f => wgu (ix3 0 k f))
          (fun f k => wd (ix3 0 f k)) j := by
  show k0_pay12 (F := Ideal) _ _ _ _ _ _ _ _ (ix2 (half r) j) = _
  rw [rider_out]
  by_cases h : (r : ℕ) % 2 = 0
  · have e : half r = ⟨r / 2, by omega⟩ := by simp only [half, if_pos h]
    have e' : tok xe xo r = fun k => xe (ix2 ⟨r / 2, by omega⟩ k) := by funext k; simp only [tok, if_pos h]
    have hl : (half r : ℕ) < 256 := by rw [e]; show (r : ℕ) / 2 < 256; omega
    rw [dif_pos hl, e']
    have e2 : (⟨half r, hl⟩ : Fin 256) = ⟨r / 2, by omega⟩ := Fin.ext (by simp only [e])
    simp only [e2, rider_lo, rider_down, rider_gu, rider_ms]
    rfl
  · have e : half r = ⟨256 + r / 2, by omega⟩ := by simp only [half, if_neg h]
    have e' : tok xe xo r = fun k => xo (ix2 ⟨r / 2, by omega⟩ k) := by funext k; simp only [tok, if_neg h]
    have hl : ¬ (half r : ℕ) < 256 := by rw [e]; show ¬ 256 + (r : ℕ) / 2 < 256; omega
    rw [dif_neg hl, e']
    have e2 : (⟨half r - 256, by omega⟩ : Fin 256) = ⟨r / 2, by omega⟩ :=
      Fin.ext (by simp only [e, Nat.add_sub_cancel_left])
    simp only [e2, rider_hi, rider_down', rider_norm]
    rfl

/-- The key/value rows of a tile. -/
theorem rider_kv (T : FVec Ideal S512x1024 .f32) (g : FVec Ideal S1x1024 .f32) (w : FVec Ideal S1x1024x256 .bf16)
    (b : FVec Ideal S1x256 .f32) (r : Fin 512) (l : Fin 256) : k0_pay2 (F := Ideal) T g w b (ix2 r l)
    = kvRow (fun k => T (ix2 r k)) (fun k => g (ix2 0 k)) (fun k l => w (ix3 0 k l)) (fun l => b (ix2 0 l)) l := by
  pointwise [k0_pay2, kvRow, normRow]

end Cert.FfnKvIdeal.Pure

end
-- ==== Proof.FfnKvValue.lean ====
/- The last feed-forward call's four result arrays after the run: the row functions of the stream's tokens. -/
module

public import proofs.«01_k».proof.Proof.FfnKvPure
public import proofs.«01_k».proof.Proof.FfnValue
public import proofs.«01_k».proof.Proof.Gen.FfnKvIdeal.Frame
public import Idealize.ShloMosaic.Lib.Pipeline.ValueKit
public import Idealize.ShloMosaic.Lib.Claim

@[expose] public section

set_option maxRecDepth 16384

noncomputable section

namespace Cert.FfnKvIdeal.Final

open Idealize.ShloMosaic Idealize.ShloMosaic.TcCoe Idealize.SL.Sem
open Idealize.ShloMosaic.Pipeline (Dat)
open Cert.FfnKvIdeal Cert.FfnKvIdeal.Gen Cert.FfnKvIdeal.Pure
open Cert.FfnIdeal.Pure (ffnRow)
open Cert.FfnIdeal.Final (outP outS)

variable (m : (ℓ : Loc nD τ sig) → Buf (Elt Ideal) ℓ)

/-- The key/value rows of the prompt stream, from the layer's first result. -/
def kvP (y : FVec Ideal S16384x1024 .f32) (g : FVec Ideal S1024 .f32) (w : FVec Ideal S1024x256 .f32) (b : FVec Ideal S256 .f32) :
    FVec Ideal S16384x256 .f32 := fun i =>
  kvRow (fun k => y (ix2 (i 0) k)) (fun k => g (ix1 k)) (fun k l => w (ix2 k l)) (fun l => b (ix1 l)) (i 1)

/-- The key/value rows of the sample stream, from the layer's second result. -/
def kvS (y : FVec Ideal S512x1024 .f32) (g : FVec Ideal S1024 .f32) (w : FVec Ideal S1024x256 .f32) (b : FVec Ideal S256 .f32) :
    FVec Ideal S512x256 .f32 := fun i =>
  kvRow (fun k => y (ix2 (i 0) k)) (fun k => g (ix1 k)) (fun k l => w (ix2 k l)) (fun l => b (ix1 l)) (i 1)

theorem idx : ∀ t : Fin cfg0.N, win0_0.index t = ![t.val, 0] ∧ win0_1.index t = ![0, 0] ∧ win0_2.index t = ![0, 0]
    ∧ win0_3.index t = ![0, 0] ∧ win0_4.index t = ![0, 0, 0] ∧ win0_5.index t = ![0, 0, 0] ∧ win0_6.index t = ![0, 0]
    ∧ win0_7.index t = ![0, 0, 0] ∧ win0_8.index t = ![0, 0] ∧ win0_9.index t = ![t.val, 0] ∧ win0_10.index t = ![0, 0]
    ∧ win0_11.index t = ![t.val, 0] ∧ win0_12.index t = ![0, 0] :=
  (by decide +kernel : ∀ t : Fin grid0.N, _)

theorem flat_x (x : FVec Ideal S2x8192x1024 .f32) (n : Fin 8192) (q : ℕ) (hq : q < 2) (k : Fin 1024) :
    shapeCast S8192x2048 x shapeCasts_S2x8192x1024_S8192x2048 (ix2 n (⟨1024 * q + k, by omega⟩ : Fin 2048))
      = shapeCast S16384x1024 x (by decide) (ix2 (⟨2 * n + q, by omega⟩ : Fin 16384) k) := by
  have hc : S16384x1024.ShapeCasts S8192x2048 := by decide
  rw [← shapeCast_comp x (by decide : S2x8192x1024.ShapeCasts S16384x1024) hc]
  refine shapeCast_apply _ _ _ _ ?_
  rw [Shape.rowMajor_val_two, Shape.rowMajor_val_two]
  show (2 * (n : ℕ) + q) * 1024 + k = n * 2048 + (1024 * q + k)
  omega

theorem flat_xs (x : FVec Ideal S128x4x1024 .f32) (n : Fin 256) (q : ℕ) (hq : q < 2) (k : Fin 1024) :
    shapeCast S256x2048 x shapeCasts_S128x4x1024_S256x2048 (ix2 n (⟨1024 * q + k, by omega⟩ : Fin 2048))
      = shapeCast S512x1024 x (by decide) (ix2 (⟨2 * n + q, by omega⟩ : Fin 512) k) := by
  have hc : S512x1024.ShapeCasts S256x2048 := by decide
  rw [← shapeCast_comp x (by decide : S128x4x1024.ShapeCasts S512x1024) hc]
  refine shapeCast_apply _ _ _ _ ?_
  rw [Shape.rowMajor_val_two, Shape.rowMajor_val_two]
  show (2 * (n : ℕ) + q) * 1024 + k = n * 2048 + (1024 * q + k)
  omega

theorem V_eq (c : Dev nD) (b : Ref sig .tc) : V m c b = StableHlo.after hostOps0 (fun b => m (c, b)) (Proc.tc.devRef b) := rfl

theorem read_x (c : Dev nD) (t : Fin cfg0.N) (r : Fin 256) (k : Fin 2048) (h : 256 * t.val + r.val < 8192) :
    iblk m c 0 t (ix2 r k) = shapeCast S8192x2048 (m ((c : Thread nD τ).loc main_arg0)) shapeCasts_S2x8192x1024_S8192x2048 (ix2 ⟨256 * t.val + r.val, h⟩ k) := by
  blk_simp [iblk, idx t]
  rw [V_eq]
  entry_read
  blk_ext [idx t]

theorem read_xs (c : Dev nD) (t : Fin cfg0.N) (r : Fin 256) (k : Fin 2048) :
    iblk m c 1 t (ix2 r k) = shapeCast S256x2048 (m ((c : Thread nD τ).loc main_arg1)) shapeCasts_S128x4x1024_S256x2048 (ix2 r k) := by
  blk_simp [iblk, idx t]
  rw [V_eq]
  entry_read
  blk_ext [idx t]

theorem read_ga (c : Dev nD) (t : Fin cfg0.N) (k : Fin 1024) :
    iblk m c 2 t (ix2 0 k) = m ((c : Thread nD τ).loc main_arg4) (ix1 k) := by
  blk_simp [iblk, idx t]
  rw [V_eq]
  entry_read
  pointwise
  blk_ext [idx t]

theorem read_gb (c : Dev nD) (t : Fin cfg0.N) (k : Fin 1024) :
    iblk m c 3 t (ix2 0 k) = m ((c : Thread nD τ).loc main_arg5) (ix1 k) := by
  blk_simp [iblk, idx t]
  rw [V_eq]
  entry_read
  pointwise
  blk_ext [idx t]

theorem read_wgu (c : Dev nD) (t : Fin cfg0.N) (k : Fin 1024) (f : Fin 5632) :
    iblk m c 4 t (ix3 0 k f) = m ((c : Thread nD τ).loc main_arg6) (ix2 k f) := by
  blk_simp [iblk, idx t]
  rw [V_eq]
  entry_read
  pointwise
  blk_ext [idx t]

theorem read_wd (c : Dev nD) (t : Fin cfg0.N) (f : Fin 2816) (k : Fin 1024) :
    iblk m c 5 t (ix3 0 f k) = m ((c : Thread nD τ).loc main_arg7) (ix2 f k) := by
  blk_simp [iblk, idx t]
  rw [V_eq]
  entry_read
  pointwise
  blk_ext [idx t]

theorem read_gkv (c : Dev nD) (t : Fin cfg0.N) (k : Fin 1024) :
    iblk m c 6 t (ix2 0 k) = m ((c : Thread nD τ).loc main_arg8) (ix1 k) := by
  blk_simp [iblk, idx t]
  rw [V_eq]
  entry_read
  pointwise
  blk_ext [idx t]

theorem read_wkv (c : Dev nD) (t : Fin cfg0.N) (k : Fin 1024) (l : Fin 256) :
    iblk m c 7 t (ix3 0 k l) = m ((c : Thread nD τ).loc main_arg9) (ix2 k l) := by
  blk_simp [iblk, idx t]
  rw [V_eq]
  entry_read
  pointwise
  blk_ext [idx t]

theorem read_bkv (c : Dev nD) (t : Fin cfg0.N) (l : Fin 256) :
    iblk m c 8 t (ix2 0 l) = m ((c : Thread nD τ).loc main_arg10) (ix1 l) := by
  blk_simp [iblk, idx t]
  rw [V_eq]
  entry_read
  pointwise
  blk_ext [idx t]

theorem ld_even (X : FVec Ideal S256x2048 .f32) (r : Fin 256) (k : Fin 1024) :
    View.ld (Val := Elt Ideal) (S := S256x2048) (e' := .f32) X (Rect.unit ![0, 0] ![256, 1024] inb_S256x2048_S256x1024_0_0) (ix2 r k)
      = X (ix2 r ⟨1024 * 0 + k, by omega⟩) :=
  congrArg X (funext fun a => Fin.ext (by
    match a with
    | 0 => show 0 + 1 * (r : ℕ) = r; omega
    | 1 => show 0 + 1 * (k : ℕ) = 1024 * 0 + k; omega))

theorem ld_odd (X : FVec Ideal S256x2048 .f32) (r : Fin 256) (k : Fin 1024) :
    View.ld (Val := Elt Ideal) (S := S256x2048) (e' := .f32) X (Rect.unit ![0, 1024] ![256, 1024] inb_S256x2048_S256x1024_0_1024) (ix2 r k)
      = X (ix2 r ⟨1024 * 1 + k, by omega⟩) :=
  congrArg X (funext fun a => Fin.ext (by
    match a with
    | 0 => show 0 + 1 * (r : ℕ) = r; omega
    | 1 => show 1024 + 1 * (k : ℕ) = 1024 * 1 + k; omega))

theorem tok_x (c : Dev nD) (t : Fin cfg0.N) (r : Fin 512) (h : 512 * t.val + r.val < 16384) :
    tok (View.ld (iblk m c 0 t) (Rect.unit ![0, 0] ![256, 1024] inb_S256x2048_S256x1024_0_0))
      (View.ld (iblk m c 0 t) (Rect.unit ![0, 1024] ![256, 1024] inb_S256x2048_S256x1024_0_1024)) r
    = fun k => shapeCast S16384x1024 (m ((c : Thread nD τ).loc main_arg0)) (by decide : S2x8192x1024.ShapeCasts S16384x1024) (ix2 ⟨512 * t.val + r.val, h⟩ k) := by
  funext k
  by_cases p : (r : ℕ) % 2 = 0
  · simp only [tok, if_pos p]
    refine (ld_even _ _ _).trans ((read_x m c t _ _ (by omega)).trans ((flat_x _ _ 0 (by omega) k).trans ?_))
    refine congrArg _ (congrArg (fun z => ix2 z k) (Fin.ext ?_))
    show 2 * (256 * t.val + r.val / 2) + 0 = 512 * t.val + r.val
    omega
  · simp only [tok, if_neg p]
    refine (ld_odd _ _ _).trans ((read_x m c t _ _ (by omega)).trans ((flat_x _ _ 1 (by omega) k).trans ?_))
    refine congrArg _ (congrArg (fun z => ix2 z k) (Fin.ext ?_))
    show 2 * (256 * t.val + r.val / 2) + 1 = 512 * t.val + r.val
    omega

theorem tok_xs (c : Dev nD) (t : Fin cfg0.N) (r : Fin 512) :
    tok (View.ld (iblk m c 1 t) (Rect.unit ![0, 0] ![256, 1024] inb_S256x2048_S256x1024_0_0))
      (View.ld (iblk m c 1 t) (Rect.unit ![0, 1024] ![256, 1024] inb_S256x2048_S256x1024_0_1024)) r
    = fun k => shapeCast S512x1024 (m ((c : Thread nD τ).loc main_arg1)) (by decide : S128x4x1024.ShapeCasts S512x1024) (ix2 r k) := by
  funext k
  by_cases p : (r : ℕ) % 2 = 0
  · simp only [tok, if_pos p]
    refine (ld_even _ _ _).trans ((read_xs m c t _ _).trans ((flat_xs _ _ 0 (by omega) k).trans ?_))
    refine congrArg _ (congrArg (fun z => ix2 z k) (Fin.ext ?_))
    show 2 * (r.val / 2) + 0 = r.val
    omega
  · simp only [tok, if_neg p]
    refine (ld_odd _ _ _).trans ((read_xs m c t _ _).trans ((flat_xs _ _ 1 (by omega) k).trans ?_))
    refine congrArg _ (congrArg (fun z => ix2 z k) (Fin.ext ?_))
    show 2 * (r.val / 2) + 1 = r.val
    omega

theorem whole_read {κ : Kind} {sp : Space} (v : View sig κ sp S512x1024 .f32) (L : List (View.Piece (Elt Ideal) S512x1024 .f32)) (i : _) :
    v.readCov L (Rect.unit (s := S512x1024) ![0, 0] ![512, 1024] i).toLoadRect = View.canon L := by
  rw [View.readCov_eq_canon']
  funext j
  exact congrArg (View.canon L) (funext fun a => Fin.ext (by
    match a with
    | 0 => show 0 + 1 * ((j 0 : Fin _) : ℕ) = ((j 0 : Fin _) : ℕ); omega
    | 1 => show 0 + 1 * ((j 1 : Fin _) : ℕ) = ((j 1 : Fin _) : ℕ); omega))

theorem pointP (c : Dev nD) (t : Fin cfg0.N) (r : Fin 512) (j : Fin 1024) (h : 512 * t.val + r.val < 16384) :
    interleave (k0_pay46 (F := Ideal) (k0_pay38 (View.ld (iblk m c 0 t) (Rect.unit ![0, 0] ![256, 1024] inb_S256x2048_S256x1024_0_0))
        (View.ld (iblk m c 0 t) (Rect.unit ![0, 1024] ![256, 1024] inb_S256x2048_S256x1024_0_1024))) (k0_pay39 (View.ld (iblk m c 0 t) (Rect.unit ![0, 0] ![256, 1024] inb_S256x2048_S256x1024_0_0))
        (View.ld (iblk m c 0 t) (Rect.unit ![0, 1024] ![256, 1024] inb_S256x2048_S256x1024_0_1024)))
      (k0_pay42 (k0_pay41 (View.ld (iblk m c 0 t) (Rect.unit ![0, 0] ![256, 1024] inb_S256x2048_S256x1024_0_0)) (View.ld (iblk m c 0 t) (Rect.unit ![0, 1024] ![256, 1024] inb_S256x2048_S256x1024_0_1024)) (iblk m c 2 t) (iblk m c 4 t)) (iblk m c 5 t))
      (k0_pay43 (k0_pay40 (View.ld (iblk m c 0 t) (Rect.unit ![0, 0] ![256, 1024] inb_S256x2048_S256x1024_0_0))
        (View.ld (iblk m c 0 t) (Rect.unit ![0, 1024] ![256, 1024] inb_S256x2048_S256x1024_0_1024)) (iblk m c 2 t)) (iblk m c 4 t) (iblk m c 5 t))
      (k0_pay44 (iblk m c 3 t)) (k0_pay45 (k0_pay41 (View.ld (iblk m c 0 t) (Rect.unit ![0, 0] ![256, 1024] inb_S256x2048_S256x1024_0_0)) (View.ld (iblk m c 0 t) (Rect.unit ![0, 1024] ![256, 1024] inb_S256x2048_S256x1024_0_1024)) (iblk m c 2 t) (iblk m c 4 t))
        (iblk m c 5 t)) (iblk m c 3 t)) (ix2 r j)
    = (outP (m ((c : Thread nD τ).loc main_arg0)) (m ((c : Thread nD τ).loc main_arg4)) (m ((c : Thread nD τ).loc main_arg5)) (m ((c : Thread nD τ).loc main_arg6)) (m ((c : Thread nD τ).loc main_arg7))) (ix2 ⟨512 * t.val + r.val, h⟩ j) := by
  refine (main_rows _ _ _ _ _ _ r j).trans ?_
  simp only [outP, tok_x m c t r h, read_ga, read_gb, read_wgu, read_wd]
  rfl

theorem pointS (c : Dev nD) (t : Fin cfg0.N) (r : Fin 512) (j : Fin 1024) :
    interleave (k0_pay12 (F := Ideal) (k0_pay4 (View.ld (iblk m c 1 t) (Rect.unit ![0, 0] ![256, 1024] inb_S256x2048_S256x1024_0_0))
        (View.ld (iblk m c 1 t) (Rect.unit ![0, 1024] ![256, 1024] inb_S256x2048_S256x1024_0_1024))) (k0_pay5 (View.ld (iblk m c 1 t) (Rect.unit ![0, 0] ![256, 1024] inb_S256x2048_S256x1024_0_0))
        (View.ld (iblk m c 1 t) (Rect.unit ![0, 1024] ![256, 1024] inb_S256x2048_S256x1024_0_1024)))
      (k0_pay8 (k0_pay7 (View.ld (iblk m c 1 t) (Rect.unit ![0, 0] ![256, 1024] inb_S256x2048_S256x1024_0_0)) (View.ld (iblk m c 1 t) (Rect.unit ![0, 1024] ![256, 1024] inb_S256x2048_S256x1024_0_1024)) (iblk m c 2 t) (iblk m c 4 t)) (iblk m c 5 t))
      (k0_pay9 (k0_pay6 (View.ld (iblk m c 1 t) (Rect.unit ![0, 0] ![256, 1024] inb_S256x2048_S256x1024_0_0))
        (View.ld (iblk m c 1 t) (Rect.unit ![0, 1024] ![256, 1024] inb_S256x2048_S256x1024_0_1024)) (iblk m c 2 t)) (iblk m c 4 t) (iblk m c 5 t))
      (k0_pay10 (iblk m c 3 t)) (k0_pay11 (k0_pay7 (View.ld (iblk m c 1 t) (Rect.unit ![0, 0] ![256, 1024] inb_S256x2048_S256x1024_0_0)) (View.ld (iblk m c 1 t) (Rect.unit ![0, 1024] ![256, 1024] inb_S256x2048_S256x1024_0_1024)) (iblk m c 2 t) (iblk m c 4 t))
        (iblk m c 5 t)) (Scalar.ofBits .f32 0x44800000#32) (iblk m c 3 t)) (ix2 r j)
    = (outS (m ((c : Thread nD τ).loc main_arg1)) (m ((c : Thread nD τ).loc main_arg4)) (m ((c : Thread nD τ).loc main_arg5)) (m ((c : Thread nD τ).loc main_arg6)) (m ((c : Thread nD τ).loc main_arg7))) (ix2 r j) := by
  refine (rider_rows _ _ _ _ _ _ r j).trans ?_
  simp only [outS, tok_xs m c t r, read_ga, read_gb, read_wgu, read_wd]
  rfl

theorem kvRow_congr {v v' g g' : Fin 1024 → EReal} {w w' : Fin 1024 → Fin 256 → EReal} {b b' : Fin 256 → EReal}
    (hv : ∀ k, v k = v' k) (hg : ∀ k, g k = g' k) (hw : ∀ k l, w k l = w' k l) (hb : ∀ l, b l = b' l) (l : Fin 256) :
    kvRow v g w b l = kvRow v' g' w' b' l := by
  rw [funext hv, funext hg, funext fun k => funext (hw k), funext hb]

theorem lt_of (t : Fin cfg0.N) (r : Fin 512) : 512 * t.val + r.val < 16384 := by
  have := t.isLt
  have : cfg0.N = 32 := by decide
  omega

theorem finalP (c : Dev nD) : (dats m 0 c).arrAt 9 (cfgs 0).N = (outP (m ((c : Thread nD τ).loc main_arg0)) (m ((c : Thread nD τ).loc main_arg4)) (m ((c : Thread nD τ).loc main_arg5)) (m ((c : Thread nD τ).loc main_arg6)) (m ((c : Thread nD τ).loc main_arg7))) := by
  refine (dats m 0 c).arrAt_eq_of_covers 9 _ (by decide +kernel) fun t _ y => ?_
  blk_simp
  rw [after0_9]
  obtain ⟨r, j, rfl⟩ : ∃ (r : Fin 512) (j : Fin 1024), y = ix2 r j := ⟨y 0, y 1, by blk_ext⟩
  have he : (win0_9.blk t).view.emb (ix2 r j) = ix2 (⟨512 * t.val + r.val, lt_of t r⟩ : Fin 16384) j := by blk_ext [idx t]
  by_cases h : t.val % 32 = 31
  · rw [outsAt0_B m c t h]; dsimp only; frame_out
    rw [main_tile (ha := main_even0 _ _ _ _ _ _ _) (hb := main_odd0 _ _ _ _ _ _ _)]
    exact (pointP m c t r j _).trans (congrArg _ he.symm)
  · rw [outsAt0_A m c t h]; dsimp only; frame_out
    rw [main_tile (ha := main_even0 _ _ _ _ _ _ _) (hb := main_odd0 _ _ _ _ _ _ _)]
    exact (pointP m c t r j _).trans (congrArg _ he.symm)

theorem finalS (c : Dev nD) : (dats m 0 c).arrAt 10 (cfgs 0).N = (outS (m ((c : Thread nD τ).loc main_arg1)) (m ((c : Thread nD τ).loc main_arg4)) (m ((c : Thread nD τ).loc main_arg5)) (m ((c : Thread nD τ).loc main_arg6)) (m ((c : Thread nD τ).loc main_arg7))) := by
  refine (dats m 0 c).arrAt_eq_of_covers 10 _ (by decide +kernel) fun t ht y => ?_
  have h : t.val % 32 = 31 := (by decide +kernel : ∀ t : Fin cfg0.N, (cfg0.win 10).flush t = true → t.val % 32 = 31) t ht
  blk_simp
  rw [after0_10]
  obtain ⟨r, j, rfl⟩ : ∃ (r : Fin 512) (j : Fin 1024), y = ix2 r j := ⟨y 0, y 1, by blk_ext⟩
  have he : (win0_10.blk t).view.emb (ix2 r j) = ix2 (r : Fin 512) j := by blk_ext [idx t]
  rw [outsAt0_B m c t h]; dsimp only; frame_out
  rw [rider_tile (ha := rider_even0 _ _ _ _ _ _ _) (hb := rider_odd0 _ _ _ _ _ _ _)]
  exact (pointS m c t r j).trans (congrArg _ he.symm)

set_option maxHeartbeats 2000000 in
theorem finalKvP (c : Dev nD) : (dats m 0 c).arrAt 11 (cfgs 0).N
    = kvP (outP (m ((c : Thread nD τ).loc main_arg0)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11]
  obtain ⟨r, l, rfl⟩ : ∃ (r : Fin 512) (l : Fin 256), y = ix2 r l := ⟨y 0, y 1, by blk_ext⟩
  have he : (win0_11.blk t).view.emb (ix2 r l) = ix2 (⟨512 * t.val + r.val, lt_of t r⟩ : Fin 16384) l := by blk_ext [idx t]
  by_cases h : t.val % 32 = 31
  · rw [outsAt0_B m c t h]; dsimp only; frame_out
    rw [whole_read, main_tile (ha := main_even0 _ _ _ _ _ _ _) (hb := main_odd0 _ _ _ _ _ _ _)]
    refine ((main_kv _ _ _ _ r l).trans ?_).trans (congrArg _ he.symm)
    exact kvRow_congr (fun k => pointP m c t r k (lt_of t r)) (fun k => read_gkv m c t k) (fun k l => read_wkv m c t k l)
      (fun l => read_bkv m c t l) l
  · rw [outsAt0_A m c t h]; dsimp only; frame_out
    rw [whole_read, main_tile (ha := main_even0 _ _ _ _ _ _ _) (hb := main_odd0 _ _ _ _ _ _ _)]
    refine ((main_kv _ _ _ _ r l).trans ?_).trans (congrArg _ he.symm)
    exact kvRow_congr (fun k => pointP m c t r k (lt_of t r)) (fun k => read_gkv m c t k) (fun k l => read_wkv m c t k l)
      (fun l => read_bkv m c t l) l

set_option maxHeartbeats 2000000 in
theorem finalKvS (c : Dev nD) : (dats m 0 c).arrAt 12 (cfgs 0).N
    = kvS (outS (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) (m ((c : Thread nD τ).loc main_arg10)) := by
  refine (dats m 0 c).arrAt_eq_of_covers 12 _ (by decide +kernel) fun t ht y => ?_
  have h : t.val % 32 = 31 := (by decide +kernel : ∀ t : Fin cfg0.N, (cfg0.win 12).flush t = true → t.val % 32 = 31) t ht
  blk_simp
  rw [after0_12]
  obtain ⟨r, l, rfl⟩ : ∃ (r : Fin 512) (l : Fin 256), y = ix2 r l := ⟨y 0, y 1, by blk_ext⟩
  have he : (win0_12.blk t).view.emb (ix2 r l) = ix2 (r : Fin 512) l := by blk_ext [idx t]
  rw [outsAt0_B m c t h]; dsimp only; frame_out
  rw [whole_read, rider_tile (ha := rider_even0 _ _ _ _ _ _ _) (hb := rider_odd0 _ _ _ _ _ _ _)]
  refine ((rider_kv _ _ _ _ r l).trans ?_).trans (congrArg _ he.symm)
  exact kvRow_congr (fun k => pointS m c t r k) (fun k => read_gkv m c t k) (fun k l => read_wkv m c t k l)
    (fun l => read_bkv m c t l) l

end Cert.FfnKvIdeal.Final

end
-- ==== Proof.FfnKvRef.lean ====
/- The last call's reference: stages of its composed terms beyond the feed-forward result, and the key/value rows they hold. -/
module

public import proofs.«01_k».proof.Proof.FfnRef
public import proofs.«01_k».proof.Proof.FfnKvValue
public import proofs.«01_k».proof.Proof.Gen.FfnKvReferenceIdeal.Run

@[expose] public section

set_option maxRecDepth 16384

noncomputable section

namespace Cert.FfnKvReferenceIdeal.Stages

open Idealize.ShloMosaic Idealize.ShloMosaic.TcCoe Idealize.SL.Sem
open Cert.FfnKvReferenceIdeal Cert.FfnKvReferenceIdeal.Gen
open Cert.FfnIdeal.Pure (normRow)
open Cert.FfnKvIdeal.Pure (kvRow)
open Cert.FfnReferenceIdeal.Stages (normP normS normP_apply normS_apply flatP flatS)

/-! ### The prompt stream -/

section P

section Terms
variable {F : FTy → Type} [FloatOps F]
variable (y : FVec F S2x8192x1024 .f32) (g : FVec F S1024 .f32) (w : FVec F S1024x256 .f32) (b : FVec F S256 .f32)

/-- The keys and values of the stream, both heads of both, one row of lanes per token. -/
def kvP : FVec F S2x8192x256 .f32 :=
  addf (Host.dotGeneral dot_S2x8192x1024_S1024x256_S2x8192x256_2_0_01_1_n_n none (normP y g) w)
    (broadcastInDim S2x8192x256 ![0, 1, 2] bcast_S1x1x256_S2x8192x256_0_1_2 (broadcastInDim S1x1x256 ![2] bcast_S256_S1x1x256_2 b))

end Terms

variable (y : FVec Ideal S2x8192x1024 .f32) (g : FVec Ideal S1024 .f32) (w : FVec Ideal S1024x256 .f32) (b : FVec Ideal S256 .f32)

theorem kvP_apply (i : Fin 2) (s : Fin 8192) (l : Fin 256) :
    kvP y g w b (ix3 i s l) = kvRow (fun k => y (ix3 i s k)) (fun k => g (ix1 k)) (fun k l => w (ix2 k l)) (fun l => b (ix1 l)) l := by
  have e : kvP y g w b (ix3 i s l) = (∑ k, normP y g (ix3 i s k) * w (ix2 k l)) + b (ix1 l) := by
    pointwise [kvP]
  rw [e]
  simp only [normP_apply]
  rfl

/-- The rows of the flattened keys and values are the row function of the flattened stream's rows. -/
theorem flatKvP : shapeCast Cert.FfnKvIdeal.S16384x256 (kvP y g w b) (by decide : S2x8192x256.ShapeCasts Cert.FfnKvIdeal.S16384x256)
    = Cert.FfnKvIdeal.Final.kvP (shapeCast S16384x1024 y shapeCasts_S2x8192x1024_S16384x1024) g w b := by
  funext i
  obtain ⟨r, l, rfl⟩ : ∃ (r : Fin 16384) (l : Fin 256), i = ix2 r l := ⟨i 0, i 1, by blk_ext⟩
  have key : ∀ (k : Fin 1024) h, shapeCast S16384x1024 y h (ix2 r k) = y (ix3 ⟨r / 8192, by omega⟩ ⟨r % 8192, by omega⟩ k) := by
    intro k h
    pointwise
  have key' : ∀ (z : FVec Ideal S2x8192x256 .f32) h, shapeCast Cert.FfnKvIdeal.S16384x256 z h (ix2 r l) = z (ix3 ⟨r / 8192, by omega⟩ ⟨r % 8192, by omega⟩ l) := by
    intro z h
    pointwise
  refine (key' _ _).trans ((kvP_apply _ _ _ _ _ _ _).trans ?_)
  simp only [Cert.FfnKvIdeal.Final.kvP]
  refine congrArg (fun v => kvRow v _ _ _ _) (funext fun k => (key k _).symm)

end P

/-! ### The sample stream -/

section S

section Terms
variable {F : FTy → Type} [FloatOps F]
variable (y : FVec F S128x4x1024 .f32) (g : FVec F S1024 .f32) (w : FVec F S1024x256 .f32) (b : FVec F S256 .f32)

/-- The keys and values of the stream, both heads of both, one row of lanes per token. -/
def kvS : FVec F S128x4x256 .f32 :=
  addf (Host.dotGeneral dot_S128x4x1024_S1024x256_S128x4x256_2_0_01_1_n_n none (normS y g) w)
    (broadcastInDim S128x4x256 ![0, 1, 2] bcast_S1x1x256_S128x4x256_0_1_2 (broadcastInDim S1x1x256 ![2] bcast_S256_S1x1x256_2 b))

end Terms

variable (y : FVec Ideal S128x4x1024 .f32) (g : FVec Ideal S1024 .f32) (w : FVec Ideal S1024x256 .f32) (b : FVec Ideal S256 .f32)

theorem kvS_apply (i : Fin 128) (s : Fin 4) (l : Fin 256) :
    kvS y g w b (ix3 i s l) = kvRow (fun k => y (ix3 i s k)) (fun k => g (ix1 k)) (fun k l => w (ix2 k l)) (fun l => b (ix1 l)) l := by
  have e : kvS y g w b (ix3 i s l) = (∑ k, normS y g (ix3 i s k) * w (ix2 k l)) + b (ix1 l) := by
    pointwise [kvS]
  rw [e]
  simp only [normS_apply]
  rfl

/-- The rows of the flattened keys and values are the row function of the flattened stream's rows. -/
theorem flatKvS : shapeCast Cert.FfnKvIdeal.S512x256 (kvS y g w b) (by decide : S128x4x256.ShapeCasts Cert.FfnKvIdeal.S512x256)
    = Cert.FfnKvIdeal.Final.kvS (shapeCast S512x1024 y shapeCasts_S128x4x1024_S512x1024) g w b := by
  funext i
  obtain ⟨r, l, rfl⟩ : ∃ (r : Fin 512) (l : Fin 256), i = ix2 r l := ⟨i 0, i 1, by blk_ext⟩
  have key : ∀ (k : Fin 1024) h, shapeCast S512x1024 y h (ix2 r k) = y (ix3 ⟨r / 4, by omega⟩ ⟨r % 4, by omega⟩ k) := by
    intro k h
    pointwise
  have key' : ∀ (z : FVec Ideal S128x4x256 .f32) h, shapeCast Cert.FfnKvIdeal.S512x256 z h (ix2 r l) = z (ix3 ⟨r / 4, by omega⟩ ⟨r % 4, by omega⟩ l) := by
    intro z h
    pointwise
  refine (key' _ _).trans ((kvS_apply _ _ _ _ _ _ _).trans ?_)
  simp only [Cert.FfnKvIdeal.Final.kvS]
  refine congrArg (fun v => kvRow v _ _ _ _) (funext fun k => (key k _).symm)

end S

/-! ### The results' terms -/

section Heads
variable {F : FTy → Type} [FloatOps F]

/-- The last 128 tokens' keys of the prompt stream. -/
def kP (z : FVec F S2x8192x256 .f32) : FVec F S2x128x2x64 .f32 :=
  extractStridedSlice S2x128x2x64 ![0, 8064, 0, 0] (shapeCast S2x8192x2x64 (extractStridedSlice S2x8192x1x2x64 ![0, 0, 0, 0, 0] (shapeCast S2x8192x2x2x64 z shapeCasts_S2x8192x256_S2x8192x2x2x64) slices_S2x8192x2x2x64_S2x8192x1x2x64_0_0_0_0_0) shapeCasts_S2x8192x1x2x64_S2x8192x2x64) slices_S2x8192x2x64_S2x128x2x64_0_8064_0_0

/-- The key cache of the sample stream, moved on by its four tokens. -/
def kS (u : FVec F S128x128x2x64 .f32) (z : FVec F S128x4x256 .f32) : FVec F S128x128x2x64 .f32 :=
  extractStridedSlice S128x128x2x64 ![0, 4, 0, 0] (concatenate S128x132x2x64 1 [⟨S128x128x2x64, u⟩, ⟨S128x4x2x64, (shapeCast S128x4x2x64 (extractStridedSlice S128x4x1x2x64 ![0, 0, 0, 0, 0] (shapeCast S128x4x2x2x64 z shapeCasts_S128x4x256_S128x4x2x2x64) slices_S128x4x2x2x64_S128x4x1x2x64_0_0_0_0_0) shapeCasts_S128x4x1x2x64_S128x4x2x64)⟩] concatenates_S128x128x2x64_S128x4x2x64_S128x132x2x64_d1) slices_S128x132x2x64_S128x128x2x64_0_4_0_0

/-- The last 128 tokens' values of the prompt stream. -/
def vP (z : FVec F S2x8192x256 .f32) : FVec F S2x128x2x64 .f32 :=
  extractStridedSlice S2x128x2x64 ![0, 8064, 0, 0] (shapeCast S2x8192x2x64 (extractStridedSlice S2x8192x1x2x64 ![0, 0, 1, 0, 0] (shapeCast S2x8192x2x2x64 z shapeCasts_S2x8192x256_S2x8192x2x2x64) slices_S2x8192x2x2x64_S2x8192x1x2x64_0_0_1_0_0) shapeCasts_S2x8192x1x2x64_S2x8192x2x64) slices_S2x8192x2x64_S2x128x2x64_0_8064_0_0

/-- The value cache of the sample stream, moved on by its four tokens. -/
def vS (u : FVec F S128x128x2x64 .f32) (z : FVec F S128x4x256 .f32) : FVec F S128x128x2x64 .f32 :=
  extractStridedSlice S128x128x2x64 ![0, 4, 0, 0] (concatenate S128x132x2x64 1 [⟨S128x128x2x64, u⟩, ⟨S128x4x2x64, (shapeCast S128x4x2x64 (extractStridedSlice S128x4x1x2x64 ![0, 0, 1, 0, 0] (shapeCast S128x4x2x2x64 z shapeCasts_S128x4x256_S128x4x2x2x64) slices_S128x4x2x2x64_S128x4x1x2x64_0_0_1_0_0) shapeCasts_S128x4x1x2x64_S128x4x2x64)⟩] concatenates_S128x128x2x64_S128x4x2x64_S128x132x2x64_d1) slices_S128x132x2x64_S128x128x2x64_0_4_0_0

end Heads

theorem resultP (m : (ℓ : Loc nD τ sig) → Buf (Elt Ideal) ℓ) (c : Dev nD) : Value.res_main_v114 m c
    = (Cert.FfnIdeal.Final.outP (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7))) :=
  Eq.trans (by unfold Value.res_main_v114; rfl) (flatP _ _ _ _ _)

theorem resultS (m : (ℓ : Loc nD τ sig) → Buf (Elt Ideal) ℓ) (c : Dev nD) : Value.res_main_v115 m c
    = (Cert.FfnIdeal.Final.outS (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :=
  Eq.trans (by unfold Value.res_main_v115; rfl) (flatS _ _ _ _ _)

theorem resultKvP (m : (ℓ : Loc nD τ sig) → Buf (Elt Ideal) ℓ) (c : Dev nD) : Value.res_main_v116 m c
    = Cert.FfnKvIdeal.Final.kvP (Cert.FfnIdeal.Final.outP (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) :=
  Eq.trans (by unfold Value.res_main_v116; rfl) ((flatKvP _ _ _ _).trans (congrArg (fun y => Cert.FfnKvIdeal.Final.kvP y _ _ _) (flatP _ _ _ _ _)))

theorem resultKP (m : (ℓ : Loc nD τ sig) → Buf (Elt Ideal) ℓ) (c : Dev nD) : Value.res_main_v117 m c
    = kP (F := Ideal) (kvP (F := Ideal) (Cert.FfnReferenceIdeal.Stages.outP (F := Ideal) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10))) := by
  unfold Value.res_main_v117; rfl

theorem resultVP (m : (ℓ : Loc nD τ sig) → Buf (Elt Ideal) ℓ) (c : Dev nD) : Value.res_main_v118 m c
    = vP (F := Ideal) (kvP (F := Ideal) (Cert.FfnReferenceIdeal.Stages.outP (F := Ideal) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10))) := by
  unfold Value.res_main_v118; rfl

theorem resultKS (m : (ℓ : Loc nD τ sig) → Buf (Elt Ideal) ℓ) (c : Dev nD) : Value.res_main_v120 m c
    = kS (F := Ideal) (m ((c.tc : Thread nD τ).loc main_arg2)) (kvS (F := Ideal) (Cert.FfnReferenceIdeal.Stages.outS (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10))) := by
  unfold Value.res_main_v120; rfl

theorem resultVS (m : (ℓ : Loc nD τ sig) → Buf (Elt Ideal) ℓ) (c : Dev nD) : Value.res_main_v122 m c
    = vS (F := Ideal) (m ((c.tc : Thread nD τ).loc main_arg3)) (kvS (F := Ideal) (Cert.FfnReferenceIdeal.Stages.outS (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10))) := by
  unfold Value.res_main_v122; rfl

end Cert.FfnKvReferenceIdeal.Stages

end
-- ==== Proof.FfnKvTail.lean ====
/- The host operations after the last call's region: the caches' last 128 tokens cut from the key/value rows. -/
module

public import proofs.«01_k».proof.Proof.FfnKvRef

@[expose] public section

set_option maxRecDepth 16384
noncomputable section

namespace Cert.FfnKvIdeal.Tail

open Idealize.ShloMosaic Idealize.ShloMosaic.TcCoe Idealize.SL.Sem
open Cert.FfnKvIdeal Cert.FfnKvIdeal.Gen

section Terms
variable {F : FTy → Type} [FloatOps F]

/-- The prompt's last 128 tokens' keys, from all key/value rows. -/
def kP (z : FVec F S16384x256 .f32) : FVec F S2x128x2x64 .f32 :=
  shapeCast S2x128x2x64 (extractStridedSlice S2x128x128 ![0, 8064, 0] (shapeCast S2x8192x256 z shapeCasts_S16384x256_S2x8192x256)
    slices_S2x8192x256_S2x128x128_0_8064_0) shapeCasts_S2x128x128_S2x128x2x64

/-- The prompt's last 128 tokens' values, from all key/value rows. -/
def vP (z : FVec F S16384x256 .f32) : FVec F S2x128x2x64 .f32 :=
  shapeCast S2x128x2x64 (extractStridedSlice S2x128x128 ![0, 8064, 128] (shapeCast S2x8192x256 z shapeCasts_S16384x256_S2x8192x256)
    slices_S2x8192x256_S2x128x128_0_8064_128) shapeCasts_S2x128x128_S2x128x2x64

/-- The samples' key cache, moved on by four tokens. -/
def kS (u : FVec F S128x128x2x64 .f32) (z : FVec F S512x256 .f32) : FVec F S128x128x2x64 .f32 :=
  shapeCast S128x128x2x64 (extractStridedSlice S128x128x128 ![0, 4, 0] (concatenate S128x132x128 1
    [⟨S128x128x128, shapeCast S128x128x128 u shapeCasts_S128x128x2x64_S128x128x128⟩,
     ⟨S128x4x128, extractStridedSlice S128x4x128 ![0, 0, 0] (shapeCast S128x4x256 z shapeCasts_S512x256_S128x4x256)
       slices_S128x4x256_S128x4x128_0_0_0⟩] concatenates_S128x128x128_S128x4x128_S128x132x128_d1)
    slices_S128x132x128_S128x128x128_0_4_0) shapeCasts_S128x128x128_S128x128x2x64

/-- The samples' value cache, moved on by four tokens. -/
def vS (u : FVec F S128x128x2x64 .f32) (z : FVec F S512x256 .f32) : FVec F S128x128x2x64 .f32 :=
  shapeCast S128x128x2x64 (extractStridedSlice S128x128x128 ![0, 4, 0] (concatenate S128x132x128 1
    [⟨S128x128x128, shapeCast S128x128x128 u shapeCasts_S128x128x2x64_S128x128x128⟩,
     ⟨S128x4x128, extractStridedSlice S128x4x128 ![0, 0, 128] (shapeCast S128x4x256 z shapeCasts_S512x256_S128x4x256)
       slices_S128x4x256_S128x4x128_0_0_128⟩] concatenates_S128x128x128_S128x4x128_S128x132x128_d1)
    slices_S128x132x128_S128x128x128_0_4_0) shapeCasts_S128x128x128_S128x128x2x64

end Terms

/-! ### The operations after the region, from any contents before them -/

section After
variable (W : Valuation τ sig (Elt Ideal))

theorem after_kP : StableHlo.after hostOps1 W (Proc.devRef .tc main_v18) = kP (F := Ideal) (W (Proc.devRef .tc main_v12_2)) := by
  after_results
  rfl

theorem after_vP : StableHlo.after hostOps1 W (Proc.devRef .tc main_v20) = vP (F := Ideal) (W (Proc.devRef .tc main_v12_2)) := by
  after_results
  rfl

theorem after_kS : StableHlo.after hostOps1 W (Proc.devRef .tc main_v24)
    = kS (F := Ideal) (W (Proc.devRef .tc main_arg2)) (W (Proc.devRef .tc main_v12_3)) := by
  after_results
  rfl

theorem after_vS : StableHlo.after hostOps1 W (Proc.devRef .tc main_v28)
    = vS (F := Ideal) (W (Proc.devRef .tc main_arg3)) (W (Proc.devRef .tc main_v12_3)) := by
  after_results
  rfl

end After

section Run
variable (m : (ℓ : Loc nD τ sig) → Buf (Elt Ideal) ℓ) (ρ : Dev nD → PrngReg)

/-- The buffers' contents between the region and the operations after it. -/
def mid (c : Dev nD) : Valuation τ sig (Elt Ideal) :=
  Pipeline.withArrays (cfgs 0).spec c (V0 m c) fun w => (dats m 0 c).arrAt w (cfgs 0).N

theorem mid_kvP (c : Dev nD) : mid m c (Proc.devRef .tc main_v12_2) = (dats m 0 c).arrAt 11 cfg0.N :=
  Pipeline.withArrays_arr _ launch0.win.arr_inj c _ _ 11

theorem mid_kvS (c : Dev nD) : mid m c (Proc.devRef .tc main_v12_3) = (dats m 0 c).arrAt 12 cfg0.N :=
  Pipeline.withArrays_arr _ launch0.win.arr_inj c _ _ 12

theorem mid_k (c : Dev nD) : mid m c (Proc.devRef .tc main_arg2) = m ((c.tc : Thread nD τ).loc main_arg2) := by
  refine (Pipeline.withArrays_of_ne _ c _ _ main_arg2 (by decide)).trans ?_
  exact V_main_arg2 m c

theorem mid_v (c : Dev nD) : mid m c (Proc.devRef .tc main_arg3) = m ((c.tc : Thread nD τ).loc main_arg3) := by
  refine (Pipeline.withArrays_of_ne _ c _ _ main_arg3 (by decide)).trans ?_
  exact V_main_arg3 m c

/-- The run with its seven results named. -/
theorem run_results : θ_run defs (onTc (τ := τ) (main (F := Ideal))) ⟨m, fun _ => 0, ρ⟩ fun r => ∀ c : Dev nD,
      r.2.mem ((c.tc : Thread nD τ).loc main_v12_0) = (dats m 0 c).arrAt 9 cfg0.N
      ∧ r.2.mem ((c.tc : Thread nD τ).loc main_v12_1) = (dats m 0 c).arrAt 10 cfg0.N
      ∧ r.2.mem ((c.tc : Thread nD τ).loc main_v12_2) = (dats m 0 c).arrAt 11 cfg0.N
      ∧ r.2.mem ((c.tc : Thread nD τ).loc main_v18) = kP (F := Ideal) ((dats m 0 c).arrAt 11 cfg0.N)
      ∧ r.2.mem ((c.tc : Thread nD τ).loc main_v20) = vP (F := Ideal) ((dats m 0 c).arrAt 11 cfg0.N)
      ∧ r.2.mem ((c.tc : Thread nD τ).loc main_v24)
          = kS (F := Ideal) (m ((c.tc : Thread nD τ).loc main_arg2)) ((dats m 0 c).arrAt 12 cfg0.N)
      ∧ r.2.mem ((c.tc : Thread nD τ).loc main_v28)
          = vS (F := Ideal) (m ((c.tc : Thread nD τ).loc main_arg3)) ((dats m 0 c).arrAt 12 cfg0.N) := by
  refine (θ_run defs _ _).mono (fun r h c => ⟨(h c).1 9, (h c).1 10, (h c).1 11, ?_, ?_, ?_, ?_⟩) (run_main m ρ)
  · refine ((h c).2 main_v18 (Pipeline.mem_restRefs_of main_v18 (by decide) (by decide))).trans
      ((after_kP (mid m c)).trans (congrArg (kP (F := Ideal)) (mid_kvP m c)))
  · refine ((h c).2 main_v20 (Pipeline.mem_restRefs_of main_v20 (by decide) (by decide))).trans
      ((after_vP (mid m c)).trans (congrArg (vP (F := Ideal)) (mid_kvP m c)))
  · refine ((h c).2 main_v24 (Pipeline.mem_restRefs_of main_v24 (by decide) (by decide))).trans
      ((after_kS (mid m c)).trans (congrArg₂ (kS (F := Ideal)) (mid_k m c) (mid_kvS m c)))
  · refine ((h c).2 main_v28 (Pipeline.mem_restRefs_of main_v28 (by decide) (by decide))).trans
      ((after_vS (mid m c)).trans (congrArg₂ (vS (F := Ideal)) (mid_v m c) (mid_kvS m c)))

/-- The run with its results named and its arguments unchanged. -/
theorem run : θ_run defs (onTc (τ := τ) (main (F := Ideal))) ⟨m, fun _ => 0, ρ⟩ fun r => ∀ c : Dev nD,
      r.2.mem ((c.tc : Thread nD τ).loc main_v12_0) = (dats m 0 c).arrAt 9 cfg0.N
      ∧ r.2.mem ((c.tc : Thread nD τ).loc main_v12_1) = (dats m 0 c).arrAt 10 cfg0.N
      ∧ r.2.mem ((c.tc : Thread nD τ).loc main_v12_2) = (dats m 0 c).arrAt 11 cfg0.N
      ∧ r.2.mem ((c.tc : Thread nD τ).loc main_v18) = kP (F := Ideal) ((dats m 0 c).arrAt 11 cfg0.N)
      ∧ r.2.mem ((c.tc : Thread nD τ).loc main_v20) = vP (F := Ideal) ((dats m 0 c).arrAt 11 cfg0.N)
      ∧ r.2.mem ((c.tc : Thread nD τ).loc main_v24)
          = kS (F := Ideal) (m ((c.tc : Thread nD τ).loc main_arg2)) ((dats m 0 c).arrAt 12 cfg0.N)
      ∧ r.2.mem ((c.tc : Thread nD τ).loc main_v28)
          = vS (F := Ideal) (m ((c.tc : Thread nD τ).loc main_arg3)) ((dats m 0 c).arrAt 12 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => by
    obtain ⟨a, b, d, e, f, k, l⟩ := h.1 c
    exact ⟨a, b, d, e, f, k, l, h.2 c⟩) (θ_run_and (run_results m ρ) (unchanged m ρ))

end Run

/-! ### Both sides' caches are the same elements of the key/value rows -/

theorem same_kP (z : FVec Ideal S2x8192x256 .f32) (h) : kP (shapeCast S16384x256 z h) = Cert.FfnKvReferenceIdeal.Stages.kP z := by
  have e : shapeCast S2x8192x256 (shapeCast S16384x256 z h) shapeCasts_S16384x256_S2x8192x256 = z := by
    rw [shapeCast_comp]
    exact shapeCast_self _ _
  unfold kP Cert.FfnKvReferenceIdeal.Stages.kP
  rw [e]
  funext i
  obtain ⟨b, s, h, d, rfl⟩ : ∃ (b : Fin 2) (s : Fin 128) (h : Fin 2) (d : Fin 64), i = ix4 b s h d := ⟨i 0, i 1, i 2, i 3, by blk_ext⟩
  pointwise

theorem same_vP (z : FVec Ideal S2x8192x256 .f32) (h) : vP (shapeCast S16384x256 z h) = Cert.FfnKvReferenceIdeal.Stages.vP z := by
  have e : shapeCast S2x8192x256 (shapeCast S16384x256 z h) shapeCasts_S16384x256_S2x8192x256 = z := by
    rw [shapeCast_comp]
    exact shapeCast_self _ _
  unfold vP Cert.FfnKvReferenceIdeal.Stages.vP
  rw [e]
  funext i
  obtain ⟨b, s, h, d, rfl⟩ : ∃ (b : Fin 2) (s : Fin 128) (h : Fin 2) (d : Fin 64), i = ix4 b s h d := ⟨i 0, i 1, i 2, i 3, by blk_ext⟩
  pointwise
  simp only [add_assoc]

theorem same_kS (u : FVec Ideal S128x128x2x64 .f32) (z : FVec Ideal S128x4x256 .f32) (h) :
    kS u (shapeCast S512x256 z h) = Cert.FfnKvReferenceIdeal.Stages.kS u z := by
  have e : shapeCast S128x4x256 (shapeCast S512x256 z h) shapeCasts_S512x256_S128x4x256 = z := by
    rw [shapeCast_comp]
    exact shapeCast_self _ _
  unfold kS Cert.FfnKvReferenceIdeal.Stages.kS
  rw [e]
  funext i
  obtain ⟨b, s, h, d, rfl⟩ : ∃ (b : Fin 128) (s : Fin 128) (h : Fin 2) (d : Fin 64), i = ix4 b s h d := ⟨i 0, i 1, i 2, i 3, by blk_ext⟩
  pointwise

theorem same_vS (u : FVec Ideal S128x128x2x64 .f32) (z : FVec Ideal S128x4x256 .f32) (h) :
    vS u (shapeCast S512x256 z h) = Cert.FfnKvReferenceIdeal.Stages.vS u z := by
  have e : shapeCast S128x4x256 (shapeCast S512x256 z h) shapeCasts_S512x256_S128x4x256 = z := by
    rw [shapeCast_comp]
    exact shapeCast_self _ _
  unfold vS Cert.FfnKvReferenceIdeal.Stages.vS
  rw [e]
  funext i
  obtain ⟨b, s, h, d, rfl⟩ : ∃ (b : Fin 128) (s : Fin 128) (h : Fin 2) (d : Fin 64), i = ix4 b s h d := ⟨i 0, i 1, i 2, i 3, by blk_ext⟩
  pointwise
  simp only [add_assoc]

end Cert.FfnKvIdeal.Tail

end
-- ==== Proof.FfnKvClaim.lean ====
/- The last feed-forward call's claims: the call and the operations after it against the reference, and the frames. -/
module

public import proofs.«01_k».proof.Proof.FfnKvTail
public import proofs.«01_k».proof.Proof.Gen.FfnKv.Frame
public import proofs.«01_k».proof.Defs

@[expose] public section

set_option maxRecDepth 16384

noncomputable section

namespace Cert.FfnKvClaim

open Idealize.ShloMosaic Idealize.SL.Sem
open Cert.FfnKvIdeal.Final (finalP finalS finalKvP finalKvS)
open Cert.FfnKvReferenceIdeal.Stages (resultP resultS resultKvP resultKP resultVP resultKS resultVS flatKvP flatKvS)
open Cert.FfnReferenceIdeal.Stages (flatP flatS)
open Cert.FfnKvIdeal.Tail (same_kP same_vP same_kS same_vS)

section Rows

/-- The kernel's key/value rows of the prompt are the reference's, flattened. -/
theorem rowsP (y : FVec Ideal Cert.FfnKvIdeal.S2x8192x1024 .f32) (a b g w wd v d) :
    Cert.FfnKvIdeal.Final.kvP (Cert.FfnIdeal.Final.outP y a b w wd) g v d
      = shapeCast Cert.FfnKvIdeal.S16384x256 (Cert.FfnKvReferenceIdeal.Stages.kvP (F := Ideal) (Cert.FfnReferenceIdeal.Stages.outP (F := Ideal) y a b w wd) g v d)
          (by decide : Cert.FfnKvIdeal.S2x8192x256.ShapeCasts Cert.FfnKvIdeal.S16384x256) :=
  ((flatKvP _ _ _ _).trans (congrArg (fun y => Cert.FfnKvIdeal.Final.kvP y _ _ _) (flatP _ _ _ _ _))).symm

/-- The kernel's key/value rows of the samples are the reference's, flattened. -/
theorem rowsS (y : FVec Ideal Cert.FfnKvIdeal.S128x4x1024 .f32) (a b g w wd v d) :
    Cert.FfnKvIdeal.Final.kvS (Cert.FfnIdeal.Final.outS y a b w wd) g v d
      = shapeCast Cert.FfnKvIdeal.S512x256 (Cert.FfnKvReferenceIdeal.Stages.kvS (F := Ideal) (Cert.FfnReferenceIdeal.Stages.outS (F := Ideal) y a b w wd) g v d)
          (by decide : Cert.FfnKvIdeal.S128x4x256.ShapeCasts Cert.FfnKvIdeal.S512x256) :=
  ((flatKvS _ _ _ _).trans (congrArg (fun y => Cert.FfnKvIdeal.Final.kvS y _ _ _) (flatS _ _ _ _ _))).symm

end Rows

set_option maxHeartbeats 2000000 in
/-- The call and the operations after it give the reference's seven results. -/
theorem algebraic : Cert.algebraic_FfnKvIdeal_FfnKvReferenceIdeal := by
  pair_intro
  · run_from Cert.FfnKvIdeal.Tail.run m g
  · run_from Cert.FfnKvReferenceIdeal.Value.run m' g'
    all_goals obtain ⟨h0, h1, h2, h3, h4, h5, h6, h7, h8, h9, h10⟩ := hagree c
    · refine (resultP m' c).trans (Eq.trans ?_ (finalP m c).symm)
      rw [h0, h4, h5, h6, h7]
    · refine (resultS m' c).trans (Eq.trans ?_ (finalS m c).symm)
      rw [h1, h4, h5, h6, h7]
    · refine (resultKvP m' c).trans (Eq.trans ?_ (finalKvP m c).symm)
      rw [h0, h4, h5, h6, h7, h8, h9, h10]
    · refine (resultKP m' c).trans (Eq.trans ?_ (congrArg (Cert.FfnKvIdeal.Tail.kP (F := Ideal)) ((finalKvP m c).trans (rowsP _ _ _ _ _ _ _ _))).symm)
      rw [h0, h4, h5, h6, h7, h8, h9, h10]
      exact (same_kP _ _).symm
    · refine (resultVP m' c).trans (Eq.trans ?_ (congrArg (Cert.FfnKvIdeal.Tail.vP (F := Ideal)) ((finalKvP m c).trans (rowsP _ _ _ _ _ _ _ _))).symm)
      rw [h0, h4, h5, h6, h7, h8, h9, h10]
      exact (same_vP _ _).symm
    · refine (resultKS m' c).trans (Eq.trans ?_ (congrArg (Cert.FfnKvIdeal.Tail.kS (F := Ideal) _) ((finalKvS m c).trans (rowsS _ _ _ _ _ _ _ _))).symm)
      rw [h1, h2, h4, h5, h6, h7, h8, h9, h10]
      exact (same_kS _ _ _).symm
    · refine (resultVS m' c).trans (Eq.trans ?_ (congrArg (Cert.FfnKvIdeal.Tail.vS (F := Ideal) _) ((finalKvS m c).trans (rowsS _ _ _ _ _ _ _ _))).symm)
      rw [h1, h3, h4, h5, h6, h7, h8, h9, h10]
      exact (same_vS _ _ _).symm

theorem frame_kernel : Cert.quiescent_FfnKv := fun m ρ _ => Cert.FfnKv.Gen.frame m ρ
theorem frame_ideal : Cert.quiescent_FfnKvIdeal := fun m ρ _ => Cert.FfnKvIdeal.Gen.frame m ρ
theorem frame_reference : Cert.quiescent_FfnKvReferenceIdeal := by
  intro m ρ _
  run_from Cert.FfnKvReferenceIdeal.Value.run m ρ
  · exact fun _ => ⟨trivial, trivial, trivial, trivial, trivial, trivial, trivial, trivial, trivial, trivial, trivial⟩
  · exact Idealize.ShloMosaic.sem_eq_zero_of_no_sems (by decide) r.2

theorem preserves : Cert.preserves_FfnKv_FfnKvIdeal := trivial

end Cert.FfnKvClaim

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnReferenceIdeal
public import proofs.«01_k».proof.Proof.Gen.Pre_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnKv
public import proofs.«01_k».proof.Proof.Gen.FfnKv.Skeleton
public import proofs.«01_k».proof.Proof.Gen.FfnKv.Launch
public import proofs.«01_k».proof.Proof.Gen.FfnKv.Points
public import proofs.«01_k».proof.Proof.Gen.FfnKv.Frame
public import proofs.«01_k».proof.Proof.Gen.FfnKvIdeal
public import proofs.«01_k».proof.Proof.Gen.FfnKvIdeal.Skeleton
public import proofs.«01_k».proof.Proof.Gen.FfnKvIdeal.Launch
public import proofs.«01_k».proof.Proof.Gen.FfnKvIdeal.Points
public import proofs.«01_k».proof.Proof.Gen.FfnKvIdeal.Frame
public import proofs.«01_k».proof.Proof.Gen.FfnKvReferenceIdeal
public import proofs.«01_k».proof.Proof.Gen.FfnKvReferenceIdeal.Run
public import proofs.«01_k».proof.Proof.AttnClaim
public import proofs.«01_k».proof.Proof.FfnClaim
public import proofs.«01_k».proof.Proof.FfnKvClaim

@[expose] public section

noncomputable section

namespace Cert.Proof

open Idealize.ShloMosaic Idealize.SL.Sem

theorem claim : Cert.Claim := ⟨Cert.Attn.Gen.facts, Cert.AttnIdeal.Gen.facts, Cert.AttnReferenceIdeal.Gen.facts,
  Cert.Ffn.Gen.facts, Cert.FfnIdeal.Gen.facts, Cert.FfnReferenceIdeal.Gen.facts,
  Cert.FfnKv.Gen.facts, Cert.FfnKvIdeal.Gen.facts, Cert.FfnKvReferenceIdeal.Gen.facts, Cert.Pre_finite.Gen.facts,
  Cert.AttnClaim.frame_kernel, Cert.AttnClaim.frame_ideal, Cert.AttnClaim.frame_ideal_pre, Cert.AttnClaim.frame_reference,
  Cert.AttnClaim.frame_reference_pre,
  Cert.FfnClaim.frame_kernel, Cert.FfnClaim.frame_ideal, Cert.FfnClaim.frame_reference,
  Cert.FfnKvClaim.frame_kernel, Cert.FfnKvClaim.frame_ideal, Cert.FfnKvClaim.frame_reference,
  Cert.AttnClaim.preserves, Cert.AttnClaim.algebraic,
  Cert.FfnClaim.preserves, Cert.FfnClaim.algebraic, Cert.FfnKvClaim.preserves, Cert.FfnKvClaim.algebraic⟩

end Cert.Proof

end
